-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ordered_and_finite [hPre_ordered_and_finite : Cert.Pre_ordered_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_ordered_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).1 = (fun _ => 1#1)
    ∧ (Cert.Pre_ordered_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.1 = (fun _ => 1#1)
    ∧ (Cert.Pre_ordered_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.1 = (fun _ => 1#1)
    ∧ (Cert.Pre_ordered_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ordered_and_finite [hPre_ordered_and_finite : Cert.Pre_ordered_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ordered_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).1 = (fun _ => 1#1)
    ∧ (Cert.Pre_ordered_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.1 = (fun _ => 1#1)
    ∧ (Cert.Pre_ordered_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.1 = (fun _ => 1#1)
    ∧ (Cert.Pre_ordered_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))).2.2.2 = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInReferenceIdeal (m : (ℓ : Loc Cert.EvenInReferenceIdeal.nD Cert.EvenInReferenceIdeal.τ Cert.EvenInReferenceIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutReferenceIdeal (m : (ℓ : Loc Cert.OddOutReferenceIdeal.nD Cert.OddOutReferenceIdeal.τ Cert.OddOutReferenceIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInReferenceIdeal (m : (ℓ : Loc Cert.OddInReferenceIdeal.nD Cert.OddInReferenceIdeal.τ Cert.OddInReferenceIdeal.sig) → Buf (Elt Ideal) ℓ) : Prop :=
  True

def Pre_Modulation (m : (ℓ : Loc Cert.Modulation.nD Cert.Modulation.τ Cert.Modulation.sig) → Buf (Elt Bits) ℓ) : Prop :=
  True

def Pre_ModulationIdeal (m : (ℓ : Loc Cert.ModulationIdeal.nD Cert.ModulationIdeal.τ Cert.ModulationIdeal.sig) → Buf (Elt Ideal) ℓ) : Prop :=
  True

def Pre_ModulationReferenceIdeal (m : (ℓ : Loc Cert.ModulationReferenceIdeal.nD Cert.ModulationReferenceIdeal.τ Cert.ModulationReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_ordered_and_finite [hKernelIdeal : Cert.KernelIdeal.Facts] [hPre_ordered_and_finite : Cert.Pre_ordered_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ordered_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_ordered_and_finite [hReferenceIdeal : Cert.ReferenceIdeal.Facts] [hPre_ordered_and_finite : Cert.Pre_ordered_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ordered_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ r.2.sem = fun _ => 0)

def quiescent_EvenInReferenceIdeal [hEvenInReferenceIdeal : Cert.EvenInReferenceIdeal.Facts] : Prop :=
  ∀ (m : (ℓ : Loc Cert.EvenInReferenceIdeal.nD Cert.EvenInReferenceIdeal.τ Cert.EvenInReferenceIdeal.sig) → Buf (Elt Ideal) ℓ) (g : Dev Cert.EvenInReferenceIdeal.nD → PrngReg), Pre_EvenInReferenceIdeal m →
    θ_run (Cert.EvenInReferenceIdeal.defs (F := Ideal)) (onTc (τ := Cert.EvenInReferenceIdeal.τ) (Cert.EvenInReferenceIdeal.main (F := Ideal))) ⟨m, fun _ => 0, g⟩ (fun r => (∀ c : Dev Cert.EvenInReferenceIdeal.nD,
      r.2.mem ((c.tc : Thread Cert.EvenInReferenceIdeal.nD Cert.EvenInReferenceIdeal.τ).loc Cert.EvenInReferenceIdeal.main_arg0) = m ((c.tc : Thread Cert.EvenInReferenceIdeal.nD Cert.EvenInReferenceIdeal.τ).loc Cert.EvenInReferenceIdeal.main_arg0)
      ∧ r.2.mem ((c.tc : Thread Cert.EvenInReferenceIdeal.nD Cert.EvenInReferenceIdeal.τ).loc Cert.EvenInReferenceIdeal.main_arg1) = m ((c.tc : Thread Cert.EvenInReferenceIdeal.nD Cert.EvenInReferenceIdeal.τ).loc Cert.EvenInReferenceIdeal.main_arg1)
      ∧ r.2.mem ((c.tc : Thread Cert.EvenInReferenceIdeal.nD Cert.EvenInReferenceIdeal.τ).loc Cert.EvenInReferenceIdeal.main_arg2) = m ((c.tc : Thread Cert.EvenInReferenceIdeal.nD Cert.EvenInReferenceIdeal.τ).loc Cert.EvenInReferenceIdeal.main_arg2)
      ∧ r.2.mem ((c.tc : Thread Cert.EvenInReferenceIdeal.nD Cert.EvenInReferenceIdeal.τ).loc Cert.EvenInReferenceIdeal.main_arg3) = m ((c.tc : Thread Cert.EvenInReferenceIdeal.nD Cert.EvenInReferenceIdeal.τ).loc Cert.EvenInReferenceIdeal.main_arg3)
      ∧ r.2.mem ((c.tc : Thread Cert.EvenInReferenceIdeal.nD Cert.EvenInReferenceIdeal.τ).loc Cert.EvenInReferenceIdeal.main_arg4) = m ((c.tc : Thread Cert.EvenInReferenceIdeal.nD Cert.EvenInReferenceIdeal.τ).loc Cert.EvenInReferenceIdeal.main_arg4))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3)
      ∧ r.2.mem ((c.tc : Thread Cert.OddOut.nD Cert.OddOut.τ).loc Cert.OddOut.main_arg4) = m ((c.tc : Thread Cert.OddOut.nD Cert.OddOut.τ).loc Cert.OddOut.main_arg4))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
      ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ r.2.sem = fun _ => 0)

def quiescent_OddOutReferenceIdeal [hOddOutReferenceIdeal : Cert.OddOutReferenceIdeal.Facts] : Prop :=
  ∀ (m : (ℓ : Loc Cert.OddOutReferenceIdeal.nD Cert.OddOutReferenceIdeal.τ Cert.OddOutReferenceIdeal.sig) → Buf (Elt Ideal) ℓ) (g : Dev Cert.OddOutReferenceIdeal.nD → PrngReg), Pre_OddOutReferenceIdeal m →
    θ_run (Cert.OddOutReferenceIdeal.defs (F := Ideal)) (onTc (τ := Cert.OddOutReferenceIdeal.τ) (Cert.OddOutReferenceIdeal.main (F := Ideal))) ⟨m, fun _ => 0, g⟩ (fun r => (∀ c : Dev Cert.OddOutReferenceIdeal.nD,
      r.2.mem ((c.tc : Thread Cert.OddOutReferenceIdeal.nD Cert.OddOutReferenceIdeal.τ).loc Cert.OddOutReferenceIdeal.main_arg0) = m ((c.tc : Thread Cert.OddOutReferenceIdeal.nD Cert.OddOutReferenceIdeal.τ).loc Cert.OddOutReferenceIdeal.main_arg0)
      ∧ r.2.mem ((c.tc : Thread Cert.OddOutReferenceIdeal.nD Cert.OddOutReferenceIdeal.τ).loc Cert.OddOutReferenceIdeal.main_arg1) = m ((c.tc : Thread Cert.OddOutReferenceIdeal.nD Cert.OddOutReferenceIdeal.τ).loc Cert.OddOutReferenceIdeal.main_arg1)
      ∧ r.2.mem ((c.tc : Thread Cert.OddOutReferenceIdeal.nD Cert.OddOutReferenceIdeal.τ).loc Cert.OddOutReferenceIdeal.main_arg2) = m ((c.tc : Thread Cert.OddOutReferenceIdeal.nD Cert.OddOutReferenceIdeal.τ).loc Cert.OddOutReferenceIdeal.main_arg2)
      ∧ r.2.mem ((c.tc : Thread Cert.OddOutReferenceIdeal.nD Cert.OddOutReferenceIdeal.τ).loc Cert.OddOutReferenceIdeal.main_arg3) = m ((c.tc : Thread Cert.OddOutReferenceIdeal.nD Cert.OddOutReferenceIdeal.τ).loc Cert.OddOutReferenceIdeal.main_arg3)
      ∧ r.2.mem ((c.tc : Thread Cert.OddOutReferenceIdeal.nD Cert.OddOutReferenceIdeal.τ).loc Cert.OddOutReferenceIdeal.main_arg4) = m ((c.tc : Thread Cert.OddOutReferenceIdeal.nD Cert.OddOutReferenceIdeal.τ).loc Cert.OddOutReferenceIdeal.main_arg4))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ r.2.sem = fun _ => 0)

def quiescent_OddInReferenceIdeal [hOddInReferenceIdeal : Cert.OddInReferenceIdeal.Facts] : Prop :=
  ∀ (m : (ℓ : Loc Cert.OddInReferenceIdeal.nD Cert.OddInReferenceIdeal.τ Cert.OddInReferenceIdeal.sig) → Buf (Elt Ideal) ℓ) (g : Dev Cert.OddInReferenceIdeal.nD → PrngReg), Pre_OddInReferenceIdeal m →
    θ_run (Cert.OddInReferenceIdeal.defs (F := Ideal)) (onTc (τ := Cert.OddInReferenceIdeal.τ) (Cert.OddInReferenceIdeal.main (F := Ideal))) ⟨m, fun _ => 0, g⟩ (fun r => (∀ c : Dev Cert.OddInReferenceIdeal.nD,
      r.2.mem ((c.tc : Thread Cert.OddInReferenceIdeal.nD Cert.OddInReferenceIdeal.τ).loc Cert.OddInReferenceIdeal.main_arg0) = m ((c.tc : Thread Cert.OddInReferenceIdeal.nD Cert.OddInReferenceIdeal.τ).loc Cert.OddInReferenceIdeal.main_arg0)
      ∧ r.2.mem ((c.tc : Thread Cert.OddInReferenceIdeal.nD Cert.OddInReferenceIdeal.τ).loc Cert.OddInReferenceIdeal.main_arg1) = m ((c.tc : Thread Cert.OddInReferenceIdeal.nD Cert.OddInReferenceIdeal.τ).loc Cert.OddInReferenceIdeal.main_arg1)
      ∧ r.2.mem ((c.tc : Thread Cert.OddInReferenceIdeal.nD Cert.OddInReferenceIdeal.τ).loc Cert.OddInReferenceIdeal.main_arg2) = m ((c.tc : Thread Cert.OddInReferenceIdeal.nD Cert.OddInReferenceIdeal.τ).loc Cert.OddInReferenceIdeal.main_arg2)
      ∧ r.2.mem ((c.tc : Thread Cert.OddInReferenceIdeal.nD Cert.OddInReferenceIdeal.τ).loc Cert.OddInReferenceIdeal.main_arg3) = m ((c.tc : Thread Cert.OddInReferenceIdeal.nD Cert.OddInReferenceIdeal.τ).loc Cert.OddInReferenceIdeal.main_arg3)
      ∧ r.2.mem ((c.tc : Thread Cert.OddInReferenceIdeal.nD Cert.OddInReferenceIdeal.τ).loc Cert.OddInReferenceIdeal.main_arg4) = m ((c.tc : Thread Cert.OddInReferenceIdeal.nD Cert.OddInReferenceIdeal.τ).loc Cert.OddInReferenceIdeal.main_arg4))
      ∧ r.2.sem = fun _ => 0)

def quiescent_Modulation [hModulation : Cert.Modulation.Facts] : Prop :=
  ∀ (m : (ℓ : Loc Cert.Modulation.nD Cert.Modulation.τ Cert.Modulation.sig) → Buf (Elt Bits) ℓ) (g : Dev Cert.Modulation.nD → PrngReg), Pre_Modulation m →
    θ_run (Cert.Modulation.defs (F := Bits)) (onTc (τ := Cert.Modulation.τ) (Cert.Modulation.main (F := Bits))) ⟨m, fun _ => 0, g⟩ (fun r => (∀ c : Dev Cert.Modulation.nD,
      r.2.mem ((c.tc : Thread Cert.Modulation.nD Cert.Modulation.τ).loc Cert.Modulation.main_arg0) = m ((c.tc : Thread Cert.Modulation.nD Cert.Modulation.τ).loc Cert.Modulation.main_arg0)
      ∧ r.2.mem ((c.tc : Thread Cert.Modulation.nD Cert.Modulation.τ).loc Cert.Modulation.main_arg1) = m ((c.tc : Thread Cert.Modulation.nD Cert.Modulation.τ).loc Cert.Modulation.main_arg1)
      ∧ r.2.mem ((c.tc : Thread Cert.Modulation.nD Cert.Modulation.τ).loc Cert.Modulation.main_arg2) = m ((c.tc : Thread Cert.Modulation.nD Cert.Modulation.τ).loc Cert.Modulation.main_arg2))
      ∧ r.2.sem = fun _ => 0)

def quiescent_ModulationIdeal [hModulationIdeal : Cert.ModulationIdeal.Facts] : Prop :=
  ∀ (m : (ℓ : Loc Cert.ModulationIdeal.nD Cert.ModulationIdeal.τ Cert.ModulationIdeal.sig) → Buf (Elt Ideal) ℓ) (g : Dev Cert.ModulationIdeal.nD → PrngReg), Pre_ModulationIdeal m →
    θ_run (Cert.ModulationIdeal.defs (F := Ideal)) (onTc (τ := Cert.ModulationIdeal.τ) (Cert.ModulationIdeal.main (F := Ideal))) ⟨m, fun _ => 0, g⟩ (fun r => (∀ c : Dev Cert.ModulationIdeal.nD,
      r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
      ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
      ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ r.2.sem = fun _ => 0)

def quiescent_ModulationReferenceIdeal [hModulationReferenceIdeal : Cert.ModulationReferenceIdeal.Facts] : Prop :=
  ∀ (m : (ℓ : Loc Cert.ModulationReferenceIdeal.nD Cert.ModulationReferenceIdeal.τ Cert.ModulationReferenceIdeal.sig) → Buf (Elt Ideal) ℓ) (g : Dev Cert.ModulationReferenceIdeal.nD → PrngReg), Pre_ModulationReferenceIdeal m →
    θ_run (Cert.ModulationReferenceIdeal.defs (F := Ideal)) (onTc (τ := Cert.ModulationReferenceIdeal.τ) (Cert.ModulationReferenceIdeal.main (F := Ideal))) ⟨m, fun _ => 0, g⟩ (fun r => (∀ c : Dev Cert.ModulationReferenceIdeal.nD,
      r.2.mem ((c.tc : Thread Cert.ModulationReferenceIdeal.nD Cert.ModulationReferenceIdeal.τ).loc Cert.ModulationReferenceIdeal.main_arg0) = m ((c.tc : Thread Cert.ModulationReferenceIdeal.nD Cert.ModulationReferenceIdeal.τ).loc Cert.ModulationReferenceIdeal.main_arg0)
      ∧ r.2.mem ((c.tc : Thread Cert.ModulationReferenceIdeal.nD Cert.ModulationReferenceIdeal.τ).loc Cert.ModulationReferenceIdeal.main_arg1) = m ((c.tc : Thread Cert.ModulationReferenceIdeal.nD Cert.ModulationReferenceIdeal.τ).loc Cert.ModulationReferenceIdeal.main_arg1)
      ∧ r.2.mem ((c.tc : Thread Cert.ModulationReferenceIdeal.nD Cert.ModulationReferenceIdeal.τ).loc Cert.ModulationReferenceIdeal.main_arg2) = m ((c.tc : Thread Cert.ModulationReferenceIdeal.nD Cert.ModulationReferenceIdeal.τ).loc Cert.ModulationReferenceIdeal.main_arg2))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_ordered_and_finite [hKernelIdeal : Cert.KernelIdeal.Facts] [hReferenceIdeal : Cert.ReferenceIdeal.Facts] [hPre_ordered_and_finite : Cert.Pre_ordered_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ordered_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v28)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v28) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v130) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_EvenIn_EvenInIdeal : Prop :=
  True

def algebraic_EvenInIdeal_EvenInReferenceIdeal [hEvenInIdeal : Cert.EvenInIdeal.Facts] [hEvenInReferenceIdeal : Cert.EvenInReferenceIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInReferenceIdeal.nD Cert.EvenInReferenceIdeal.τ Cert.EvenInReferenceIdeal.sig) → Buf (Elt Ideal) ℓ) (g' : Dev Cert.EvenInReferenceIdeal.nD → PrngReg), Pre_EvenInIdeal m →
    (∀ c : Dev Cert.EvenInIdeal.nD,
      m' ((c.tc : Thread Cert.EvenInReferenceIdeal.nD Cert.EvenInReferenceIdeal.τ).loc Cert.EvenInReferenceIdeal.main_arg0) = m ((c.tc : Thread Cert.EvenInIdeal.nD Cert.EvenInIdeal.τ).loc Cert.EvenInIdeal.main_arg0)
      ∧ m' ((c.tc : Thread Cert.EvenInReferenceIdeal.nD Cert.EvenInReferenceIdeal.τ).loc Cert.EvenInReferenceIdeal.main_arg1) = m ((c.tc : Thread Cert.EvenInIdeal.nD Cert.EvenInIdeal.τ).loc Cert.EvenInIdeal.main_arg1)
      ∧ m' ((c.tc : Thread Cert.EvenInReferenceIdeal.nD Cert.EvenInReferenceIdeal.τ).loc Cert.EvenInReferenceIdeal.main_arg2) = m ((c.tc : Thread Cert.EvenInIdeal.nD Cert.EvenInIdeal.τ).loc Cert.EvenInIdeal.main_arg2)
      ∧ m' ((c.tc : Thread Cert.EvenInReferenceIdeal.nD Cert.EvenInReferenceIdeal.τ).loc Cert.EvenInReferenceIdeal.main_arg3) = m ((c.tc : Thread Cert.EvenInIdeal.nD Cert.EvenInIdeal.τ).loc Cert.EvenInIdeal.main_arg3)
      ∧ m' ((c.tc : Thread Cert.EvenInReferenceIdeal.nD Cert.EvenInReferenceIdeal.τ).loc Cert.EvenInReferenceIdeal.main_arg4) = m ((c.tc : Thread Cert.EvenInIdeal.nD Cert.EvenInIdeal.τ).loc Cert.EvenInIdeal.main_arg4)) →
    ∃ (v0 : (c : Dev Cert.EvenInIdeal.nD) → Buf (Elt Ideal) ((c.tc : Thread Cert.EvenInIdeal.nD Cert.EvenInIdeal.τ).loc Cert.EvenInIdeal.main_v4)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v4) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ θ_run (Cert.EvenInReferenceIdeal.defs (F := Ideal)) (onTc (τ := Cert.EvenInReferenceIdeal.τ) (Cert.EvenInReferenceIdeal.main (F := Ideal))) ⟨m', fun _ => 0, g'⟩ (fun r => ∀ c : Dev Cert.EvenInReferenceIdeal.nD,
          r.2.mem ((c.tc : Thread Cert.EvenInReferenceIdeal.nD Cert.EvenInReferenceIdeal.τ).loc Cert.EvenInReferenceIdeal.main_v22) = v0 c
          ∧ r.2.mem ((c.tc : Thread Cert.EvenInReferenceIdeal.nD Cert.EvenInReferenceIdeal.τ).loc Cert.EvenInReferenceIdeal.main_arg0) = m' ((c.tc : Thread Cert.EvenInReferenceIdeal.nD Cert.EvenInReferenceIdeal.τ).loc Cert.EvenInReferenceIdeal.main_arg0)
          ∧ r.2.mem ((c.tc : Thread Cert.EvenInReferenceIdeal.nD Cert.EvenInReferenceIdeal.τ).loc Cert.EvenInReferenceIdeal.main_arg1) = m' ((c.tc : Thread Cert.EvenInReferenceIdeal.nD Cert.EvenInReferenceIdeal.τ).loc Cert.EvenInReferenceIdeal.main_arg1)
          ∧ r.2.mem ((c.tc : Thread Cert.EvenInReferenceIdeal.nD Cert.EvenInReferenceIdeal.τ).loc Cert.EvenInReferenceIdeal.main_arg2) = m' ((c.tc : Thread Cert.EvenInReferenceIdeal.nD Cert.EvenInReferenceIdeal.τ).loc Cert.EvenInReferenceIdeal.main_arg2)
          ∧ r.2.mem ((c.tc : Thread Cert.EvenInReferenceIdeal.nD Cert.EvenInReferenceIdeal.τ).loc Cert.EvenInReferenceIdeal.main_arg3) = m' ((c.tc : Thread Cert.EvenInReferenceIdeal.nD Cert.EvenInReferenceIdeal.τ).loc Cert.EvenInReferenceIdeal.main_arg3)
          ∧ r.2.mem ((c.tc : Thread Cert.EvenInReferenceIdeal.nD Cert.EvenInReferenceIdeal.τ).loc Cert.EvenInReferenceIdeal.main_arg4) = m' ((c.tc : Thread Cert.EvenInReferenceIdeal.nD Cert.EvenInReferenceIdeal.τ).loc Cert.EvenInReferenceIdeal.main_arg4))

def preserves_OddOut_OddOutIdeal : Prop :=
  True

def algebraic_OddOutIdeal_OddOutReferenceIdeal [hOddOutIdeal : Cert.OddOutIdeal.Facts] [hOddOutReferenceIdeal : Cert.OddOutReferenceIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutReferenceIdeal.nD Cert.OddOutReferenceIdeal.τ Cert.OddOutReferenceIdeal.sig) → Buf (Elt Ideal) ℓ) (g' : Dev Cert.OddOutReferenceIdeal.nD → PrngReg), Pre_OddOutIdeal m →
    (∀ c : Dev Cert.OddOutIdeal.nD,
      m' ((c.tc : Thread Cert.OddOutReferenceIdeal.nD Cert.OddOutReferenceIdeal.τ).loc Cert.OddOutReferenceIdeal.main_arg0) = m ((c.tc : Thread Cert.OddOutIdeal.nD Cert.OddOutIdeal.τ).loc Cert.OddOutIdeal.main_arg0)
      ∧ m' ((c.tc : Thread Cert.OddOutReferenceIdeal.nD Cert.OddOutReferenceIdeal.τ).loc Cert.OddOutReferenceIdeal.main_arg1) = m ((c.tc : Thread Cert.OddOutIdeal.nD Cert.OddOutIdeal.τ).loc Cert.OddOutIdeal.main_arg1)
      ∧ m' ((c.tc : Thread Cert.OddOutReferenceIdeal.nD Cert.OddOutReferenceIdeal.τ).loc Cert.OddOutReferenceIdeal.main_arg2) = m ((c.tc : Thread Cert.OddOutIdeal.nD Cert.OddOutIdeal.τ).loc Cert.OddOutIdeal.main_arg2)
      ∧ m' ((c.tc : Thread Cert.OddOutReferenceIdeal.nD Cert.OddOutReferenceIdeal.τ).loc Cert.OddOutReferenceIdeal.main_arg3) = m ((c.tc : Thread Cert.OddOutIdeal.nD Cert.OddOutIdeal.τ).loc Cert.OddOutIdeal.main_arg3)
      ∧ m' ((c.tc : Thread Cert.OddOutReferenceIdeal.nD Cert.OddOutReferenceIdeal.τ).loc Cert.OddOutReferenceIdeal.main_arg4) = m ((c.tc : Thread Cert.OddOutIdeal.nD Cert.OddOutIdeal.τ).loc Cert.OddOutIdeal.main_arg4)) →
    ∃ (v0 : (c : Dev Cert.OddOutIdeal.nD) → Buf (Elt Ideal) ((c.tc : Thread Cert.OddOutIdeal.nD Cert.OddOutIdeal.τ).loc Cert.OddOutIdeal.main_v2)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v2) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3)
          ∧ r.2.mem ((c.tc : Thread Cert.OddOutIdeal.nD Cert.OddOutIdeal.τ).loc Cert.OddOutIdeal.main_arg4) = m ((c.tc : Thread Cert.OddOutIdeal.nD Cert.OddOutIdeal.τ).loc Cert.OddOutIdeal.main_arg4))
      ∧ θ_run (Cert.OddOutReferenceIdeal.defs (F := Ideal)) (onTc (τ := Cert.OddOutReferenceIdeal.τ) (Cert.OddOutReferenceIdeal.main (F := Ideal))) ⟨m', fun _ => 0, g'⟩ (fun r => ∀ c : Dev Cert.OddOutReferenceIdeal.nD,
          r.2.mem ((c.tc : Thread Cert.OddOutReferenceIdeal.nD Cert.OddOutReferenceIdeal.τ).loc Cert.OddOutReferenceIdeal.main_v5) = v0 c
          ∧ r.2.mem ((c.tc : Thread Cert.OddOutReferenceIdeal.nD Cert.OddOutReferenceIdeal.τ).loc Cert.OddOutReferenceIdeal.main_arg0) = m' ((c.tc : Thread Cert.OddOutReferenceIdeal.nD Cert.OddOutReferenceIdeal.τ).loc Cert.OddOutReferenceIdeal.main_arg0)
          ∧ r.2.mem ((c.tc : Thread Cert.OddOutReferenceIdeal.nD Cert.OddOutReferenceIdeal.τ).loc Cert.OddOutReferenceIdeal.main_arg1) = m' ((c.tc : Thread Cert.OddOutReferenceIdeal.nD Cert.OddOutReferenceIdeal.τ).loc Cert.OddOutReferenceIdeal.main_arg1)
          ∧ r.2.mem ((c.tc : Thread Cert.OddOutReferenceIdeal.nD Cert.OddOutReferenceIdeal.τ).loc Cert.OddOutReferenceIdeal.main_arg2) = m' ((c.tc : Thread Cert.OddOutReferenceIdeal.nD Cert.OddOutReferenceIdeal.τ).loc Cert.OddOutReferenceIdeal.main_arg2)
          ∧ r.2.mem ((c.tc : Thread Cert.OddOutReferenceIdeal.nD Cert.OddOutReferenceIdeal.τ).loc Cert.OddOutReferenceIdeal.main_arg3) = m' ((c.tc : Thread Cert.OddOutReferenceIdeal.nD Cert.OddOutReferenceIdeal.τ).loc Cert.OddOutReferenceIdeal.main_arg3)
          ∧ r.2.mem ((c.tc : Thread Cert.OddOutReferenceIdeal.nD Cert.OddOutReferenceIdeal.τ).loc Cert.OddOutReferenceIdeal.main_arg4) = m' ((c.tc : Thread Cert.OddOutReferenceIdeal.nD Cert.OddOutReferenceIdeal.τ).loc Cert.OddOutReferenceIdeal.main_arg4))

def preserves_OddIn_OddInIdeal : Prop :=
  True

def algebraic_OddInIdeal_OddInReferenceIdeal [hOddInIdeal : Cert.OddInIdeal.Facts] [hOddInReferenceIdeal : Cert.OddInReferenceIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInReferenceIdeal.nD Cert.OddInReferenceIdeal.τ Cert.OddInReferenceIdeal.sig) → Buf (Elt Ideal) ℓ) (g' : Dev Cert.OddInReferenceIdeal.nD → PrngReg), Pre_OddInIdeal m →
    (∀ c : Dev Cert.OddInIdeal.nD,
      m' ((c.tc : Thread Cert.OddInReferenceIdeal.nD Cert.OddInReferenceIdeal.τ).loc Cert.OddInReferenceIdeal.main_arg0) = m ((c.tc : Thread Cert.OddInIdeal.nD Cert.OddInIdeal.τ).loc Cert.OddInIdeal.main_arg0)
      ∧ m' ((c.tc : Thread Cert.OddInReferenceIdeal.nD Cert.OddInReferenceIdeal.τ).loc Cert.OddInReferenceIdeal.main_arg1) = m ((c.tc : Thread Cert.OddInIdeal.nD Cert.OddInIdeal.τ).loc Cert.OddInIdeal.main_arg1)
      ∧ m' ((c.tc : Thread Cert.OddInReferenceIdeal.nD Cert.OddInReferenceIdeal.τ).loc Cert.OddInReferenceIdeal.main_arg2) = m ((c.tc : Thread Cert.OddInIdeal.nD Cert.OddInIdeal.τ).loc Cert.OddInIdeal.main_arg2)
      ∧ m' ((c.tc : Thread Cert.OddInReferenceIdeal.nD Cert.OddInReferenceIdeal.τ).loc Cert.OddInReferenceIdeal.main_arg3) = m ((c.tc : Thread Cert.OddInIdeal.nD Cert.OddInIdeal.τ).loc Cert.OddInIdeal.main_arg3)
      ∧ m' ((c.tc : Thread Cert.OddInReferenceIdeal.nD Cert.OddInReferenceIdeal.τ).loc Cert.OddInReferenceIdeal.main_arg4) = m ((c.tc : Thread Cert.OddInIdeal.nD Cert.OddInIdeal.τ).loc Cert.OddInIdeal.main_arg4)) →
    ∃ (v0 : (c : Dev Cert.OddInIdeal.nD) → Buf (Elt Ideal) ((c.tc : Thread Cert.OddInIdeal.nD Cert.OddInIdeal.τ).loc Cert.OddInIdeal.main_v25_0)) (v1 : (c : Dev Cert.OddInIdeal.nD) → Buf (Elt Ideal) ((c.tc : Thread Cert.OddInIdeal.nD Cert.OddInIdeal.τ).loc Cert.OddInIdeal.main_v25_1)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v25_0) = v0 c
          ∧ r.2.mem ((c.tc : Thread Cert.OddInIdeal.nD Cert.OddInIdeal.τ).loc Cert.OddInIdeal.main_v25_1) = v1 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ θ_run (Cert.OddInReferenceIdeal.defs (F := Ideal)) (onTc (τ := Cert.OddInReferenceIdeal.τ) (Cert.OddInReferenceIdeal.main (F := Ideal))) ⟨m', fun _ => 0, g'⟩ (fun r => ∀ c : Dev Cert.OddInReferenceIdeal.nD,
          r.2.mem ((c.tc : Thread Cert.OddInReferenceIdeal.nD Cert.OddInReferenceIdeal.τ).loc Cert.OddInReferenceIdeal.main_v41) = v0 c
          ∧ r.2.mem ((c.tc : Thread Cert.OddInReferenceIdeal.nD Cert.OddInReferenceIdeal.τ).loc Cert.OddInReferenceIdeal.main_v43) = v1 c
          ∧ r.2.mem ((c.tc : Thread Cert.OddInReferenceIdeal.nD Cert.OddInReferenceIdeal.τ).loc Cert.OddInReferenceIdeal.main_arg0) = m' ((c.tc : Thread Cert.OddInReferenceIdeal.nD Cert.OddInReferenceIdeal.τ).loc Cert.OddInReferenceIdeal.main_arg0)
          ∧ r.2.mem ((c.tc : Thread Cert.OddInReferenceIdeal.nD Cert.OddInReferenceIdeal.τ).loc Cert.OddInReferenceIdeal.main_arg1) = m' ((c.tc : Thread Cert.OddInReferenceIdeal.nD Cert.OddInReferenceIdeal.τ).loc Cert.OddInReferenceIdeal.main_arg1)
          ∧ r.2.mem ((c.tc : Thread Cert.OddInReferenceIdeal.nD Cert.OddInReferenceIdeal.τ).loc Cert.OddInReferenceIdeal.main_arg2) = m' ((c.tc : Thread Cert.OddInReferenceIdeal.nD Cert.OddInReferenceIdeal.τ).loc Cert.OddInReferenceIdeal.main_arg2)
          ∧ r.2.mem ((c.tc : Thread Cert.OddInReferenceIdeal.nD Cert.OddInReferenceIdeal.τ).loc Cert.OddInReferenceIdeal.main_arg3) = m' ((c.tc : Thread Cert.OddInReferenceIdeal.nD Cert.OddInReferenceIdeal.τ).loc Cert.OddInReferenceIdeal.main_arg3)
          ∧ r.2.mem ((c.tc : Thread Cert.OddInReferenceIdeal.nD Cert.OddInReferenceIdeal.τ).loc Cert.OddInReferenceIdeal.main_arg4) = m' ((c.tc : Thread Cert.OddInReferenceIdeal.nD Cert.OddInReferenceIdeal.τ).loc Cert.OddInReferenceIdeal.main_arg4))

def preserves_Modulation_ModulationIdeal : Prop :=
  True

def algebraic_ModulationIdeal_ModulationReferenceIdeal [hModulationIdeal : Cert.ModulationIdeal.Facts] [hModulationReferenceIdeal : Cert.ModulationReferenceIdeal.Facts] : Prop :=
  ∀ (m : (ℓ : Loc Cert.ModulationIdeal.nD Cert.ModulationIdeal.τ Cert.ModulationIdeal.sig) → Buf (Elt Ideal) ℓ) (g : Dev Cert.ModulationIdeal.nD → PrngReg)
    (m' : (ℓ : Loc Cert.ModulationReferenceIdeal.nD Cert.ModulationReferenceIdeal.τ Cert.ModulationReferenceIdeal.sig) → Buf (Elt Ideal) ℓ) (g' : Dev Cert.ModulationReferenceIdeal.nD → PrngReg), Pre_ModulationIdeal m →
    (∀ c : Dev Cert.ModulationIdeal.nD,
      m' ((c.tc : Thread Cert.ModulationReferenceIdeal.nD Cert.ModulationReferenceIdeal.τ).loc Cert.ModulationReferenceIdeal.main_arg0) = m ((c.tc : Thread Cert.ModulationIdeal.nD Cert.ModulationIdeal.τ).loc Cert.ModulationIdeal.main_arg0)
      ∧ m' ((c.tc : Thread Cert.ModulationReferenceIdeal.nD Cert.ModulationReferenceIdeal.τ).loc Cert.ModulationReferenceIdeal.main_arg1) = m ((c.tc : Thread Cert.ModulationIdeal.nD Cert.ModulationIdeal.τ).loc Cert.ModulationIdeal.main_arg1)
      ∧ m' ((c.tc : Thread Cert.ModulationReferenceIdeal.nD Cert.ModulationReferenceIdeal.τ).loc Cert.ModulationReferenceIdeal.main_arg2) = m ((c.tc : Thread Cert.ModulationIdeal.nD Cert.ModulationIdeal.τ).loc Cert.ModulationIdeal.main_arg2)) →
    ∃ (v0 : (c : Dev Cert.ModulationIdeal.nD) → Buf (Elt Ideal) ((c.tc : Thread Cert.ModulationIdeal.nD Cert.ModulationIdeal.τ).loc Cert.ModulationIdeal.main_v4)),
      θ_run (Cert.ModulationIdeal.defs (F := Ideal)) (onTc (τ := Cert.ModulationIdeal.τ) (Cert.ModulationIdeal.main (F := Ideal))) ⟨m, fun _ => 0, g⟩ (fun r => ∀ c : Dev Cert.ModulationIdeal.nD,
          r.2.mem ((c.tc : Thread Cert.ModulationIdeal.nD Cert.ModulationIdeal.τ).loc Cert.ModulationIdeal.main_v4) = v0 c
          ∧ r.2.mem ((c.tc : Thread Cert.ModulationIdeal.nD Cert.ModulationIdeal.τ).loc Cert.ModulationIdeal.main_arg0) = m ((c.tc : Thread Cert.ModulationIdeal.nD Cert.ModulationIdeal.τ).loc Cert.ModulationIdeal.main_arg0)
          ∧ r.2.mem ((c.tc : Thread Cert.ModulationIdeal.nD Cert.ModulationIdeal.τ).loc Cert.ModulationIdeal.main_arg1) = m ((c.tc : Thread Cert.ModulationIdeal.nD Cert.ModulationIdeal.τ).loc Cert.ModulationIdeal.main_arg1)
          ∧ r.2.mem ((c.tc : Thread Cert.ModulationIdeal.nD Cert.ModulationIdeal.τ).loc Cert.ModulationIdeal.main_arg2) = m ((c.tc : Thread Cert.ModulationIdeal.nD Cert.ModulationIdeal.τ).loc Cert.ModulationIdeal.main_arg2))
      ∧ θ_run (Cert.ModulationReferenceIdeal.defs (F := Ideal)) (onTc (τ := Cert.ModulationReferenceIdeal.τ) (Cert.ModulationReferenceIdeal.main (F := Ideal))) ⟨m', fun _ => 0, g'⟩ (fun r => ∀ c : Dev Cert.ModulationReferenceIdeal.nD,
          r.2.mem ((c.tc : Thread Cert.ModulationReferenceIdeal.nD Cert.ModulationReferenceIdeal.τ).loc Cert.ModulationReferenceIdeal.main_v21) = v0 c
          ∧ r.2.mem ((c.tc : Thread Cert.ModulationReferenceIdeal.nD Cert.ModulationReferenceIdeal.τ).loc Cert.ModulationReferenceIdeal.main_arg0) = m' ((c.tc : Thread Cert.ModulationReferenceIdeal.nD Cert.ModulationReferenceIdeal.τ).loc Cert.ModulationReferenceIdeal.main_arg0)
          ∧ r.2.mem ((c.tc : Thread Cert.ModulationReferenceIdeal.nD Cert.ModulationReferenceIdeal.τ).loc Cert.ModulationReferenceIdeal.main_arg1) = m' ((c.tc : Thread Cert.ModulationReferenceIdeal.nD Cert.ModulationReferenceIdeal.τ).loc Cert.ModulationReferenceIdeal.main_arg1)
          ∧ r.2.mem ((c.tc : Thread Cert.ModulationReferenceIdeal.nD Cert.ModulationReferenceIdeal.τ).loc Cert.ModulationReferenceIdeal.main_arg2) = m' ((c.tc : Thread Cert.ModulationReferenceIdeal.nD Cert.ModulationReferenceIdeal.τ).loc Cert.ModulationReferenceIdeal.main_arg2))

def Claim : Prop :=
  ∃ (hKernel : Cert.Kernel.Facts) (hKernelIdeal : Cert.KernelIdeal.Facts) (hReferenceIdeal : Cert.ReferenceIdeal.Facts) (hEvenIn : Cert.EvenIn.Facts) (hEvenInIdeal : Cert.EvenInIdeal.Facts) (hEvenInReferenceIdeal : Cert.EvenInReferenceIdeal.Facts) (hOddOut : Cert.OddOut.Facts) (hOddOutIdeal : Cert.OddOutIdeal.Facts) (hOddOutReferenceIdeal : Cert.OddOutReferenceIdeal.Facts) (hOddIn : Cert.OddIn.Facts) (hOddInIdeal : Cert.OddInIdeal.Facts) (hOddInReferenceIdeal : Cert.OddInReferenceIdeal.Facts) (hModulation : Cert.Modulation.Facts) (hModulationIdeal : Cert.ModulationIdeal.Facts) (hModulationReferenceIdeal : Cert.ModulationReferenceIdeal.Facts) (hPre_ordered_and_finite : Cert.Pre_ordered_and_finite.Facts),
    quiescent_Kernel (hKernel := hKernel)
    ∧ quiescent_KernelIdeal (hKernelIdeal := hKernelIdeal)
    ∧ quiescent_KernelIdeal_pre_ordered_and_finite (hKernelIdeal := hKernelIdeal) (hPre_ordered_and_finite := hPre_ordered_and_finite)
    ∧ quiescent_ReferenceIdeal (hReferenceIdeal := hReferenceIdeal)
    ∧ quiescent_ReferenceIdeal_pre_ordered_and_finite (hReferenceIdeal := hReferenceIdeal) (hPre_ordered_and_finite := hPre_ordered_and_finite)
    ∧ quiescent_EvenIn (hEvenIn := hEvenIn)
    ∧ quiescent_EvenInIdeal (hEvenInIdeal := hEvenInIdeal)
    ∧ quiescent_EvenInReferenceIdeal (hEvenInReferenceIdeal := hEvenInReferenceIdeal)
    ∧ quiescent_OddOut (hOddOut := hOddOut)
    ∧ quiescent_OddOutIdeal (hOddOutIdeal := hOddOutIdeal)
    ∧ quiescent_OddOutReferenceIdeal (hOddOutReferenceIdeal := hOddOutReferenceIdeal)
    ∧ quiescent_OddIn (hOddIn := hOddIn)
    ∧ quiescent_OddInIdeal (hOddInIdeal := hOddInIdeal)
    ∧ quiescent_OddInReferenceIdeal (hOddInReferenceIdeal := hOddInReferenceIdeal)
    ∧ quiescent_Modulation (hModulation := hModulation)
    ∧ quiescent_ModulationIdeal (hModulationIdeal := hModulationIdeal)
    ∧ quiescent_ModulationReferenceIdeal (hModulationReferenceIdeal := hModulationReferenceIdeal)
    ∧ preserves_Kernel_KernelIdeal
    ∧ algebraic_KernelIdeal_ReferenceIdeal_pre_ordered_and_finite (hKernelIdeal := hKernelIdeal) (hReferenceIdeal := hReferenceIdeal) (hPre_ordered_and_finite := hPre_ordered_and_finite)
    ∧ preserves_EvenIn_EvenInIdeal
    ∧ algebraic_EvenInIdeal_EvenInReferenceIdeal (hEvenInIdeal := hEvenInIdeal) (hEvenInReferenceIdeal := hEvenInReferenceIdeal)
    ∧ preserves_OddOut_OddOutIdeal
    ∧ algebraic_OddOutIdeal_OddOutReferenceIdeal (hOddOutIdeal := hOddOutIdeal) (hOddOutReferenceIdeal := hOddOutReferenceIdeal)
    ∧ preserves_OddIn_OddInIdeal
    ∧ algebraic_OddInIdeal_OddInReferenceIdeal (hOddInIdeal := hOddInIdeal) (hOddInReferenceIdeal := hOddInReferenceIdeal)
    ∧ preserves_Modulation_ModulationIdeal
    ∧ algebraic_ModulationIdeal_ModulationReferenceIdeal (hModulationIdeal := hModulationIdeal) (hModulationReferenceIdeal := hModulationReferenceIdeal)
-- ==== Pre_ordered_and_finite.lean ====
abbrev S4x8192x3368 : Shape := ⟨3, ![4, 8192, 3368]⟩
abbrev S4x8192 : Shape := ⟨2, ![4, 8192]⟩
abbrev S32x12 : Shape := ⟨2, ![32, 12]⟩
abbrev S4x64 : Shape := ⟨2, ![4, 64]⟩
abbrev S128 : Shape := ⟨1, ![128]⟩
abbrev S4x8192x1536 : Shape := ⟨3, ![4, 8192, 1536]⟩
abbrev S_ : Shape := ⟨0, ![]⟩
abbrev S32x4 : Shape := ⟨2, ![32, 4]⟩

class Facts : Prop where
  slices_S4x8192x3368_S4x8192x1536_0_0_1832 : S4x8192x3368.Slices ![0, 0, 1832] S4x8192x1536
  bcast_S_S4x8192x1536 : S_.BroadcastsInDim S4x8192x1536 (![] : Fin 0 → Fin S4x8192x1536.rank)
  slices_S32x12_S32x4_0_8 : S32x12.Slices ![0, 8] S32x4
  bcast_S_S32x4 : S_.BroadcastsInDim S32x4 (![] : Fin 0 → Fin S32x4.rank)
  bcast_S_S4x64 : S_.BroadcastsInDim S4x64 (![] : Fin 0 → Fin S4x64.rank)

variable [Facts]

def fn {F : FTy → Type} [FloatOps F] (main_arg0 : FVec F S4x8192x3368 .f32) (main_arg1 : IVec S4x8192 32) (main_arg2 : FVec F S32x12 .f32) (main_arg3 : FVec F S4x64 .f32) (main_arg4 : FVec F S128 .f32) : IVec S4x8192x1536 1 × IVec S4x8192 1 × IVec S32x4 1 × IVec S4x64 1 :=
  let main_v0 : FVec F S4x8192x1536 .f32 := (extractStridedSlice S4x8192x1536 ![0, 0, 1832] · slices_S4x8192x3368_S4x8192x1536_0_0_1832) main_arg0
  let main_v1 : FVec F S4x8192x1536 .f32 := Host.absf main_v0
  let main_cst : FVec F S_ .f32 := constant S_ .f32 0x7F800000#32
  let main_v2 : FVec F S4x8192x1536 .f32 := broadcastInDim S4x8192x1536 ![] bcast_S_S4x8192x1536 main_cst
  let main_v3 : IVec S4x8192x1536 1 := cmpf .olt main_v1 main_v2
  let main_v4 : IVec S4x8192 32 := iotaInDim S4x8192 32 1
  let main_v5 : IVec S4x8192 1 := cmpi .eq main_arg1 main_v4
  let main_v6 : FVec F S32x4 .f32 := (extractStridedSlice S32x4 ![0, 8] · slices_S32x12_S32x4_0_8) main_arg2
  let main_v7 : FVec F S32x4 .f32 := Host.absf main_v6
  let main_cst_0 : FVec F S_ .f32 := constant S_ .f32 0x7F800000#32
  let main_v8 : FVec F S32x4 .f32 := broadcastInDim S32x4 ![] bcast_S_S32x4 main_cst_0
  let main_v9 : IVec S32x4 1 := cmpf .olt main_v7 main_v8
  let main_v10 : FVec F S4x64 .f32 := Host.absf main_arg3
  let main_cst_1 : FVec F S_ .f32 := constant S_ .f32 0x7F800000#32
  let main_v11 : FVec F S4x64 .f32 := broadcastInDim S4x64 ![] bcast_S_S4x64 main_cst_1
  let main_v12 : IVec S4x64 1 := cmpf .olt main_v10 main_v11
  (main_v3, main_v5, main_v9, main_v12)
-- ==== Kernel.lean ====
abbrev S4x8192x3368 : Shape := ⟨3, ![4, 8192, 3368]⟩
abbrev S4x8192 : Shape := ⟨2, ![4, 8192]⟩
abbrev S32x12 : Shape := ⟨2, ![32, 12]⟩
abbrev S4x64 : Shape := ⟨2, ![4, 64]⟩
abbrev S128 : Shape := ⟨1, ![128]⟩
abbrev S36 : Shape := ⟨1, ![36]⟩
abbrev S4x8192x512 : Shape := ⟨3, ![4, 8192, 512]⟩
abbrev S4x8192x256 : Shape := ⟨3, ![4, 8192, 256]⟩
abbrev S4x8192x32 : Shape := ⟨3, ![4, 8192, 32]⟩
abbrev S4x8192x8 : Shape := ⟨3, ![4, 8192, 8]⟩
abbrev S_ : Shape := ⟨0, ![]⟩
abbrev S4x8192x96 : Shape := ⟨3, ![4, 8192, 96]⟩
abbrev S4x8192x1152 : Shape := ⟨3, ![4, 8192, 1152]⟩
abbrev S4x8192x2320 : Shape := ⟨3, ![4, 8192, 2320]⟩
abbrev S4x2320x8192 : Shape := ⟨3, ![4, 2320, 8192]⟩
abbrev S4x2048x8192 : Shape := ⟨3, ![4, 2048, 8192]⟩
abbrev S4x8192x1024 : Shape := ⟨3, ![4, 8192, 1024]⟩
abbrev S128x1 : Shape := ⟨2, ![128, 1]⟩
abbrev S1x512x1024 : Shape := ⟨3, ![1, 512, 1024]⟩
abbrev S1 : Shape := ⟨1, ![1]⟩
abbrev S1x1024x512 : Shape := ⟨3, ![1, 1024, 512]⟩
abbrev S8x1x1024 : Shape := ⟨3, ![8, 1, 1024]⟩
abbrev S8x144x1024 : Shape := ⟨3, ![8, 144, 1024]⟩
abbrev S4x2x128x128 : Shape := ⟨4, ![4, 2, 128, 128]⟩
abbrev S1024x1024 : Shape := ⟨2, ![1024, 1024]⟩
abbrev S8x128 : Shape := ⟨2, ![8, 128]⟩
abbrev S1x1 : Shape := ⟨2, ![1, 1]⟩
abbrev S1x1x8x128 : Shape := ⟨4, ![1, 1, 8, 128]⟩
abbrev S1x128x1024 : Shape := ⟨3, ![1, 128, 1024]⟩
abbrev S128x1024 : Shape := ⟨2, ![128, 1024]⟩
abbrev S16x1024 : Shape := ⟨2, ![16, 1024]⟩
abbrev S144x1024 : Shape := ⟨2, ![144, 1024]⟩
abbrev S1x512x64 : Shape := ⟨3, ![1, 512, 64]⟩
abbrev S512x64 : Shape := ⟨2, ![512, 64]⟩
abbrev S1x64x1024 : Shape := ⟨3, ![1, 64, 1024]⟩
abbrev S64x1024 : Shape := ⟨2, ![64, 1024]⟩
abbrev S512x1024 : Shape := ⟨2, ![512, 1024]⟩
abbrev S128x128 : Shape := ⟨2, ![128, 128]⟩
abbrev S1x1x128x128 : Shape := ⟨4, ![1, 1, 128, 128]⟩
abbrev S144x512 : Shape := ⟨2, ![144, 512]⟩
abbrev S1x1x1024 : Shape := ⟨3, ![1, 1, 1024]⟩
abbrev S1x1024 : Shape := ⟨2, ![1, 1024]⟩
abbrev S1024 : Shape := ⟨1, ![1024]⟩
abbrev S1x144x1024 : Shape := ⟨3, ![1, 144, 1024]⟩
abbrev S1x64x512 : Shape := ⟨3, ![1, 64, 512]⟩
abbrev S64x512 : Shape := ⟨2, ![64, 512]⟩
abbrev S512x512 : Shape := ⟨2, ![512, 512]⟩
abbrev S1x1x512 : Shape := ⟨3, ![1, 1, 512]⟩
abbrev S1x512 : Shape := ⟨2, ![1, 512]⟩
abbrev S512 : Shape := ⟨1, ![512]⟩
abbrev S1x144x512 : Shape := ⟨3, ![1, 144, 512]⟩
abbrev S1x1024x64 : Shape := ⟨3, ![1, 1024, 64]⟩
abbrev S1024x64 : Shape := ⟨2, ![1024, 64]⟩
abbrev S1x64 : Shape := ⟨2, ![1, 64]⟩
abbrev S1024x128 : Shape := ⟨2, ![1024, 128]⟩
abbrev S1024x512 : Shape := ⟨2, ![1024, 512]⟩

abbrev nBuf : Space → Nat
  | .hbm => 40
  | .vmem => 15
  | .smem => 3
  | _ => 0

abbrev bufTy : (tb : Table) → Fin (tcTables nBuf tb) → BufTy
  | .hbm, ⟨0, _⟩ => ⟨S4x8192x3368, .f32⟩
  | .hbm, ⟨1, _⟩ => ⟨S4x8192, .i32⟩
  | .hbm, ⟨2, _⟩ => ⟨S32x12, .f32⟩
  | .hbm, ⟨3, _⟩ => ⟨S4x64, .f32⟩
  | .hbm, ⟨4, _⟩ => ⟨S128, .f32⟩
  | .hbm, ⟨5, _⟩ => ⟨S4x8192x512, .f32⟩
  | .hbm, ⟨6, _⟩ => ⟨S4x8192x512, .f32⟩
  | .hbm, ⟨7, _⟩ => ⟨S4x8192x512, .f32⟩
  | .hbm, ⟨8, _⟩ => ⟨S4x8192x256, .f32⟩
  | .hbm, ⟨9, _⟩ => ⟨S4x8192x32, .f32⟩
  | .hbm, ⟨10, _⟩ => ⟨S4x8192x8, .f32⟩
  | .hbm, ⟨11, _⟩ => ⟨S4x8192x512, .f32⟩
  | .hbm, ⟨12, _⟩ => ⟨S4x8192x512, .f32⟩
  | .hbm, ⟨13, _⟩ => ⟨S4x8192x512, .f32⟩
  | .hbm, ⟨14, _⟩ => ⟨S_, .f32⟩
  | .hbm, ⟨15, _⟩ => ⟨S4x8192x96, .f32⟩
  | .hbm, ⟨16, _⟩ => ⟨S4x8192x1152, .f32⟩
  | .hbm, ⟨17, _⟩ => ⟨S_, .f32⟩
  | .hbm, ⟨18, _⟩ => ⟨S4x8192x512, .f32⟩
  | .hbm, ⟨19, _⟩ => ⟨S4x8192x512, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S4x8192x512, .f32⟩
  | .hbm, ⟨25, _⟩ => ⟨S4x8192x512, .f32⟩
  | .hbm, ⟨26, _⟩ => ⟨S_, .f32⟩
  | .hbm, ⟨27, _⟩ => ⟨S4x8192x8, .f32⟩
  | .hbm, ⟨28, _⟩ => ⟨S4x8192x8, .f32⟩
  | .hbm, ⟨29, _⟩ => ⟨S_, .f32⟩
  | .hbm, ⟨30, _⟩ => ⟨S4x8192x8, .f32⟩
  | .hbm, ⟨31, _⟩ => ⟨S4x8192x2320, .f32⟩
  | .hbm, ⟨32, _⟩ => ⟨S4x2320x8192, .f32⟩
  | .hbm, ⟨33, _⟩ => ⟨S4x8192x1152, .bf16⟩
  | .hbm, ⟨34, _⟩ => ⟨S4x2320x8192, .bf16⟩
  | .hbm, ⟨35, _⟩ => ⟨S4x2048x8192, .bf16⟩
  | .hbm, ⟨36, _⟩ => ⟨S4x8192x1024, .bf16⟩
  | .hbm, ⟨37, _⟩ => ⟨S4x2048x8192, .bf16⟩
  | .hbm, ⟨38, _⟩ => ⟨S128x1, .f32⟩
  | .hbm, ⟨39, _⟩ => ⟨S4x8192x512, .bf16⟩
  | .local _ .vmem, ⟨0, _⟩ => ⟨S1x512x1024, .bf16⟩
  | .local _ .vmem, ⟨1, _⟩ => ⟨S1x512x1024, .bf16⟩
  | .local _ .vmem, ⟨2, _⟩ => ⟨S1x1024x512, .bf16⟩
  | .local _ .vmem, ⟨3, _⟩ => ⟨S1x1024x512, .bf16⟩
  | .local _ .vmem, ⟨4, _⟩ => ⟨S1x512x1024, .bf16⟩
  | .local _ .vmem, ⟨5, _⟩ => ⟨S1x512x1024, .bf16⟩
  | .local _ .vmem, ⟨6, _⟩ => ⟨S4x64, .f32⟩
  | .local _ .vmem, ⟨7, _⟩ => ⟨S128x1, .f32⟩
  | .local _ .vmem, ⟨8, _⟩ => ⟨S1x1024x512, .bf16⟩
  | .local _ .vmem, ⟨9, _⟩ => ⟨S1x1024x512, .bf16⟩
  | .local _ .vmem, ⟨10, _⟩ => ⟨S8x1x1024, .f32⟩
  | .local _ .vmem, ⟨11, _⟩ => ⟨S8x144x1024, .f32⟩
  | .local _ .vmem, ⟨12, _⟩ => ⟨S4x2x128x128, .f32⟩
  | .local _ .vmem, ⟨13, _⟩ => ⟨S1024x1024, .f32⟩
  | .local _ .vmem, ⟨14, _⟩ => ⟨S1024x1024, .f32⟩
  | .local _ .smem, ⟨0, _⟩ => ⟨S36, .i32⟩
  | .local _ .smem, ⟨1, _⟩ => ⟨S36, .i32⟩
  | .local _ .smem, ⟨2, _⟩ => ⟨S32x12, .f32⟩
  | _, _ => ⟨S4x8192x3368, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨2, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_cst_4 : Ref sig .tc := ⟨.hbm, 26, rfl⟩
abbrev main_v17 : Ref sig .tc := ⟨.hbm, 27, rfl⟩
abbrev main_v18 : Ref sig .tc := ⟨.hbm, 28, rfl⟩
abbrev main_cst_5 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_c : Ref sig .tc := ⟨.smem, 0, rfl⟩
abbrev main_c_0 : Ref sig .tc := ⟨.smem, 1, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_scratch2 : Ref sig .tc := ⟨.vmem, 12, rfl⟩
abbrev cc0_scratch3 : Ref sig .tc := ⟨.vmem, 13, rfl⟩
abbrev cc0_scratch4 : Ref sig .tc := ⟨.vmem, 14, rfl⟩
abbrev cc0_stg0_0 : Ref sig .tc := ⟨.smem, 2, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![4, 36], ![false, false]⟩

abbrev pre0 : Pipeline.Prefetch sig := ⟨2, ![main_c.idx, main_c_0.idx], fun | 0 => main_c.names | 1 => main_c_0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_cond1 (i : grid0.Coords) : BitVec 1 :=
  let arg0 : BitVec 32 := BitVec.ofNat 32 (i 0).val
  let c0_i32 : BitVec 32 := 0#32
  let v4 : BitVec 1 := Scalar.cmpi .eq arg0 c0_i32
  let arg1 : BitVec 32 := BitVec.ofNat 32 (i 1).val
  let c0_i32_0 : BitVec 32 := 0#32
  let v5 : BitVec 1 := Scalar.cmpi .eq arg1 c0_i32_0
  let v6 : BitVec 1 := Scalar.andi v4 v5
  let v7 : BitVec 32 := Scalar.extui v6
  let c0_i32_1 : BitVec 32 := 0#32
  let v8 : BitVec 1 := Scalar.cmpi .ne v7 c0_i32_1
  v8

@[reducible] def k0_t1_loop : Scf.Loop 32 :=
  let c0_i32_10 : BitVec 32 := 0#32
  let c16_i32 : BitVec 32 := 16#32
  let v29 : BitVec 32 := Scalar.addi c0_i32_10 c16_i32
  let c1_i32_11 : BitVec 32 := 1#32
  ⟨c0_i32_10, v29, c1_i32_11⟩
def k0_mult1 (k0_t1 : Fin k0_t1_loop.trips) : BitVec 32 :=
  let c0_i32_10 : BitVec 32 := 0#32
  let c1_i32_11 : BitVec 32 := 1#32
  let arg16 : BitVec 32 := Scf.iv c0_i32_10 c1_i32_11 k0_t1
  let c8_i32 : BitVec 32 := 8#32
  let v39 : BitVec 32 := Scalar.muli arg16 c8_i32
  v39
def k0_off2 (k0_t1 : Fin k0_t1_loop.trips) : Fin 4 → Nat :=
  let c0_84 : Index := 0#32
  let c0_85 : Index := 0#32
  let c0_i32_10 : BitVec 32 := 0#32
  let c1_i32_11 : BitVec 32 := 1#32
  let arg16 : BitVec 32 := Scf.iv c0_i32_10 c1_i32_11 k0_t1
  let c8_i32 : BitVec 32 := 8#32
  let v39 : BitVec 32 := Scalar.muli arg16 c8_i32
  let v40 : BitVec 32 := v39
  let v265 : Index := Scalar.indexCast v40
  let c0_86 : Index := 0#32
  ![0, 0, v265.toNat, 0]
def k0_off3 (k0_t1 : Fin k0_t1_loop.trips) : Fin 4 → Nat :=
  let c1_214 : Index := 1#32
  let c0_215 : Index := 0#32
  let c0_i32_10 : BitVec 32 := 0#32
  let c1_i32_11 : BitVec 32 := 1#32
  let arg16 : BitVec 32 := Scf.iv c0_i32_10 c1_i32_11 k0_t1
  let c8_i32 : BitVec 32 := 8#32
  let v39 : BitVec 32 := Scalar.muli arg16 c8_i32
  let v40 : BitVec 32 := v39
  let v488 : Index := Scalar.indexCast v40
  let c0_216 : Index := 0#32
  ![1, 0, v488.toNat, 0]
def k0_off4 (k0_t1 : Fin k0_t1_loop.trips) : Fin 4 → Nat :=
  let c2_344 : Index := 2#32
  let c0_345 : Index := 0#32
  let c0_i32_10 : BitVec 32 := 0#32
  let c1_i32_11 : BitVec 32 := 1#32
  let arg16 : BitVec 32 := Scf.iv c0_i32_10 c1_i32_11 k0_t1
  let c8_i32 : BitVec 32 := 8#32
  let v39 : BitVec 32 := Scalar.muli arg16 c8_i32
  let v40 : BitVec 32 := v39
  let v711 : Index := Scalar.indexCast v40
  let c0_346 : Index := 0#32
  ![2, 0, v711.toNat, 0]
def k0_off5 (k0_t1 : Fin k0_t1_loop.trips) : Fin 4 → Nat :=
  let c3_474 : Index := 3#32
  let c0_475 : Index := 0#32
  let c0_i32_10 : BitVec 32 := 0#32
  let c1_i32_11 : BitVec 32 := 1#32
  let arg16 : BitVec 32 := Scf.iv c0_i32_10 c1_i32_11 k0_t1
  let c8_i32 : BitVec 32 := 8#32
  let v39 : BitVec 32 := Scalar.muli arg16 c8_i32
  let v40 : BitVec 32 := v39
  let v934 : Index := Scalar.indexCast v40
  let c0_476 : Index := 0#32
  ![3, 0, v934.toNat, 0]
def k0_off6 (k0_t1 : Fin k0_t1_loop.trips) : Fin 4 → Nat :=
  let c0_604 : Index := 0#32
  let c1_605 : Index := 1#32
  let c0_i32_10 : BitVec 32 := 0#32
  let c1_i32_11 : BitVec 32 := 1#32
  let arg16 : BitVec 32 := Scf.iv c0_i32_10 c1_i32_11 k0_t1
  let c8_i32 : BitVec 32 := 8#32
  let v39 : BitVec 32 := Scalar.muli arg16 c8_i32
  let v40 : BitVec 32 := v39
  let v1162 : Index := Scalar.indexCast v40
  let c0_606 : Index := 0#32
  ![0, 1, v1162.toNat, 0]
def k0_off7 (k0_t1 : Fin k0_t1_loop.trips) : Fin 4 → Nat :=
  let c1_734 : Index := 1#32
  let c1_735 : Index := 1#32
  let c0_i32_10 : BitVec 32 := 0#32
  let c1_i32_11 : BitVec 32 := 1#32
  let arg16 : BitVec 32 := Scf.iv c0_i32_10 c1_i32_11 k0_t1
  let c8_i32 : BitVec 32 := 8#32
  let v39 : BitVec 32 := Scalar.muli arg16 c8_i32
  let v40 : BitVec 32 := v39
  let v1385 : Index := Scalar.indexCast v40
  let c0_736 : Index := 0#32
  ![1, 1, v1385.toNat, 0]
def k0_off8 (k0_t1 : Fin k0_t1_loop.trips) : Fin 4 → Nat :=
  let c2_864 : Index := 2#32
  let c1_865 : Index := 1#32
  let c0_i32_10 : BitVec 32 := 0#32
  let c1_i32_11 : BitVec 32 := 1#32
  let arg16 : BitVec 32 := Scf.iv c0_i32_10 c1_i32_11 k0_t1
  let c8_i32 : BitVec 32 := 8#32
  let v39 : BitVec 32 := Scalar.muli arg16 c8_i32
  let v40 : BitVec 32 := v39
  let v1608 : Index := Scalar.indexCast v40
  let c0_866 : Index := 0#32
  ![2, 1, v1608.toNat, 0]
def k0_off9 (k0_t1 : Fin k0_t1_loop.trips) : Fin 4 → Nat :=
  let c3_994 : Index := 3#32
  let c1_995 : Index := 1#32
  let c0_i32_10 : BitVec 32 := 0#32
  let c1_i32_11 : BitVec 32 := 1#32
  let arg16 : BitVec 32 := Scf.iv c0_i32_10 c1_i32_11 k0_t1
  let c8_i32 : BitVec 32 := 8#32
  let v39 : BitVec 32 := Scalar.muli arg16 c8_i32
  let v40 : BitVec 32 := v39
  let v1831 : Index := Scalar.indexCast v40
  let c0_996 : Index := 0#32
  ![3, 1, v1831.toNat, 0]
def k0_cond6 (v1 : BitVec 32) (v3 : BitVec 32) : BitVec 1 :=
  let v24 : BitVec 1 := Scalar.cmpi .eq v3 v1
  let v25 : BitVec 32 := Scalar.extui v24
  let c0_i32_9 : BitVec 32 := 0#32
  let v26 : BitVec 1 := Scalar.cmpi .ne v25 c0_i32_9
  v26

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c3_i32 : BitVec 32 := 3#32
  let c0_i32 : BitVec 32 := 0#32
  ![arg0.toNat, c3_i32.toNat, v1.toNat]

def cc0_transform_2 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c1_i32 : BitVec 32 := 1#32
  let c0_i32 : BitVec 32 := 0#32
  ![arg0.toNat, v1.toNat, c1_i32.toNat]

def cc0_transform_3 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 1 (Rect.unit (s := S36) ![v0.toNat] S1.size (k0_off1_inb i)) numel1_S1
  let c1_i32 : BitVec 32 := 1#32
  let c0_i32 : BitVec 32 := 0#32
  ![arg0.toNat, c1_i32.toNat, v1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (k0_off1_inb : ∀ i : grid0.Coords, ∀ a, (k0_off1 i) a + S1.size a ≤ S36.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S36) ![v0.toNat] S1.size (k0_off1_inb i)) numel1_S1
  let c0_i32 : BitVec 32 := 0#32
  let c0_i32_0 : BitVec 32 := 0#32
  ![arg0.toNat, v1.toNat, c0_i32.toNat]

abbrev stage0_0 : Fin 1 → Memref sig .tc .smem S32x12 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 1 → Memref sig .tc .vmem S4x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x8192x3368 : Shape := ⟨3, ![4, 8192, 3368]⟩
abbrev S4x8192 : Shape := ⟨2, ![4, 8192]⟩
abbrev S32x12 : Shape := ⟨2, ![32, 12]⟩
abbrev S4x64 : Shape := ⟨2, ![4, 64]⟩
abbrev S128 : Shape := ⟨1, ![128]⟩
abbrev S4x8192x512 : Shape := ⟨3, ![4, 8192, 512]⟩
abbrev S4x8192x256 : Shape := ⟨3, ![4, 8192, 256]⟩
abbrev S4x8192x32 : Shape := ⟨3, ![4, 8192, 32]⟩
abbrev S4x8192x8 : Shape := ⟨3, ![4, 8192, 8]⟩
abbrev S4x8192x4x2x64 : Shape := ⟨5, ![4, 8192, 4, 2, 64]⟩
abbrev S4x8192x4x1x64 : Shape := ⟨5, ![4, 8192, 4, 1, 64]⟩
abbrev S4x8192x4x64 : Shape := ⟨4, ![4, 8192, 4, 64]⟩
abbrev S4x8192x4x128 : Shape := ⟨4, ![4, 8192, 4, 128]⟩
abbrev S1x64 : Shape := ⟨2, ![1, 64]⟩
abbrev S64 : Shape := ⟨1, ![64]⟩
abbrev S_ : Shape := ⟨0, ![]⟩
abbrev S32x4 : Shape := ⟨2, ![32, 4]⟩
abbrev S4x1x8192 : Shape := ⟨3, ![4, 1, 8192]⟩
abbrev S4x8192x1 : Shape := ⟨3, ![4, 8192, 1]⟩
abbrev S4x8192x8192 : Shape := ⟨3, ![4, 8192, 8192]⟩
abbrev S4x8192x8192x1 : Shape := ⟨4, ![4, 8192, 8192, 1]⟩
abbrev S4x8192x8192x4 : Shape := ⟨4, ![4, 8192, 8192, 4]⟩
abbrev S4x4x8192x8192 : Shape := ⟨4, ![4, 4, 8192, 8192]⟩
abbrev S4x1x8192x8192 : Shape := ⟨4, ![4, 1, 8192, 8192]⟩
abbrev S4x4x8192 : Shape := ⟨3, ![4, 4, 8192]⟩
abbrev S4x4x8192x1 : Shape := ⟨4, ![4, 4, 8192, 1]⟩
abbrev S4x4x128x8192 : Shape := ⟨4, ![4, 4, 128, 8192]⟩
abbrev S4x8192x4 : Shape := ⟨3, ![4, 8192, 4]⟩
abbrev S4x8192x4x1 : Shape := ⟨4, ![4, 8192, 4, 1]⟩
abbrev S1x1x1x128 : Shape := ⟨4, ![1, 1, 1, 128]⟩

abbrev nBuf : Space → Nat
  | .hbm => 169
  | .vmem => 0
  | .smem => 0
  | _ => 0

abbrev hbmTy0_0 (i : Nat) : BufTy := match i % 128 with
  | 0 => ⟨S4x8192x3368, .f32⟩
  | 1 => ⟨S4x8192, .i32⟩
  | 2 => ⟨S32x12, .f32⟩
  | 3 => ⟨S4x64, .f32⟩
  | 4 => ⟨S128, .f32⟩
  | 5 => ⟨S4x8192x512, .f32⟩
  | 6 => ⟨S4x8192x512, .f32⟩
  | 7 => ⟨S4x8192x512, .f32⟩
  | 8 => ⟨S4x8192x256, .f32⟩
  | 9 => ⟨S4x8192x32, .f32⟩
  | 10 => ⟨S4x8192x8, .f32⟩
  | 11 => ⟨S4x8192x512, .f32⟩
  | 12 => ⟨S4x8192x512, .f32⟩
  | 13 => ⟨S4x8192x512, .f32⟩
  | 14 => ⟨S4x8192x4x2x64, .f32⟩
  | 15 => ⟨S4x8192x4x2x64, .f32⟩
  | 16 => ⟨S4x8192x4x1x64, .f32⟩
  | 17 => ⟨S4x8192x4x64, .f32⟩
  | 18 => ⟨S4x8192x4x1x64, .f32⟩
  | 19 => ⟨S4x8192x4x64, .f32⟩
  | 20 => ⟨S4x8192x4x1x64, .f32⟩
  | 21 => ⟨S4x8192x4x64, .f32⟩
  | 22 => ⟨S4x8192x4x1x64, .f32⟩
  | 23 => ⟨S4x8192x4x64, .f32⟩
  | 24 => ⟨S4x8192x4x128, .f32⟩
  | 25 => ⟨S1x64, .f32⟩
  | 26 => ⟨S64, .f32⟩
  | 27 => ⟨S1x64, .f32⟩
  | 28 => ⟨S64, .f32⟩
  | 29 => ⟨S64, .f32⟩
  | 30 => ⟨S_, .f32⟩
  | 31 => ⟨S_, .f32⟩
  | 32 => ⟨S_, .f32⟩
  | 33 => ⟨S1x64, .f32⟩
  | 34 => ⟨S64, .f32⟩
  | 35 => ⟨S1x64, .f32⟩
  | 36 => ⟨S64, .f32⟩
  | 37 => ⟨S64, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S32x4, .f32⟩
  | 45 => ⟨S4x1x8192, .i32⟩
  | 46 => ⟨S4x8192x1, .i32⟩
  | 47 => ⟨S4x8192x8192, .i32⟩
  | 48 => ⟨S4x8192x8192, .i32⟩
  | 49 => ⟨S4x8192x8192, .i1⟩
  | 50 => ⟨S4x8192x1, .i32⟩
  | 51 => ⟨S4x1x8192, .i32⟩
  | 52 => ⟨S4x8192x8192, .i32⟩
  | 53 => ⟨S4x8192x8192, .i32⟩
  | 54 => ⟨S4x8192x8192, .i32⟩
  | 55 => ⟨S_, .i32⟩
  | 56 => ⟨S4x8192x8192, .i32⟩
  | 57 => ⟨S4x8192x8192, .i32⟩
  | 58 => ⟨S_, .i32⟩
  | 59 => ⟨S4x8192x8192, .i32⟩
  | 60 => ⟨S4x8192x8192, .i32⟩
  | 61 => ⟨S4x8192x8192, .f32⟩
  | 62 => ⟨S_, .f32⟩
  | 63 => ⟨S4x8192x8192, .f32⟩
  | 64 => ⟨S4x8192x8192, .f32⟩
  | 65 => ⟨S4x8192x8192, .f32⟩
  | 66 => ⟨S_, .f32⟩
  | 67 => ⟨S_, .f32⟩
  | 68 => ⟨S4x8192x8192, .f32⟩
  | 69 => ⟨S4x8192x8192, .f32⟩
  | 70 => ⟨S_, .f32⟩
  | 71 => ⟨S4x8192x8192, .f32⟩
  | 72 => ⟨S4x8192x8192, .f32⟩
  | 73 => ⟨S4x8192x8192, .i32⟩
  | 74 => ⟨S_, .i32⟩
  | 75 => ⟨S4x8192x8192, .i32⟩
  | 76 => ⟨S4x8192x8192, .i32⟩
  | 77 => ⟨S_, .i32⟩
  | 78 => ⟨S4x8192x8192, .i32⟩
  | 79 => ⟨S4x8192x8192, .i1⟩
  | 80 => ⟨S_, .i32⟩
  | 81 => ⟨S4x8192x8192, .i32⟩
  | 82 => ⟨S4x8192x8192, .i32⟩
  | 83 => ⟨S4x8192x8192, .i32⟩
  | 84 => ⟨S_, .i32⟩
  | 85 => ⟨S4x8192x8192, .i32⟩
  | 86 => ⟨S4x8192x8192, .i1⟩
  | 87 => ⟨S_, .i32⟩
  | 88 => ⟨S4x8192x8192, .i32⟩
  | 89 => ⟨S4x8192x8192, .i32⟩
  | 90 => ⟨S4x8192x8192, .i32⟩
  | 91 => ⟨S4x8192x8192x1, .i32⟩
  | 92 => ⟨S4x8192x8192x4, .f32⟩
  | 93 => ⟨S4x4x8192x8192, .f32⟩
  | 94 => ⟨S4x1x8192x8192, .i1⟩
  | 95 => ⟨S4x4x8192x8192, .f32⟩
  | 96 => ⟨S_, .f32⟩
  | 97 => ⟨S4x4x8192x8192, .f32⟩
  | 98 => ⟨S4x4x8192x8192, .f32⟩
  | 99 => ⟨S4x4x8192x8192, .f32⟩
  | 100 => ⟨S_, .f32⟩
  | 101 => ⟨S_, .f32⟩
  | 102 => ⟨S4x4x8192x8192, .i1⟩
  | 103 => ⟨S4x4x8192x8192, .f32⟩
  | 104 => ⟨S4x4x8192x8192, .f32⟩
  | 105 => ⟨S_, .f32⟩
  | 106 => ⟨S4x4x8192, .f32⟩
  | 107 => ⟨S_, .f32⟩
  | 108 => ⟨S4x4x8192, .f32⟩
  | 109 => ⟨S4x4x8192, .f32⟩
  | 110 => ⟨S4x4x8192x1, .f32⟩
  | 111 => ⟨S4x4x8192x8192, .f32⟩
  | 112 => ⟨S4x4x8192x8192, .f32⟩
  | 113 => ⟨S4x4x8192x8192, .f32⟩
  | 114 => ⟨S_, .f32⟩
  | 115 => ⟨S4x4x8192, .f32⟩
  | 116 => ⟨S4x4x8192x1, .f32⟩
  | 117 => ⟨S4x4x8192x8192, .f32⟩
  | 118 => ⟨S4x4x8192x8192, .f32⟩
  | 119 => ⟨S4x4x8192x8192, .f32⟩
  | 120 => ⟨S_, .f32⟩
  | 121 => ⟨S4x4x8192x8192, .f32⟩
  | 122 => ⟨S4x4x8192x8192, .f32⟩
  | 123 => ⟨S4x4x8192x8192, .f32⟩
  | 124 => ⟨S_, .f32⟩
  | 125 => ⟨S_, .f32⟩
  | 126 => ⟨S4x4x8192x8192, .i1⟩
  | 127 => ⟨S4x4x8192x8192, .f32⟩
  | _ => ⟨S4x8192x3368, .f32⟩

abbrev hbmTy0_1 (i : Nat) : BufTy := match i % 128 with
  | 0 => ⟨S4x4x8192x8192, .f32⟩
  | 1 => ⟨S_, .f32⟩
  | 2 => ⟨S4x4x8192, .f32⟩
  | 3 => ⟨S_, .f32⟩
  | 4 => ⟨S4x4x8192, .f32⟩
  | 5 => ⟨S4x4x8192, .f32⟩
  | 6 => ⟨S4x4x8192x1, .f32⟩
  | 7 => ⟨S4x4x8192x8192, .f32⟩
  | 8 => ⟨S4x4x8192x8192, .f32⟩
  | 9 => ⟨S4x4x8192x8192, .f32⟩
  | 10 => ⟨S_, .f32⟩
  | 11 => ⟨S4x4x8192, .f32⟩
  | 12 => ⟨S4x4x8192x1, .f32⟩
  | 13 => ⟨S4x4x8192x8192, .f32⟩
  | 14 => ⟨S4x4x8192x8192, .f32⟩
  | 15 => ⟨S4x4x8192x8192, .f32⟩
  | 16 => ⟨S4x4x8192x8192, .f32⟩
  | 17 => ⟨S4x4x8192x8192, .f32⟩
  | 18 => ⟨S4x4x128x8192, .f32⟩
  | 19 => ⟨S4x8192x4x128, .f32⟩
  | 20 => ⟨S4x8192x4x128, .f32⟩
  | 21 => ⟨S_, .f32⟩
  | 22 => ⟨S4x8192x4, .f32⟩
  | 23 => ⟨S4x8192x4x1, .f32⟩
  | 24 => ⟨S_, .f32⟩
  | 25 => ⟨S4x8192x4x1, .f32⟩
  | 26 => ⟨S4x8192x4x1, .f32⟩
  | 27 => ⟨S_, .f32⟩
  | 28 => ⟨S4x8192x4x1, .f32⟩
  | 29 => ⟨S4x8192x4x1, .f32⟩
  | 30 => ⟨S4x8192x4x1, .f32⟩
  | 31 => ⟨S4x8192x4x128, .f32⟩
  | 32 => ⟨S4x8192x4x128, .f32⟩
  | 33 => ⟨S1x1x1x128, .f32⟩
  | 34 => ⟨S4x8192x4x128, .f32⟩
  | 35 => ⟨S4x8192x4x128, .f32⟩
  | 36 => ⟨S_, .f32⟩
  | 37 => ⟨S4x8192x4x128, .f32⟩
  | 38 => ⟨S4x8192x4x128, .f32⟩
  | 39 => ⟨S4x8192x512, .f32⟩
  | 40 => ⟨S4x8192x512, .bf16⟩
  | _ => ⟨S4x8192x3368, .f32⟩

abbrev hbmTy (i : Nat) : BufTy := match i / 128 with
  | 0 => hbmTy0_0 i
  | 1 => hbmTy0_1 i
  | _ => ⟨S4x8192x3368, .f32⟩

abbrev bufTy : (tb : Table) → Fin (tcTables nBuf tb) → BufTy
  | .hbm, ⟨i, _⟩ => hbmTy i
  | _, _ => ⟨S4x8192x3368, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_cst : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_cst_0 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_cst_1 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_c : Ref sig .tc := ⟨.hbm, 55, rfl⟩
abbrev main_v47 : Ref sig .tc := ⟨.hbm, 56, rfl⟩
abbrev main_v48 : Ref sig .tc := ⟨.hbm, 57, rfl⟩
abbrev main_c_2 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_cst_3 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_cst_4 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_5 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_c_6 : Ref sig .tc := ⟨.hbm, 74, rfl⟩
abbrev main_v61 : Ref sig .tc := ⟨.hbm, 75, rfl⟩
abbrev main_v62 : Ref sig .tc := ⟨.hbm, 76, rfl⟩
abbrev main_c_7 : Ref sig .tc := ⟨.hbm, 77, rfl⟩
abbrev main_v63 : Ref sig .tc := ⟨.hbm, 78, rfl⟩
abbrev main_v64 : Ref sig .tc := ⟨.hbm, 79, rfl⟩
abbrev main_c_8 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_c_9 : Ref sig .tc := ⟨.hbm, 84, rfl⟩
abbrev main_v68 : Ref sig .tc := ⟨.hbm, 85, rfl⟩
abbrev main_v69 : Ref sig .tc := ⟨.hbm, 86, rfl⟩
abbrev main_c_10 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_cst_11 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_cst_12 : Ref sig .tc := ⟨.hbm, 100, rfl⟩
abbrev main_call1_v0 : Ref sig .tc := ⟨.hbm, 101, rfl⟩
abbrev main_call1_v1 : Ref sig .tc := ⟨.hbm, 102, rfl⟩
abbrev main_call1_v2 : Ref sig .tc := ⟨.hbm, 103, rfl⟩
abbrev main_v81 : Ref sig .tc := ⟨.hbm, 104, rfl⟩
abbrev main_cst_13 : Ref sig .tc := ⟨.hbm, 105, rfl⟩
abbrev main_v82 : Ref sig .tc := ⟨.hbm, 106, rfl⟩
abbrev main_cst_14 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_cst_15 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_v93 : Ref sig .tc := ⟨.hbm, 119, rfl⟩
abbrev main_cst_16 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_cst_17 : Ref sig .tc := ⟨.hbm, 124, rfl⟩
abbrev main_call2_v0 : Ref sig .tc := ⟨.hbm, 125, rfl⟩
abbrev main_call2_v1 : Ref sig .tc := ⟨.hbm, 126, rfl⟩
abbrev main_call2_v2 : Ref sig .tc := ⟨.hbm, 127, rfl⟩
abbrev main_v97 : Ref sig .tc := ⟨.hbm, 128, rfl⟩
abbrev main_cst_18 : Ref sig .tc := ⟨.hbm, 129, rfl⟩
abbrev main_v98 : Ref sig .tc := ⟨.hbm, 130, rfl⟩
abbrev main_cst_19 : Ref sig .tc := ⟨.hbm, 131, rfl⟩
abbrev main_v99 : Ref sig .tc := ⟨.hbm, 132, rfl⟩
abbrev main_v100 : Ref sig .tc := ⟨.hbm, 133, rfl⟩
abbrev main_v101 : Ref sig .tc := ⟨.hbm, 134, rfl⟩
abbrev main_v102 : Ref sig .tc := ⟨.hbm, 135, rfl⟩
abbrev main_v103 : Ref sig .tc := ⟨.hbm, 136, rfl⟩
abbrev main_v104 : Ref sig .tc := ⟨.hbm, 137, rfl⟩
abbrev main_cst_20 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_cst_21 : Ref sig .tc := ⟨.hbm, 149, rfl⟩
abbrev main_v115 : Ref sig .tc := ⟨.hbm, 150, rfl⟩
abbrev main_v116 : Ref sig .tc := ⟨.hbm, 151, rfl⟩
abbrev main_cst_22 : Ref sig .tc := ⟨.hbm, 152, rfl⟩
abbrev main_v117 : Ref sig .tc := ⟨.hbm, 153, rfl⟩
abbrev main_v118 : Ref sig .tc := ⟨.hbm, 154, rfl⟩
abbrev main_cst_23 : Ref sig .tc := ⟨.hbm, 155, rfl⟩
abbrev main_v119 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_v123 : Ref sig .tc := ⟨.hbm, 160, rfl⟩
abbrev main_v124 : Ref sig .tc := ⟨.hbm, 161, rfl⟩
abbrev main_v125 : Ref sig .tc := ⟨.hbm, 162, rfl⟩
abbrev main_v126 : Ref sig .tc := ⟨.hbm, 163, rfl⟩
abbrev main_cst_24 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩

abbrev nD : Nat := 1
abbrev τ : Topo := Topo.v7x

variable {F : FTy → Type} [FloatOps F]
-- ==== EvenIn.lean ====
abbrev S4x8192x1024 : Shape := ⟨3, ![4, 8192, 1024]⟩
abbrev S1024 : Shape := ⟨1, ![1024]⟩
abbrev S4x1024 : Shape := ⟨2, ![4, 1024]⟩
abbrev S1024x2560 : Shape := ⟨2, ![1024, 2560]⟩
abbrev S1x1024 : Shape := ⟨2, ![1, 1024]⟩
abbrev S4x1x1024 : Shape := ⟨3, ![4, 1, 1024]⟩
abbrev S4x8192x2560 : Shape := ⟨3, ![4, 8192, 2560]⟩
abbrev S1x512x1024 : Shape := ⟨3, ![1, 512, 1024]⟩
abbrev S1x1x1024 : Shape := ⟨3, ![1, 1, 1024]⟩
abbrev S1x512x2560 : Shape := ⟨3, ![1, 512, 2560]⟩
abbrev S512x1024 : Shape := ⟨2, ![512, 1024]⟩
abbrev S512 : Shape := ⟨1, ![512]⟩
abbrev S512x1 : Shape := ⟨2, ![512, 1]⟩
abbrev S512x2560 : Shape := ⟨2, ![512, 2560]⟩

abbrev nBuf : Space → Nat
  | .hbm => 10
  | .vmem => 10
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x2560, .f32⟩
  | .hbm, ⟨5, _⟩ => ⟨S1024x2560, .bf16⟩
  | .hbm, ⟨6, _⟩ => ⟨S1x1024, .f32⟩
  | .hbm, ⟨7, _⟩ => ⟨S4x1x1024, .f32⟩
  | .hbm, ⟨8, _⟩ => ⟨S4x1x1024, .f32⟩
  | .hbm, ⟨9, _⟩ => ⟨S4x8192x2560, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x2560, .bf16⟩
  | .local _ .vmem, ⟨8, _⟩ => ⟨S1x512x2560, .bf16⟩
  | .local _ .vmem, ⟨9, _⟩ => ⟨S1x512x2560, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x2560 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== EvenInReferenceIdeal.lean ====
abbrev S4x8192x1024 : Shape := ⟨3, ![4, 8192, 1024]⟩
abbrev S1024 : Shape := ⟨1, ![1024]⟩
abbrev S4x1024 : Shape := ⟨2, ![4, 1024]⟩
abbrev S1024x2560 : Shape := ⟨2, ![1024, 2560]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x2560 : Shape := ⟨3, ![4, 8192, 2560]⟩

abbrev nBuf : Space → Nat
  | .hbm => 32
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x2560, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x2560, .f32⟩
  | .hbm, ⟨31, _⟩ => ⟨S4x8192x2560, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== OddOut.lean ====
abbrev S4x8192x512 : Shape := ⟨3, ![4, 8192, 512]⟩
abbrev S4x8192x1024 : Shape := ⟨3, ![4, 8192, 1024]⟩
abbrev S4x1024 : Shape := ⟨2, ![4, 1024]⟩
abbrev S1024x1024 : Shape := ⟨2, ![1024, 1024]⟩
abbrev S4x1x1024 : Shape := ⟨3, ![4, 1, 1024]⟩
abbrev S1x512x512 : Shape := ⟨3, ![1, 512, 512]⟩
abbrev S1x512x1024 : Shape := ⟨3, ![1, 512, 1024]⟩
abbrev S1x1x1024 : Shape := ⟨3, ![1, 1, 1024]⟩
abbrev S512x512 : Shape := ⟨2, ![512, 512]⟩
abbrev S512x1024 : Shape := ⟨2, ![512, 1024]⟩
abbrev S1x1024 : Shape := ⟨2, ![1, 1024]⟩

abbrev nBuf : Space → Nat
  | .hbm => 8
  | .vmem => 11
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .f32⟩
  | .hbm, ⟨3, _⟩ => ⟨S4x1024, .f32⟩
  | .hbm, ⟨4, _⟩ => ⟨S1024x1024, .f32⟩
  | .hbm, ⟨5, _⟩ => ⟨S1024x1024, .bf16⟩
  | .hbm, ⟨6, _⟩ => ⟨S4x1x1024, .f32⟩
  | .hbm, ⟨7, _⟩ => ⟨S4x8192x1024, .f32⟩
  | .local _ .vmem, ⟨0, _⟩ => ⟨S1x512x512, .bf16⟩
  | .local _ .vmem, ⟨1, _⟩ => ⟨S1x512x512, .bf16⟩
  | .local _ .vmem, ⟨2, _⟩ => ⟨S1x512x512, .bf16⟩
  | .local _ .vmem, ⟨3, _⟩ => ⟨S1x512x512, .bf16⟩
  | .local _ .vmem, ⟨4, _⟩ => ⟨S1x512x1024, .f32⟩
  | .local _ .vmem, ⟨5, _⟩ => ⟨S1x512x1024, .f32⟩
  | .local _ .vmem, ⟨6, _⟩ => ⟨S1x1x1024, .f32⟩
  | .local _ .vmem, ⟨7, _⟩ => ⟨S1x1x1024, .f32⟩
  | .local _ .vmem, ⟨8, _⟩ => ⟨S1024x1024, .bf16⟩
  | .local _ .vmem, ⟨9, _⟩ => ⟨S1x512x1024, .f32⟩
  | .local _ .vmem, ⟨10, _⟩ => ⟨S1x512x1024, .f32⟩
  | _, _ => ⟨S4x8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== OddOutReferenceIdeal.lean ====
abbrev S4x8192x512 : Shape := ⟨3, ![4, 8192, 512]⟩
abbrev S4x8192x1024 : Shape := ⟨3, ![4, 8192, 1024]⟩
abbrev S4x1024 : Shape := ⟨2, ![4, 1024]⟩
abbrev S1024x1024 : Shape := ⟨2, ![1024, 1024]⟩
abbrev S4x1x1024 : Shape := ⟨3, ![4, 1, 1024]⟩

abbrev nBuf : Space → Nat
  | .hbm => 11
  | .vmem => 0
  | .smem => 0
  | _ => 0

abbrev bufTy : (tb : Table) → Fin (tcTables nBuf tb) → BufTy
  | .hbm, ⟨0, _⟩ => ⟨S4x8192x512, .bf16⟩
  | .hbm, ⟨1, _⟩ => ⟨S4x8192x512, .bf16⟩
  | .hbm, ⟨2, _⟩ => ⟨S4x8192x1024, .f32⟩
  | .hbm, ⟨3, _⟩ => ⟨S4x1024, .f32⟩
  | .hbm, ⟨4, _⟩ => ⟨S1024x1024, .f32⟩
  | .hbm, ⟨5, _⟩ => ⟨S4x1x1024, .f32⟩
  | .hbm, ⟨6, _⟩ => ⟨S4x8192x1024, .bf16⟩
  | .hbm, ⟨7, _⟩ => ⟨S4x8192x1024, .f32⟩
  | .hbm, ⟨8, _⟩ => ⟨S4x8192x1024, .f32⟩
  | .hbm, ⟨9, _⟩ => ⟨S4x8192x1024, .f32⟩
  | .hbm, ⟨10, _⟩ => ⟨S4x8192x1024, .f32⟩
  | _, _ => ⟨S4x8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩

abbrev nD : Nat := 1
abbrev τ : Topo := Topo.v7x

variable {F : FTy → Type} [FloatOps F]
-- ==== OddIn.lean ====
abbrev S4x8192x1024 : Shape := ⟨3, ![4, 8192, 1024]⟩
abbrev S1024 : Shape := ⟨1, ![1024]⟩
abbrev S4x1024 : Shape := ⟨2, ![4, 1024]⟩
abbrev S1024x3368 : Shape := ⟨2, ![1024, 3368]⟩
abbrev S1024x512 : Shape := ⟨2, ![1024, 512]⟩
abbrev S1024x256 : Shape := ⟨2, ![1024, 256]⟩
abbrev S1024x32 : Shape := ⟨2, ![1024, 32]⟩
abbrev S1024x8 : Shape := ⟨2, ![1024, 8]⟩
abbrev S_ : Shape := ⟨0, ![]⟩
abbrev S1024x96 : Shape := ⟨2, ![1024, 96]⟩
abbrev S1024x1152 : Shape := ⟨2, ![1024, 1152]⟩
abbrev S1024x2320 : Shape := ⟨2, ![1024, 2320]⟩
abbrev S2320x1024 : Shape := ⟨2, ![2320, 1024]⟩
abbrev S1x1024 : Shape := ⟨2, ![1, 1024]⟩
abbrev S4x1x1024 : Shape := ⟨3, ![4, 1, 1024]⟩
abbrev S4x8192x1152 : Shape := ⟨3, ![4, 8192, 1152]⟩
abbrev S4x2320x8192 : Shape := ⟨3, ![4, 2320, 8192]⟩
abbrev S1x512x1024 : Shape := ⟨3, ![1, 512, 1024]⟩
abbrev S1x1x1024 : Shape := ⟨3, ![1, 1, 1024]⟩
abbrev S1x512x1152 : Shape := ⟨3, ![1, 512, 1152]⟩
abbrev S1x2320x512 : Shape := ⟨3, ![1, 2320, 512]⟩
abbrev S512x1024 : Shape := ⟨2, ![512, 1024]⟩
abbrev S512 : Shape := ⟨1, ![512]⟩
abbrev S512x1 : Shape := ⟨2, ![512, 1]⟩
abbrev S2320x512 : Shape := ⟨2, ![2320, 512]⟩
abbrev S512x1152 : Shape := ⟨2, ![512, 1152]⟩

abbrev nBuf : Space → Nat
  | .hbm => 37
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3368, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x256, .f32⟩
  | .hbm, ⟨9, _⟩ => ⟨S1024x32, .f32⟩
  | .hbm, ⟨10, _⟩ => ⟨S1024x8, .f32⟩
  | .hbm, ⟨11, _⟩ => ⟨S1024x512, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x96, .f32⟩
  | .hbm, ⟨16, _⟩ => ⟨S1024x1152, .f32⟩
  | .hbm, ⟨17, _⟩ => ⟨S_, .f32⟩
  | .hbm, ⟨18, _⟩ => ⟨S1024x512, .f32⟩
  | .hbm, ⟨19, _⟩ => ⟨S1024x512, .f32⟩
  | .hbm, ⟨20, _⟩ => ⟨S_, .f32⟩
  | .hbm, ⟨21, _⟩ => ⟨S1024x512, .f32⟩
  | .hbm, ⟨22, _⟩ => ⟨S1024x512, .f32⟩
  | .hbm, ⟨23, _⟩ => ⟨S_, .f32⟩
  | .hbm, ⟨24, _⟩ => ⟨S1024x8, .f32⟩
  | .hbm, ⟨25, _⟩ => ⟨S1024x8, .f32⟩
  | .hbm, ⟨26, _⟩ => ⟨S_, .f32⟩
  | .hbm, ⟨27, _⟩ => ⟨S1024x8, .f32⟩
  | .hbm, ⟨28, _⟩ => ⟨S1024x2320, .f32⟩
  | .hbm, ⟨29, _⟩ => ⟨S2320x1024, .f32⟩
  | .hbm, ⟨30, _⟩ => ⟨S1024x1152, .bf16⟩
  | .hbm, ⟨31, _⟩ => ⟨S2320x1024, .bf16⟩
  | .hbm, ⟨32, _⟩ => ⟨S1x1024, .f32⟩
  | .hbm, ⟨33, _⟩ => ⟨S4x1x1024, .f32⟩
  | .hbm, ⟨34, _⟩ => ⟨S4x1x1024, .f32⟩
  | .hbm, ⟨35, _⟩ => ⟨S4x8192x1152, .bf16⟩
  | .hbm, ⟨36, _⟩ => ⟨S4x2320x8192, .bf16⟩
  | .local _ .vmem, ⟨0, _⟩ => ⟨S1x512x1024, .f32⟩
  | .local _ .vmem, ⟨1, _⟩ => ⟨S1x512x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x1152, .bf16⟩
  | .local _ .vmem, ⟨8, _⟩ => ⟨S2320x1024, .bf16⟩
  | .local _ .vmem, ⟨9, _⟩ => ⟨S1x512x1152, .bf16⟩
  | .local _ .vmem, ⟨10, _⟩ => ⟨S1x512x1152, .bf16⟩
  | .local _ .vmem, ⟨11, _⟩ => ⟨S1x2320x512, .bf16⟩
  | .local _ .vmem, ⟨12, _⟩ => ⟨S1x2320x512, .bf16⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25_0 : Ref sig .tc := ⟨.hbm, 35, rfl⟩
abbrev main_v25_1 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x1152 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S2320x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1152 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x2320x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== OddInReferenceIdeal.lean ====
abbrev S4x8192x1024 : Shape := ⟨3, ![4, 8192, 1024]⟩
abbrev S1024 : Shape := ⟨1, ![1024]⟩
abbrev S4x1024 : Shape := ⟨2, ![4, 1024]⟩
abbrev S1024x3368 : Shape := ⟨2, ![1024, 3368]⟩
abbrev S_ : Shape := ⟨0, ![]⟩
abbrev S4x8192 : Shape := ⟨2, ![4, 8192]⟩
abbrev S4x8192x1 : Shape := ⟨3, ![4, 8192, 1]⟩
abbrev S1x1x1024 : Shape := ⟨3, ![1, 1, 1024]⟩
abbrev S4x1x1024 : Shape := ⟨3, ![4, 1, 1024]⟩
abbrev S4x8192x3368 : Shape := ⟨3, ![4, 8192, 3368]⟩
abbrev S4x8192x512 : Shape := ⟨3, ![4, 8192, 512]⟩
abbrev S4x8192x256 : Shape := ⟨3, ![4, 8192, 256]⟩
abbrev S4x8192x32 : Shape := ⟨3, ![4, 8192, 32]⟩
abbrev S4x8192x8 : Shape := ⟨3, ![4, 8192, 8]⟩
abbrev S4x8192x96 : Shape := ⟨3, ![4, 8192, 96]⟩
abbrev S4x8192x1152 : Shape := ⟨3, ![4, 8192, 1152]⟩
abbrev S4x8192x2320 : Shape := ⟨3, ![4, 8192, 2320]⟩
abbrev S4x2320x8192 : Shape := ⟨3, ![4, 2320, 8192]⟩

abbrev nBuf : Space → Nat
  | .hbm => 58
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S1024, .f32⟩
  | .hbm, ⟨2, _⟩ => ⟨S4x1024, .f32⟩
  | .hbm, ⟨3, _⟩ => ⟨S4x1024, .f32⟩
  | .hbm, ⟨4, _⟩ => ⟨S1024x3368, .f32⟩
  | .hbm, ⟨5, _⟩ => ⟨S4x8192x1024, .f32⟩
  | .hbm, ⟨6, _⟩ => ⟨S_, .f32⟩
  | .hbm, ⟨7, _⟩ => ⟨S4x8192, .f32⟩
  | .hbm, ⟨8, _⟩ => ⟨S4x8192x1, .f32⟩
  | .hbm, ⟨9, _⟩ => ⟨S_, .f32⟩
  | .hbm, ⟨10, _⟩ => ⟨S4x8192x1, .f32⟩
  | .hbm, ⟨11, _⟩ => ⟨S4x8192x1, .f32⟩
  | .hbm, ⟨12, _⟩ => ⟨S_, .f32⟩
  | .hbm, ⟨13, _⟩ => ⟨S4x8192x1, .f32⟩
  | .hbm, ⟨14, _⟩ => ⟨S4x8192x1, .f32⟩
  | .hbm, ⟨15, _⟩ => ⟨S4x8192x1, .f32⟩
  | .hbm, ⟨16, _⟩ => ⟨S4x8192x1024, .f32⟩
  | .hbm, ⟨17, _⟩ => ⟨S4x8192x1024, .f32⟩
  | .hbm, ⟨18, _⟩ => ⟨S1x1x1024, .f32⟩
  | .hbm, ⟨19, _⟩ => ⟨S4x8192x1024, .f32⟩
  | .hbm, ⟨20, _⟩ => ⟨S4x8192x1024, .f32⟩
  | .hbm, ⟨21, _⟩ => ⟨S4x1x1024, .f32⟩
  | .hbm, ⟨22, _⟩ => ⟨S_, .f32⟩
  | .hbm, ⟨23, _⟩ => ⟨S4x1x1024, .f32⟩
  | .hbm, ⟨24, _⟩ => ⟨S4x1x1024, .f32⟩
  | .hbm, ⟨25, _⟩ => ⟨S4x8192x1024, .f32⟩
  | .hbm, ⟨26, _⟩ => ⟨S4x8192x1024, .f32⟩
  | .hbm, ⟨27, _⟩ => ⟨S4x1x1024, .f32⟩
  | .hbm, ⟨28, _⟩ => ⟨S4x8192x1024, .f32⟩
  | .hbm, ⟨29, _⟩ => ⟨S4x8192x1024, .f32⟩
  | .hbm, ⟨30, _⟩ => ⟨S4x8192x3368, .f32⟩
  | .hbm, ⟨31, _⟩ => ⟨S4x8192x512, .f32⟩
  | .hbm, ⟨32, _⟩ => ⟨S4x8192x512, .f32⟩
  | .hbm, ⟨33, _⟩ => ⟨S4x8192x512, .f32⟩
  | .hbm, ⟨34, _⟩ => ⟨S4x8192x256, .f32⟩
  | .hbm, ⟨35, _⟩ => ⟨S4x8192x32, .f32⟩
  | .hbm, ⟨36, _⟩ => ⟨S4x8192x8, .f32⟩
  | .hbm, ⟨37, _⟩ => ⟨S4x8192x512, .f32⟩
  | .hbm, ⟨38, _⟩ => ⟨S4x8192x512, .f32⟩
  | .hbm, ⟨39, _⟩ => ⟨S4x8192x512, .f32⟩
  | .hbm, ⟨40, _⟩ => ⟨S_, .f32⟩
  | .hbm, ⟨41, _⟩ => ⟨S4x8192x96, .f32⟩
  | .hbm, ⟨42, _⟩ => ⟨S4x8192x1152, .f32⟩
  | .hbm, ⟨43, _⟩ => ⟨S_, .f32⟩
  | .hbm, ⟨44, _⟩ => ⟨S4x8192x512, .f32⟩
  | .hbm, ⟨45, _⟩ => ⟨S4x8192x512, .f32⟩
  | .hbm, ⟨46, _⟩ => ⟨S_, .f32⟩
  | .hbm, ⟨47, _⟩ => ⟨S4x8192x512, .f32⟩
  | .hbm, ⟨48, _⟩ => ⟨S4x8192x512, .f32⟩
  | .hbm, ⟨49, _⟩ => ⟨S_, .f32⟩
  | .hbm, ⟨50, _⟩ => ⟨S4x8192x8, .f32⟩
  | .hbm, ⟨51, _⟩ => ⟨S4x8192x8, .f32⟩
  | .hbm, ⟨52, _⟩ => ⟨S_, .f32⟩
  | .hbm, ⟨53, _⟩ => ⟨S4x8192x8, .f32⟩
  | .hbm, ⟨54, _⟩ => ⟨S4x8192x2320, .f32⟩
  | .hbm, ⟨55, _⟩ => ⟨S4x8192x1152, .bf16⟩
  | .hbm, ⟨56, _⟩ => ⟨S4x2320x8192, .f32⟩
  | .hbm, ⟨57, _⟩ => ⟨S4x2320x8192, .bf16⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_cst_4 : Ref sig .tc := ⟨.hbm, 43, rfl⟩
abbrev main_v33 : Ref sig .tc := ⟨.hbm, 44, rfl⟩
abbrev main_v34 : Ref sig .tc := ⟨.hbm, 45, rfl⟩
abbrev main_cst_5 : Ref sig .tc := ⟨.hbm, 46, rfl⟩
abbrev main_v35 : Ref sig .tc := ⟨.hbm, 47, rfl⟩
abbrev main_v36 : Ref sig .tc := ⟨.hbm, 48, rfl⟩
abbrev main_cst_6 : Ref sig .tc := ⟨.hbm, 49, rfl⟩
abbrev main_v37 : Ref sig .tc := ⟨.hbm, 50, rfl⟩
abbrev main_v38 : Ref sig .tc := ⟨.hbm, 51, rfl⟩
abbrev main_cst_7 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩

abbrev nD : Nat := 1
abbrev τ : Topo := Topo.v7x

variable {F : FTy → Type} [FloatOps F]
-- ==== Modulation.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1 : Shape := ⟨1, ![1]⟩
abbrev S2x1x6144 : Shape := ⟨3, ![2, 1, 6144]⟩
abbrev S2x8x6144 : Shape := ⟨3, ![2, 8, 6144]⟩
abbrev S1x1024x1536 : Shape := ⟨3, ![1, 1024, 1536]⟩
abbrev S1x1x1536 : Shape := ⟨3, ![1, 1, 1536]⟩
abbrev S1x8x1536 : Shape := ⟨3, ![1, 8, 1536]⟩
abbrev S1024x1536 : Shape := ⟨2, ![1024, 1536]⟩
abbrev S8x1536 : Shape := ⟨2, ![8, 1536]⟩
abbrev S1x1536 : Shape := ⟨2, ![1, 1536]⟩

abbrev nBuf : Space → Nat
  | .hbm => 10
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S_, .f32⟩
  | .hbm, ⟨4, _⟩ => ⟨S8x1024, .f32⟩
  | .hbm, ⟨5, _⟩ => ⟨S_, .i32⟩
  | .hbm, ⟨6, _⟩ => ⟨S1, .i32⟩
  | .hbm, ⟨7, _⟩ => ⟨S8x1024, .f32⟩
  | .hbm, ⟨8, _⟩ => ⟨S2x1x6144, .f32⟩
  | .hbm, ⟨9, _⟩ => ⟨S2x8x6144, .f32⟩
  | .local _ .vmem, ⟨0, _⟩ => ⟨S8x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x8x1536, .f32⟩
  | .local _ .vmem, ⟨6, _⟩ => ⟨S1x8x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ModulationReferenceIdeal.lean ====
abbrev S4x1024 : Shape := ⟨2, ![4, 1024]⟩
abbrev S2x1024x6144 : Shape := ⟨3, ![2, 1024, 6144]⟩
abbrev S2x6144 : Shape := ⟨2, ![2, 6144]⟩
abbrev S_ : Shape := ⟨0, ![]⟩
abbrev S8x1024 : Shape := ⟨2, ![8, 1024]⟩
abbrev S1x1024x6144 : Shape := ⟨3, ![1, 1024, 6144]⟩
abbrev S1024x6144 : Shape := ⟨2, ![1024, 6144]⟩
abbrev S8x6144 : Shape := ⟨2, ![8, 6144]⟩
abbrev S1x6144 : Shape := ⟨2, ![1, 6144]⟩
abbrev S6144 : Shape := ⟨1, ![6144]⟩
abbrev S1x8x6144 : Shape := ⟨3, ![1, 8, 6144]⟩
abbrev S2x8x6144 : Shape := ⟨3, ![2, 8, 6144]⟩

abbrev nBuf : Space → Nat
  | .hbm => 34
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S2x1024x6144, .f32⟩
  | .hbm, ⟨2, _⟩ => ⟨S2x6144, .f32⟩
  | .hbm, ⟨3, _⟩ => ⟨S_, .f32⟩
  | .hbm, ⟨4, _⟩ => ⟨S4x1024, .f32⟩
  | .hbm, ⟨5, _⟩ => ⟨S8x1024, .f32⟩
  | .hbm, ⟨6, _⟩ => ⟨S8x1024, .f32⟩
  | .hbm, ⟨7, _⟩ => ⟨S8x1024, .f32⟩
  | .hbm, ⟨8, _⟩ => ⟨S_, .f32⟩
  | .hbm, ⟨9, _⟩ => ⟨S8x1024, .f32⟩
  | .hbm, ⟨10, _⟩ => ⟨S8x1024, .f32⟩
  | .hbm, ⟨11, _⟩ => ⟨S_, .f32⟩
  | .hbm, ⟨12, _⟩ => ⟨S8x1024, .f32⟩
  | .hbm, ⟨13, _⟩ => ⟨S8x1024, .f32⟩
  | .hbm, ⟨14, _⟩ => ⟨S8x1024, .f32⟩
  | .hbm, ⟨15, _⟩ => ⟨S1x1024x6144, .f32⟩
  | .hbm, ⟨16, _⟩ => ⟨S1024x6144, .f32⟩
  | .hbm, ⟨17, _⟩ => ⟨S8x6144, .f32⟩
  | .hbm, ⟨18, _⟩ => ⟨S1x6144, .f32⟩
  | .hbm, ⟨19, _⟩ => ⟨S6144, .f32⟩
  | .hbm, ⟨20, _⟩ => ⟨S1x6144, .f32⟩
  | .hbm, ⟨21, _⟩ => ⟨S8x6144, .f32⟩
  | .hbm, ⟨22, _⟩ => ⟨S8x6144, .f32⟩
  | .hbm, ⟨23, _⟩ => ⟨S1x1024x6144, .f32⟩
  | .hbm, ⟨24, _⟩ => ⟨S1024x6144, .f32⟩
  | .hbm, ⟨25, _⟩ => ⟨S8x6144, .f32⟩
  | .hbm, ⟨26, _⟩ => ⟨S1x6144, .f32⟩
  | .hbm, ⟨27, _⟩ => ⟨S6144, .f32⟩
  | .hbm, ⟨28, _⟩ => ⟨S1x6144, .f32⟩
  | .hbm, ⟨29, _⟩ => ⟨S8x6144, .f32⟩
  | .hbm, ⟨30, _⟩ => ⟨S8x6144, .f32⟩
  | .hbm, ⟨31, _⟩ => ⟨S1x8x6144, .f32⟩
  | .hbm, ⟨32, _⟩ => ⟨S1x8x6144, .f32⟩
  | .hbm, ⟨33, _⟩ => ⟨S2x8x6144, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩

abbrev nD : Nat := 1
abbrev τ : Topo := Topo.v7x

variable {F : FTy → Type} [FloatOps F]
-- ==== Proof.Hidden.lean ====
/- One entry of a projection's input: the row normalised by its root mean square, scaled and shifted. -/
module

public import Idealize.ShloMosaic.Lib.Pointwise

@[expose] public section

noncomputable section

namespace Cert.Hidden

open Idealize.ShloMosaic

/-- Entry `k` of the row `x` over its root mean square (with the small constant added), times `g`, times one plus `sc`, plus `sh`. -/
def hid (x g sh sc : Fin 1024 → EReal) (k : Fin 1024) : EReal :=
  x k * Ideal.rsqrt (Ideal.div (∑ i, x i * x i) (Ideal.ofBits FTy.f32 1149239296#32) + Ideal.ofBits FTy.f32 897988541#32) * g k * (1 + sc k) + sh k

theorem hid_congr {x x' g g' sh sh' sc sc' : Fin 1024 → EReal} (hx : ∀ k, x k = x' k) (hg : ∀ k, g k = g' k) (hsh : ∀ k, sh k = sh' k) (hsc : ∀ k, sc k = sc' k)
    (k : Fin 1024) : hid x g sh sc k = hid x' g' sh' sc' k := by
  rw [funext hx, funext hg, funext hsh, funext hsc]

/-- Two products of equal factors. -/
theorem prod_congr {a a' b b' : EReal} (h : a = a') (h' : b = b') : a * b = a' * b' := h ▸ h' ▸ rfl

end Cert.Hidden

end
-- ==== Proof.EvenProj.lean ====
/- The input projection of the even layer: the kernel's array and the reference's are the same sums. -/
module

public import proofs.«01_k».proof.Defs
public import proofs.«01_k».proof.Proof.Hidden
public import proofs.«01_k».proof.Proof.Gen.EvenInIdeal.Value
public import proofs.«01_k».proof.Proof.Gen.EvenInReferenceIdeal.Run
public import Idealize.ShloMosaic.Lib.Pipeline.ValueKit

@[expose] public section

set_option maxRecDepth 16384

noncomputable section

namespace Cert.EvenInIdeal.Proj

open Cert.EvenInIdeal Cert.EvenInIdeal.Gen Cert.Hidden Idealize.ShloMosaic Idealize.ShloMosaic.TcCoe Idealize.SL.Sem

attribute [local instance] Gen.facts Cert.EvenInReferenceIdeal.Gen.facts

/-- One entry of the result: the sum of a row's normalised entries with a column of the weights. -/
def entry (x : FVec Ideal S4x8192x1024 .f32) (g : FVec Ideal S1024 .f32) (sh sc : FVec Ideal S4x1024 .f32) (w : FVec Ideal S1024x2560 .f32)
    (b : Fin 4) (t : Fin 8192) (j : Fin 2560) : EReal :=
  ∑ k : Fin 1024, hid (fun i => x (ix3 b t i)) (fun i => g (ix1 i)) (fun i => sh (ix2 b i)) (fun i => sc (ix2 b i)) k * w (ix2 k j)

/-- The whole array of entries. -/
def whole (x : FVec Ideal S4x8192x1024 .f32) (g : FVec Ideal S1024 .f32) (sh sc : FVec Ideal S4x1024 .f32) (w : FVec Ideal S1024x2560 .f32) : FVec Ideal S4x8192x2560 .bf16 :=
  fun i => entry x g sh sc w (i 0) (i 1) (i 2)

theorem pay_at (x : Vec Ideal S1x512x1024 .f32) (g : Vec Ideal S1x1024 .f32) (sc sh : Vec Ideal S1x1x1024 .f32) (w : Vec Ideal S1024x2560 .bf16)
    (r : Fin 512) (j : Fin 2560) :
    k0_pay1 (F := Ideal) x g sc sh w (ix3 0 r j)
      = ∑ k : Fin 1024, hid (fun i => x (ix3 0 r i)) (fun i => g (ix2 0 i)) (fun i => sh (ix3 0 0 i)) (fun i => sc (ix3 0 0 i)) k * w (ix2 k j) := by
  pointwise [k0_pay1]
  rfl

variable (m : (ℓ : Loc nD τ sig) → Buf (Elt Ideal) ℓ) (c : Dev nD)

theorem weight_at (k : Fin 1024) (j : Fin 2560) : (V m c main_v0 : Vec Ideal S1024x2560 .bf16) (ix2 k j) = (m ((c.tc : Thread nD τ).loc main_arg4) : FVec Ideal S1024x2560 .f32) (ix2 k j) := by
  unfold V
  after_results
  pointwise

theorem scale_at (k : Fin 1024) : (V m c main_v1 : Vec Ideal S1x1024 .f32) (ix2 0 k) = (m ((c.tc : Thread nD τ).loc main_arg1) : FVec Ideal S1024 .f32) (ix1 k) := by
  unfold V
  after_results
  pointwise

theorem shift_at (b : Fin 4) (k : Fin 1024) : (V m c main_v2 : Vec Ideal S4x1x1024 .f32) (ix3 b 0 k) = (m ((c.tc : Thread nD τ).loc main_arg2) : FVec Ideal S4x1024 .f32) (ix2 b k) := by
  unfold V
  after_results
  pointwise

theorem gain_at (b : Fin 4) (k : Fin 1024) : (V m c main_v3 : Vec Ideal S4x1x1024 .f32) (ix3 b 0 k) = (m ((c.tc : Thread nD τ).loc main_arg3) : FVec Ideal S4x1024 .f32) (ix2 b k) := by
  unfold V
  after_results
  pointwise

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(grid0.coords t 0).val, (grid0.coords t 1).val, 0] := (by decide +kernel : ∀ t : Fin grid0.N, _)

theorem coord0_lt (t : Fin cfg0.N) : (grid0.coords t 0).val < 4 := (grid0.coords t 0).isLt
theorem coord1_lt (t : Fin cfg0.N) : (grid0.coords t 1).val < 16 := (grid0.coords t 1).isLt
/-- The batch of block `t`. -/
def bOf (t : Fin cfg0.N) : Fin 4 := ⟨(grid0.coords t 0).val, coord0_lt t⟩
/-- The row of the arrays that row `r` of block `t` is. -/
def rowOf (t : Fin cfg0.N) (r : Fin 512) : Fin 8192 := ⟨(grid0.coords t 1).val * 512 + r.val, by have := coord1_lt t; omega⟩

theorem blk0_at (t : Fin cfg0.N) (r : Fin 512) (k : Fin 1024) : (iblk m c 0 t : Vec Ideal S1x512x1024 .f32) (ix3 0 r k)
    = (m ((c.tc : Thread nD τ).loc main_arg0) : FVec Ideal S4x8192x1024 .f32) (ix3 (bOf t) (rowOf t r) k) := by
  rw [← V_main_arg0 m c]
  refine congrArg (V m c main_arg0) (funext fun a => Fin.ext ?_)
  refine (Pipeline.Window.rect_emb_val win0_0 t (ix3 0 r k) a rfl).trans ?_
  rw [idx0]
  fin_cases a
  · show (grid0.coords t 0).val * 1 + 0 = (grid0.coords t 0).val; omega
  · rfl
  · show 0 * 1024 + k.val = k.val; omega

theorem blk1_at (t : Fin cfg0.N) (k : Fin 1024) : (iblk m c 1 t : Vec Ideal S1x1024 .f32) (ix2 0 k)
    = (m ((c.tc : Thread nD τ).loc main_arg1) : FVec Ideal S1024 .f32) (ix1 k) := by
  rw [← scale_at m c]
  refine congrArg (V m c main_v1) (funext fun a => Fin.ext ?_)
  refine (Pipeline.Window.rect_emb_val win0_1 t (ix2 0 k) a rfl).trans ?_
  rw [idx1]
  fin_cases a
  · rfl
  · show 0 * 1024 + k.val = k.val; omega

theorem blk2_at (t : Fin cfg0.N) (k : Fin 1024) : (iblk m c 2 t : Vec Ideal S1x1x1024 .f32) (ix3 0 0 k)
    = (m ((c.tc : Thread nD τ).loc main_arg2) : FVec Ideal S4x1024 .f32) (ix2 (bOf t) k) := by
  rw [← shift_at m c]
  refine congrArg (V m c main_v2) (funext fun a => Fin.ext ?_)
  refine (Pipeline.Window.rect_emb_val win0_2 t (ix3 0 0 k) a rfl).trans ?_
  rw [idx2]
  fin_cases a
  · show (grid0.coords t 0).val * 1 + 0 = (grid0.coords t 0).val; omega
  · rfl
  · show 0 * 1024 + k.val = k.val; omega

theorem blk3_at (t : Fin cfg0.N) (k : Fin 1024) : (iblk m c 3 t : Vec Ideal S1x1x1024 .f32) (ix3 0 0 k)
    = (m ((c.tc : Thread nD τ).loc main_arg3) : FVec Ideal S4x1024 .f32) (ix2 (bOf t) k) := by
  rw [← gain_at m c]
  refine congrArg (V m c main_v3) (funext fun a => Fin.ext ?_)
  refine (Pipeline.Window.rect_emb_val win0_3 t (ix3 0 0 k) a rfl).trans ?_
  rw [idx3]
  fin_cases a
  · show (grid0.coords t 0).val * 1 + 0 = (grid0.coords t 0).val; omega
  · rfl
  · show 0 * 1024 + k.val = k.val; omega

theorem blk4_at (t : Fin cfg0.N) (k : Fin 1024) (j : Fin 2560) : (iblk m c 4 t : Vec Ideal S1024x2560 .bf16) (ix2 k j)
    = (m ((c.tc : Thread nD τ).loc main_arg4) : FVec Ideal S1024x2560 .f32) (ix2 k j) := by
  rw [← weight_at m c]
  refine congrArg (V m c main_v0) (funext fun a => Fin.ext ?_)
  refine (Pipeline.Window.rect_emb_val win0_4 t (ix2 k j) a rfl).trans ?_
  rw [idx4]
  fin_cases a
  · show 0 * 1024 + k.val = k.val; omega
  · show 0 * 2560 + j.val = j.val; omega

theorem place (t : Fin cfg0.N) (r : Fin 512) (j : Fin 2560) : (((cfg0.win 5).blk t).view.emb (ix3 0 r j : S1x512x2560.Idx) : S4x8192x2560.Idx) = ix3 (bOf t) (rowOf t r) j := by
  refine funext fun a => Fin.ext ?_
  refine (Pipeline.Window.rect_emb_val win0_5 t (ix3 0 r j) a rfl).trans ?_
  rw [idx5]
  fin_cases a
  · show (grid0.coords t 0).val * 1 + 0 = (grid0.coords t 0).val; omega
  · rfl
  · show 0 * 2560 + j.val = j.val; omega

theorem block_split (y : S1x512x2560.Idx) : ∃ (r : Fin 512) (j : Fin 2560), y = ix3 0 r j := by
  refine ⟨y 1, y 2, funext fun a => Fin.ext ?_⟩
  fin_cases a
  · have : (y 0).val < 1 := (y 0).isLt
    show (y 0).val = 0
    omega
  · rfl
  · rfl

theorem final : (dats m 0 c).arrAt 5 cfg0.N
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  obtain ⟨r, j, rfl⟩ := block_split y
  rw [place]
  blk_simp
  rw [after0_5]
  frame_out
  refine (pay_at _ _ _ _ _ r j).trans ?_
  exact Finset.sum_congr rfl fun k _ => prod_congr
    (hid_congr (fun i => blk0_at m c t r i) (fun i => blk1_at m c t i) (fun i => blk2_at m c t i) (fun i => blk3_at m c t i) k) (blk4_at m c t k j)

theorem equal : Cert.algebraic_EvenInIdeal_EvenInReferenceIdeal := by
  intro m g m' g' _ A
  refine ⟨fun c => whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.EvenInReferenceIdeal.Value.run m' g')
    obtain ⟨a0, a1, a2, a3, a4⟩ := A c
    rw [a0, a1, a2, a3, a4]
    funext i
    obtain ⟨b, t, j, rfl⟩ : ∃ b t j, i = ix3 b t j := ⟨i 0, i 1, i 2, funext fun a => by fin_cases a <;> rfl⟩
    pointwise
    rfl

end Cert.EvenInIdeal.Proj

end
-- ==== Proof.OutProj.lean ====
/- The output projection of the odd layer: the kernel's array and the reference's are the same sums. -/
module

public import proofs.«01_k».proof.Defs
public import proofs.«01_k».proof.Proof.Gen.OddOutIdeal.Value
public import proofs.«01_k».proof.Proof.Gen.OddOutReferenceIdeal.Run
public import Idealize.ShloMosaic.Lib.Pointwise
public import Idealize.ShloMosaic.Lib.Pipeline.ValueKit

@[expose] public section

set_option maxRecDepth 16384

noncomputable section

namespace Cert.OddOutIdeal.Proj

open Cert.OddOutIdeal Cert.OddOutIdeal.Gen Idealize.ShloMosaic Idealize.ShloMosaic.TcCoe Idealize.SL.Sem

attribute [local instance] Gen.facts Cert.OddOutReferenceIdeal.Gen.facts

/-- One entry of the result: the residual plus the gated product of the two mixers' rows with the weights. -/
def entry (oc od : FVec Ideal S4x8192x512 .bf16) (x : FVec Ideal S4x8192x1024 .f32) (g : FVec Ideal S4x1024 .f32) (w : FVec Ideal S1024x1024 .f32)
    (b : Fin 4) (t : Fin 8192) (j : Fin 1024) : EReal :=
  x (ix3 b t j) + g (ix2 b j) * ((∑ k : Fin 512, oc (ix3 b t k) * w (ix2 ⟨k.val, by omega⟩ j)) + ∑ k : Fin 512, od (ix3 b t k) * w (ix2 ⟨512 + k.val, by omega⟩ j))

theorem pay_at (a : Vec Ideal S1x512x512 .bf16) (u : Vec Ideal S512x1024 .bf16) (b : Vec Ideal S1x512x512 .bf16) (v : Vec Ideal S512x1024 .bf16)
    (x : Vec Ideal S1x512x1024 .f32) (g : Vec Ideal S1x1x1024 .f32) (r : Fin 512) (j : Fin 1024) :
    k0_pay1 (F := Ideal) a u b v x g (ix3 0 r j)
      = x (ix3 0 r j) + g (ix3 0 0 j) * ((∑ k : Fin 512, a (ix3 0 r k) * u (ix2 k j)) + ∑ k : Fin 512, b (ix3 0 r k) * v (ix2 k j)) := by
  pointwise [k0_pay1]

variable (m : (ℓ : Loc nD τ sig) → Buf (Elt Ideal) ℓ) (c : Dev nD)

theorem gate_at (b : Fin 4) (j : Fin 1024) : (V m c main_v1 : Vec Ideal S4x1x1024 .f32) (ix3 b 0 j) = (m ((c.tc : Thread nD τ).loc main_arg3) : FVec Ideal S4x1024 .f32) (ix2 b j) := by
  unfold V
  after_results
  pointwise

theorem weight_at (k j : Fin 1024) : (V m c main_v0 : Vec Ideal S1024x1024 .bf16) (ix2 k j) = (m ((c.tc : Thread nD τ).loc main_arg4) : FVec Ideal S1024x1024 .f32) (ix2 k j) := by
  unfold V
  after_results
  pointwise

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![(grid0.coords t 0).val, (grid0.coords t 1).val, 0] := (by decide +kernel : ∀ t : Fin grid0.N, _)
theorem idx2 : ∀ t : Fin cfg0.N, win0_2.index t = ![(grid0.coords t 0).val, (grid0.coords t 1).val, 0] := (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![(grid0.coords t 0).val, (grid0.coords t 1).val, 0] := (by decide +kernel : ∀ t : Fin grid0.N, _)

/-- The whole array of entries. -/
def whole (oc od : FVec Ideal S4x8192x512 .bf16) (x : FVec Ideal S4x8192x1024 .f32) (g : FVec Ideal S4x1024 .f32) (w : FVec Ideal S1024x1024 .f32) : FVec Ideal S4x8192x1024 .f32 :=
  fun i => entry oc od x g w (i 0) (i 1) (i 2)

theorem coord0_lt (t : Fin cfg0.N) : (grid0.coords t 0).val < 4 := (grid0.coords t 0).isLt
theorem coord1_lt (t : Fin cfg0.N) : (grid0.coords t 1).val < 16 := (grid0.coords t 1).isLt
/-- The batch of block `t`. -/
def bOf (t : Fin cfg0.N) : Fin 4 := ⟨(grid0.coords t 0).val, coord0_lt t⟩
/-- The row of the arrays that row `r` of block `t` is. -/
def rowOf (t : Fin cfg0.N) (r : Fin 512) : Fin 8192 := ⟨(grid0.coords t 1).val * 512 + r.val, by have := coord1_lt t; omega⟩

theorem blk0_at (t : Fin cfg0.N) (r k : Fin 512) : (iblk m c 0 t : Vec Ideal S1x512x512 .bf16) (ix3 0 r k)
    = (m ((c.tc : Thread nD τ).loc main_arg0) : FVec Ideal S4x8192x512 .bf16) (ix3 (bOf t) (rowOf t r) k) := by
  rw [← V_main_arg0 m c]
  refine congrArg (V m c main_arg0) (funext fun a => Fin.ext ?_)
  refine (Pipeline.Window.rect_emb_val win0_0 t (ix3 0 r k) a rfl).trans ?_
  rw [idx0]
  fin_cases a
  · show (grid0.coords t 0).val * 1 + 0 = (grid0.coords t 0).val; omega
  · rfl
  · show 0 * 512 + k.val = k.val; omega

theorem blk1_at (t : Fin cfg0.N) (r k : Fin 512) : (iblk m c 1 t : Vec Ideal S1x512x512 .bf16) (ix3 0 r k)
    = (m ((c.tc : Thread nD τ).loc main_arg1) : FVec Ideal S4x8192x512 .bf16) (ix3 (bOf t) (rowOf t r) k) := by
  rw [← V_main_arg1 m c]
  refine congrArg (V m c main_arg1) (funext fun a => Fin.ext ?_)
  refine (Pipeline.Window.rect_emb_val win0_1 t (ix3 0 r k) a rfl).trans ?_
  rw [idx1]
  fin_cases a
  · show (grid0.coords t 0).val * 1 + 0 = (grid0.coords t 0).val; omega
  · rfl
  · show 0 * 512 + k.val = k.val; omega

theorem blk2_at (t : Fin cfg0.N) (r : Fin 512) (j : Fin 1024) : (iblk m c 2 t : Vec Ideal S1x512x1024 .f32) (ix3 0 r j)
    = (m ((c.tc : Thread nD τ).loc main_arg2) : FVec Ideal S4x8192x1024 .f32) (ix3 (bOf t) (rowOf t r) j) := by
  rw [← V_main_arg2 m c]
  refine congrArg (V m c main_arg2) (funext fun a => Fin.ext ?_)
  refine (Pipeline.Window.rect_emb_val win0_2 t (ix3 0 r j) a rfl).trans ?_
  rw [idx2]
  fin_cases a
  · show (grid0.coords t 0).val * 1 + 0 = (grid0.coords t 0).val; omega
  · rfl
  · show 0 * 1024 + j.val = j.val; omega

theorem blk3_at (t : Fin cfg0.N) (j : Fin 1024) : (iblk m c 3 t : Vec Ideal S1x1x1024 .f32) (ix3 0 0 j)
    = (m ((c.tc : Thread nD τ).loc main_arg3) : FVec Ideal S4x1024 .f32) (ix2 (bOf t) j) := by
  rw [← gate_at m c]
  refine congrArg (V m c main_v1) (funext fun a => Fin.ext ?_)
  refine (Pipeline.Window.rect_emb_val win0_3 t (ix3 0 0 j) a rfl).trans ?_
  rw [idx3]
  fin_cases a
  · show (grid0.coords t 0).val * 1 + 0 = (grid0.coords t 0).val; omega
  · rfl
  · show 0 * 1024 + j.val = j.val; omega

theorem blk4_at (t : Fin cfg0.N) (k j : Fin 1024) : (iblk m c 4 t : Vec Ideal S1024x1024 .bf16) (ix2 k j)
    = (m ((c.tc : Thread nD τ).loc main_arg4) : FVec Ideal S1024x1024 .f32) (ix2 k j) := by
  rw [← weight_at m c]
  refine congrArg (V m c main_v0) (funext fun a => Fin.ext ?_)
  refine (Pipeline.Window.rect_emb_val win0_4 t (ix2 k j) a rfl).trans ?_
  rw [idx4]
  fin_cases a
  · show 0 * 1024 + k.val = k.val; omega
  · show 0 * 1024 + j.val = j.val; omega

theorem upper_at (W : Vec Ideal S1024x1024 .bf16) (k : Fin 512) (j : Fin 1024) : (View.ld W r0_1 : Vec Ideal S512x1024 .bf16) (ix2 k j) = W (ix2 ⟨k.val, by omega⟩ j) := by
  refine congrArg W (funext fun a => Fin.ext ?_)
  fin_cases a
  · show 0 + 1 * k.val = k.val; omega
  · show 0 + 1 * j.val = j.val; omega

theorem lower_at (W : Vec Ideal S1024x1024 .bf16) (k : Fin 512) (j : Fin 1024) : (View.ld W r0_2 : Vec Ideal S512x1024 .bf16) (ix2 k j) = W (ix2 ⟨512 + k.val, by omega⟩ j) := by
  refine congrArg W (funext fun a => Fin.ext ?_)
  fin_cases a
  · show 512 + 1 * k.val = 512 + k.val; omega
  · show 0 + 1 * j.val = j.val; omega

theorem place (t : Fin cfg0.N) (r : Fin 512) (j : Fin 1024) : (((cfg0.win 5).blk t).view.emb (ix3 0 r j : S1x512x1024.Idx) : S4x8192x1024.Idx) = ix3 (bOf t) (rowOf t r) j := by
  refine funext fun a => Fin.ext ?_
  refine (Pipeline.Window.rect_emb_val win0_5 t (ix3 0 r j) a rfl).trans ?_
  rw [idx5]
  fin_cases a
  · show (grid0.coords t 0).val * 1 + 0 = (grid0.coords t 0).val; omega
  · rfl
  · show 0 * 1024 + j.val = j.val; omega

theorem block_split (y : S1x512x1024.Idx) : ∃ (r : Fin 512) (j : Fin 1024), y = ix3 0 r j := by
  refine ⟨y 1, y 2, funext fun a => Fin.ext ?_⟩
  fin_cases a
  · have : (y 0).val < 1 := (y 0).isLt
    show (y 0).val = 0
    omega
  · rfl
  · rfl

theorem final : (dats m 0 c).arrAt 5 cfg0.N
    = whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 5 _ (by decide +kernel) fun t hf y => ?_
  obtain ⟨r, j, rfl⟩ := block_split y
  rw [place]
  blk_simp
  rw [after0_5]
  frame_out
  refine (pay_at _ _ _ _ _ _ r j).trans ?_
  have e : ∀ a a' b b' : EReal, a = a' → b = b' → a * b = a' * b' := fun _ _ _ _ h h' => h ▸ h' ▸ rfl
  refine congrArg₂ (fun a b : EReal => a + b) (blk2_at m c t r j) (e _ _ _ _ (blk3_at m c t j) (congrArg₂ (fun a b : EReal => a + b) ?_ ?_))
  · exact Finset.sum_congr rfl fun k _ => e _ _ _ _ (blk0_at m c t r k) ((upper_at _ k j).trans (blk4_at m c t _ j))
  · exact Finset.sum_congr rfl fun k _ => e _ _ _ _ (blk1_at m c t r k) ((lower_at _ k j).trans (blk4_at m c t _ j))

open Cert.OddOutReferenceIdeal Cert.OddOutReferenceIdeal.Gen in
theorem ref_at (oc od : FVec Ideal Cert.OddOutReferenceIdeal.S4x8192x512 .bf16) (x : FVec Ideal Cert.OddOutReferenceIdeal.S4x8192x1024 .f32)
    (g : FVec Ideal Cert.OddOutReferenceIdeal.S4x1024 .f32) (w : FVec Ideal Cert.OddOutReferenceIdeal.S1024x1024 .f32) (b : Fin 4) (t : Fin 8192) (j : Fin 1024) :
    (addf x (mulf (broadcastInDim Cert.OddOutReferenceIdeal.S4x8192x1024 ![0, 1, 2] bcast_S4x1x1024_S4x8192x1024_0_1_2 (broadcastInDim Cert.OddOutReferenceIdeal.S4x1x1024 ![0, 2] bcast_S4x1024_S4x1x1024_0_2 g))
      (Host.dotGeneral dot_S4x8192x1024_S1024x1024_S4x8192x1024_2_0_01_1_n_n none (concatenate Cert.OddOutReferenceIdeal.S4x8192x1024 2 [⟨Cert.OddOutReferenceIdeal.S4x8192x512, oc⟩, ⟨Cert.OddOutReferenceIdeal.S4x8192x512, od⟩] concatenates_S4x8192x512_S4x8192x512_S4x8192x1024_d2) w))
      : FVec Ideal Cert.OddOutReferenceIdeal.S4x8192x1024 .f32) (ix3 b t j) = entry oc od x g w b t j := by
  pointwise
  rfl

theorem equal : Cert.algebraic_OddOutIdeal_OddOutReferenceIdeal := by
  intro m g m' g' _ A
  refine ⟨fun c => whole (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.OddOutReferenceIdeal.Value.run m' g')
    obtain ⟨a0, a1, a2, a3, a4⟩ := A c
    rw [a0, a1, a2, a3, a4]
    funext i
    obtain ⟨b, t, j, rfl⟩ : ∃ b t j, i = ix3 b t j := ⟨i 0, i 1, i 2, funext fun a => by fin_cases a <;> rfl⟩
    exact ref_at _ _ _ _ _ b t j

end Cert.OddOutIdeal.Proj

end
-- ==== Proof.OddProj.lean ====
/- The input projection of the odd layer: the kernel's two arrays and the reference's are the same sums. -/
module

public import proofs.«01_k».proof.Defs
public import proofs.«01_k».proof.Proof.Hidden
public import proofs.«01_k».proof.Proof.Gen.OddInIdeal.Value
public import proofs.«01_k».proof.Proof.Gen.OddInReferenceIdeal.Run
public import Idealize.ShloMosaic.Lib.Pipeline.ValueKit

@[expose] public section

set_option maxRecDepth 16384

noncomputable section

namespace Cert.OddInIdeal.Proj

open Cert.OddInIdeal Cert.OddInIdeal.Gen Cert.Hidden Idealize.ShloMosaic Idealize.ShloMosaic.TcCoe Idealize.SL.Sem

attribute [local instance] Gen.facts Cert.OddInReferenceIdeal.Gen.facts

variable (m : (ℓ : Loc nD τ sig) → Buf (Elt Ideal) ℓ) (c : Dev nD)

/-- The four blocks of columns of the row-major product's weights, side by side. -/
def cols1 (a b : FVec Ideal S1024x512 .f32) (d : FVec Ideal S1024x32 .f32) (z : FVec Ideal S1024x96 .f32) : FVec Ideal S1024x1152 .f32 :=
  concatenate S1024x1152 1 [⟨S1024x512, a⟩, ⟨S1024x512, b⟩, ⟨S1024x32, d⟩, ⟨S1024x96, z⟩] concatenates_S1024x512_S1024x512_S1024x32_S1024x96_S1024x1152_d1

theorem cols1_congr {a a' b b' : FVec Ideal S1024x512 .f32} {d d' : FVec Ideal S1024x32 .f32} {z z' : FVec Ideal S1024x96 .f32} (ha : a = a') (hb : b = b') (hd : d = d') (hz : z = z') :
    concatenate S1024x1152 1 [⟨S1024x512, a⟩, ⟨S1024x512, b⟩, ⟨S1024x32, d⟩, ⟨S1024x96, z⟩] concatenates_S1024x512_S1024x512_S1024x32_S1024x96_S1024x1152_d1 = cols1 a' b' d' z' := by
  subst ha hb hd hz
  rfl

theorem w1_eq : (V m c main_v20 : Vec Ideal S1024x1152 .bf16) = truncf .bf16 (cols1
    (extractStridedSlice S1024x512 ![0, 512] (m ((c.tc : Thread nD τ).loc main_arg4)) slices_S1024x3368_S1024x512_0_512)
    (extractStridedSlice S1024x512 ![0, 2344] (m ((c.tc : Thread nD τ).loc main_arg4)) slices_S1024x3368_S1024x512_0_2344)
    (extractStridedSlice S1024x32 ![0, 1792] (m ((c.tc : Thread nD τ).loc main_arg4)) slices_S1024x3368_S1024x32_0_1792)
    (broadcastInDim S1024x96 ![] bcast_S_S1024x96 (constant S_ .f32 0x00000000#32))) bitsLt_bf16_f32 := by
  unfold V
  after_results
  refine congrArg (truncf .bf16 · bitsLt_bf16_f32) (cols1_congr ?_ ?_ ?_ ?_)
  all_goals (try dsimp only [Matrix.cons_val]); after_results_simp

/-- Column `j` of those weights: the second, the eighth and the fifth block of `w`, then zeros. -/
def col1 (w : FVec Ideal S1024x3368 .f32) (k : Fin 1024) (j : Fin 1152) : EReal :=
  if h : j.val < 512 then w (ix2 k ⟨512 + j.val, by omega⟩)
  else if h : j.val - 512 < 512 then w (ix2 k ⟨2344 + (j.val - 512), by omega⟩)
  else if h : j.val - 512 - 512 < 32 then w (ix2 k ⟨1792 + (j.val - 512 - 512), by omega⟩) else 0

theorem w1_at (k : Fin 1024) (j : Fin 1152) : (V m c main_v20 : Vec Ideal S1024x1152 .bf16) (ix2 k j) = col1 (m ((c.tc : Thread nD τ).loc main_arg4)) k j := by
  rw [w1_eq]
  pointwise [cols1]
  rfl

/-- The seven blocks of columns of the other product's weights, side by side. -/
def cols2 (a b d e : FVec Ideal S1024x512 .f32) (f : FVec Ideal S1024x256 .f32) (s z : FVec Ideal S1024x8 .f32) : FVec Ideal S1024x2320 .f32 :=
  concatenate S1024x2320 1 [⟨S1024x512, a⟩, ⟨S1024x512, b⟩, ⟨S1024x512, d⟩, ⟨S1024x512, e⟩, ⟨S1024x256, f⟩, ⟨S1024x8, s⟩, ⟨S1024x8, z⟩]
    concatenates_S1024x512_S1024x512_S1024x512_S1024x512_S1024x256_S1024x8_S1024x8_S1024x2320_d1

theorem cols2_congr {a a' b b' d d' e e' : FVec Ideal S1024x512 .f32} {f f' : FVec Ideal S1024x256 .f32} {s s' z z' : FVec Ideal S1024x8 .f32}
    (ha : a = a') (hb : b = b') (hd : d = d') (he : e = e') (hf : f = f') (hs : s = s') (hz : z = z') :
    concatenate S1024x2320 1 [⟨S1024x512, a⟩, ⟨S1024x512, b⟩, ⟨S1024x512, d⟩, ⟨S1024x512, e⟩, ⟨S1024x256, f⟩, ⟨S1024x8, s⟩, ⟨S1024x8, z⟩]
      concatenates_S1024x512_S1024x512_S1024x512_S1024x512_S1024x256_S1024x8_S1024x8_S1024x2320_d1 = cols2 a' b' d' e' f' s' z' := by
  subst ha hb hd he hf hs hz
  rfl

theorem w2_eq : (V m c main_v21 : Vec Ideal S2320x1024 .bf16) = truncf .bf16 (transpose S2320x1024 [1, 0] (cols2
    (extractStridedSlice S1024x512 ![0, 1024] (m ((c.tc : Thread nD τ).loc main_arg4)) slices_S1024x3368_S1024x512_0_1024)
    (extractStridedSlice S1024x512 ![0, 2856] (m ((c.tc : Thread nD τ).loc main_arg4)) slices_S1024x3368_S1024x512_0_2856)
    (mulf (extractStridedSlice S1024x512 ![0, 0] (m ((c.tc : Thread nD τ).loc main_arg4)) slices_S1024x3368_S1024x512_0_0) (broadcastInDim S1024x512 ![] bcast_S_S1024x512 (constant S_ .f32 0x3E38AA3B#32)))
    (mulf (extractStridedSlice S1024x512 ![0, 1832] (m ((c.tc : Thread nD τ).loc main_arg4)) slices_S1024x3368_S1024x512_0_1832) (broadcastInDim S1024x512 ![] bcast_S_S1024x512 (constant S_ .f32 0x3E38AA3B#32)))
    (extractStridedSlice S1024x256 ![0, 1536] (m ((c.tc : Thread nD τ).loc main_arg4)) slices_S1024x3368_S1024x256_0_1536)
    (mulf (extractStridedSlice S1024x8 ![0, 1824] (m ((c.tc : Thread nD τ).loc main_arg4)) slices_S1024x3368_S1024x8_0_1824) (broadcastInDim S1024x8 ![] bcast_S_S1024x8 (constant S_ .f32 0x3D800000#32)))
    (broadcastInDim S1024x8 ![] bcast_S_S1024x8 (constant S_ .f32 0x00000000#32))) transposes_S1024x2320_S2320x1024_1_0) bitsLt_bf16_f32 := by
  unfold V
  after_results
  refine congrArg (fun u => truncf .bf16 (transpose S2320x1024 [1, 0] u transposes_S1024x2320_S2320x1024_1_0) bitsLt_bf16_f32) (cols2_congr ?_ ?_ ?_ ?_ ?_ ?_ ?_)
  all_goals (try dsimp only [Matrix.cons_val]); after_results_simp

/-- The scale of the queries. -/
def qs : EReal := Ideal.ofBits FTy.f32 1043900987#32
/-- The scale of the index weights. -/
def is : EReal := Ideal.ofBits FTy.f32 1031798784#32

theorem qs_eq : qs = ((12102203 / 67108864 : ℝ) : EReal) := by
  simp [qs, is, Ideal.ofBits, Ideal.ieee, -EReal.coe_mul]; norm_num
theorem is_eq : is = ((1 / 16 : ℝ) : EReal) := by
  simp [qs, is, Ideal.ofBits, Ideal.ieee, -EReal.coe_mul]; norm_num

/-- Column `j` of those weights: the third, the ninth, the scaled first, the scaled seventh, the fourth and the scaled sixth block of `w`, then zeros. -/
def col2 (w : FVec Ideal S1024x3368 .f32) (k : Fin 1024) (j : Fin 2320) : EReal :=
  if h : j.val < 512 then w (ix2 k ⟨1024 + j.val, by omega⟩)
  else if h : j.val - 512 < 512 then w (ix2 k ⟨2856 + (j.val - 512), by omega⟩)
  else if h : j.val - 512 - 512 < 512 then w (ix2 k ⟨j.val - 512 - 512, by omega⟩) * qs
  else if h : j.val - 512 - 512 - 512 < 512 then w (ix2 k ⟨1832 + (j.val - 512 - 512 - 512), by omega⟩) * qs
  else if h : j.val - 512 - 512 - 512 - 512 < 256 then w (ix2 k ⟨1536 + (j.val - 512 - 512 - 512 - 512), by omega⟩)
  else if h : j.val - 512 - 512 - 512 - 512 - 256 < 8 then w (ix2 k ⟨1824 + (j.val - 512 - 512 - 512 - 512 - 256), by omega⟩) * is else 0

theorem w2_at (k : Fin 1024) (j : Fin 2320) : (V m c main_v21 : Vec Ideal S2320x1024 .bf16) (ix2 j k) = col2 (m ((c.tc : Thread nD τ).loc main_arg4)) k j := by
  rw [w2_eq]
  pointwise [cols2]
  rfl

/-- A real factor that is not negative goes into a sum of products. -/
theorem scale_sum {q : EReal} {r : ℝ} (hq : q = (r : EReal)) (hr : 0 ≤ r) {ι : Type} (s : Finset ι) (f w : ι → EReal) :
    (∑ k ∈ s, f k * w k) * q = ∑ k ∈ s, w k * q * f k := by
  classical
  subst hq
  induction s using Finset.induction_on with
  | empty => simp
  | insert a s ha ih =>
    rw [Finset.sum_insert ha, Finset.sum_insert ha, ← ih, EReal.right_distrib_of_nonneg_of_ne_top (EReal.coe_nonneg.2 hr) (EReal.coe_ne_top r)]
    rw [mul_comm (f a) (w a), mul_right_comm]

/-- The factors of each product the other way round. -/
theorem swap_sum (f w : Fin 1024 → EReal) : ∑ k, f k * w k = ∑ k, w k * f k := Finset.sum_congr rfl fun k _ => mul_comm (f k) (w k)

/-- The sum of the products of a row's entries with a column of zeros. -/
theorem sum_zero (f : Fin 1024 → EReal) : (0 : EReal) = ∑ k, f k * (0 : EReal) := by simp

/-- One entry of the row-major result. -/
def entry1 (x : FVec Ideal S4x8192x1024 .f32) (g : FVec Ideal S1024 .f32) (sh sc : FVec Ideal S4x1024 .f32) (w : FVec Ideal S1024x3368 .f32)
    (b : Fin 4) (t : Fin 8192) (j : Fin 1152) : EReal :=
  ∑ k : Fin 1024, hid (fun i => x (ix3 b t i)) (fun i => g (ix1 i)) (fun i => sh (ix2 b i)) (fun i => sc (ix2 b i)) k * col1 w k j

/-- One entry of the column-major result. -/
def entry2 (x : FVec Ideal S4x8192x1024 .f32) (g : FVec Ideal S1024 .f32) (sh sc : FVec Ideal S4x1024 .f32) (w : FVec Ideal S1024x3368 .f32)
    (b : Fin 4) (j : Fin 2320) (t : Fin 8192) : EReal :=
  ∑ k : Fin 1024, col2 w k j * hid (fun i => x (ix3 b t i)) (fun i => g (ix1 i)) (fun i => sh (ix2 b i)) (fun i => sc (ix2 b i)) k

/-- The row-major result. -/
def whole1 (x : FVec Ideal S4x8192x1024 .f32) (g : FVec Ideal S1024 .f32) (sh sc : FVec Ideal S4x1024 .f32) (w : FVec Ideal S1024x3368 .f32) : FVec Ideal S4x8192x1152 .bf16 :=
  fun i => entry1 x g sh sc w (i 0) (i 1) (i 2)

/-- The column-major result. -/
def whole2 (x : FVec Ideal S4x8192x1024 .f32) (g : FVec Ideal S1024 .f32) (sh sc : FVec Ideal S4x1024 .f32) (w : FVec Ideal S1024x3368 .f32) : FVec Ideal S4x2320x8192 .bf16 :=
  fun i => entry2 x g sh sc w (i 0) (i 1) (i 2)

theorem pay1_at (x : Vec Ideal S1x512x1024 .f32) (g : Vec Ideal S1x1024 .f32) (sc sh : Vec Ideal S1x1x1024 .f32) (w : Vec Ideal S1024x1152 .bf16)
    (r : Fin 512) (j : Fin 1152) :
    k0_pay1 (F := Ideal) (k0_pay2 x g sc sh) w (ix3 0 r j)
      = ∑ k : Fin 1024, hid (fun i => x (ix3 0 r i)) (fun i => g (ix2 0 i)) (fun i => sh (ix3 0 0 i)) (fun i => sc (ix3 0 0 i)) k * w (ix2 k j) := by
  pointwise [k0_pay1, k0_pay2]
  rfl

theorem pay3_at (x : Vec Ideal S1x512x1024 .f32) (g : Vec Ideal S1x1024 .f32) (sc sh : Vec Ideal S1x1x1024 .f32) (w : Vec Ideal S2320x1024 .bf16)
    (r : Fin 512) (j : Fin 2320) :
    k0_pay3 (F := Ideal) x g sc sh w (ix3 0 j r)
      = ∑ k : Fin 1024, w (ix2 j k) * hid (fun i => x (ix3 0 r i)) (fun i => g (ix2 0 i)) (fun i => sh (ix3 0 0 i)) (fun i => sc (ix3 0 0 i)) k := by
  pointwise [k0_pay3, k0_pay2]
  rfl

section

variable (m : (ℓ : Loc Cert.OddInReferenceIdeal.nD Cert.OddInReferenceIdeal.τ Cert.OddInReferenceIdeal.sig) → Buf (Elt Ideal) ℓ) (c : Dev Cert.OddInReferenceIdeal.nD)

theorem r1_at (b : Fin 4) (t : Fin 8192) (j : Fin 1152) :
    (Cert.OddInReferenceIdeal.Value.res_main_v41 m c : FVec Ideal Cert.OddInReferenceIdeal.S4x8192x1152 .bf16) (ix3 b t j)
      = entry1 (m ((c.tc : Thread nD τ).loc Cert.OddInReferenceIdeal.main_arg0)) (m ((c.tc : Thread nD τ).loc Cert.OddInReferenceIdeal.main_arg1)) (m ((c.tc : Thread nD τ).loc Cert.OddInReferenceIdeal.main_arg2)) (m ((c.tc : Thread nD τ).loc Cert.OddInReferenceIdeal.main_arg3)) (m ((c.tc : Thread nD τ).loc Cert.OddInReferenceIdeal.main_arg4)) b t j := by
  pointwise [Cert.OddInReferenceIdeal.Value.res_main_v41]
  unfold entry1 col1
  by_cases h1 : j.val < 512
  · simp only [dif_pos h1]
    rfl
  by_cases h2 : j.val - 512 < 512
  · simp only [dif_neg h1, dif_pos h2]
    rfl
  by_cases h3 : j.val - 512 - 512 < 32
  · simp only [dif_neg h1, dif_neg h2, dif_pos h3]
    rfl
  simp only [dif_neg h1, dif_neg h2, dif_neg h3]
  exact sum_zero _

theorem r2_at (b : Fin 4) (t : Fin 8192) (j : Fin 2320) :
    (Cert.OddInReferenceIdeal.Value.res_main_v43 m c : FVec Ideal Cert.OddInReferenceIdeal.S4x2320x8192 .bf16) (ix3 b j t)
      = entry2 (m ((c.tc : Thread nD τ).loc Cert.OddInReferenceIdeal.main_arg0)) (m ((c.tc : Thread nD τ).loc Cert.OddInReferenceIdeal.main_arg1)) (m ((c.tc : Thread nD τ).loc Cert.OddInReferenceIdeal.main_arg2)) (m ((c.tc : Thread nD τ).loc Cert.OddInReferenceIdeal.main_arg3)) (m ((c.tc : Thread nD τ).loc Cert.OddInReferenceIdeal.main_arg4)) b j t := by
  pointwise [Cert.OddInReferenceIdeal.Value.res_main_v43]
  unfold entry2 col2
  by_cases h1 : j.val < 512
  · simp only [dif_pos h1]
    exact swap_sum _ _
  by_cases h2 : j.val - 512 < 512
  · simp only [dif_neg h1, dif_pos h2]
    exact swap_sum _ _
  by_cases h3 : j.val - 512 - 512 < 512
  · simp only [dif_neg h1, dif_neg h2, dif_pos h3]
    exact scale_sum qs_eq (by norm_num) _ _ _
  by_cases h4 : j.val - 512 - 512 - 512 < 512
  · simp only [dif_neg h1, dif_neg h2, dif_neg h3, dif_pos h4]
    exact scale_sum qs_eq (by norm_num) _ _ _
  by_cases h5 : j.val - 512 - 512 - 512 - 512 < 256
  · simp only [dif_neg h1, dif_neg h2, dif_neg h3, dif_neg h4, dif_pos h5]
    exact swap_sum _ _
  by_cases h6 : j.val - 512 - 512 - 512 - 512 - 256 < 8
  · simp only [dif_neg h1, dif_neg h2, dif_neg h3, dif_neg h4, dif_neg h5, dif_pos h6]
    exact scale_sum is_eq (by norm_num) _ _ _
  simp only [dif_neg h1, dif_neg h2, dif_neg h3, dif_neg h4, dif_neg h5, dif_neg h6]
  exact (sum_zero _).trans (swap_sum _ _)

end

theorem scale_at (k : Fin 1024) : (V m c main_v22 : Vec Ideal S1x1024 .f32) (ix2 0 k) = (m ((c.tc : Thread nD τ).loc main_arg1) : FVec Ideal S1024 .f32) (ix1 k) := by
  unfold V
  after_results
  pointwise

theorem shift_at (b : Fin 4) (k : Fin 1024) : (V m c main_v23 : Vec Ideal S4x1x1024 .f32) (ix3 b 0 k) = (m ((c.tc : Thread nD τ).loc main_arg2) : FVec Ideal S4x1024 .f32) (ix2 b k) := by
  unfold V
  after_results
  pointwise

theorem gain_at (b : Fin 4) (k : Fin 1024) : (V m c main_v24 : Vec Ideal S4x1x1024 .f32) (ix3 b 0 k) = (m ((c.tc : Thread nD τ).loc main_arg3) : FVec Ideal S4x1024 .f32) (ix2 b k) := by
  unfold V
  after_results
  pointwise

theorem idx0 : ∀ t : Fin cfg0.N, win0_0.index t = ![(grid0.coords t 0).val, (grid0.coords t 1).val, 0] := (by decide +kernel : ∀ t : Fin grid0.N, _)
theorem idx1 : ∀ t : Fin cfg0.N, win0_1.index t = ![0, 0] := (by decide +kernel : ∀ t : Fin grid0.N, _)
theorem idx2 : ∀ t : Fin cfg0.N, win0_2.index t = ![(grid0.coords t 0).val, 0, 0] := (by decide +kernel : ∀ t : Fin grid0.N, _)
theorem idx3 : ∀ t : Fin cfg0.N, win0_3.index t = ![(grid0.coords t 0).val, 0, 0] := (by decide +kernel : ∀ t : Fin grid0.N, _)
theorem idx4 : ∀ t : Fin cfg0.N, win0_4.index t = ![0, 0] := (by decide +kernel : ∀ t : Fin grid0.N, _)
theorem idx5 : ∀ t : Fin cfg0.N, win0_5.index t = ![0, 0] := (by decide +kernel : ∀ t : Fin grid0.N, _)
theorem idx6 : ∀ t : Fin cfg0.N, win0_6.index t = ![(grid0.coords t 0).val, (grid0.coords t 1).val, 0] := (by decide +kernel : ∀ t : Fin grid0.N, _)
theorem idx7 : ∀ t : Fin cfg0.N, win0_7.index t = ![(grid0.coords t 0).val, 0, (grid0.coords t 1).val] := (by decide +kernel : ∀ t : Fin grid0.N, _)

theorem coord0_lt (t : Fin cfg0.N) : (grid0.coords t 0).val < 4 := (grid0.coords t 0).isLt
theorem coord1_lt (t : Fin cfg0.N) : (grid0.coords t 1).val < 16 := (grid0.coords t 1).isLt
/-- The batch of block `t`. -/
def bOf (t : Fin cfg0.N) : Fin 4 := ⟨(grid0.coords t 0).val, coord0_lt t⟩
/-- The row of the arrays that row `r` of block `t` is. -/
def rowOf (t : Fin cfg0.N) (r : Fin 512) : Fin 8192 := ⟨(grid0.coords t 1).val * 512 + r.val, by have := coord1_lt t; omega⟩

theorem blk0_at (t : Fin cfg0.N) (r : Fin 512) (k : Fin 1024) : (iblk m c 0 t : Vec Ideal S1x512x1024 .f32) (ix3 0 r k)
    = (m ((c.tc : Thread nD τ).loc main_arg0) : FVec Ideal S4x8192x1024 .f32) (ix3 (bOf t) (rowOf t r) k) := by
  rw [← V_main_arg0 m c]
  refine congrArg (V m c main_arg0) (funext fun a => Fin.ext ?_)
  refine (Pipeline.Window.rect_emb_val win0_0 t (ix3 0 r k) a rfl).trans ?_
  rw [idx0]
  fin_cases a
  · show (grid0.coords t 0).val * 1 + 0 = (grid0.coords t 0).val; omega
  · rfl
  · show 0 * 1024 + k.val = k.val; omega

theorem blk1_at (t : Fin cfg0.N) (k : Fin 1024) : (iblk m c 1 t : Vec Ideal S1x1024 .f32) (ix2 0 k)
    = (m ((c.tc : Thread nD τ).loc main_arg1) : FVec Ideal S1024 .f32) (ix1 k) := by
  rw [← scale_at m c]
  refine congrArg (V m c main_v22) (funext fun a => Fin.ext ?_)
  refine (Pipeline.Window.rect_emb_val win0_1 t (ix2 0 k) a rfl).trans ?_
  rw [idx1]
  fin_cases a
  · rfl
  · show 0 * 1024 + k.val = k.val; omega

theorem blk2_at (t : Fin cfg0.N) (k : Fin 1024) : (iblk m c 2 t : Vec Ideal S1x1x1024 .f32) (ix3 0 0 k)
    = (m ((c.tc : Thread nD τ).loc main_arg2) : FVec Ideal S4x1024 .f32) (ix2 (bOf t) k) := by
  rw [← shift_at m c]
  refine congrArg (V m c main_v23) (funext fun a => Fin.ext ?_)
  refine (Pipeline.Window.rect_emb_val win0_2 t (ix3 0 0 k) a rfl).trans ?_
  rw [idx2]
  fin_cases a
  · show (grid0.coords t 0).val * 1 + 0 = (grid0.coords t 0).val; omega
  · rfl
  · show 0 * 1024 + k.val = k.val; omega

theorem blk3_at (t : Fin cfg0.N) (k : Fin 1024) : (iblk m c 3 t : Vec Ideal S1x1x1024 .f32) (ix3 0 0 k)
    = (m ((c.tc : Thread nD τ).loc main_arg3) : FVec Ideal S4x1024 .f32) (ix2 (bOf t) k) := by
  rw [← gain_at m c]
  refine congrArg (V m c main_v24) (funext fun a => Fin.ext ?_)
  refine (Pipeline.Window.rect_emb_val win0_3 t (ix3 0 0 k) a rfl).trans ?_
  rw [idx3]
  fin_cases a
  · show (grid0.coords t 0).val * 1 + 0 = (grid0.coords t 0).val; omega
  · rfl
  · show 0 * 1024 + k.val = k.val; omega

theorem blk4_at (t : Fin cfg0.N) (k : Fin 1024) (j : Fin 1152) : (iblk m c 4 t : Vec Ideal S1024x1152 .bf16) (ix2 k j)
    = col1 (m ((c.tc : Thread nD τ).loc main_arg4)) k j := by
  rw [← w1_at m c]
  refine congrArg (V m c main_v20) (funext fun a => Fin.ext ?_)
  refine (Pipeline.Window.rect_emb_val win0_4 t (ix2 k j) a rfl).trans ?_
  rw [idx4]
  fin_cases a
  · show 0 * 1024 + k.val = k.val; omega
  · show 0 * 1152 + j.val = j.val; omega

theorem blk5_at (t : Fin cfg0.N) (k : Fin 1024) (j : Fin 2320) : (iblk m c 5 t : Vec Ideal S2320x1024 .bf16) (ix2 j k)
    = col2 (m ((c.tc : Thread nD τ).loc main_arg4)) k j := by
  rw [← w2_at m c]
  refine congrArg (V m c main_v21) (funext fun a => Fin.ext ?_)
  refine (Pipeline.Window.rect_emb_val win0_5 t (ix2 j k) a rfl).trans ?_
  rw [idx5]
  fin_cases a
  · show 0 * 2320 + j.val = j.val; omega
  · show 0 * 1024 + k.val = k.val; omega

theorem place6 (t : Fin cfg0.N) (r : Fin 512) (j : Fin 1152) : (((cfg0.win 6).blk t).view.emb (ix3 0 r j : S1x512x1152.Idx) : S4x8192x1152.Idx) = ix3 (bOf t) (rowOf t r) j := by
  refine funext fun a => Fin.ext ?_
  refine (Pipeline.Window.rect_emb_val win0_6 t (ix3 0 r j) a rfl).trans ?_
  rw [idx6]
  fin_cases a
  · show (grid0.coords t 0).val * 1 + 0 = (grid0.coords t 0).val; omega
  · rfl
  · show 0 * 1152 + j.val = j.val; omega

theorem place7 (t : Fin cfg0.N) (j : Fin 2320) (r : Fin 512) : (((cfg0.win 7).blk t).view.emb (ix3 0 j r : S1x2320x512.Idx) : S4x2320x8192.Idx) = ix3 (bOf t) j (rowOf t r) := by
  refine funext fun a => Fin.ext ?_
  refine (Pipeline.Window.rect_emb_val win0_7 t (ix3 0 j r) a rfl).trans ?_
  rw [idx7]
  fin_cases a
  · show (grid0.coords t 0).val * 1 + 0 = (grid0.coords t 0).val; omega
  · show 0 * 2320 + j.val = j.val; omega
  · rfl

/-- An index of a block is its row and its column. -/
theorem block_split {p q : ℕ} (y : (⟨3, ![1, p, q]⟩ : Shape).Idx) : ∃ (r : Fin p) (j : Fin q), y = ix3 0 r j := by
  refine ⟨y 1, y 2, funext fun a => Fin.ext ?_⟩
  fin_cases a
  · have : (y 0).val < 1 := (y 0).isLt
    show (y 0).val = 0
    omega
  · rfl
  · rfl

theorem final1 : (dats m 0 c).arrAt 6 cfg0.N
    = whole1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 6 _ (by decide +kernel) fun t hf y => ?_
  obtain ⟨r, j, rfl⟩ := block_split (p := 512) (q := 1152) y
  rw [place6]
  blk_simp
  rw [after0_6]
  frame_out
  refine (pay1_at _ _ _ _ _ r j).trans ?_
  exact Finset.sum_congr rfl fun k _ => prod_congr
    (hid_congr (fun i => blk0_at m c t r i) (fun i => blk1_at m c t i) (fun i => blk2_at m c t i) (fun i => blk3_at m c t i) k) (blk4_at m c t k j)

theorem final2 : (dats m 0 c).arrAt 7 cfg0.N
    = whole2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  refine (dats m 0 c).arrAt_eq_of_covers 7 _ (by decide +kernel) fun t hf y => ?_
  obtain ⟨j, r, rfl⟩ := block_split (p := 2320) (q := 512) y
  rw [place7]
  blk_simp
  rw [after0_7]
  frame_out
  refine (pay3_at _ _ _ _ _ r j).trans ?_
  exact Finset.sum_congr rfl fun k _ => prod_congr (blk5_at m c t k j)
    (hid_congr (fun i => blk0_at m c t r i) (fun i => blk1_at m c t i) (fun i => blk2_at m c t i) (fun i => blk3_at m c t i) k)

theorem equal : Cert.algebraic_OddInIdeal_OddInReferenceIdeal := by
  intro m g m' g' _ A
  refine ⟨fun c => whole1 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)),
    fun c => whole2 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)), ?_, ?_⟩
  · exact (θ_run _ _ _).mono (fun r h c => ⟨(h c).1.trans (final1 m c), (h c).2.1.trans (final2 m c), (h c).2.2⟩) (Value.run_blocks m g)
  · refine (θ_run _ _ _).mono (fun r h c => ⟨(h c).1.trans ?_, (h c).2.1.trans ?_, (h c).2.2⟩) (Cert.OddInReferenceIdeal.Value.run m' g')
    all_goals
      obtain ⟨a0, a1, a2, a3, a4⟩ := A c
      beta_reduce
      rw [← a0, ← a1, ← a2, ← a3, ← a4]
      funext i
    · obtain ⟨b, t, j, rfl⟩ : ∃ b t j, i = ix3 b t j := ⟨i 0, i 1, i 2, funext fun a => by fin_cases a <;> rfl⟩
      exact r1_at m' c b t j
    · obtain ⟨b, j, t, rfl⟩ : ∃ b j t, i = ix3 b j t := ⟨i 0, i 1, i 2, funext fun a => by fin_cases a <;> rfl⟩
      exact r2_at m' c b t j

end Cert.OddInIdeal.Proj

end
-- ==== Proof.Modulation.lean ====
/- The modulation vectors: the kernel's array and the reference's are the same sums. -/
module

public import proofs.«01_k».proof.Defs
public import proofs.«01_k».proof.Proof.Gen.ModulationIdeal.Value
public import proofs.«01_k».proof.Proof.Gen.ModulationReferenceIdeal.Run
public import proofs.«01_k».proof.Proof.Gen.Modulation.Frame
public import Idealize.ShloMosaic.Lib.Pointwise
public import Idealize.ShloMosaic.Lib.Routing.OpsOne
public import Idealize.ShloMosaic.Lib.Pipeline.ValueKit

@[expose] public section

set_option maxRecDepth 16384

noncomputable section

namespace Cert.ModulationIdeal.Mods

open Cert.ModulationIdeal Cert.ModulationIdeal.Gen Idealize.ShloMosaic Idealize.ShloMosaic.TcCoe Idealize.SL.Sem

attribute [local instance] Gen.facts Cert.ModulationReferenceIdeal.Gen.facts

/-- The gated linear unit of one number. -/
def silu (x : EReal) : EReal := x * Ideal.div 1 (1 + Ideal.exp (-x))

theorem pay_at (x : Vec Ideal S8x1024 .f32) (w : Vec Ideal S1x1024x1536 .f32) (b : Vec Ideal S1x1x1536 .f32) (r : Fin 8) (j : Fin 1536) :
    k0_pay1 (F := Ideal) x w b (ix3 0 r j) = (∑ k : Fin 1024, silu (x (ix2 r k)) * w (ix3 0 k j)) + b (ix3 0 0 j) := by
  pointwise [k0_pay1]
  simp only [zero_sub]
  rfl

variable (m : (ℓ : Loc nD τ sig) → Buf (Elt Ideal) ℓ) (c : Dev nD)

/-- The conditioning rows, with zeros below them. -/
def rows (x : FVec Ideal S4x1024 .f32) (r : Fin 8) (k : Fin 1024) : EReal := if h : r.val < 4 then x (ix2 ⟨r.val, h⟩ k) else 0

theorem lands (z : IVec S1 32) (hz : ∀ i, z i = 0#32) (a : Fin 4) (b : Fin 1024) (r : Fin 8) (k : Fin 1024) :
    scatter_S8x1024_S1_S4x1024_01_n_0_0.resultIdx? (ix2 a b) z = some (ix2 r k) ↔ a.val = r.val ∧ b.val = k.val := by
  have s : ∀ q, scatter_S8x1024_S1_S4x1024_01_n_0_0.start (ix2 a b) z q = 0 := fun q => by
    unfold ScatterDims.start
    split
    · rw [hz]; rfl
    · rfl
  have w0 : scatter_S8x1024_S1_S4x1024_01_n_0_0.window (ix2 a b) 0 = a.val := rfl
  have w1 : scatter_S8x1024_S1_S4x1024_01_n_0_0.window (ix2 a b) 1 = b.val := rfl
  refine (Routing.resultIdx?_ix2 scatter_S8x1024_S1_S4x1024_01_n_0_0 (ix2 a b) z r k).trans ?_
  rw [s, s, w0, w1]
  omega

theorem scatter_at (x : FVec Ideal S8x1024 .f32) (hx : ∀ i, x i = 0) (z : IVec S1 32) (hz : ∀ i, z i = 0#32) (u : FVec Ideal S4x1024 .f32) (r : Fin 8) (k : Fin 1024) :
    Host.scatter scatter_S8x1024_S1_S4x1024_01_n_0_0 (fun _ b => b) x z u (ix2 r k) = rows u r k := by
  have split : ∀ i : S4x1024.Idx, i = ix2 (i 0) (i 1) := fun i => funext fun a => by fin_cases a <;> rfl
  unfold rows
  split_ifs with h
  · refine Routing.scatter_set_hit _ _ _ _ _ _ (fun i hi => ?_) (ix2 ⟨r.val, h⟩ k) ((lands z hz _ _ r k).2 ⟨rfl, rfl⟩)
    rw [split i] at hi ⊢
    have q := (lands z hz _ _ r k).1 hi
    exact congrArg₂ (fun a b => u (ix2 a b)) (Fin.ext q.1) (Fin.ext q.2)
  · refine (Routing.scatter_set_miss _ _ _ _ _ fun i hi => ?_).trans (hx _)
    rw [split i] at hi
    have q := (lands z hz _ _ r k).1 hi
    have : (i 0).val < 4 := (i 0).isLt
    omega

theorem rows_at (r : Fin 8) (k : Fin 1024) : (V m c main_v2 : Vec Ideal S8x1024 .f32) (ix2 r k) = rows (m ((c.tc : Thread nD τ).loc main_arg0)) r k := by
  unfold V
  after_results
  exact scatter_at _ (fun i => by pointwise) _ (fun i => rfl) _ r k

theorem bias_at (i : Fin 2) (j : Fin 6144) : (V m c main_v3 : Vec Ideal S2x1x6144 .f32) (ix3 i 0 j) = (m ((c.tc : Thread nD τ).loc main_arg2) : FVec Ideal S2x6144 .f32) (ix2 i j) := by
  unfold V
  after_results
  pointwise

theorem idx0 : ∀ t : Fin cfg0.N, win0_0.index t = ![0, 0] := (by decide +kernel : ∀ t : Fin grid0.N, _)
theorem idx1 : ∀ t : Fin cfg0.N, win0_1.index t = ![(grid0.coords t 0).val, 0, (grid0.coords t 1).val] := (by decide +kernel : ∀ t : Fin grid0.N, _)
theorem idx2 : ∀ t : Fin cfg0.N, win0_2.index t = ![(grid0.coords t 0).val, 0, (grid0.coords t 1).val] := (by decide +kernel : ∀ t : Fin grid0.N, _)
theorem idx3 : ∀ t : Fin cfg0.N, win0_3.index t = ![(grid0.coords t 0).val, 0, (grid0.coords t 1).val] := (by decide +kernel : ∀ t : Fin grid0.N, _)

/-- One entry of the result: the gated conditioning row times a column of the layer's weights, and the bias. -/
def entry (x : FVec Ideal S4x1024 .f32) (w : FVec Ideal S2x1024x6144 .f32) (b : FVec Ideal S2x6144 .f32) (i : Fin 2) (r : Fin 8) (j : Fin 6144) : EReal :=
  (∑ k : Fin 1024, silu (rows x r k) * w (ix3 i k j)) + b (ix2 i j)

/-- The whole array of entries. -/
def whole (x : FVec Ideal S4x1024 .f32) (w : FVec Ideal S2x1024x6144 .f32) (b : FVec Ideal S2x6144 .f32) : FVec Ideal S2x8x6144 .f32 :=
  fun i => entry x w b (i 0) (i 1) (i 2)

theorem coord0_lt (t : Fin cfg0.N) : (grid0.coords t 0).val < 2 := (grid0.coords t 0).isLt
theorem coord1_lt (t : Fin cfg0.N) : (grid0.coords t 1).val < 4 := (grid0.coords t 1).isLt
/-- The layer of block `t`. -/
def layerOf (t : Fin cfg0.N) : Fin 2 := ⟨(grid0.coords t 0).val, coord0_lt t⟩
/-- The column of the arrays that column `j` of block `t` is. -/
def colOf (t : Fin cfg0.N) (j : Fin 1536) : Fin 6144 := ⟨(grid0.coords t 1).val * 1536 + j.val, by have := coord1_lt t; omega⟩

theorem blk0_at (t : Fin cfg0.N) (r : Fin 8) (k : Fin 1024) : (iblk m c 0 t : Vec Ideal S8x1024 .f32) (ix2 r k) = rows (m ((c.tc : Thread nD τ).loc main_arg0)) r k := by
  rw [← rows_at m c]
  refine congrArg (V m c main_v2) (funext fun a => Fin.ext ?_)
  refine (Pipeline.Window.rect_emb_val win0_0 t (ix2 r k) a rfl).trans ?_
  rw [idx0]
  fin_cases a
  · show 0 * 8 + r.val = r.val; omega
  · show 0 * 1024 + k.val = k.val; omega

theorem blk1_at (t : Fin cfg0.N) (k : Fin 1024) (j : Fin 1536) : (iblk m c 1 t : Vec Ideal S1x1024x1536 .f32) (ix3 0 k j)
    = (m ((c.tc : Thread nD τ).loc main_arg1) : FVec Ideal S2x1024x6144 .f32) (ix3 (layerOf t) k (colOf t j)) := by
  rw [← V_main_arg1 m c]
  refine congrArg (V m c main_arg1) (funext fun a => Fin.ext ?_)
  refine (Pipeline.Window.rect_emb_val win0_1 t (ix3 0 k j) a rfl).trans ?_
  rw [idx1]
  fin_cases a
  · show (grid0.coords t 0).val * 1 + 0 = (grid0.coords t 0).val; omega
  · show 0 * 1024 + k.val = k.val; omega
  · rfl

theorem blk2_at (t : Fin cfg0.N) (j : Fin 1536) : (iblk m c 2 t : Vec Ideal S1x1x1536 .f32) (ix3 0 0 j)
    = (m ((c.tc : Thread nD τ).loc main_arg2) : FVec Ideal S2x6144 .f32) (ix2 (layerOf t) (colOf t j)) := by
  rw [← bias_at m c]
  refine congrArg (V m c main_v3) (funext fun a => Fin.ext ?_)
  refine (Pipeline.Window.rect_emb_val win0_2 t (ix3 0 0 j) a rfl).trans ?_
  rw [idx2]
  fin_cases a
  · show (grid0.coords t 0).val * 1 + 0 = (grid0.coords t 0).val; omega
  · rfl
  · rfl

theorem place (t : Fin cfg0.N) (r : Fin 8) (j : Fin 1536) : (((cfg0.win 3).blk t).view.emb (ix3 0 r j : S1x8x1536.Idx) : S2x8x6144.Idx) = ix3 (layerOf t) r (colOf t j) := by
  refine funext fun a => Fin.ext ?_
  refine (Pipeline.Window.rect_emb_val win0_3 t (ix3 0 r j) a rfl).trans ?_
  rw [idx3]
  fin_cases a
  · show (grid0.coords t 0).val * 1 + 0 = (grid0.coords t 0).val; omega
  · show 0 * 8 + r.val = r.val; omega
  · rfl

theorem block_split (y : S1x8x1536.Idx) : ∃ (r : Fin 8) (j : Fin 1536), y = ix3 0 r j := by
  refine ⟨y 1, y 2, funext fun a => Fin.ext ?_⟩
  fin_cases a
  · have : (y 0).val < 1 := (y 0).isLt
    show (y 0).val = 0
    omega
  · rfl
  · rfl

theorem final : (dats m 0 c).arrAt 3 cfg0.N
    = whole (m ((c.tc : Thread nD τ).loc main_arg0)) (m ((c.tc : Thread nD τ).loc main_arg1)) (m ((c.tc : Thread nD τ).loc main_arg2)) := by
  refine (dats m 0 c).arrAt_eq_of_covers 3 _ (by decide +kernel) fun t hf y => ?_
  obtain ⟨r, j, rfl⟩ := block_split y
  rw [place]
  blk_simp
  rw [after0_3]
  frame_out
  refine (pay_at _ _ _ r j).trans ?_
  have e : ∀ a a' b b' : EReal, a = a' → b = b' → silu a * b = silu a' * b' := fun _ _ _ _ h h' => h ▸ h' ▸ rfl
  refine congrArg₂ (fun a b : EReal => a + b) ?_ (blk2_at m c t j)
  exact Finset.sum_congr rfl fun k _ => e _ _ _ _ (blk0_at m c t r k) (blk1_at m c t k j)

open Cert.ModulationReferenceIdeal Cert.ModulationReferenceIdeal.Gen in
/-- The conditioning rows with zeros below them, as the reference stacks them. -/
def stacked (x : FVec Ideal Cert.ModulationReferenceIdeal.S4x1024 .f32) : FVec Ideal Cert.ModulationReferenceIdeal.S8x1024 .f32 :=
  concatenate Cert.ModulationReferenceIdeal.S8x1024 0 [⟨Cert.ModulationReferenceIdeal.S4x1024, x⟩,
    ⟨Cert.ModulationReferenceIdeal.S4x1024, (broadcastInDim Cert.ModulationReferenceIdeal.S4x1024 ![] bcast_S_S4x1024 (constant Cert.ModulationReferenceIdeal.S_ .f32 0x00000000#32))⟩]
    concatenates_S4x1024_S4x1024_S8x1024_d0

theorem stacked_at (x : FVec Ideal Cert.ModulationReferenceIdeal.S4x1024 .f32) (r : Fin 8) (k : Fin 1024) : stacked x (ix2 r k) = rows x r k := by
  pointwise [stacked]
  rfl

open Cert.ModulationReferenceIdeal Cert.ModulationReferenceIdeal.Gen in
/-- The gated rows. -/
def gated (x : FVec Ideal Cert.ModulationReferenceIdeal.S8x1024 .f32) : FVec Ideal Cert.ModulationReferenceIdeal.S8x1024 .f32 :=
  mulf x (Host.divf (broadcastInDim Cert.ModulationReferenceIdeal.S8x1024 ![] Cert.ModulationReferenceIdeal.Gen.bcast_S_S8x1024 (constant Cert.ModulationReferenceIdeal.S_ .f32 0x3F800000#32))
    (addf (broadcastInDim Cert.ModulationReferenceIdeal.S8x1024 ![] Cert.ModulationReferenceIdeal.Gen.bcast_S_S8x1024 (constant Cert.ModulationReferenceIdeal.S_ .f32 0x3F800000#32)) (Host.exp (Host.negf x))))

theorem gated_at (x : FVec Ideal Cert.ModulationReferenceIdeal.S8x1024 .f32) (i : Cert.ModulationReferenceIdeal.S8x1024.Idx) : gated x i = silu (x i) := by
  pointwise [gated]
  rfl

open Cert.ModulationReferenceIdeal Cert.ModulationReferenceIdeal.Gen in
/-- The reference's result, from its gated rows. -/
def both (s : FVec Ideal Cert.ModulationReferenceIdeal.S8x1024 .f32) (w : FVec Ideal Cert.ModulationReferenceIdeal.S2x1024x6144 .f32)
    (b : FVec Ideal Cert.ModulationReferenceIdeal.S2x6144 .f32) : FVec Ideal Cert.ModulationReferenceIdeal.S2x8x6144 .f32 :=
  concatenate Cert.ModulationReferenceIdeal.S2x8x6144 0 [
    ⟨S1x8x6144, (broadcastInDim S1x8x6144 ![1, 2] bcast_S8x6144_S1x8x6144_1_2 (addf (Host.dotGeneral dot_S8x1024_S1024x6144_S8x6144_1_0_0_1_n_n none s
      (shapeCast _ (extractStridedSlice S1x1024x6144 ![0, 0, 0] w slices_S2x1024x6144_S1x1024x6144_0_0_0) shapeCasts_S1x1024x6144_S1024x6144))
      (broadcastInDim S8x6144 ![0, 1] bcast_S1x6144_S8x6144_0_1 (broadcastInDim S1x6144 ![1] bcast_S6144_S1x6144_1
        (shapeCast _ (extractStridedSlice S1x6144 ![0, 0] b slices_S2x6144_S1x6144_0_0) shapeCasts_S1x6144_S6144)))))⟩,
    ⟨S1x8x6144, (broadcastInDim S1x8x6144 ![1, 2] bcast_S8x6144_S1x8x6144_1_2 (addf (Host.dotGeneral dot_S8x1024_S1024x6144_S8x6144_1_0_0_1_n_n none s
      (shapeCast _ (extractStridedSlice S1x1024x6144 ![1, 0, 0] w slices_S2x1024x6144_S1x1024x6144_1_0_0) shapeCasts_S1x1024x6144_S1024x6144))
      (broadcastInDim S8x6144 ![0, 1] bcast_S1x6144_S8x6144_0_1 (broadcastInDim S1x6144 ![1] bcast_S6144_S1x6144_1
        (shapeCast _ (extractStridedSlice S1x6144 ![1, 0] b slices_S2x6144_S1x6144_1_0) shapeCasts_S1x6144_S6144)))))⟩]
    concatenates_S1x8x6144_S1x8x6144_S2x8x6144_d0

theorem both_at (s : FVec Ideal Cert.ModulationReferenceIdeal.S8x1024 .f32) (w : FVec Ideal Cert.ModulationReferenceIdeal.S2x1024x6144 .f32)
    (b : FVec Ideal Cert.ModulationReferenceIdeal.S2x6144 .f32) (i : Fin 2) (r : Fin 8) (j : Fin 6144) :
    both s w b (ix3 i r j) = (∑ k : Fin 1024, s (ix2 r k) * w (ix3 i k j)) + b (ix2 i j) := by
  fin_cases i
  · pointwise [both]
  · pointwise [both]

theorem ref_at (x : FVec Ideal Cert.ModulationReferenceIdeal.S4x1024 .f32) (w : FVec Ideal Cert.ModulationReferenceIdeal.S2x1024x6144 .f32)
    (b : FVec Ideal Cert.ModulationReferenceIdeal.S2x6144 .f32) (i : Fin 2) (r : Fin 8) (j : Fin 6144) :
    both (gated (stacked x)) w b (ix3 i r j) = entry x w b i r j := by
  refine (both_at _ w b i r j).trans (congrArg (fun a : EReal => a + b (ix2 i j)) (Finset.sum_congr rfl fun k _ => congrArg (fun a : EReal => a * w (ix3 i k j)) ?_))
  exact (gated_at _ _).trans (congrArg silu (stacked_at x r k))

theorem equal : Cert.algebraic_ModulationIdeal_ModulationReferenceIdeal := by
  intro m g m' g' _ A
  refine ⟨fun c => whole (m ((c.tc : Thread nD τ).loc main_arg0)) (m ((c.tc : Thread nD τ).loc main_arg1)) (m ((c.tc : Thread nD τ).loc main_arg2)), ?_, ?_⟩
  · exact (θ_run _ _ _).mono (fun r h c => ⟨(h c).1.trans (final m c), (h c).2⟩) (Value.run_blocks m g)
  · refine (θ_run _ _ _).mono (fun r h c => ⟨(h c).1.trans ?_, (h c).2⟩) (Cert.ModulationReferenceIdeal.Value.run m' g')
    obtain ⟨a0, a1, a2⟩ := A c
    rw [a0, a1, a2]
    funext i
    obtain ⟨b, t, j, rfl⟩ : ∃ b t j, i = ix3 b t j := ⟨i 0, i 1, i 2, funext fun a => by fin_cases a <;> rfl⟩
    exact ref_at _ _ _ b t j

end Cert.ModulationIdeal.Mods

end
-- ==== Proof.Text.lean ====
/- The kernel's body, written again from a few programs that take the head, the map and the block as
   parameters: one map's logits, one online-softmax step, one block of the bias band, the bias
   tables' loop, and the closing normalisation. `body_eq` says the printed body is this one. -/
module

public import proofs.«01_k».proof.Proof.Gen.KernelIdeal
public import Idealize.ShloMosaic.Lib.Pipeline.Regions
public import Idealize.ShloMosaic.Lib.Tactic

@[expose] public section

set_option maxRecDepth 16384

noncomputable section

namespace Cert.KernelIdeal.DA

open Idealize.ShloMosaic Idealize.SL.Sem
open Facts₀ Facts

variable {F : FTy → Type} [FloatOps F] [Named F]

/-- The buffers the body runs over. -/
structure Bufs where
  qi : Memref sig .tc .smem S36 .i32
  ki : Memref sig .tc .smem S36 .i32
  rb : Memref sig .tc .smem S32x12 .f32
  q : Memref sig .tc .vmem S1x512x1024 .bf16
  k : Memref sig .tc .vmem S1x1024x512 .bf16
  v : Memref sig .tc .vmem S1x512x1024 .bf16
  lam : Memref sig .tc .vmem S4x64 .f32
  ng : Memref sig .tc .vmem S128x1 .f32
  out : Memref sig .tc .vmem S1x1024x512 .bf16
  m : Memref sig .tc .vmem S8x1x1024 .f32
  acc : Memref sig .tc .vmem S8x144x1024 .f32
  bt : Memref sig .tc .vmem S4x2x128x128 .f32
  s : Memref sig .tc .vmem S1024x1024 .f32
  cm : Memref sig .tc .vmem S1024x1024 .f32

/-- The kernel's programs. -/
abbrev KProg (F : FTy → Type) (α : Type) := Prog (TpuEff nD τ sig (Elt F) Λ₀ .tc) α

/-- Map `j` of head `h`. -/
def slot (h : Fin 4) (j : Fin 2) : Fin 8 := ⟨2 * h.val + j.val, by omega⟩

theorem inbM (r : Fin 8) : ∀ a, (![r.val, 0, 0] : Fin 3 → Nat) a + S1x1x1024.size a ≤ S8x1x1024.size a := by
  revert r; decide
theorem inbMB (r : Fin 8) : ∀ a, (![r.val, 0, 512] : Fin 3 → Nat) a + S1x1x512.size a ≤ S8x1x1024.size a := by
  revert r; decide
theorem inbA (r : Fin 8) : ∀ a, (![r.val, 0, 0] : Fin 3 → Nat) a + S1x144x1024.size a ≤ S8x144x1024.size a := by
  revert r; decide
theorem inbAB (r : Fin 8) : ∀ a, (![r.val, 0, 512] : Fin 3 → Nat) a + S1x144x512.size a ≤ S8x144x1024.size a := by
  revert r; decide
theorem inbV (h : Fin 4) : ∀ a, (![0, 128 * h.val, 0] : Fin 3 → Nat) a + S1x128x1024.size a ≤ S1x512x1024.size a := by
  revert h; decide
theorem inbK (r : Fin 8) : ∀ a, (![0, 0, 64 * r.val] : Fin 3 → Nat) a + S1x1024x64.size a ≤ S1x1024x512.size a := by
  revert r; decide
theorem inbKA (r : Fin 8) : ∀ a, (![0, 0, 64 * r.val] : Fin 3 → Nat) a + S1x512x64.size a ≤ S1x1024x512.size a := by
  revert r; decide
theorem inbKB (r : Fin 8) : ∀ a, (![0, 512, 64 * r.val] : Fin 3 → Nat) a + S1x512x64.size a ≤ S1x1024x512.size a := by
  revert r; decide
theorem inbQ (r : Fin 8) : ∀ a, (![0, 64 * r.val, 0] : Fin 3 → Nat) a + S1x64x1024.size a ≤ S1x512x1024.size a := by
  revert r; decide
theorem inbQB (r : Fin 8) : ∀ a, (![0, 64 * r.val, 512] : Fin 3 → Nat) a + S1x64x512.size a ≤ S1x512x1024.size a := by
  revert r; decide
theorem inbS (k q : Fin 8) : ∀ a, (![128 * k.val, 128 * q.val] : Fin 2 → Nat) a + S128x128.size a ≤ S1024x1024.size a := by
  revert k q; decide
theorem inbB (h : Fin 4) (d : Fin 2) : ∀ a, (![h.val, d.val, 0, 0] : Fin 4 → Nat) a + S1x1x128x128.size a ≤ S4x2x128x128.size a := by
  revert h d; decide
theorem inbR (b : Fin 32) (h : Fin 4) : ∀ a, (![b.val, 8 + h.val] : Fin 2 → Nat) a + S1x1.size a ≤ S32x12.size a := by
  revert b h; decide

/-- The row offset of trip `t` of the bias loop. -/
def trow (t : Fin k0_t1_loop.trips) : BitVec 32 := Scalar.muli (Scf.iv 0#32 1#32 t) 8#32
def boff (h : Fin 4) (d : Fin 2) (t : Fin k0_t1_loop.trips) : Fin 4 → Nat := ![h.val, d.val, (trow t).toNat, 0]
theorem inbT (h : Fin 4) (d : Fin 2) (t : Fin k0_t1_loop.trips) :
    ∀ a, boff h d t a + S1x1x8x128.size a ≤ S4x2x128x128.size a := by
  revert h d t; decide +kernel

variable (M : Bufs)

/-! ## Values -/

/-- Sixteen rows of ones under the head's 128 rows of values. -/
def vaugV (x : Vec F S1x128x1024 .bf16) : FVec F S144x1024 .bf16 :=
  concatenate S144x1024 0 [⟨S128x1024, shapeCast S128x1024 x shapeCasts_S1x128x1024_S128x1024⟩,
    ⟨S16x1024, broadcast S16x1024 (Scalar.ofBits .bf16 0x3F80#16)⟩] concatenates_S128x1024_S16x1024_S144x1024_d0

def logV (k : Vec F S1x1024x64 .bf16) (q : Vec F S1x64x1024 .bf16) : FVec F S1024x1024 .f32 :=
  matmul dot_S1024x64_S64x1024_S1024x1024_1_0_0_1_n_n none
    (shapeCast S1024x64 k shapeCasts_S1x1024x64_S1024x64 : FVec F S1024x64 .bf16)
    (shapeCast S64x1024 q shapeCasts_S1x64x1024_S64x1024 : FVec F S64x1024 .bf16) (constant S1024x1024 .f32 0x00000000#32)

def logAV (k : Vec F S1x512x64 .bf16) (q : Vec F S1x64x1024 .bf16) (c : Vec F S512x1024 .f32) : FVec F S512x1024 .f32 :=
  shapeCast S512x1024 (addf (matmul dot_S512x64_S64x1024_S512x1024_1_0_0_1_n_n none
    (shapeCast S512x64 k shapeCasts_S1x512x64_S512x64 : FVec F S512x64 .bf16)
    (shapeCast S64x1024 q shapeCasts_S1x64x1024_S64x1024 : FVec F S64x1024 .bf16) (constant S512x1024 .f32 0x00000000#32)) c)
    shapeCasts_S512x1024_S512x1024

def logBV (k : Vec F S1x512x64 .bf16) (q : Vec F S1x64x512 .bf16) (c : Vec F S512x512 .f32) : FVec F S512x512 .f32 :=
  shapeCast S512x512 (addf (matmul dot_S512x64_S64x512_S512x512_1_0_0_1_n_n none
    (shapeCast S512x64 k shapeCasts_S1x512x64_S512x64 : FVec F S512x64 .bf16)
    (shapeCast S64x512 q shapeCasts_S1x64x512_S64x512 : FVec F S64x512 .bf16) (constant S512x512 .f32 0x00000000#32)) c)
    shapeCasts_S512x512_S512x512

/-- The new running maximum of a step, its safe form (a maximum of no key is read as zero), and the step's results. -/
def mNew (L : FVec F S1024x1024 .f32) (mo : Vec F S1x1x1024 .f32) : FVec F S1x1024 .f32 :=
  maximumf (shapeCast S1x1024 mo shapeCasts_S1x1x1024_S1x1024)
    (shapeCast S1x1024 (multiReduction .maximumf [0] S1024 L 0xFF800000#32 reduces_S1024x1024_S1024 (.inl rfl) rfl) shapeCasts_S1024_S1x1024)
def mSafe (x : FVec F S1x1024 .f32) : FVec F S1x1024 .f32 :=
  select (cmpf .oeq x (broadcast S1x1024 (Scalar.ofBits .f32 0xFF800000#32)))
    (broadcast S1x1024 (Scalar.ofBits .f32 0x00000000#32)) x
def accV (L : FVec F S1024x1024 .f32) (va : FVec F S144x1024 .bf16) (mo : Vec F S1x1x1024 .f32) (ac : Vec F S1x144x1024 .f32) :
    FVec F S1x144x1024 .f32 :=
  shapeCast S1x144x1024
    (addf
      (mulf (broadcastTo S144x1024 (exp2 (subf (shapeCast S1x1024 mo shapeCasts_S1x1x1024_S1x1024) (mSafe (mNew L mo)))) broadcasts_S1x1024_S144x1024)
        (shapeCast S144x1024 ac shapeCasts_S1x144x1024_S144x1024))
      (matmul dot_S144x1024_S1024x1024_S144x1024_1_0_0_1_n_n none va
        (truncf .bf16 (exp2 (subf L (broadcastTo S1024x1024 (mSafe (mNew L mo)) broadcasts_S1x1024_S1024x1024))) bitsLt_bf16_f32 : FVec F S1024x1024 .bf16)
        (constant S144x1024 .f32 0x00000000#32)))
    shapeCasts_S144x1024_S1x144x1024
def mV (L : FVec F S1024x1024 .f32) (mo : Vec F S1x1x1024 .f32) : FVec F S1x1x1024 .f32 :=
  shapeCast S1x1x1024 (mNew L mo) shapeCasts_S1x1024_S1x1x1024

def mNewA (L : FVec F S512x1024 .f32) (mo : Vec F S1x1x1024 .f32) : FVec F S1x1024 .f32 :=
  maximumf (shapeCast S1x1024 mo shapeCasts_S1x1x1024_S1x1024)
    (shapeCast S1x1024 (multiReduction .maximumf [0] S1024 L 0xFF800000#32 reduces_S512x1024_S1024 (.inl rfl) rfl) shapeCasts_S1024_S1x1024)
def accAV (L : FVec F S512x1024 .f32) (va : FVec F S144x1024 .bf16) (mo : Vec F S1x1x1024 .f32) (ac : Vec F S1x144x1024 .f32) :
    FVec F S1x144x1024 .f32 :=
  shapeCast S1x144x1024
    (addf
      (mulf (broadcastTo S144x1024 (exp2 (subf (shapeCast S1x1024 mo shapeCasts_S1x1x1024_S1x1024) (mSafe (mNewA L mo)))) broadcasts_S1x1024_S144x1024)
        (shapeCast S144x1024 ac shapeCasts_S1x144x1024_S144x1024))
      (matmul dot_S144x512_S512x1024_S144x1024_1_0_0_1_n_n none
        (extractStridedSlice S144x512 ![0, 0] va slices_S144x1024_o0_0_S144x512)
        (truncf .bf16 (exp2 (subf L (broadcastTo S512x1024 (mSafe (mNewA L mo)) broadcasts_S1x1024_S512x1024))) bitsLt_bf16_f32 : FVec F S512x1024 .bf16)
        (constant S144x1024 .f32 0x00000000#32)))
    shapeCasts_S144x1024_S1x144x1024
def mAV (L : FVec F S512x1024 .f32) (mo : Vec F S1x1x1024 .f32) : FVec F S1x1x1024 .f32 :=
  shapeCast S1x1x1024 (mNewA L mo) shapeCasts_S1x1024_S1x1x1024

def mNewB (L : FVec F S512x512 .f32) (mo : Vec F S1x1x512 .f32) : FVec F S1x512 .f32 :=
  maximumf (shapeCast S1x512 mo shapeCasts_S1x1x512_S1x512)
    (shapeCast S1x512 (multiReduction .maximumf [0] S512 L 0xFF800000#32 reduces_S512x512_S512 (.inl rfl) rfl) shapeCasts_S512_S1x512)
def mSafeB (x : FVec F S1x512 .f32) : FVec F S1x512 .f32 :=
  select (cmpf .oeq x (broadcast S1x512 (Scalar.ofBits .f32 0xFF800000#32)))
    (broadcast S1x512 (Scalar.ofBits .f32 0x00000000#32)) x
def accBV (L : FVec F S512x512 .f32) (va : FVec F S144x1024 .bf16) (mo : Vec F S1x1x512 .f32) (ac : Vec F S1x144x512 .f32) :
    FVec F S1x144x512 .f32 :=
  shapeCast S1x144x512
    (addf
      (mulf (broadcastTo S144x512 (exp2 (subf (shapeCast S1x512 mo shapeCasts_S1x1x512_S1x512) (mSafeB (mNewB L mo)))) broadcasts_S1x512_S144x512)
        (shapeCast S144x512 ac shapeCasts_S1x144x512_S144x512))
      (matmul dot_S144x512_S512x512_S144x512_1_0_0_1_n_n none
        (extractStridedSlice S144x512 ![0, 512] va slices_S144x1024_o0_512_S144x512)
        (truncf .bf16 (exp2 (subf L (broadcastTo S512x512 (mSafeB (mNewB L mo)) broadcasts_S1x512_S512x512))) bitsLt_bf16_f32 : FVec F S512x512 .bf16)
        (constant S144x512 .f32 0x00000000#32)))
    shapeCasts_S144x512_S1x144x512
def mBV (L : FVec F S512x512 .f32) (mo : Vec F S1x1x512 .f32) : FVec F S1x1x512 .f32 :=
  shapeCast S1x1x512 (mNewB L mo) shapeCasts_S1x512_S1x1x512

/-- One block of the band: the bias block added. -/
def bandV (x : Vec F S128x128 .f32) (b : Vec F S1x1x128x128 .f32) : FVec F S128x128 .f32 :=
  shapeCast S128x128 (addf x (shapeCast S128x128 b shapeCasts_S1x1x128x128_S128x128)) shapeCasts_S128x128_S128x128

/-! ## Programs -/

def vaugP (h : Fin 4) : KProg F (FVec F S144x1024 .bf16) := do
  let x ← Prog.lift (.load M.v (Rect.unit (s := S1x512x1024) ![0, 128 * h.val, 0] S1x128x1024.size (inbV h)).toLoadRect (View.loadsAt_vmem h_S1x128x1024))
  pure (vaugV x)

/-- One online-softmax step of map `r` at a whole block's logits. -/
def stepP (r : Fin 8) (L : FVec F S1024x1024 .f32) (va : FVec F S144x1024 .bf16) : KProg F PUnit := do
  let mo ← Prog.lift (.load M.m (Rect.unit (s := S8x1x1024) ![r.val, 0, 0] S1x1x1024.size (inbM r)).toLoadRect (View.loadsAt_vmem h_S1x1x1024))
  let ac ← Prog.lift (.load M.acc (Rect.unit (s := S8x144x1024) ![r.val, 0, 0] S1x144x1024.size (inbA r)).toLoadRect (View.loadsAt_vmem h_S1x144x1024))
  let _ ← Prog.lift (.load M.acc (Rect.unit (s := S8x144x1024) ![r.val, 0, 0] S1x144x1024.size (inbA r)).toLoadRect (View.loadsAt_vmem h_S1x144x1024))
  Prog.lift (.store M.acc (Rect.unit (s := S8x144x1024) ![r.val, 0, 0] S1x144x1024.size (inbA r)) (accV L va mo ac) Finset.univ (View.stores_vmem_bits_univ h_S1x144x1024 rfl) (.inl rfl))
  let _ ← Prog.lift (.load M.m (Rect.unit (s := S8x1x1024) ![r.val, 0, 0] S1x1x1024.size (inbM r)).toLoadRect (View.loadsAt_vmem h_S1x1x1024))
  Prog.lift (.store M.m (Rect.unit (s := S8x1x1024) ![r.val, 0, 0] S1x1x1024.size (inbM r)) (mV L mo) Finset.univ (View.stores_vmem_bits_univ h_S1x1x1024 rfl) (.inl rfl))

def stepAP (r : Fin 8) (L : FVec F S512x1024 .f32) (va : FVec F S144x1024 .bf16) : KProg F PUnit := do
  let mo ← Prog.lift (.load M.m (Rect.unit (s := S8x1x1024) ![r.val, 0, 0] S1x1x1024.size (inbM r)).toLoadRect (View.loadsAt_vmem h_S1x1x1024))
  let ac ← Prog.lift (.load M.acc (Rect.unit (s := S8x144x1024) ![r.val, 0, 0] S1x144x1024.size (inbA r)).toLoadRect (View.loadsAt_vmem h_S1x144x1024))
  let _ ← Prog.lift (.load M.acc (Rect.unit (s := S8x144x1024) ![r.val, 0, 0] S1x144x1024.size (inbA r)).toLoadRect (View.loadsAt_vmem h_S1x144x1024))
  Prog.lift (.store M.acc (Rect.unit (s := S8x144x1024) ![r.val, 0, 0] S1x144x1024.size (inbA r)) (accAV L va mo ac) Finset.univ (View.stores_vmem_bits_univ h_S1x144x1024 rfl) (.inl rfl))
  let _ ← Prog.lift (.load M.m (Rect.unit (s := S8x1x1024) ![r.val, 0, 0] S1x1x1024.size (inbM r)).toLoadRect (View.loadsAt_vmem h_S1x1x1024))
  Prog.lift (.store M.m (Rect.unit (s := S8x1x1024) ![r.val, 0, 0] S1x1x1024.size (inbM r)) (mAV L mo) Finset.univ (View.stores_vmem_bits_univ h_S1x1x1024 rfl) (.inl rfl))

def stepBP (r : Fin 8) (L : FVec F S512x512 .f32) (va : FVec F S144x1024 .bf16) : KProg F PUnit := do
  let mo ← Prog.lift (.load M.m (Rect.unit (s := S8x1x1024) ![r.val, 0, 512] S1x1x512.size (inbMB r)).toLoadRect (View.loadsAt_vmem h_S1x1x512))
  let ac ← Prog.lift (.load M.acc (Rect.unit (s := S8x144x1024) ![r.val, 0, 512] S1x144x512.size (inbAB r)).toLoadRect (View.loadsAt_vmem h_S1x144x512))
  let _ ← Prog.lift (.load M.acc (Rect.unit (s := S8x144x1024) ![r.val, 0, 512] S1x144x512.size (inbAB r)).toLoadRect (View.loadsAt_vmem h_S1x144x512))
  Prog.lift (.store M.acc (Rect.unit (s := S8x144x1024) ![r.val, 0, 512] S1x144x512.size (inbAB r)) (accBV L va mo ac) Finset.univ (View.stores_vmem_bits_univ h_S1x144x512 rfl) (.inl rfl))
  let _ ← Prog.lift (.load M.m (Rect.unit (s := S8x1x1024) ![r.val, 0, 512] S1x1x512.size (inbMB r)).toLoadRect (View.loadsAt_vmem h_S1x1x512))
  Prog.lift (.store M.m (Rect.unit (s := S8x1x1024) ![r.val, 0, 512] S1x1x512.size (inbMB r)) (mBV L mo) Finset.univ (View.stores_vmem_bits_univ h_S1x1x512 rfl) (.inl rfl))

/-- The bias block `(h, d)` added at block `(k, q)` of the logits. -/
def bandP (h : Fin 4) (d : Fin 2) (k q : Fin 8) : KProg F PUnit := do
  let x ← Prog.lift (.load M.s (Rect.unit (s := S1024x1024) ![128 * k.val, 128 * q.val] S128x128.size (inbS k q)).toLoadRect (View.loadsAt_vmem h_S128x128))
  let b ← Prog.lift (.load M.bt (Rect.unit (s := S4x2x128x128) ![h.val, d.val, 0, 0] S1x1x128x128.size (inbB h d)).toLoadRect (View.loadsAt_vmem h_S1x1x128x128))
  let _ ← Prog.lift (.load M.s (Rect.unit (s := S1024x1024) ![128 * k.val, 128 * q.val] S128x128.size (inbS k q)).toLoadRect (View.loadsAt_vmem h_S128x128))
  Prog.lift (.store M.s (Rect.unit (s := S1024x1024) ![128 * k.val, 128 * q.val] S128x128.size (inbS k q)) (bandV x b) Finset.univ (View.stores_vmem_bits_univ h_S128x128 rfl) (.inl rfl))

def logP (r : Fin 8) : KProg F (FVec F S1024x1024 .f32) := do
  let k ← Prog.lift (.load M.k (Rect.unit (s := S1x1024x512) ![0, 0, 64 * r.val] S1x1024x64.size (inbK r)).toLoadRect (View.loadsAt_vmem h_S1x1024x64))
  let q ← Prog.lift (.load M.q (Rect.unit (s := S1x512x1024) ![0, 64 * r.val, 0] S1x64x1024.size (inbQ r)).toLoadRect (View.loadsAt_vmem h_S1x64x1024))
  pure (logV k q)

/-- A map of a block two or more key blocks before the queries'. -/
def farMapP (va : FVec F S144x1024 .bf16) (r : Fin 8) : KProg F PUnit := do
  let L ← logP M r
  stepP M r L va

def farHeadP (h : Fin 4) : KProg F PUnit := do
  let va ← vaugP M h
  farMapP M va (slot h 0)
  farMapP M va (slot h 1)

def farP : KProg F PUnit := do
  farHeadP M 0
  farHeadP M 1
  farHeadP M 2
  farHeadP M 3

/-- A map of the key block just before the queries'. -/
def nearMapP (h : Fin 4) (va : FVec F S144x1024 .bf16) (r : Fin 8) : KProg F PUnit := do
  let L ← logP M r
  let _ ← Prog.lift (.load M.s (Rect.unit (s := S1024x1024) ![0, 0] S1024x1024.size inb_S1024x1024_S1024x1024_0_0).toLoadRect (View.loadsAt_vmem h_S1024x1024))
  Prog.lift (.store M.s (Rect.unit (s := S1024x1024) ![0, 0] S1024x1024.size inb_S1024x1024_S1024x1024_0_0) (shapeCast S1024x1024 L shapeCasts_S1024x1024_S1024x1024) Finset.univ (View.stores_vmem_bits_univ h_S1024x1024 rfl) (.inl rfl))
  bandP M h 1 7 0
  let L' : Vec F S1024x1024 .f32 ← Prog.lift (.load M.s (Rect.unit (s := S1024x1024) ![0, 0] S1024x1024.size inb_S1024x1024_S1024x1024_0_0).toLoadRect (View.loadsAt_vmem h_S1024x1024))
  stepP M r L' va

def nearHeadP (h : Fin 4) : KProg F PUnit := do
  let va ← vaugP M h
  nearMapP M h va (slot h 0)
  nearMapP M h va (slot h 1)

def nearP : KProg F PUnit := do
  nearHeadP M 0
  nearHeadP M 1
  nearHeadP M 2
  nearHeadP M 3

/-- The keys' first half of a map of the diagonal block, at every query. -/
def diagAP (h : Fin 4) (va : FVec F S144x1024 .bf16) (r : Fin 8) : KProg F PUnit := do
  let k ← Prog.lift (.load M.k (Rect.unit (s := S1x1024x512) ![0, 0, 64 * r.val] S1x512x64.size (inbKA r)).toLoadRect (View.loadsAt_vmem h_S1x512x64))
  let q ← Prog.lift (.load M.q (Rect.unit (s := S1x512x1024) ![0, 64 * r.val, 0] S1x64x1024.size (inbQ r)).toLoadRect (View.loadsAt_vmem h_S1x64x1024))
  let c ← Prog.lift (.load M.cm (Rect.unit (s := S1024x1024) ![0, 0] S512x1024.size inb_S1024x1024_S512x1024_0_0).toLoadRect (View.loadsAt_vmem h_S512x1024))
  let _ ← Prog.lift (.load M.s (Rect.unit (s := S1024x1024) ![0, 0] S512x1024.size inb_S1024x1024_S512x1024_0_0).toLoadRect (View.loadsAt_vmem h_S512x1024))
  Prog.lift (.store M.s (Rect.unit (s := S1024x1024) ![0, 0] S512x1024.size inb_S1024x1024_S512x1024_0_0) (logAV k q c) Finset.univ (View.stores_vmem_bits_univ h_S512x1024 rfl) (.inl rfl))
  bandP M h 0 0 0
  bandP M h 1 0 1
  bandP M h 0 1 1
  bandP M h 1 1 2
  bandP M h 0 2 2
  bandP M h 1 2 3
  bandP M h 0 3 3
  bandP M h 1 3 4
  let L : Vec F S512x1024 .f32 ← Prog.lift (.load M.s (Rect.unit (s := S1024x1024) ![0, 0] S512x1024.size inb_S1024x1024_S512x1024_0_0).toLoadRect (View.loadsAt_vmem h_S512x1024))
  stepAP M r L va

/-- The keys' second half of a map of the diagonal block, at the queries' second half. -/
def diagBP (h : Fin 4) (va : FVec F S144x1024 .bf16) (r : Fin 8) : KProg F PUnit := do
  let k ← Prog.lift (.load M.k (Rect.unit (s := S1x1024x512) ![0, 512, 64 * r.val] S1x512x64.size (inbKB r)).toLoadRect (View.loadsAt_vmem h_S1x512x64))
  let q ← Prog.lift (.load M.q (Rect.unit (s := S1x512x1024) ![0, 64 * r.val, 512] S1x64x512.size (inbQB r)).toLoadRect (View.loadsAt_vmem h_S1x64x512))
  let c ← Prog.lift (.load M.cm (Rect.unit (s := S1024x1024) ![512, 512] S512x512.size inb_S1024x1024_S512x512_512_512).toLoadRect (View.loadsAt_vmem h_S512x512))
  let _ ← Prog.lift (.load M.s (Rect.unit (s := S1024x1024) ![512, 512] S512x512.size inb_S1024x1024_S512x512_512_512).toLoadRect (View.loadsAt_vmem h_S512x512))
  Prog.lift (.store M.s (Rect.unit (s := S1024x1024) ![512, 512] S512x512.size inb_S1024x1024_S512x512_512_512) (logBV k q c) Finset.univ (View.stores_vmem_bits_univ h_S512x512 rfl) (.inl rfl))
  bandP M h 0 4 4
  bandP M h 1 4 5
  bandP M h 0 5 5
  bandP M h 1 5 6
  bandP M h 0 6 6
  bandP M h 1 6 7
  bandP M h 0 7 7
  let L : Vec F S512x512 .f32 ← Prog.lift (.load M.s (Rect.unit (s := S1024x1024) ![512, 512] S512x512.size inb_S1024x1024_S512x512_512_512).toLoadRect (View.loadsAt_vmem h_S512x512))
  stepBP M r L va

def diagHeadP (h : Fin 4) : KProg F PUnit := do
  let va ← vaugP M h
  diagAP M h va (slot h 0)
  diagBP M h va (slot h 0)
  diagAP M h va (slot h 1)
  diagBP M h va (slot h 1)

def diagP : KProg F PUnit := do
  diagHeadP M 0
  diagHeadP M 1
  diagHeadP M 2
  diagHeadP M 3

/-- The running maxima and the accumulators at their start. -/
def resetP : KProg F PUnit := do
  let _ ← Prog.lift (.load M.m (Rect.unit (s := S8x1x1024) ![0, 0, 0] S8x1x1024.size inb_S8x1x1024_S8x1x1024_0_0_0).toLoadRect (View.loadsAt_vmem h_S8x1x1024))
  Prog.lift (.store M.m (Rect.unit (s := S8x1x1024) ![0, 0, 0] S8x1x1024.size inb_S8x1x1024_S8x1x1024_0_0_0) (shapeCast S8x1x1024 (broadcast S8x1x1024 (Scalar.ofBits .f32 0xFF800000#32 : F .f32)) shapeCasts_S8x1x1024_S8x1x1024) Finset.univ (View.stores_vmem_bits_univ h_S8x1x1024 rfl) (.inl rfl))
  let _ ← Prog.lift (.load M.acc (Rect.unit (s := S8x144x1024) ![0, 0, 0] S8x144x1024.size inb_S8x144x1024_S8x144x1024_0_0_0).toLoadRect (View.loadsAt_vmem h_S8x144x1024))
  Prog.lift (.store M.acc (Rect.unit (s := S8x144x1024) ![0, 0, 0] S8x144x1024.size inb_S8x144x1024_S8x144x1024_0_0_0) (shapeCast S8x144x1024 (broadcast S8x144x1024 (Scalar.ofBits .f32 0x00000000#32 : F .f32)) shapeCasts_S8x144x1024_S8x144x1024) Finset.univ (View.stores_vmem_bits_univ h_S8x144x1024 rfl) (.inl rfl))

/-! ## The closing normalisation -/

def lamV (l : Vec F S4x64 .f32) : FVec F S1x1 .f32 :=
  addf (subf
      (exp (shapeCast S1x1 (multiReduction .add [1] S1 (mulf (extractStridedSlice S1x64 ![0, 0] l slices_S4x64_o0_0_S1x64) (extractStridedSlice S1x64 ![1, 0] l slices_S4x64_o1_0_S1x64)) 0x00000000#32 reduces_S1x64_S1 (.inl rfl) rfl : FVec F S1 .f32) shapeCasts_S1_S1x1))
      (exp (shapeCast S1x1 (multiReduction .add [1] S1 (mulf (extractStridedSlice S1x64 ![2, 0] l slices_S4x64_o2_0_S1x64) (extractStridedSlice S1x64 ![3, 0] l slices_S4x64_o3_0_S1x64)) 0x00000000#32 reduces_S1x64_S1 (.inl rfl) rfl : FVec F S1 .f32) shapeCasts_S1_S1x1)))
    (broadcast S1x1 (Scalar.ofBits .f32 0x3EB60549#32))

/-- One map's attention: the accumulator's 128 value rows over its row of ones. -/
def quotV (a : Vec F S1x144x1024 .f32) : FVec F S128x1024 .f32 :=
  divf (extractStridedSlice S128x1024 ![0, 0] (shapeCast S144x1024 a shapeCasts_S1x144x1024_S144x1024) slices_S144x1024_o0_0_S128x1024)
    (broadcastTo S128x1024 (extractStridedSlice S1x1024 ![128, 0] (shapeCast S144x1024 a shapeCasts_S1x144x1024_S144x1024) slices_S144x1024_o128_0_S1x1024) broadcasts_S1x1024_S128x1024)

/-- The difference of a head's two maps. -/
def diffV (lam : FVec F S1x1 .f32) (a b : Vec F S1x144x1024 .f32) : FVec F S128x1024 .f32 :=
  subf (quotV a) (mulf (broadcastTo S128x1024 lam broadcasts_S1x1_S128x1024) (quotV b))

/-- The normalised head. -/
def headV (o : FVec F S128x1024 .f32) (g : Vec F S128x1 .f32) : FVec F S1024x128 .f32 :=
  transpose S1024x128 [1, 0]
    (mulf (mulf
        (mulf o (broadcastTo S128x1024
          (rsqrt (addf (divf (shapeCast S1x1024 (multiReduction .add [0] S1024 (mulf o o) 0x00000000#32 reduces_S128x1024_S1024 (.inl rfl) rfl : FVec F S1024 .f32) shapeCasts_S1024_S1x1024)
              (broadcast S1x1024 (Scalar.ofBits .f32 0x43000000#32)))
            (broadcast S1x1024 (Scalar.ofBits .f32 0x358637BD#32)))) broadcasts_S1x1024_S128x1024))
        (broadcastTo S128x1024 (shapeCast S128x1 g shapeCasts_S128x1_S128x1) broadcasts_S128x1_S128x1024))
      (broadcast S128x1024 (Scalar.ofBits .f32 0x3F24FD5C#32)))
    transposes_S128x1024_p1_0_S1024x128

def outV (a b c d : FVec F S1024x128 .f32) : FVec F S1x1024x512 .bf16 :=
  shapeCast S1x1024x512
    (truncf .bf16 (concatenate S1024x512 1 [⟨S1024x128, a⟩, ⟨S1024x128, b⟩, ⟨S1024x128, c⟩, ⟨S1024x128, d⟩] concatenates_S1024x128_S1024x128_S1024x128_S1024x128_S1024x512_d1 : FVec F S1024x512 .f32) bitsLt_bf16_f32 : FVec F S1024x512 .bf16)
    shapeCasts_S1024x512_S1x1024x512

def headP (lam : FVec F S1x1 .f32) (h : Fin 4) : KProg F (FVec F S1024x128 .f32) := do
  let a ← Prog.lift (.load M.acc (Rect.unit (s := S8x144x1024) ![(slot h 0).val, 0, 0] S1x144x1024.size (inbA (slot h 0))).toLoadRect (View.loadsAt_vmem h_S1x144x1024))
  let b ← Prog.lift (.load M.acc (Rect.unit (s := S8x144x1024) ![(slot h 1).val, 0, 0] S1x144x1024.size (inbA (slot h 1))).toLoadRect (View.loadsAt_vmem h_S1x144x1024))
  let g ← Prog.lift (.load M.ng (Rect.unit (s := S128x1) ![0, 0] S128x1.size inb_S128x1_S128x1_0_0).toLoadRect (View.loadsAt_vmem h_S128x1))
  pure (headV (diffV lam a b) g)

def closeP (hw : M.out.IsWhole) : KProg F PUnit := do
  let l ← Prog.lift (.load M.lam (Rect.unit (s := S4x64) ![0, 0] S4x64.size inb_S4x64_S4x64_0_0).toLoadRect (View.loadsAt_vmem h_S4x64))
  let a ← headP M (lamV l) 0
  let b ← headP M (lamV l) 1
  let c ← headP M (lamV l) 2
  let d ← headP M (lamV l) 3
  let _ ← Prog.lift (.load M.out (Rect.unit (s := S1x1024x512) ![0, 0, 0] S1x1024x512.size inb_S1x1024x512_S1x1024x512_0_0_0).toLoadRect (View.loadsAt_vmem h_S1x1024x512))
  Prog.lift (.store M.out (Rect.unit (s := S1x1024x512) ![0, 0, 0] S1x1024x512.size inb_S1x1024x512_S1x1024x512_0_0_0) (outV a b c d) Finset.univ (View.stores_vmem h_S1x1024x512 (hw.storeExact_slice rfl _ packedbf16_S1x1024x512_S1x1024x512_0_0_0) (fun _ => rfl)) (.inl rfl))

/-! ## The bias tables -/

/-- Query minus key inside trip `t`'s eight rows, `d` blocks of 128 apart. -/
def distV (d : Fin 2) (t : Fin k0_t1_loop.trips) : IVec S8x128 32 :=
  addi (subi (iota .tc S8x128 32 [1] iota_S8x128_d1_w32)
      (addi (iota .tc S8x128 32 [0] iota_S8x128_d0_w32) (broadcast S8x128 (trow t))))
    (broadcast S8x128 (BitVec.ofNat 32 (128 * d.val)))

/-- Where bucket 1, 2, … 30 starts. -/
def starts : List (Fin 32 × BitVec 32) :=
  [(1, 1#32), (2, 2#32), (3, 3#32), (4, 4#32), (5, 5#32), (6, 6#32), (7, 7#32), (8, 8#32), (9, 9#32), (10, 10#32),
   (11, 11#32), (12, 12#32), (13, 13#32), (14, 14#32), (15, 15#32), (16, 16#32), (17, 19#32), (18, 21#32), (19, 24#32),
   (20, 27#32), (21, 31#32), (22, 35#32), (23, 40#32), (24, 46#32), (25, 52#32), (26, 59#32), (27, 67#32), (28, 77#32),
   (29, 87#32), (30, 99#32)]

/-- A bucket's bias against the last bucket's, in units of the base-two exponential. -/
def relV (x far : F .f32) : F .f32 := Scalar.mulf (Scalar.subf x far) (Named.named κ "log2e" 0x3FB8AA3B#32)

def pickV (dist : IVec S8x128 32) (s : BitVec 32) (x : F .f32) (val : FVec F S8x128 .f32) : FVec F S8x128 .f32 :=
  select (cmpi .sge dist (broadcast S8x128 s)) (broadcast S8x128 x) val

def chainP (h : Fin 4) (dist : IVec S8x128 32) (far : F .f32) : List (Fin 32 × BitVec 32) → FVec F S8x128 .f32 → KProg F (FVec F S8x128 .f32)
  | [], val => pure val
  | (b, s) :: l, val => do
    let x : Elt F .f32 ← smemLoad M.rb (Rect.unit (s := S32x12) ![b.val, 8 + h.val] S1x1.size (inbR b h)) numel1_S1x1 rfl
    chainP h dist far l (pickV dist s (relV x far) val)

def lastV (dist : IVec S8x128 32) (val : FVec F S8x128 .f32) : FVec F S1x1x8x128 .f32 :=
  shapeCast S1x1x8x128 (pickV dist 113#32 (Scalar.ofBits .f32 0x00000000#32) val) shapeCasts_S8x128_S1x1x8x128

def blockP (h : Fin 4) (d : Fin 2) (t : Fin k0_t1_loop.trips) : KProg F PUnit := do
  let far : Elt F .f32 ← smemLoad M.rb (Rect.unit (s := S32x12) ![31, 8 + h.val] S1x1.size (inbR 31 h)) numel1_S1x1 rfl
  let x : Elt F .f32 ← smemLoad M.rb (Rect.unit (s := S32x12) ![0, 8 + h.val] S1x1.size (inbR 0 h)) numel1_S1x1 rfl
  let val ← chainP M h (distV d t) far starts (broadcast S8x128 (relV x far))
  let _ ← Prog.lift (.load M.bt (Rect.unit (s := S4x2x128x128) (boff h d t) S1x1x8x128.size (inbT h d t)).toLoadRect (View.loadsAt_vmem h_S1x1x8x128))
  Prog.lift (.store M.bt (Rect.unit (s := S4x2x128x128) (boff h d t) S1x1x8x128.size (inbT h d t)) (lastV (distV d t) val) Finset.univ (View.stores_vmem_bits_univ h_S1x1x8x128 rfl) (.inl rfl))

def tripP (t : Fin k0_t1_loop.trips) : KProg F PUnit := do
  blockP M 0 0 t
  blockP M 1 0 t
  blockP M 2 0 t
  blockP M 3 0 t
  blockP M 0 1 t
  blockP M 1 1 t
  blockP M 2 1 t
  blockP M 3 1 t

/-- Zero where the key is not after the query, `-∞` elsewhere. -/
def causalV : FVec F S1024x1024 .f32 :=
  shapeCast S1024x1024 (select (cmpi .sle (iota .tc S1024x1024 32 [0] iota_S1024x1024_d0_w32) (iota .tc S1024x1024 32 [1] iota_S1024x1024_d1_w32))
    (broadcast S1024x1024 (Scalar.ofBits .f32 0x00000000#32)) (broadcast S1024x1024 (Scalar.ofBits .f32 0xFF800000#32)))
    shapeCasts_S1024x1024_S1024x1024

/-- The causal mask's store. -/
def maskP : KProg F PUnit := do
  let _ ← Prog.lift (.load M.cm (Rect.unit (s := S1024x1024) ![0, 0] S1024x1024.size inb_S1024x1024_S1024x1024_0_0).toLoadRect (View.loadsAt_vmem h_S1024x1024))
  Prog.lift (.store M.cm (Rect.unit (s := S1024x1024) ![0, 0] S1024x1024.size inb_S1024x1024_S1024x1024_0_0) causalV Finset.univ (View.stores_vmem_bits_univ h_S1024x1024 rfl) (.inl rfl))

/-! ## The body -/

def isTrue (b : BitVec 1) : BitVec 1 := Scalar.cmpi .ne (Scalar.extui b : BitVec 32) 0#32

def restP (hw : M.out.IsWhole) (v1 v3 : BitVec 32) : KProg F PUnit := do
  if isTrue (Scalar.cmpi .eq v3 0#32) = 1#1 then resetP M else pure ⟨⟩
  if isTrue (Scalar.cmpi .eq v3 (Scalar.subi v1 0#32)) = 1#1 then diagP M else pure ⟨⟩
  if isTrue (Scalar.cmpi .eq v3 (Scalar.subi v1 1#32)) = 1#1 then nearP M else pure ⟨⟩
  if isTrue (Scalar.cmpi .slt v3 (Scalar.subi v1 1#32)) = 1#1 then farP M else pure ⟨⟩
  if _h6 : k0_cond6 v1 v3 = 1#1 then closeP M hw else pure ⟨⟩

def bodyP (hw : M.out.IsWhole) (i : grid0.Coords) : KProg F PUnit := do
  let v1 : Elt F .i32 ← smemLoad M.qi (Rect.unit (s := S36) (k0_off1 i) S1.size (k0_off1_inb i)) numel1_S1 rfl
  let v3 : Elt F .i32 ← smemLoad M.ki (Rect.unit (s := S36) (k0_off1 i) S1.size (k0_off1_inb i)) numel1_S1 rfl
  if h1 : k0_cond1 i = 1#1 then do
    Scf.Loop.for k0_t1_loop (k0_t1_ok i h1) ⟨⟩ fun t _ => tripP M t
    maskP M
  else pure ⟨⟩
  restP M hw v1 v3

end Cert.KernelIdeal.DA
-- ==== Proof.Logic.lean ====
/- What the body's buffers hold, as one state, and the reading of a program as a function of that state:
   `Runs M c p σ a σ'` says that from buffers holding `σ` the program `p` ends with value `a` and buffers holding `σ'`. -/
module

public import proofs.«01_k».proof.Proof.Text
public import Idealize.ShloMosaic.Lib.Pipeline.FrameBody
public import Idealize.ShloMosaic.Lib.VecWindow
public import Idealize.ShloMosaic.Lib.Scf

@[expose] public section

set_option maxRecDepth 16384

noncomputable section

namespace Cert.KernelIdeal.DA

open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA

variable {F : FTy → Type} [FloatOps F] [Named F]

/-- The contents of the body's buffers. -/
structure St (F : FTy → Type) where
  qi : Vec F S36 .i32
  ki : Vec F S36 .i32
  rb : Vec F S32x12 .f32
  q : Vec F S1x512x1024 .bf16
  k : Vec F S1x1024x512 .bf16
  v : Vec F S1x512x1024 .bf16
  lam : Vec F S4x64 .f32
  ng : Vec F S128x1 .f32
  out : Vec F S1x1024x512 .bf16
  m : Vec F S8x1x1024 .f32
  acc : Vec F S8x144x1024 .f32
  bt : Vec F S4x2x128x128 .f32
  s : Vec F S1024x1024 .f32
  cm : Vec F S1024x1024 .f32

/-- The resources the run is stated over. -/
abbrev Res (F : FTy → Type) : Type _ := MT nD τ sig Unit (Elt F) ℕ (UR sig nD τ) ℕ

abbrev 𝒱₀ : Variants := Variants.none

variable (M : Bufs) (c : Dev nD)

/-- The buffers held at `σ`: the two tables at the half the body is lent, the rest whole. -/
def Own (σ : St F) : sProp (Res F) :=
  iprop(owns (c : Thread nD τ) M.qi fullShare.right σ.qi ∗ owns (c : Thread nD τ) M.ki fullShare.right σ.ki
    ∗ owns (c : Thread nD τ) M.rb fullShare σ.rb ∗ owns (c : Thread nD τ) M.q fullShare σ.q
    ∗ owns (c : Thread nD τ) M.k fullShare σ.k ∗ owns (c : Thread nD τ) M.v fullShare σ.v
    ∗ owns (c : Thread nD τ) M.lam fullShare σ.lam ∗ owns (c : Thread nD τ) M.ng fullShare σ.ng
    ∗ owns (c : Thread nD τ) M.out fullShare σ.out ∗ owns (c : Thread nD τ) M.m fullShare σ.m
    ∗ owns (c : Thread nD τ) M.acc fullShare σ.acc ∗ owns (c : Thread nD τ) M.bt fullShare σ.bt
    ∗ owns (c : Thread nD τ) M.s fullShare σ.s ∗ owns (c : Thread nD τ) M.cm fullShare σ.cm)

/-- One buffer of the state taken out and given back at other contents. -/
def Focus {sp : Space} {s : Shape} {e : EltTy} (m : Memref sig .tc sp s e) (q : PosShare TreeShare)
    (get : St F → s.Idx → Elt F e) (set : St F → (s.Idx → Elt F e) → St F) : Prop :=
  ∀ σ, Own M c σ ⊢ iprop(owns (c : Thread nD τ) m q (get σ) ∗ (∀ X, owns (c : Thread nD τ) m q X -∗ Own M c (set σ X)))

/-- The program `p` takes the buffers from `σ` to `σ'` and returns `a`. -/
def Runs {α : Type} (p : KProg F α) (σ : St F) (a : α) (σ' : St F) : Prop :=
  Own M c σ ⊢ wp frame (wpE (defs₀ (F := F)) 𝒱₀ (c : Thread nD τ) none) Set.univ p (fun x => iprop(⌜x = a⌝ ∗ Own M c σ'))

variable {M c}

theorem Runs.ret {α : Type} (a : α) (σ : St F) : Runs M c (pure a) σ a σ := by
  unfold Runs
  rw [wp_pure]
  iintro H
  imodintro
  isplitr
  · ipureintro; rfl
  · iexact H

theorem Runs.bind {α β : Type} {p : KProg F α} {k : α → KProg F β} {σ₁ σ₂ σ₃ : St F} {a : α} {b : β}
    (h₁ : Runs M c p σ₁ a σ₂) (h₂ : Runs M c (k a) σ₂ b σ₃) : Runs M c (p >>= k) σ₁ b σ₃ := by
  unfold Runs at *
  rw [wp_bind]
  refine h₁.trans (wp_mono _ _ _ fun x => ?_)
  iintro ⟨%hx, H⟩
  subst hx
  iapply h₂
  iexact H

theorem Runs.ofEq {α : Type} {p : KProg F α} {σ σ' σ'' : St F} {a b : α} (h : Runs M c p σ a σ') (ha : a = b) (hs : σ' = σ'') :
    Runs M c p σ b σ'' := ha ▸ hs ▸ h

/-- A load through a unit rectangle reads a window of the buffer. -/
theorem Runs.load {cs : CoreSpace} {s : Shape} {e : EltTy} {m : Memref sig .tc cs s e} {q : PosShare TreeShare}
    {get : St F → s.Idx → Elt F e} {set : St F → (s.Idx → Elt F e) → St F} (hF : Focus M c m q get set) (σ : St F)
    (hσ : set σ (get σ) = σ) (off size : Fin s.rank → ℕ) (inb : ∀ a, off a + size a ≤ s.size a)
    (hl : m.view.LoadsAt (Rect.unit off size inb).toLoadRect) :
    Runs M c (Prog.lift (.load m (Rect.unit off size inb).toLoadRect hl)) σ (VecWindow.window (get σ) off size inb) σ := by
  unfold Runs
  have h : Own M c σ ⊢ iprop(owns (c : Thread nD τ) m q (get σ) ∗ (owns (c : Thread nD τ) m q (get σ) -∗ Own M c σ)) := by
    refine (hF σ).trans ?_
    iintro ⟨H, K⟩
    isplitl [H]
    · iexact H
    · have e : (Own M c σ : sProp (Res F)) = Own M c (set σ (get σ)) := by rw [hσ]
      rw [e]
      iapply K
  refine h.trans ?_
  unfold owns
  iintro ⟨⟨%f, %hf, H⟩, K⟩
  iapply (wp_load 𝒱₀ (c : Thread nD τ) none Set.univ (View.setOn_subset_set _ _)) $$ H
  iintro H
  rw [wp_ret]
  imodintro
  isplitr
  · ipureintro
    rw [View.readAt_unit m.view f inb rfl inb, hf]
  · iapply K
    iexists f
    isplitr
    · ipureintro; exact hf
    · iexact H

/-- A store through a unit rectangle puts the payload over a window of the buffer. -/
theorem Runs.store {cs : CoreSpace} {s : Shape} {e : EltTy} {m : Memref sig .tc cs s e}
    {get : St F → s.Idx → Elt F e} {set : St F → (s.Idx → Elt F e) → St F} (hF : Focus M c m fullShare get set) (σ : St F)
    (off size : Fin s.rank → ℕ) (inb : ∀ a, off a + size a ≤ s.size a) (w : (Rect.unit off size inb).shape.Idx → Elt F e)
    (hx : (m.access (Rect.unit off size inb)).Stores Finset.univ) (hm : Finset.univ = Finset.univ ∨ ∀ a, (Rect.unit off size inb).stride a = 1) :
    Runs M c (Prog.lift (.store m (Rect.unit off size inb) w Finset.univ hx hm)) σ ⟨⟩ (set σ (VecWindow.put (get σ) off size w)) := by
  unfold Runs
  refine (hF σ).trans ?_
  unfold owns
  iintro ⟨⟨%f, %hf, H⟩, K⟩
  iapply (wp_store 𝒱₀ (c : Thread nD τ) none Set.univ (m := m) (r := Rect.unit off size inb) (Mk := Finset.univ) (View.set_slice_subset _ _)) $$ H
  iintro H
  rw [wp_ret]
  imodintro
  isplitr
  · ipureintro; rfl
  · iapply K
    iexists ((m.access (Rect.unit off size inb)).write (Elt F) f w Finset.univ)
    isplitr
    · ipureintro
      have := View.read_writes_cons_put m.view f inb w [] rfl
      rw [View.writes_nil, hf] at this
      exact this
    · iexact H

/-- A word of a table. -/
theorem Runs.smem {s : Shape} {e : EltTy} {m : Memref sig .tc .smem s e} {q : PosShare TreeShare}
    {get : St F → s.Idx → Elt F e} {set : St F → (s.Idx → Elt F e) → St F} (hF : Focus M c m q get set) (σ : St F)
    (hσ : set σ (get σ) = σ) (off size : Fin s.rank → ℕ) (inb : ∀ a, off a + size a ≤ s.size a)
    (h1 : (Rect.unit off size inb).shape.numel = 1) (hp : e.packing = 1) :
    Runs M c (smemLoad m (Rect.unit off size inb) h1 hp) σ
      (VecWindow.window (get σ) off size inb (Shape.Idx.first (s := (Rect.unit off size inb).shape) (h1 ▸ Nat.one_pos))) σ := by
  unfold smemLoad smemLoadElt
  exact Runs.bind (Runs.load hF σ hσ off size inb _) (Runs.ret _ _)

theorem Runs.ite {α : Type} {P : Prop} [Decidable P] {p q : KProg F α} {σ σ₁ σ₂ : St F} {a b : α}
    (h₁ : P → Runs M c p σ a σ₁) (h₂ : ¬ P → Runs M c q σ b σ₂) :
    Runs M c (if P then p else q) σ (if P then a else b) (if P then σ₁ else σ₂) := by
  by_cases h : P
  · simp only [if_pos h]; exact h₁ h
  · simp only [if_neg h]; exact h₂ h

end Cert.KernelIdeal.DA
-- ==== Proof.Runs.lean ====
/- Each of the body's programs as a function of the buffers' contents. -/
module

public import proofs.«01_k».proof.Proof.Logic

@[expose] public section

set_option maxRecDepth 16384

noncomputable section

namespace Cert.KernelIdeal.DA

open Idealize.ShloMosaic Idealize.ShloMosaic.TcCoe
open Idealize.SL
open Idealize.SL.BI (sProp)
open scoped Idealize.SL.BI
open Idealize.SL.BI.BIBase Idealize.SL.BI.Laws Idealize.SL.Sem Idealize.SL.ProofMode
open Idealize.SL.RA
open VecWindow Facts₀ Facts

variable {F : FTy → Type} [FloatOps F] [Named F]

/-! ## One buffer taken out of the state -/

section Take

variable {X : Type} {A R P : sProp (Res F)} {B P' R' : X → sProp (Res F)}

theorem take_here : iprop(A ∗ R) ⊢ iprop(A ∗ (∀ x, B x -∗ (B x ∗ R))) := by
  iintro ⟨HA, HR⟩
  isplitl [HA]
  · iexact HA
  · iintro %x HB
    isplitl [HB]
    · iexact HB
    · iexact HR

theorem take_last : A ⊢ iprop(A ∗ (∀ x, B x -∗ B x)) := by
  iintro HA
  isplitl [HA]
  · iexact HA
  · iintro %x HB
    iexact HB

theorem take_skip (h : P ⊢ iprop(A ∗ (∀ x, B x -∗ P' x))) : iprop(R ∗ P) ⊢ iprop(A ∗ (∀ x, B x -∗ (R ∗ P' x))) := by
  refine (sep_mono_right h).trans ?_
  iintro ⟨HR, HA, HK⟩
  isplitl [HA]
  · iexact HA
  · iintro %x HB
    isplitl [HR]
    · iexact HR
    · iapply HK; iexact HB

end Take

variable (M : Bufs) (c : Dev nD)

theorem focusQi : Focus (F := F) M c M.qi fullShare.right (fun σ => σ.qi) (fun σ X => {σ with qi := X}) := fun _ => take_here
theorem focusKi : Focus (F := F) M c M.ki fullShare.right (fun σ => σ.ki) (fun σ X => {σ with ki := X}) := fun _ => take_skip take_here
theorem focusRb : Focus (F := F) M c M.rb fullShare (fun σ => σ.rb) (fun σ X => {σ with rb := X}) := fun _ => take_skip <| take_skip take_here
theorem focusQ : Focus (F := F) M c M.q fullShare (fun σ => σ.q) (fun σ X => {σ with q := X}) := fun _ => take_skip <| take_skip <| take_skip take_here
theorem focusK : Focus (F := F) M c M.k fullShare (fun σ => σ.k) (fun σ X => {σ with k := X}) := fun _ => take_skip <| take_skip <| take_skip <| take_skip take_here
theorem focusV : Focus (F := F) M c M.v fullShare (fun σ => σ.v) (fun σ X => {σ with v := X}) := fun _ => take_skip <| take_skip <| take_skip <| take_skip <| take_skip take_here
theorem focusLam : Focus (F := F) M c M.lam fullShare (fun σ => σ.lam) (fun σ X => {σ with lam := X}) := fun _ => take_skip <| take_skip <| take_skip <| take_skip <| take_skip <| take_skip take_here
theorem focusNg : Focus (F := F) M c M.ng fullShare (fun σ => σ.ng) (fun σ X => {σ with ng := X}) := fun _ => take_skip <| take_skip <| take_skip <| take_skip <| take_skip <| take_skip <| take_skip take_here
theorem focusOut : Focus (F := F) M c M.out fullShare (fun σ => σ.out) (fun σ X => {σ with out := X}) := fun _ => take_skip <| take_skip <| take_skip <| take_skip <| take_skip <| take_skip <| take_skip <| take_skip take_here
theorem focusM : Focus (F := F) M c M.m fullShare (fun σ => σ.m) (fun σ X => {σ with m := X}) := fun _ => take_skip <| take_skip <| take_skip <| take_skip <| take_skip <| take_skip <| take_skip <| take_skip <| take_skip take_here
theorem focusAcc : Focus (F := F) M c M.acc fullShare (fun σ => σ.acc) (fun σ X => {σ with acc := X}) := fun _ => take_skip <| take_skip <| take_skip <| take_skip <| take_skip <| take_skip <| take_skip <| take_skip <| take_skip <| take_skip take_here
theorem focusBt : Focus (F := F) M c M.bt fullShare (fun σ => σ.bt) (fun σ X => {σ with bt := X}) := fun _ => take_skip <| take_skip <| take_skip <| take_skip <| take_skip <| take_skip <| take_skip <| take_skip <| take_skip <| take_skip <| take_skip take_here
theorem focusS : Focus (F := F) M c M.s fullShare (fun σ => σ.s) (fun σ X => {σ with s := X}) := fun _ => take_skip <| take_skip <| take_skip <| take_skip <| take_skip <| take_skip <| take_skip <| take_skip <| take_skip <| take_skip <| take_skip <| take_skip take_here
theorem focusCm : Focus (F := F) M c M.cm fullShare (fun σ => σ.cm) (fun σ X => {σ with cm := X}) := fun _ => take_skip <| take_skip <| take_skip <| take_skip <| take_skip <| take_skip <| take_skip <| take_skip <| take_skip <| take_skip <| take_skip <| take_skip <| take_skip take_last

/-! ## The states -/

def mAt (σ : St F) (r : Fin 8) : Vec F S1x1x1024 .f32 := window σ.m ![r.val, 0, 0] S1x1x1024.size (inbM r)
def accAt (σ : St F) (r : Fin 8) : Vec F S1x144x1024 .f32 := window σ.acc ![r.val, 0, 0] S1x144x1024.size (inbA r)
def mAtB (σ : St F) (r : Fin 8) : Vec F S1x1x512 .f32 := window σ.m ![r.val, 0, 512] S1x1x512.size (inbMB r)
def accAtB (σ : St F) (r : Fin 8) : Vec F S1x144x512 .f32 := window σ.acc ![r.val, 0, 512] S1x144x512.size (inbAB r)
def vaugF (h : Fin 4) (σ : St F) : FVec F S144x1024 .bf16 := vaugV (window σ.v ![0, 128 * h.val, 0] S1x128x1024.size (inbV h))
def logF (r : Fin 8) (σ : St F) : FVec F S1024x1024 .f32 :=
  logV (window σ.k ![0, 0, 64 * r.val] S1x1024x64.size (inbK r)) (window σ.q ![0, 64 * r.val, 0] S1x64x1024.size (inbQ r))

def stepF (r : Fin 8) (L : FVec F S1024x1024 .f32) (va : FVec F S144x1024 .bf16) (σ : St F) : St F :=
  {σ with acc := put σ.acc ![r.val, 0, 0] S1x144x1024.size (accV L va (mAt σ r) (accAt σ r)),
          m := put σ.m ![r.val, 0, 0] S1x1x1024.size (mV L (mAt σ r))}
def stepAF (r : Fin 8) (L : FVec F S512x1024 .f32) (va : FVec F S144x1024 .bf16) (σ : St F) : St F :=
  {σ with acc := put σ.acc ![r.val, 0, 0] S1x144x1024.size (accAV L va (mAt σ r) (accAt σ r)),
          m := put σ.m ![r.val, 0, 0] S1x1x1024.size (mAV L (mAt σ r))}
def stepBF (r : Fin 8) (L : FVec F S512x512 .f32) (va : FVec F S144x1024 .bf16) (σ : St F) : St F :=
  {σ with acc := put σ.acc ![r.val, 0, 512] S1x144x512.size (accBV L va (mAtB σ r) (accAtB σ r)),
          m := put σ.m ![r.val, 0, 512] S1x1x512.size (mBV L (mAtB σ r))}
def bandS (h : Fin 4) (d : Fin 2) (k q : Fin 8) (bt : Vec F S4x2x128x128 .f32) (s : Vec F S1024x1024 .f32) : Vec F S1024x1024 .f32 :=
  put s ![128 * k.val, 128 * q.val] S128x128.size
    (bandV (window s ![128 * k.val, 128 * q.val] S128x128.size (inbS k q)) (window bt ![h.val, d.val, 0, 0] S1x1x128x128.size (inbB h d)))
def bandF (h : Fin 4) (d : Fin 2) (k q : Fin 8) (σ : St F) : St F := {σ with s := bandS h d k q σ.bt σ.s}

def farMapF (va : FVec F S144x1024 .bf16) (r : Fin 8) (σ : St F) : St F := stepF r (logF r σ) va σ
def farHeadF (h : Fin 4) (σ : St F) : St F := farMapF (vaugF h σ) (slot h 1) (farMapF (vaugF h σ) (slot h 0) σ)
def farF (σ : St F) : St F := farHeadF 3 (farHeadF 2 (farHeadF 1 (farHeadF 0 σ)))

def putS (L : FVec F S1024x1024 .f32) (σ : St F) : St F :=
  {σ with s := put σ.s ![0, 0] S1024x1024.size (shapeCast S1024x1024 L shapeCasts_S1024x1024_S1024x1024)}
def sAll (σ : St F) : Vec F S1024x1024 .f32 := window σ.s ![0, 0] S1024x1024.size inb_S1024x1024_S1024x1024_0_0
def nearSF (h : Fin 4) (r : Fin 8) (σ : St F) : St F := bandF h 1 7 0 (putS (logF r σ) σ)
def nearMapF (h : Fin 4) (va : FVec F S144x1024 .bf16) (r : Fin 8) (σ : St F) : St F :=
  stepF r (sAll (nearSF h r σ)) va (nearSF h r σ)
def nearHeadF (h : Fin 4) (σ : St F) : St F := nearMapF h (vaugF h σ) (slot h 1) (nearMapF h (vaugF h σ) (slot h 0) σ)
def nearF (σ : St F) : St F := nearHeadF 3 (nearHeadF 2 (nearHeadF 1 (nearHeadF 0 σ)))

def logAF (r : Fin 8) (σ : St F) : FVec F S512x1024 .f32 :=
  logAV (window σ.k ![0, 0, 64 * r.val] S1x512x64.size (inbKA r)) (window σ.q ![0, 64 * r.val, 0] S1x64x1024.size (inbQ r))
    (window σ.cm ![0, 0] S512x1024.size inb_S1024x1024_S512x1024_0_0)
def logBF (r : Fin 8) (σ : St F) : FVec F S512x512 .f32 :=
  logBV (window σ.k ![0, 512, 64 * r.val] S1x512x64.size (inbKB r)) (window σ.q ![0, 64 * r.val, 512] S1x64x512.size (inbQB r))
    (window σ.cm ![512, 512] S512x512.size inb_S1024x1024_S512x512_512_512)
def sA (σ : St F) : Vec F S512x1024 .f32 := window σ.s ![0, 0] S512x1024.size inb_S1024x1024_S512x1024_0_0
def sB (σ : St F) : Vec F S512x512 .f32 := window σ.s ![512, 512] S512x512.size inb_S1024x1024_S512x512_512_512
def putSA (r : Fin 8) (σ : St F) : St F := {σ with s := put σ.s ![0, 0] S512x1024.size (logAF r σ)}
def putSB (r : Fin 8) (σ : St F) : St F := {σ with s := put σ.s ![512, 512] S512x512.size (logBF r σ)}
def bandsAF (h : Fin 4) (σ : St F) : St F :=
  bandF h 1 3 4 <| bandF h 0 3 3 <| bandF h 1 2 3 <| bandF h 0 2 2 <| bandF h 1 1 2 <| bandF h 0 1 1 <| bandF h 1 0 1 <| bandF h 0 0 0 σ
def bandsBF (h : Fin 4) (σ : St F) : St F :=
  bandF h 0 7 7 <| bandF h 1 6 7 <| bandF h 0 6 6 <| bandF h 1 5 6 <| bandF h 0 5 5 <| bandF h 1 4 5 <| bandF h 0 4 4 σ
def diagSA (h : Fin 4) (r : Fin 8) (σ : St F) : St F := bandsAF h (putSA r σ)
def diagSB (h : Fin 4) (r : Fin 8) (σ : St F) : St F := bandsBF h (putSB r σ)
def diagAF (h : Fin 4) (va : FVec F S144x1024 .bf16) (r : Fin 8) (σ : St F) : St F := stepAF r (sA (diagSA h r σ)) va (diagSA h r σ)
def diagBF (h : Fin 4) (va : FVec F S144x1024 .bf16) (r : Fin 8) (σ : St F) : St F := stepBF r (sB (diagSB h r σ)) va (diagSB h r σ)
def diagHeadF (h : Fin 4) (σ : St F) : St F :=
  diagBF h (vaugF h σ) (slot h 1) <| diagAF h (vaugF h σ) (slot h 1) <| diagBF h (vaugF h σ) (slot h 0) <| diagAF h (vaugF h σ) (slot h 0) σ
def diagF (σ : St F) : St F := diagHeadF 3 (diagHeadF 2 (diagHeadF 1 (diagHeadF 0 σ)))

def resetF (σ : St F) : St F :=
  {σ with m := put σ.m ![0, 0, 0] S8x1x1024.size (shapeCast S8x1x1024 (broadcast S8x1x1024 (Scalar.ofBits .f32 0xFF800000#32 : F .f32)) shapeCasts_S8x1x1024_S8x1x1024),
          acc := put σ.acc ![0, 0, 0] S8x144x1024.size (shapeCast S8x144x1024 (broadcast S8x144x1024 (Scalar.ofBits .f32 0x00000000#32 : F .f32)) shapeCasts_S8x144x1024_S8x144x1024)}

def lamF (σ : St F) : FVec F S1x1 .f32 := lamV (window σ.lam ![0, 0] S4x64.size inb_S4x64_S4x64_0_0)
def headF (lam : FVec F S1x1 .f32) (h : Fin 4) (σ : St F) : FVec F S1024x128 .f32 :=
  headV (diffV lam (accAt σ (slot h 0)) (accAt σ (slot h 1))) (window σ.ng ![0, 0] S128x1.size inb_S128x1_S128x1_0_0)
def closeF (σ : St F) : St F :=
  {σ with out := put σ.out ![0, 0, 0] S1x1024x512.size (outV (headF (lamF σ) 0 σ) (headF (lamF σ) 1 σ) (headF (lamF σ) 2 σ) (headF (lamF σ) 3 σ))}

def rbAt (rb : Vec F S32x12 .f32) (b : Fin 32) (h : Fin 4) : F .f32 :=
  window rb ![b.val, 8 + h.val] S1x1.size (inbR b h)
    (Shape.Idx.first (s := (Rect.unit (s := S32x12) ![b.val, 8 + h.val] S1x1.size (inbR b h)).shape) (Nat.lt_of_lt_of_eq Nat.one_pos numel1_S1x1.symm))
def chainF (rb : Vec F S32x12 .f32) (h : Fin 4) (dist : IVec S8x128 32) (far : F .f32) : List (Fin 32 × BitVec 32) → FVec F S8x128 .f32 → FVec F S8x128 .f32
  | [], val => val
  | (b, s) :: l, val => chainF rb h dist far l (pickV dist s (relV (rbAt rb b h) far) val)
def blockV (rb : Vec F S32x12 .f32) (h : Fin 4) (d : Fin 2) (t : Fin k0_t1_loop.trips) : FVec F S1x1x8x128 .f32 :=
  lastV (distV d t) (chainF rb h (distV d t) (rbAt rb 31 h) starts (broadcast S8x128 (relV (rbAt rb 0 h) (rbAt rb 31 h))))
def blockF (h : Fin 4) (d : Fin 2) (t : Fin k0_t1_loop.trips) (σ : St F) : St F :=
  {σ with bt := put σ.bt (boff h d t) S1x1x8x128.size (blockV σ.rb h d t)}
def tripF (t : Fin k0_t1_loop.trips) (σ : St F) : St F :=
  blockF 3 1 t <| blockF 2 1 t <| blockF 1 1 t <| blockF 0 1 t <| blockF 3 0 t <| blockF 2 0 t <| blockF 1 0 t <| blockF 0 0 t σ
def loopF : ℕ → St F → St F
  | 0, σ => σ
  | n + 1, σ => if h : n < k0_t1_loop.trips then tripF ⟨n, h⟩ (loopF n σ) else loopF n σ
def maskF (σ : St F) : St F := {σ with cm := put σ.cm ![0, 0] S1024x1024.size causalV}
def initF (σ : St F) : St F := maskF (loopF k0_t1_loop.trips σ)

variable {M c}

theorem runs_vaug (h : Fin 4) (σ : St F) : Runs M c (vaugP M h) σ (vaugF h σ) σ :=
  Runs.bind (Runs.load (focusV M c) σ rfl _ _ _ _) (Runs.ret _ _)

theorem runs_log (r : Fin 8) (σ : St F) : Runs M c (logP M r) σ (logF r σ) σ :=
  Runs.bind (Runs.load (focusK M c) σ rfl _ _ _ _) <| Runs.bind (Runs.load (focusQ M c) σ rfl _ _ _ _) (Runs.ret _ _)

theorem runs_step (r : Fin 8) (L : FVec F S1024x1024 .f32) (va : FVec F S144x1024 .bf16) (σ : St F) :
    Runs M c (stepP M r L va) σ ⟨⟩ (stepF r L va σ) :=
  Runs.bind (Runs.load (focusM M c) σ rfl _ _ _ _) <| Runs.bind (Runs.load (focusAcc M c) σ rfl _ _ _ _) <|
  Runs.bind (Runs.load (focusAcc M c) σ rfl _ _ _ _) <| Runs.bind (Runs.store (focusAcc M c) σ _ _ _ _ _ _) <|
  Runs.bind (Runs.load (focusM M c) _ rfl _ _ _ _) (Runs.store (focusM M c) _ _ _ _ _ _ _)

theorem runs_stepA (r : Fin 8) (L : FVec F S512x1024 .f32) (va : FVec F S144x1024 .bf16) (σ : St F) :
    Runs M c (stepAP M r L va) σ ⟨⟩ (stepAF r L va σ) :=
  Runs.bind (Runs.load (focusM M c) σ rfl _ _ _ _) <| Runs.bind (Runs.load (focusAcc M c) σ rfl _ _ _ _) <|
  Runs.bind (Runs.load (focusAcc M c) σ rfl _ _ _ _) <| Runs.bind (Runs.store (focusAcc M c) σ _ _ _ _ _ _) <|
  Runs.bind (Runs.load (focusM M c) _ rfl _ _ _ _) (Runs.store (focusM M c) _ _ _ _ _ _ _)

theorem runs_stepB (r : Fin 8) (L : FVec F S512x512 .f32) (va : FVec F S144x1024 .bf16) (σ : St F) :
    Runs M c (stepBP M r L va) σ ⟨⟩ (stepBF r L va σ) :=
  Runs.bind (Runs.load (focusM M c) σ rfl _ _ _ _) <| Runs.bind (Runs.load (focusAcc M c) σ rfl _ _ _ _) <|
  Runs.bind (Runs.load (focusAcc M c) σ rfl _ _ _ _) <| Runs.bind (Runs.store (focusAcc M c) σ _ _ _ _ _ _) <|
  Runs.bind (Runs.load (focusM M c) _ rfl _ _ _ _) (Runs.store (focusM M c) _ _ _ _ _ _ _)

theorem runs_band (h : Fin 4) (d : Fin 2) (k q : Fin 8) (σ : St F) : Runs M c (bandP M h d k q) σ ⟨⟩ (bandF h d k q σ) :=
  Runs.bind (Runs.load (focusS M c) σ rfl _ _ _ _) <| Runs.bind (Runs.load (focusBt M c) σ rfl _ _ _ _) <|
  Runs.bind (Runs.load (focusS M c) σ rfl _ _ _ _) (Runs.store (focusS M c) σ _ _ _ _ _ _)

theorem runs_farMap (va : FVec F S144x1024 .bf16) (r : Fin 8) (σ : St F) : Runs M c (farMapP M va r) σ ⟨⟩ (farMapF va r σ) :=
  Runs.bind (runs_log r σ) (runs_step r _ va σ)

theorem runs_farHead (h : Fin 4) (σ : St F) : Runs M c (farHeadP M h) σ ⟨⟩ (farHeadF h σ) :=
  Runs.bind (runs_vaug h σ) <| Runs.bind (runs_farMap _ _ σ) (runs_farMap _ _ _)

theorem runs_far (σ : St F) : Runs M c (farP M) σ ⟨⟩ (farF σ) :=
  Runs.bind (runs_farHead 0 σ) <| Runs.bind (runs_farHead 1 _) <| Runs.bind (runs_farHead 2 _) (runs_farHead 3 _)

theorem runs_nearMap (h : Fin 4) (va : FVec F S144x1024 .bf16) (r : Fin 8) (σ : St F) : Runs M c (nearMapP M h va r) σ ⟨⟩ (nearMapF h va r σ) :=
  Runs.bind (runs_log r σ) <| Runs.bind (Runs.load (focusS M c) σ rfl _ _ _ _) <| Runs.bind (Runs.store (focusS M c) σ _ _ _ _ _ _) <|
  Runs.bind (runs_band h 1 7 0 (putS (logF r σ) σ)) <| Runs.bind (Runs.load (focusS M c) _ rfl _ _ _ _) (runs_step r _ va _)

theorem runs_nearHead (h : Fin 4) (σ : St F) : Runs M c (nearHeadP M h) σ ⟨⟩ (nearHeadF h σ) :=
  Runs.bind (runs_vaug h σ) <| Runs.bind (runs_nearMap h _ _ σ) (runs_nearMap h _ _ _)

theorem runs_near (σ : St F) : Runs M c (nearP M) σ ⟨⟩ (nearF σ) :=
  Runs.bind (runs_nearHead 0 σ) <| Runs.bind (runs_nearHead 1 _) <| Runs.bind (runs_nearHead 2 _) (runs_nearHead 3 _)

theorem runs_diagA (h : Fin 4) (va : FVec F S144x1024 .bf16) (r : Fin 8) (σ : St F) : Runs M c (diagAP M h va r) σ ⟨⟩ (diagAF h va r σ) :=
  Runs.bind (Runs.load (focusK M c) σ rfl _ _ _ _) <| Runs.bind (Runs.load (focusQ M c) σ rfl _ _ _ _) <|
  Runs.bind (Runs.load (focusCm M c) σ rfl _ _ _ _) <| Runs.bind (Runs.load (focusS M c) σ rfl _ _ _ _) <|
  Runs.bind (Runs.store (focusS M c) σ _ _ _ _ _ _) <|
  Runs.bind (runs_band h 0 0 0 (putSA r σ)) <| Runs.bind (runs_band h 1 0 1 _) <| Runs.bind (runs_band h 0 1 1 _) <|
  Runs.bind (runs_band h 1 1 2 _) <| Runs.bind (runs_band h 0 2 2 _) <| Runs.bind (runs_band h 1 2 3 _) <|
  Runs.bind (runs_band h 0 3 3 _) <| Runs.bind (runs_band h 1 3 4 _) <|
  Runs.bind (Runs.load (focusS M c) _ rfl _ _ _ _) (runs_stepA r _ va _)

theorem runs_diagB (h : Fin 4) (va : FVec F S144x1024 .bf16) (r : Fin 8) (σ : St F) : Runs M c (diagBP M h va r) σ ⟨⟩ (diagBF h va r σ) :=
  Runs.bind (Runs.load (focusK M c) σ rfl _ _ _ _) <| Runs.bind (Runs.load (focusQ M c) σ rfl _ _ _ _) <|
  Runs.bind (Runs.load (focusCm M c) σ rfl _ _ _ _) <| Runs.bind (Runs.load (focusS M c) σ rfl _ _ _ _) <|
  Runs.bind (Runs.store (focusS M c) σ _ _ _ _ _ _) <|
  Runs.bind (runs_band h 0 4 4 (putSB r σ)) <| Runs.bind (runs_band h 1 4 5 _) <| Runs.bind (runs_band h 0 5 5 _) <|
  Runs.bind (runs_band h 1 5 6 _) <| Runs.bind (runs_band h 0 6 6 _) <| Runs.bind (runs_band h 1 6 7 _) <|
  Runs.bind (runs_band h 0 7 7 _) <|
  Runs.bind (Runs.load (focusS M c) _ rfl _ _ _ _) (runs_stepB r _ va _)

theorem runs_diagHead (h : Fin 4) (σ : St F) : Runs M c (diagHeadP M h) σ ⟨⟩ (diagHeadF h σ) :=
  Runs.bind (runs_vaug h σ) <| Runs.bind (runs_diagA h _ _ σ) <| Runs.bind (runs_diagB h _ _ _) <|
  Runs.bind (runs_diagA h _ _ _) (runs_diagB h _ _ _)

theorem runs_diag (σ : St F) : Runs M c (diagP M) σ ⟨⟩ (diagF σ) :=
  Runs.bind (runs_diagHead 0 σ) <| Runs.bind (runs_diagHead 1 _) <| Runs.bind (runs_diagHead 2 _) (runs_diagHead 3 _)

theorem runs_reset (σ : St F) : Runs M c (resetP M) σ ⟨⟩ (resetF σ) :=
  Runs.bind (Runs.load (focusM M c) σ rfl _ _ _ _) <| Runs.bind (Runs.store (focusM M c) σ _ _ _ _ _ _) <|
  Runs.bind (Runs.load (focusAcc M c) _ rfl _ _ _ _) (Runs.store (focusAcc M c) _ _ _ _ _ _ _)

theorem runs_head (lam : FVec F S1x1 .f32) (h : Fin 4) (σ : St F) : Runs M c (headP M lam h) σ (headF lam h σ) σ :=
  Runs.bind (Runs.load (focusAcc M c) σ rfl _ _ _ _) <| Runs.bind (Runs.load (focusAcc M c) σ rfl _ _ _ _) <|
  Runs.bind (Runs.load (focusNg M c) σ rfl _ _ _ _) (Runs.ret _ _)

theorem runs_close (hw : M.out.IsWhole) (σ : St F) : Runs M c (closeP M hw) σ ⟨⟩ (closeF σ) :=
  Runs.bind (Runs.load (focusLam M c) σ rfl _ _ _ _) <| Runs.bind (runs_head _ 0 σ) <| Runs.bind (runs_head _ 1 σ) <|
  Runs.bind (runs_head _ 2 σ) <| Runs.bind (runs_head _ 3 σ) <|
  Runs.bind (Runs.load (focusOut M c) σ rfl _ _ _ _) (Runs.store (focusOut M c) σ _ _ _ _ _ _)

theorem runs_chain (h : Fin 4) (dist : IVec S8x128 32) (far : F .f32) (σ : St F) :
    ∀ (l : List (Fin 32 × BitVec 32)) (val : FVec F S8x128 .f32), Runs M c (chainP M h dist far l val) σ (chainF σ.rb h dist far l val) σ
  | [], _ => Runs.ret _ _
  | _ :: l, _ => Runs.bind (Runs.smem (focusRb M c) σ rfl _ _ _ _ _) (runs_chain h dist far σ l _)

theorem runs_block (h : Fin 4) (d : Fin 2) (t : Fin k0_t1_loop.trips) (σ : St F) : Runs M c (blockP M h d t) σ ⟨⟩ (blockF h d t σ) :=
  Runs.bind (Runs.smem (focusRb M c) σ rfl _ _ _ _ _) <| Runs.bind (Runs.smem (focusRb M c) σ rfl _ _ _ _ _) <|
  Runs.bind (runs_chain h _ _ σ _ _) <|
  Runs.bind (Runs.load (focusBt M c) σ rfl _ _ _ _) (Runs.store (focusBt M c) σ _ _ _ _ _ _)

theorem runs_trip (t : Fin k0_t1_loop.trips) (σ : St F) : Runs M c (tripP M t) σ ⟨⟩ (tripF t σ) :=
  Runs.bind (runs_block 0 0 t σ) <| Runs.bind (runs_block 1 0 t _) <| Runs.bind (runs_block 2 0 t _) <|
  Runs.bind (runs_block 3 0 t _) <| Runs.bind (runs_block 0 1 t _) <| Runs.bind (runs_block 1 1 t _) <|
  Runs.bind (runs_block 2 1 t _) (runs_block 3 1 t _)

theorem runs_mask (σ : St F) : Runs M c (maskP M) σ ⟨⟩ (maskF σ) :=
  Runs.bind (Runs.load (focusCm M c) σ rfl _ _ _ _) (Runs.store (focusCm M c) σ _ _ _ _ _ _)

theorem runs_loop (hok) (σ : St F) :
    Runs M c (Scf.Loop.for k0_t1_loop hok ⟨⟩ (fun t _ => tripP M t)) σ ⟨⟩ (loopF k0_t1_loop.trips σ) := by
  unfold Runs
  refine .trans ?_ (Scf.wp_for _ _ Set.univ _ _ _ hok ⟨⟩ (fun t _ => tripP M t) (fun n _ => Own M c (loopF n σ)) ?_)
  · iintro H
    isplitl [H]
    · iexact H
    · iintro %a H
      isplitr
      · ipureintro; rfl
      · iexact H
  · intro k a
    have h := runs_trip (M := M) (c := c) k (loopF k.val σ)
    unfold Runs at h
    refine h.trans (wp_mono _ _ _ fun _ => ?_)
    have e : loopF (k.val + 1) σ = tripF k (loopF k.val σ) := dif_pos k.isLt
    rw [e]
    iintro ⟨-, H⟩
    iexact H

/-- `f` where the flag is set. -/
def when (b : BitVec 1) (f : St F → St F) (σ : St F) : St F := if b = 1#1 then f σ else σ

theorem Runs.when {b : BitVec 1} {p : KProg F PUnit} {σ : St F} {f : St F → St F} (h : Runs M c p σ ⟨⟩ (f σ)) :
    Runs M c (if b = 1#1 then p else pure ⟨⟩) σ ⟨⟩ (DA.when b f σ) := by
  unfold DA.when
  by_cases hP : b = 1#1
  · rw [if_pos hP, if_pos hP]; exact h
  · rw [if_neg hP, if_neg hP]; exact Runs.ret _ _

theorem Runs.dwhen {b : BitVec 1} {p : b = 1#1 → KProg F PUnit} {σ : St F} {f : St F → St F} (h : ∀ hP, Runs M c (p hP) σ ⟨⟩ (f σ)) :
    Runs M c (if hP : b = 1#1 then p hP else pure ⟨⟩) σ ⟨⟩ (DA.when b f σ) := by
  unfold DA.when
  by_cases hP : b = 1#1
  · rw [dif_pos hP, if_pos hP]; exact h hP
  · rw [dif_neg hP, if_neg hP]; exact Runs.ret _ _

theorem Runs.whenThen {b : BitVec 1} {p : KProg F PUnit} {jp : PUnit → KProg F PUnit} {σ σ' : St F} {f : St F → St F}
    (h : Runs M c p σ ⟨⟩ (f σ)) (h' : Runs M c (jp ⟨⟩) (DA.when b f σ) ⟨⟩ σ') :
    Runs M c (if b = 1#1 then p >>= jp else jp ⟨⟩) σ ⟨⟩ σ' := by
  unfold DA.when at h'
  by_cases hP : b = 1#1
  · rw [if_pos hP] at *; exact Runs.bind h h'
  · rw [if_neg hP] at *; exact h'

/-- The body after the bias tables, at a query block `v1` and a key block `v3`. -/
def restF (v1 v3 : BitVec 32) (σ : St F) : St F :=
  when (k0_cond6 v1 v3) closeF <| when (isTrue (Scalar.cmpi .slt v3 (Scalar.subi v1 1#32))) farF <|
  when (isTrue (Scalar.cmpi .eq v3 (Scalar.subi v1 1#32))) nearF <|
  when (isTrue (Scalar.cmpi .eq v3 (Scalar.subi v1 0#32))) diagF <| when (isTrue (Scalar.cmpi .eq v3 0#32)) resetF σ

theorem runs_rest (hw : M.out.IsWhole) (v1 v3 : BitVec 32) (σ : St F) : Runs M c (restP M hw v1 v3) σ ⟨⟩ (restF v1 v3 σ) := by
  unfold restP restF
  refine Runs.whenThen (runs_reset σ) ?_
  refine Runs.whenThen (runs_diag _) ?_
  refine Runs.whenThen (runs_near _) ?_
  refine Runs.whenThen (runs_far _) ?_
  exact Runs.dwhen fun _ => runs_close hw _

def tabAt (x : Vec F S36 .i32) (i : grid0.Coords) : BitVec 32 :=
  window x (k0_off1 i) S1.size (k0_off1_inb i)
    (Shape.Idx.first (s := (Rect.unit (s := S36) (k0_off1 i) S1.size (k0_off1_inb i)).shape) (Nat.lt_of_lt_of_eq Nat.one_pos numel1_S1.symm))

/-- What the body makes of the buffers at grid point `i`. -/
def bodyF (i : grid0.Coords) (σ : St F) : St F :=
  restF (tabAt σ.qi i) (tabAt σ.ki i) (when (k0_cond1 i) initF σ)

theorem runs_body (hw : M.out.IsWhole) (i : grid0.Coords) (σ : St F) : Runs M c (bodyP M hw i) σ ⟨⟩ (bodyF i σ) := by
  unfold bodyP bodyF
  refine Runs.bind (Runs.smem (focusQi M c) σ rfl _ _ _ _ _) ?_
  refine Runs.bind (Runs.smem (focusKi M c) σ rfl _ _ _ _ _) ?_
  dsimp only
  unfold DA.when
  by_cases hP : k0_cond1 i = 1#1
  · rw [dif_pos hP, if_pos hP]
    exact Runs.bind (runs_loop _ σ) <| Runs.bind (runs_mask _) (runs_rest hw _ _ _)
  · rw [dif_neg hP, if_neg hP]
    exact runs_rest hw _ _ _

end Cert.KernelIdeal.DA
-- ==== Proof.SameIn.lean ====
/- The body leaves what it only reads: the tables and the input blocks are after it what they were before. -/
module

public import proofs.«01_k».proof.Proof.Runs

@[expose] public section

set_option maxRecDepth 16384

noncomputable section

namespace Cert.KernelIdeal.DA

open Idealize.ShloMosaic Idealize.SL.Sem
open VecWindow Facts₀ Facts

variable {F : FTy → Type} [FloatOps F] [Named F]

/-- Two states with the same tables and input blocks. -/
def SameIn (σ σ' : St F) : Prop :=
  σ'.qi = σ.qi ∧ σ'.ki = σ.ki ∧ σ'.rb = σ.rb ∧ σ'.q = σ.q ∧ σ'.k = σ.k ∧ σ'.v = σ.v ∧ σ'.lam = σ.lam ∧ σ'.ng = σ.ng

theorem SameIn.refl (σ : St F) : SameIn σ σ := ⟨rfl, rfl, rfl, rfl, rfl, rfl, rfl, rfl⟩

theorem SameIn.trans {σ σ' σ'' : St F} (h : SameIn σ σ') (h' : SameIn σ' σ'') : SameIn σ σ'' := by
  obtain ⟨a1, a2, a3, a4, a5, a6, a7, a8⟩ := h
  obtain ⟨b1, b2, b3, b4, b5, b6, b7, b8⟩ := h'
  exact ⟨b1.trans a1, b2.trans a2, b3.trans a3, b4.trans a4, b5.trans a5, b6.trans a6, b7.trans a7, b8.trans a8⟩

theorem sameIn_when (b : BitVec 1) {f : St F → St F} (h : ∀ σ, SameIn σ (f σ)) (σ : St F) : SameIn σ (when b f σ) := by
  unfold DA.when
  split
  · exact h σ
  · exact SameIn.refl σ

theorem sameIn_block (h : Fin 4) (d : Fin 2) (t : Fin k0_t1_loop.trips) (σ : St F) : SameIn σ (blockF h d t σ) := ⟨rfl, rfl, rfl, rfl, rfl, rfl, rfl, rfl⟩

theorem sameIn_trip (t : Fin k0_t1_loop.trips) (σ : St F) : SameIn σ (tripF t σ) :=
  (sameIn_block 0 0 t σ).trans <| (sameIn_block 1 0 t _).trans <| (sameIn_block 2 0 t _).trans <| (sameIn_block 3 0 t _).trans <|
  (sameIn_block 0 1 t _).trans <| (sameIn_block 1 1 t _).trans <| (sameIn_block 2 1 t _).trans (sameIn_block 3 1 t _)

theorem sameIn_loop (n : ℕ) (σ : St F) : SameIn σ (loopF n σ) := by
  induction n with
  | zero => exact SameIn.refl σ
  | succ n ih =>
    unfold loopF
    split
    · exact ih.trans (sameIn_trip _ _)
    · exact ih

theorem sameIn_mask (σ : St F) : SameIn σ (maskF σ) := ⟨rfl, rfl, rfl, rfl, rfl, rfl, rfl, rfl⟩
theorem sameIn_init (σ : St F) : SameIn σ (initF σ) := (sameIn_loop _ σ).trans (sameIn_mask _)

theorem sameIn_reset (σ : St F) : SameIn σ (resetF σ) := ⟨rfl, rfl, rfl, rfl, rfl, rfl, rfl, rfl⟩
theorem sameIn_step (r : Fin 8) (L : FVec F S1024x1024 .f32) (va : FVec F S144x1024 .bf16) (σ : St F) : SameIn σ (stepF r L va σ) := ⟨rfl, rfl, rfl, rfl, rfl, rfl, rfl, rfl⟩
theorem sameIn_stepA (r : Fin 8) (L : FVec F S512x1024 .f32) (va : FVec F S144x1024 .bf16) (σ : St F) : SameIn σ (stepAF r L va σ) := ⟨rfl, rfl, rfl, rfl, rfl, rfl, rfl, rfl⟩
theorem sameIn_stepB (r : Fin 8) (L : FVec F S512x512 .f32) (va : FVec F S144x1024 .bf16) (σ : St F) : SameIn σ (stepBF r L va σ) := ⟨rfl, rfl, rfl, rfl, rfl, rfl, rfl, rfl⟩
theorem sameIn_band (h : Fin 4) (d : Fin 2) (k q : Fin 8) (σ : St F) : SameIn σ (bandF h d k q σ) := ⟨rfl, rfl, rfl, rfl, rfl, rfl, rfl, rfl⟩
theorem sameIn_putS (L : FVec F S1024x1024 .f32) (σ : St F) : SameIn σ (putS L σ) := ⟨rfl, rfl, rfl, rfl, rfl, rfl, rfl, rfl⟩
theorem sameIn_putSA (r : Fin 8) (σ : St F) : SameIn σ (putSA r σ) := ⟨rfl, rfl, rfl, rfl, rfl, rfl, rfl, rfl⟩
theorem sameIn_putSB (r : Fin 8) (σ : St F) : SameIn σ (putSB r σ) := ⟨rfl, rfl, rfl, rfl, rfl, rfl, rfl, rfl⟩

theorem sameIn_farHead (h : Fin 4) (σ : St F) : SameIn σ (farHeadF h σ) := (sameIn_step _ _ _ σ).trans (sameIn_step _ _ _ _)
theorem sameIn_far (σ : St F) : SameIn σ (farF σ) :=
  (sameIn_farHead 0 σ).trans <| (sameIn_farHead 1 _).trans <| (sameIn_farHead 2 _).trans (sameIn_farHead 3 _)

theorem sameIn_nearMap (h : Fin 4) (va : FVec F S144x1024 .bf16) (r : Fin 8) (σ : St F) : SameIn σ (nearMapF h va r σ) :=
  (sameIn_putS _ σ).trans <| (sameIn_band h 1 7 0 _).trans (sameIn_step _ _ _ _)
theorem sameIn_nearHead (h : Fin 4) (σ : St F) : SameIn σ (nearHeadF h σ) := (sameIn_nearMap _ _ _ σ).trans (sameIn_nearMap _ _ _ _)
theorem sameIn_near (σ : St F) : SameIn σ (nearF σ) :=
  (sameIn_nearHead 0 σ).trans <| (sameIn_nearHead 1 _).trans <| (sameIn_nearHead 2 _).trans (sameIn_nearHead 3 _)

theorem sameIn_bandsA (h : Fin 4) (σ : St F) : SameIn σ (bandsAF h σ) :=
  (sameIn_band h 0 0 0 σ).trans <| (sameIn_band h 1 0 1 _).trans <| (sameIn_band h 0 1 1 _).trans <| (sameIn_band h 1 1 2 _).trans <|
  (sameIn_band h 0 2 2 _).trans <| (sameIn_band h 1 2 3 _).trans <| (sameIn_band h 0 3 3 _).trans (sameIn_band h 1 3 4 _)
theorem sameIn_bandsB (h : Fin 4) (σ : St F) : SameIn σ (bandsBF h σ) :=
  (sameIn_band h 0 4 4 σ).trans <| (sameIn_band h 1 4 5 _).trans <| (sameIn_band h 0 5 5 _).trans <| (sameIn_band h 1 5 6 _).trans <|
  (sameIn_band h 0 6 6 _).trans <| (sameIn_band h 1 6 7 _).trans (sameIn_band h 0 7 7 _)
theorem sameIn_diagA (h : Fin 4) (va : FVec F S144x1024 .bf16) (r : Fin 8) (σ : St F) : SameIn σ (diagAF h va r σ) :=
  (sameIn_putSA r σ).trans <| (sameIn_bandsA h _).trans (sameIn_stepA _ _ _ _)
theorem sameIn_diagB (h : Fin 4) (va : FVec F S144x1024 .bf16) (r : Fin 8) (σ : St F) : SameIn σ (diagBF h va r σ) :=
  (sameIn_putSB r σ).trans <| (sameIn_bandsB h _).trans (sameIn_stepB _ _ _ _)
theorem sameIn_diagHead (h : Fin 4) (σ : St F) : SameIn σ (diagHeadF h σ) :=
  (sameIn_diagA h _ _ σ).trans <| (sameIn_diagB h _ _ _).trans <| (sameIn_diagA h _ _ _).trans (sameIn_diagB h _ _ _)
theorem sameIn_diag (σ : St F) : SameIn σ (diagF σ) :=
  (sameIn_diagHead 0 σ).trans <| (sameIn_diagHead 1 _).trans <| (sameIn_diagHead 2 _).trans (sameIn_diagHead 3 _)
theorem sameIn_close (σ : St F) : SameIn σ (closeF σ) := ⟨rfl, rfl, rfl, rfl, rfl, rfl, rfl, rfl⟩

theorem sameIn_body (i : grid0.Coords) (σ : St F) : SameIn σ (bodyF i σ) := by
  unfold bodyF restF
  exact (sameIn_when _ sameIn_init σ).trans <| (sameIn_when _ sameIn_reset _).trans <| (sameIn_when _ sameIn_diag _).trans <|
    (sameIn_when _ sameIn_near _).trans <| (sameIn_when _ sameIn_far _).trans (sameIn_when _ sameIn_close _)

end Cert.KernelIdeal.DA

end
-- ==== Proof.TextEq.lean ====
module

public import proofs.«01_k».proof.Proof.Text

@[expose] public section

set_option maxRecDepth 65536

noncomputable section

namespace Cert.KernelIdeal.DA

open Idealize.ShloMosaic Idealize.SL.Sem
open Facts₀ Facts

variable {F : FTy → Type} [FloatOps F] [Named F]

theorem body_eq (i : grid0.Coords) (M : Bufs) h2 h3 h4 h5 h6 h7 h8 h9 h10 h11 h12 h13 h14 h15 :
    cc0_diff_attn (F := F) i M.qi h2 M.ki h3 M.rb h4 M.q h5 M.k h6 M.v h7 M.lam h8 M.ng h9 M.out h10 M.m h11 M.acc h12 M.bt h13 M.s h14 M.cm h15
      = bodyP M h10 i := by
  chain_rfl

end Cert.KernelIdeal.DA
-- ==== Proof.Region.lean ====
/- The pipelined region at the two literal tables: what each point finds and leaves, for any property `Inv` of the scratch
   buffers that the body keeps and any property `Out` of the block it stores, and from that the whole program's run. -/
module

public import proofs.«01_k».proof.Proof.SameIn
public import proofs.«01_k».proof.Proof.TextEq
public import proofs.«01_k».proof.Proof.Gen.KernelIdeal.Launch
public import Idealize.ShloMosaic.Lib.Pipeline.ArrRel

@[expose] public section

set_option maxRecDepth 16384

noncomputable section

namespace Cert.KernelIdeal.DA

open Idealize.ShloMosaic Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA
open VecWindow Facts₀ Facts

attribute [local instance] Gen.facts

variable {F : FTy → Type} [FloatOps F] [Named F]

/-- The two tables: the query block and the key block of each step. -/
def tabs : pre0.Contents (Elt F) := fun
  | 0 => fun i => lit0 (S36.rowMajor i)
  | 1 => fun i => lit1 (S36.rowMajor i)
  | ⟨_ + 2, h⟩ => absurd h (Nat.not_lt.2 (Nat.le_add_left _ _))

theorem tab_idx : ∀ i : grid0.Coords, (S36.rowMajor ((Rect.unit (s := S36) (k0_off1 i) S1.size (k0_off1_inb i)).emb
    (Shape.Idx.first (s := (Rect.unit (s := S36) (k0_off1 i) S1.size (k0_off1_inb i)).shape) (Nat.lt_of_lt_of_eq Nat.one_pos numel1_S1.symm)))).val = (i 1).val := by
  decide +kernel

/-- The query block and the key block of a step. -/
def qAt (i : grid0.Coords) : BitVec 32 := lit0 (i 1)
def kAt (i : grid0.Coords) : BitVec 32 := lit1 (i 1)

theorem tab0 (i : grid0.Coords) : tabAt (F := F) (tabs 0) i = qAt i := by
  unfold tabAt qAt
  show lit0 _ = lit0 _
  exact congrArg lit0 (Fin.ext (tab_idx i))
theorem tab1 (i : grid0.Coords) : tabAt (F := F) (tabs 1) i = kAt i := by
  unfold tabAt kAt
  show lit1 _ = lit1 _
  exact congrArg lit1 (Fin.ext (tab_idx i))

theorem map1 (i : grid0.Coords) : cc0_transform_1 k0_off1_inb numel1_S1 (tabs (F := F)) i = ![(i 0).val, 3, (qAt i).toNat] := by
  rw [← tab0 (F := F) i]
  have h : (BitVec.ofNat 32 (i 0).val).toNat = (i 0).val := Nat.mod_eq_of_lt (Nat.lt_of_lt_of_le (i 0).isLt (by decide))
  exact congrArg (fun n => ![n, 3, (tabAt (F := F) (tabs 0) i).toNat]) h
theorem map2 (i : grid0.Coords) : cc0_transform_2 k0_off1_inb numel1_S1 (tabs (F := F)) i = ![(i 0).val, (kAt i).toNat, 1] := by
  rw [← tab1 (F := F) i]
  have h : (BitVec.ofNat 32 (i 0).val).toNat = (i 0).val := Nat.mod_eq_of_lt (Nat.lt_of_lt_of_le (i 0).isLt (by decide))
  exact congrArg (fun n => ![n, (tabAt (F := F) (tabs 1) i).toNat, 1]) h
theorem map3 (i : grid0.Coords) : cc0_transform_3 k0_off1_inb numel1_S1 (tabs (F := F)) i = ![(i 0).val, 1, (kAt i).toNat] := by
  rw [← tab1 (F := F) i]
  have h : (BitVec.ofNat 32 (i 0).val).toNat = (i 0).val := Nat.mod_eq_of_lt (Nat.lt_of_lt_of_le (i 0).isLt (by decide))
  exact congrArg (fun n => ![n, 1, (tabAt (F := F) (tabs 1) i).toNat]) h
theorem map6 (i : grid0.Coords) : cc0_transform_6 k0_off1_inb numel1_S1 (tabs (F := F)) i = ![(i 0).val, (qAt i).toNat, 0] := by
  rw [← tab0 (F := F) i]
  have h : (BitVec.ofNat 32 (i 0).val).toNat = (i 0).val := Nat.mod_eq_of_lt (Nat.lt_of_lt_of_le (i 0).isLt (by decide))
  exact congrArg (fun n => ![n, (tabAt (F := F) (tabs 0) i).toNat, 0]) h

theorem bnd1 : ∀ (i : grid0.Coords) (a : Fin 3), ((![(i 0).val, 3, (qAt i).toNat] : Fin 3 → ℕ) a + 1) * S1x512x1024.size a ≤ S4x2048x8192.size a := by decide +kernel
theorem bnd2 : ∀ (i : grid0.Coords) (a : Fin 3), ((![(i 0).val, (kAt i).toNat, 1] : Fin 3 → ℕ) a + 1) * S1x1024x512.size a ≤ S4x8192x1024.size a := by decide +kernel
theorem bnd3 : ∀ (i : grid0.Coords) (a : Fin 3), ((![(i 0).val, 1, (kAt i).toNat] : Fin 3 → ℕ) a + 1) * S1x512x1024.size a ≤ S4x2048x8192.size a := by decide +kernel
theorem bnd6 : ∀ (i : grid0.Coords) (a : Fin 3), ((![(i 0).val, (qAt i).toNat, 0] : Fin 3 → ℕ) a + 1) * S1x1024x512.size a ≤ S4x8192x512.size a := by decide +kernel

theorem inb1 (i : grid0.Coords) (a) : (cc0_transform_1 k0_off1_inb numel1_S1 (tabs (F := F)) i a + 1) * S1x512x1024.size a ≤ S4x2048x8192.size a := by
  rw [map1]; exact bnd1 i a
theorem inb2 (i : grid0.Coords) (a) : (cc0_transform_2 k0_off1_inb numel1_S1 (tabs (F := F)) i a + 1) * S1x1024x512.size a ≤ S4x8192x1024.size a := by
  rw [map2]; exact bnd2 i a
theorem inb3 (i : grid0.Coords) (a) : (cc0_transform_3 k0_off1_inb numel1_S1 (tabs (F := F)) i a + 1) * S1x512x1024.size a ≤ S4x2048x8192.size a := by
  rw [map3]; exact bnd3 i a
theorem inb6 (i : grid0.Coords) (a) : (cc0_transform_6 k0_off1_inb numel1_S1 (tabs (F := F)) i a + 1) * S1x1024x512.size a ≤ S4x8192x512.size a := by
  rw [map6]; exact bnd6 i a

theorem ok_tabs : ok0 (tabs (F := F)) := by
  unfold ok0
  exact ⟨fun i => ⟨inb1 i, .inr (Affine.block_words_dvd (by decide) (by decide))⟩,
    fun i => ⟨inb2 i, .inr (Affine.block_words_dvd (by decide) (by decide))⟩,
    fun i => ⟨inb3 i, .inr (Affine.block_words_dvd (by decide) (by decide))⟩,
    fun i => ⟨inb6 i, .inr (Affine.block_words_dvd (by decide) (by decide))⟩⟩

def adm : (p : Fin 1) → (pcfgs (F := F) p).Adm := fun _ => ⟨tabs, ok_tabs⟩

/-- The pipeline at the tables. -/
abbrev cfgA : Pipeline.Cfg sig Λ₀ := Pipeline.pin (pcfgs (F := F)) adm 0

/-- What the scratch buffers hold. -/
structure Scr (F : FTy → Type) where
  m : Vec F S8x1x1024 .f32
  acc : Vec F S8x144x1024 .f32
  bt : Vec F S4x2x128x128 .f32
  s : Vec F S1024x1024 .f32
  cm : Vec F S1024x1024 .f32

def scrOf (σ : St F) : Scr F := ⟨σ.m, σ.acc, σ.bt, σ.s, σ.cm⟩

/-- The staged blocks. -/
abbrev Blocks (F : FTy → Type) [FloatOps F] [Named F] : Type := (w : Fin (cfgA (F := F)).W) → ((cfgA (F := F)).win w).block.Idx → Elt F ((cfgA (F := F)).win w).elt

/-- The body's buffers with the tables, the staged blocks `Y` and the scratch buffers `X`. -/
def stOf (Y : Blocks F) (X : Scr F) : St F :=
  ⟨tabs (F := F) 0, tabs (F := F) 1, Y 0, Y 1, Y 2, Y 3, Y 4, Y 5, Y 6, X.m, X.acc, X.bt, X.s, X.cm⟩

/-- The buffers at the staging slots `s`. -/
def bufsAt (s : (w : Fin 7) → Fin (spec0 w).nbuf) : Bufs :=
  ⟨Memref.whole main_c, Memref.whole main_c_0, spec0_0.stage (s 0), spec0_1.stage (s 1), spec0_2.stage (s 2), spec0_3.stage (s 3),
    spec0_4.stage (s 4), spec0_5.stage (s 5), spec0_6.stage (s 6), Memref.whole cc0_scratch0, Memref.whole cc0_scratch1,
    Memref.whole cc0_scratch2, Memref.whole cc0_scratch3, Memref.whole cc0_scratch4⟩

theorem out_whole (s : (w : Fin 7) → Fin (spec0 w).nbuf) : (bufsAt s).out.IsWhole := hstage0_6 ((s 6).cast nbuf0_6)

theorem row_eq (t : Fin (cfgA (F := F)).N) (s : (w : Fin 7) → Fin (spec0 w).nbuf) :
    defs₀ (F := F) .tc (cfgA (F := F)).body ((cfgA (F := F)).bodyArgs t s) = bodyP (bufsAt s) (out_whole s) (grid0.coords t) := by
  refine Eq.trans ?_ (body_eq (F := F) (grid0.coords t) (bufsAt s) (Memref.isWhole_whole _) (Memref.isWhole_whole _)
    (hstage0_0 ((s 0).cast nbuf0_0)) (hstage0_1 ((s 1).cast nbuf0_1)) (hstage0_2 ((s 2).cast nbuf0_2)) (hstage0_3 ((s 3).cast nbuf0_3))
    (hstage0_4 ((s 4).cast nbuf0_4)) (hstage0_5 ((s 5).cast nbuf0_5)) (out_whole s) (Memref.isWhole_whole _) (Memref.isWhole_whole _)
    (Memref.isWhole_whole _) (Memref.isWhole_whole _) (Memref.isWhole_whole _))
  unfold defs₀
  rw [Defs.onTc_tc]
  rfl

variable (M : Bufs) (c : Dev nD)

/-- The staged blocks' buffers. -/
def Staged (σ : St F) : sProp (Res F) :=
  iprop(owns (c : Thread nD τ) M.rb fullShare σ.rb ∗ owns (c : Thread nD τ) M.q fullShare σ.q
    ∗ owns (c : Thread nD τ) M.k fullShare σ.k ∗ owns (c : Thread nD τ) M.v fullShare σ.v
    ∗ owns (c : Thread nD τ) M.lam fullShare σ.lam ∗ owns (c : Thread nD τ) M.ng fullShare σ.ng
    ∗ owns (c : Thread nD τ) M.out fullShare σ.out)

/-- The scratch buffers and the tables. -/
def Kept (a b : Vec F S36 .i32) (X : Scr F) : sProp (Res F) :=
  iprop(owns (c : Thread nD τ) (Memref.whole cc0_scratch0) fullShare X.m ∗ owns (c : Thread nD τ) (Memref.whole cc0_scratch1) fullShare X.acc
    ∗ owns (c : Thread nD τ) (Memref.whole cc0_scratch2) fullShare X.bt ∗ owns (c : Thread nD τ) (Memref.whole cc0_scratch3) fullShare X.s
    ∗ owns (c : Thread nD τ) (Memref.whole cc0_scratch4) fullShare X.cm
    ∗ owns (c : Thread nD τ) (Memref.whole main_c) fullShare.right a
    ∗ owns (c : Thread nD τ) (Memref.whole main_c_0) fullShare.right b)

theorem own_join (s : (w : Fin 7) → Fin (spec0 w).nbuf) (σ : St F) :
    iprop(Kept c σ.qi σ.ki (scrOf σ) ∗ Staged (bufsAt s) c σ) ⊢ Own (bufsAt s) c σ := by
  unfold Kept Staged Own scrOf
  iintro H
  icases H with ⟨⟨Hm, Hacc, Hbt, Hs, Hcm, Hqi, Hki⟩, H0, H1, H2, H3, H4, H5, H6⟩
  isplitl [Hqi]; · iexact Hqi
  isplitl [Hki]; · iexact Hki
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hm]; · iexact Hm
  isplitl [Hacc]; · iexact Hacc
  isplitl [Hbt]; · iexact Hbt
  isplitl [Hs]; · iexact Hs
  iexact Hcm

theorem own_split (s : (w : Fin 7) → Fin (spec0 w).nbuf) (σ : St F) :
    Own (bufsAt s) c σ ⊢ iprop(Kept c σ.qi σ.ki (scrOf σ) ∗ Staged (bufsAt s) c σ) := by
  unfold Kept Staged Own scrOf
  iintro H
  icases H with ⟨Hqi, Hki, H0, H1, H2, H3, H4, H5, H6, Hm, Hacc, Hbt, Hs, Hcm⟩
  isplitl [Hqi Hki Hm Hacc Hbt Hs Hcm]
  · isplitl [Hm]; · iexact Hm
    isplitl [Hacc]; · iexact Hacc
    isplitl [Hbt]; · iexact Hbt
    isplitl [Hs]; · iexact Hs
    isplitl [Hcm]; · iexact Hcm
    isplitl [Hqi]; · iexact Hqi
    iexact Hki
  isplitl [H0]; · iexact H0
  isplitl [H1]; · iexact H1
  isplitl [H2]; · iexact H2
  isplitl [H3]; · iexact H3
  isplitl [H4]; · iexact H4
  isplitl [H5]; · iexact H5
  iexact H6

/-- What a point starts with and leaves, over the scratch buffers. -/
def Phi (Inv : ℕ → Scr F → Prop) (n : ℕ) : sProp (Res F) :=
  iprop(∃ X : Scr F, ⌜Inv n X⌝ ∗ Kept c (tabs (F := F) 0) (tabs (F := F) 1) X ∗ (∃ r, prngReg c r))

variable (V : (c : Dev nD) → (b : Ref sig .tc) → Buf (Elt F) ((c.tc : Thread nD τ).loc b))
variable (Inv : Dev nD → ℕ → Scr F → Prop) (Out : Dev nD → Fin (cfgA (F := F)).N → Vec F S1x1024x512 .bf16 → Prop)

/-- The region's data: the inputs as found, the output block as `Out` says, the scratch buffers as `Inv` says. -/
def rd (c : Dev nD) : Pipeline.RDat τ (Elt F) Unit ℕ (UR sig nD τ) ℕ (cfgA (F := F)) c where
  A w := V c (Pipeline.arrRef spec0 w)
  after := fun
    | 0 => fun _ Y X => X = Y
    | 1 => fun _ Y X => X = Y
    | 2 => fun _ Y X => X = Y
    | 3 => fun _ Y X => X = Y
    | 4 => fun _ Y X => X = Y
    | 5 => fun _ Y X => X = Y
    | 6 => fun t _ X => Out c t X
    | ⟨_ + 7, h⟩ => absurd h (Nat.not_lt.2 (Nat.le_add_left _ _))
  Φ t := Phi c (Inv c) t.val
  q _ := fullShare
  owed _ := 0

/-- What the body is handed at point `t`: each input's block. -/
def Handed (c : Dev nD) (t : Fin (cfgA (F := F)).N) (Y : Blocks F) : Prop :=
  ∀ w, ((cfgA (F := F)).win w).isOut = false → ∃ d, Y w = (rd V Inv Out c).fetched w t d

variable {V Inv Out}

theorem keep (c : Dev nD) : ∀ w, ((cfgA (F := F)).win w).isOut = false → ∀ t Y X, (rd V Inv Out c).after w t Y X → X = Y := fun
  | 0 => fun _ _ _ _ h => h
  | 1 => fun _ _ _ _ h => h
  | 2 => fun _ _ _ _ h => h
  | 3 => fun _ _ _ _ h => h
  | 4 => fun _ _ _ _ h => h
  | 5 => fun _ _ _ _ h => h
  | 6 => fun h => nomatch (show true = false from h)
  | ⟨_ + 7, h⟩ => absurd h (Nat.not_lt.2 (Nat.le_add_left _ _))

theorem staged_eq (c : Dev nD) (s : (w : Fin 7) → Fin (spec0 w).nbuf) (Y : Blocks F) (X : Scr F) :
    (bigSep Finset.univ fun w => owns (c : Thread nD τ) (((cfgA (F := F)).win w).stage (s w)) fullShare (Y w) : sProp (Res F))
      = Staged (bufsAt s) c (stOf Y X) :=
  (Gen.bigSep_W0 fun w => (owns (c : Thread nD τ) (((cfgA (F := F)).win w).stage (s w)) fullShare (Y w) : sProp (Res F))).trans rfl

theorem give {sp : Space} {s : Shape} {e : EltTy} (c : Dev nD) (B : Memref sig .tc sp s e) (P : (s.Idx → Elt F e) → Prop) (X : s.Idx → Elt F e) (h : P X) :
    (owns (c : Thread nD τ) B fullShare X : sProp (Res F)) ⊢ iprop(∃ X, ⌜P X⌝ ∗ owns (c : Thread nD τ) B fullShare X) := by
  iintro H
  iexists X
  isplitr
  · ipureintro; exact h
  iexact H

theorem staged_back (c : Dev nD) (t : Fin (cfgA (F := F)).N) (s : (w : Fin 7) → Fin (spec0 w).nbuf) (Y : Blocks F) (X : Scr F) (σ' : St F)
    (hs : SameIn (stOf Y X) σ') (ho : Out c t σ'.out) :
    Staged (bufsAt s) c σ' ⊢ (bigSep Finset.univ fun w => iprop(∃ X, ⌜(rd V Inv Out c).after w t (Y w) X⌝
            ∗ owns (c : Thread nD τ) (((cfgA (F := F)).win w).stage (s w)) fullShare X) : sProp (Res F)) := by
  rw [Gen.bigSep_W0]
  obtain ⟨e1, e2, e3, e4, e5, e6, e7, e8⟩ := hs
  unfold Staged
  exact sep_mono (give c _ ((rd V Inv Out c).after 0 t (Y 0)) _ e3) <| sep_mono (give c _ ((rd V Inv Out c).after 1 t (Y 1)) _ e4) <|
    sep_mono (give c _ ((rd V Inv Out c).after 2 t (Y 2)) _ e5) <| sep_mono (give c _ ((rd V Inv Out c).after 3 t (Y 3)) _ e6) <|
    sep_mono (give c _ ((rd V Inv Out c).after 4 t (Y 4)) _ e7) <| sep_mono (give c _ ((rd V Inv Out c).after 5 t (Y 5)) _ e8) <|
    give c _ ((rd V Inv Out c).after 6 t (Y 6)) _ ho

theorem body_run (c : Dev nD) (t : Fin (cfgA (F := F)).N) (s : (w : Fin 7) → Fin (spec0 w).nbuf) (Y : Blocks F) (I I' : Scr F → Prop)
    (h : ∀ X : Scr F, I X → I' (scrOf (bodyF (grid0.coords t) (stOf Y X))) ∧ Out c t (bodyF (grid0.coords t) (stOf Y X)).out)
    (X : Scr F) (hX : I X) (R : sProp (Res F)) :
    iprop(Kept c (tabs (F := F) 0) (tabs (F := F) 1) X ∗ Staged (bufsAt s) c (stOf Y X) ∗ (∃ r, prngReg c r) ∗ R)
      ⊢ wp frame (wpE (defs₀ (F := F)) 𝒱₀ (c : Thread nD τ) none) Set.univ (bodyP (bufsAt s) (out_whole _) (grid0.coords t))
        fun _ => iprop((∃ X : Scr F, ⌜I' X⌝ ∗ Kept c (tabs (F := F) 0) (tabs (F := F) 1) X ∗ (∃ r, prngReg c r)) ∗ R
          ∗ bigSep Finset.univ fun w => iprop(∃ X, ⌜(rd V Inv Out c).after w t (Y w) X⌝
            ∗ owns (c : Thread nD τ) (((cfgA (F := F)).win w).stage (s w)) fullShare X)) := by
  obtain ⟨hI, hO⟩ := h X hX
  have hs := sameIn_body (grid0.coords t) (stOf Y X)
  have hrun := runs_body (M := bufsAt s) (c := c) (out_whole _) (grid0.coords t) (stOf Y X)
  unfold Runs at hrun
  generalize bodyF (grid0.coords t) (stOf Y X) = σ' at hI hO hs hrun
  have h1 : iprop(Kept c (tabs (F := F) 0) (tabs (F := F) 1) X ∗ Staged (bufsAt s) c (stOf Y X) ∗ (∃ r, prngReg c r) ∗ R)
      ⊢ iprop(Own (bufsAt s) c (stOf Y X) ∗ ((∃ r, prngReg c r) ∗ R)) :=
    sep_assoc.2.trans (sep_mono (own_join c s (stOf Y X)) .rfl)
  refine (h1.trans (sep_mono hrun .rfl)).trans ((wp_frame_r _ _ _).trans (wp_mono _ _ _ fun a => ?_))
  have h2 := own_split c s σ'
  rw [show σ'.qi = tabs (F := F) 0 from hs.1, show σ'.ki = tabs (F := F) 1 from hs.2.1] at h2
  have h3 := h2.trans (sep_mono .rfl (staged_back (V := V) (Inv := Inv) c t s Y X σ' hs hO))
  iintro H
  icases H with ⟨⟨-, H⟩, Hg, HR⟩
  ihave H := h3 $$ H
  icases H with ⟨HK, HS⟩
  isplitl [HK Hg]
  · iexists (scrOf σ')
    isplitr
    · ipureintro; exact hI
    isplitl [HK]
    · iexact HK
    iexact Hg
  isplitl [HR]
  · iexact HR
  iexact HS

theorem shuffle {P : Scr F → Prop} {K S' : Scr F → sProp (Res F)} {G O S W : sProp (Res F)} (e : ∀ X, S = S' X)
    (h : ∀ X, P X → iprop(K X ∗ S' X ∗ G ∗ O) ⊢ W) : iprop((∃ X, ⌜P X⌝ ∗ K X ∗ G) ∗ O ∗ S) ⊢ W := by
  iintro H
  icases H with ⟨⟨%X, %hX, HK, Hg⟩, Ho, HS⟩
  rw [e X]
  iapply (h X hX)
  isplitl [HK]
  · iexact HK
  isplitl [HS]
  · iexact HS
  isplitl [Hg]
  · iexact Hg
  iexact Ho

theorem owes_same (c : Dev nD) (t : Fin (cfgA (F := F)).N) : (rd V Inv Out c).owesAt () t.succ = (rd V Inv Out c).owesAt () t.castSucc := rfl
theorem phi_eq (c : Dev nD) (n : Fin ((cfgA (F := F)).N + 1)) : (rd V Inv Out c).Φ n = Phi c (Inv c) n.val := by
  unfold rd; rfl

theorem body_obligation (c : Dev nD)
    (hstep : ∀ (t : Fin (cfgA (F := F)).N) (Y : Blocks F) (X : Scr F), Handed V Inv Out c t Y → Inv c t.val X →
      Inv c (t.val + 1) (scrOf (bodyF (grid0.coords t) (stOf Y X))) ∧ Out c t (bodyF (grid0.coords t) (stOf Y X)).out) :
    (rd V Inv Out c).BodyObligation (defs₀ (F := F)) 𝒱₀ () Set.univ := by
  intro t Y hY
  rw [row_eq t ((cfgA (F := F)).slots t), owes_same, phi_eq, phi_eq, Fin.val_castSucc, Fin.val_succ]
  unfold Phi
  have hH : Handed V Inv Out c t Y := fun w hw =>
    (rd V Inv Out c).finds_in_eq_fetched w hw (fun _ _ _ => rfl) (keep c w hw) t (Y w) (hY w)
  exact shuffle (fun X => staged_eq c _ Y X) fun X hX =>
    body_run (V := V) (Inv := Inv) (Out := Out) c t ((cfgA (F := F)).slots t) Y (Inv c t.val) (Inv c (t.val + 1)) (fun X hX => hstep t Y X hH hX) X hX
      ((rd V Inv Out c).owesAt () t.castSucc)

end Cert.KernelIdeal.DA

end
-- ==== Proof.Launched.lean ====
/- The whole program's run over any floats: from the step's two properties, where every buffer ends. -/
module

public import proofs.«01_k».proof.Proof.Region

@[expose] public section

set_option maxRecDepth 16384

noncomputable section

namespace Cert.KernelIdeal.DA

open Idealize.ShloMosaic Idealize.ShloMosaic.TcCoe
open Idealize.SL
open Idealize.SL.BI (sProp bigSep)
open scoped Idealize.SL.BI
open Idealize.SL.BI.BIBase Idealize.SL.BI.Laws Idealize.SL.Sem Idealize.SL.ProofMode
open Idealize.SL.RA
open Idealize.ShloMosaic.Pipeline
open Facts₀ Facts

attribute [local instance] Gen.facts

variable {F : FTy → Type} [FloatOps F] [Named F]

/-- The memory at the region's entry. -/
def entry0 (m : (ℓ : Loc nD τ sig) → Buf (Elt F) ℓ) (c : Dev nD) (b : Ref sig .tc) : Buf (Elt F) ((c.tc : Thread nD τ).loc b) :=
  StableHlo.after Gen.hostOps0 (fun b => m (c, b)) b

theorem entry_c (m : (ℓ : Loc nD τ sig) → Buf (Elt F) ℓ) (c : Dev nD) : entry0 m c main_c = tabs (F := F) 0 := by
  unfold entry0
  after_results
  rfl
theorem entry_c0 (m : (ℓ : Loc nD τ sig) → Buf (Elt F) ℓ) (c : Dev nD) : entry0 m c main_c_0 = tabs (F := F) 1 := by
  unfold entry0
  after_results
  rfl

theorem entry_tab (m : (ℓ : Loc nD τ sig) → Buf (Elt F) ℓ) (c : Dev nD) :
    ∀ k, entry0 m c ((pcfgs (F := F) 0).pre.ref k) = (adm (F := F) 0).1 k := fun
  | 0 => entry_c m c
  | 1 => entry_c0 m c
  | ⟨_ + 2, h⟩ => absurd h (Nat.not_lt.2 (Nat.le_add_left _ _))

theorem entry_arg0 (m : (ℓ : Loc nD τ sig) → Buf (Elt F) ℓ) (c : Dev nD) : entry0 m c main_arg0 = m ((c.tc : Thread nD τ).loc main_arg0) := by
  unfold entry0; after_results
theorem entry_arg1 (m : (ℓ : Loc nD τ sig) → Buf (Elt F) ℓ) (c : Dev nD) : entry0 m c main_arg1 = m ((c.tc : Thread nD τ).loc main_arg1) := by
  unfold entry0; after_results
theorem entry_arg2 (m : (ℓ : Loc nD τ sig) → Buf (Elt F) ℓ) (c : Dev nD) : entry0 m c main_arg2 = m ((c.tc : Thread nD τ).loc main_arg2) := by
  unfold entry0; after_results
theorem entry_arg3 (m : (ℓ : Loc nD τ sig) → Buf (Elt F) ℓ) (c : Dev nD) : entry0 m c main_arg3 = m ((c.tc : Thread nD τ).loc main_arg3) := by
  unfold entry0; after_results
theorem entry_arg4 (m : (ℓ : Loc nD τ sig) → Buf (Elt F) ℓ) (c : Dev nD) : entry0 m c main_arg4 = m ((c.tc : Thread nD τ).loc main_arg4) := by
  unfold entry0; after_results

variable (m : (ℓ : Loc nD τ sig) → Buf (Elt F) ℓ) (g : Dev nD → PrngReg)
variable (Inv : Dev nD → ℕ → Scr F → Prop) (Out : Dev nD → Fin (cfgA (F := F)).N → Vec F S1x1024x512 .bf16 → Prop)

theorem tabs_held (c : Dev nD) :
    (ΦT (U := UR sig nD τ) (pcfgs (F := F) 0).pre (adm (F := F) 0).1 c : sProp (Res F))
      = iprop(owns (c : Thread nD τ) (Memref.whole main_c) fullShare.right (tabs (F := F) 0)
        ∗ owns (c : Thread nD τ) (Memref.whole main_c_0) fullShare.right (tabs (F := F) 1)) := by
  refine Eq.trans ?_ (congrArg₂ (fun P Q => iprop(P ∗ Q)) (owns_whole (c : Thread nD τ) main_c fullShare.right (tabs (F := F) 0)).symm
    (owns_whole (c : Thread nD τ) main_c_0 fullShare.right (tabs (F := F) 1)).symm)
  exact (Idealize.SL.BI.bigSep_univ_eq_bigSepL [(0 : Fin 2), (1 : Fin 2)] (by decide) (by decide) _).trans rfl

theorem scratch_held (c : Dev nD) :
    (scopedRest (Ix := Unit) (Name := ℕ) (U := UR sig nD τ) (Lvl := ℕ) (Val := Elt F) (cfgA (F := F)).spec c : sProp (Res F))
      = iprop((∃ f, owns (c : Thread nD τ) (Memref.whole cc0_scratch0) fullShare f) ∗ (∃ f, owns (c : Thread nD τ) (Memref.whole cc0_scratch1) fullShare f)
        ∗ (∃ f, owns (c : Thread nD τ) (Memref.whole cc0_scratch2) fullShare f) ∗ (∃ f, owns (c : Thread nD τ) (Memref.whole cc0_scratch3) fullShare f)
        ∗ (∃ f, owns (c : Thread nD τ) (Memref.whole cc0_scratch4) fullShare f)) := by
  simp only [owns_whole]
  exact Gen.scopedRest0_eq c

theorem enter (V : (c : Dev nD) → (b : Ref sig .tc) → Buf (Elt F) ((c.tc : Thread nD τ).loc b)) (h0 : ∀ c X, Inv c 0 X) (c : Dev nD) :
    iprop(ΦA (U := UR sig nD τ) (Val := Elt F) (cfgA (F := F)).spec c ∗ ΦT (U := UR sig nD τ) (pcfgs (F := F) 0).pre (adm (F := F) 0).1 c) ⊢ (rd V Inv Out c).Φ 0 := by
  rw [phi_eq, tabs_held]
  unfold ΦA Phi Kept
  rw [scratch_held]
  iintro H
  icases H with ⟨⟨⟨⟨%f0, H0⟩, ⟨%f1, H1⟩, ⟨%f2, H2⟩, ⟨%f3, H3⟩, ⟨%f4, H4⟩⟩, Hg⟩, Ha, Hb⟩
  iexists (⟨f0, f1, f2, f3, f4⟩ : Scr F)
  isplitr
  · ipureintro; exact h0 c _
  isplitr [Hg]
  · isplitl [H0]; · iexact H0
    isplitl [H1]; · iexact H1
    isplitl [H2]; · iexact H2
    isplitl [H3]; · iexact H3
    isplitl [H4]; · iexact H4
    isplitl [Ha]; · iexact Ha
    iexact Hb
  iexact Hg

theorem leave (V : (c : Dev nD) → (b : Ref sig .tc) → Buf (Elt F) ((c.tc : Thread nD τ).loc b)) (c : Dev nD) :
    (rd V Inv Out c).Φ (Fin.last (cfgA (F := F)).N) ⊢ ΦA (U := UR sig nD τ) (Val := Elt F) (cfgA (F := F)).spec c := by
  rw [phi_eq]
  unfold ΦA Phi Kept
  rw [scratch_held]
  iintro H
  icases H with ⟨%X, -, ⟨H0, H1, H2, H3, H4, -, -⟩, Hg⟩
  isplitr [Hg]
  · isplitl [H0]; · iexists X.m; iexact H0
    isplitl [H1]; · iexists X.acc; iexact H1
    isplitl [H2]; · iexists X.bt; iexact H2
    isplitl [H3]; · iexists X.s; iexact H3
    iexists X.cm; iexact H4
  iexact Hg

theorem share_full (V : (c : Dev nD) → (b : Ref sig .tc) → Buf (Elt F) ((c.tc : Thread nD τ).loc b)) (c : Dev nD) (w) : (rd V Inv Out c).share w = fullShare := by
  unfold RDat.share
  exact ite_self _

theorem run_main (h0 : ∀ c X, Inv c 0 X)
    (hstep : ∀ c (t : Fin (cfgA (F := F)).N) (Y : Blocks F) (X : Scr F), Handed (entry0 m) Inv Out c t Y → Inv c t.val X →
      Inv c (t.val + 1) (scrOf (bodyF (grid0.coords t) (stOf Y X))) ∧ Out c t (bodyF (grid0.coords t) (stOf Y X)).out) :
    θ_run (defs (F := F)) (onTc (τ := τ) (main (F := F))) ⟨m, fun _ => 0, g⟩
      (fun r => RDat.FramePost (cfgA (F := F)) (fun c => rd (entry0 m) Inv Out c) (entry0 m) r ∧ r.2.sem = (fun _ => 0)) := by
  refine RDat.θ_run_frameP_track (pcfgs (F := F)) adm 0 Gen.launch0 (defs₀ (F := F)) 𝒱₀ (fun c => rd (entry0 m) Inv Out c) m g main
    (fun c => body_obligation c (hstep c)) (fun c w => share_full Inv Out _ c w) (fun _ _ => rfl) (entry0 m) ?_ (fun _ _ => rfl) (entry_tab m)
    (enter Inv Out _ h0) (leave Inv Out _) _ (fun _ h => h)
  exact hmainP_prefix (pcfgs (F := F)) 0 (defs₀ (F := F)) 𝒱₀ m main Gen.hostOps0 Gen.hostOps0_sub (by repeat' constructor) Gen.main_chain

variable {m}

/-- At the end the arguments are as at launch. -/
theorem args_kept (r : PUnit × MemSt nD τ sig (Elt F)) (h : RDat.FramePost (cfgA (F := F)) (fun c => rd (entry0 m) Inv Out c) (entry0 m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨((h c).2 main_arg0 (show main_arg0 ∈ restRefs sig spec0 from by decide)).trans (entry_arg0 m c), ((h c).2 main_arg1 (show main_arg1 ∈ restRefs sig spec0 from by decide)).trans (entry_arg1 m c),
    (h.arr_in c 0 rfl).trans (entry_arg2 m c), (h.arr_in c 4 rfl).trans (entry_arg3 m c), ((h c).2 main_arg4 (show main_arg4 ∈ restRefs sig spec0 from by decide)).trans (entry_arg4 m c)⟩

end Cert.KernelIdeal.DA

end
-- ==== Proof.Transfer.lean ====
module

public import proofs.«01_k».proof.Defs
public import proofs.«01_k».proof.Proof.Gen.Kernel
public import proofs.«01_k».proof.Proof.Gen.KernelIdeal
public import Idealize.ShloMosaic.Lib.Pipeline.Regions
public import Idealize.ShloMosaic.Lib.Tactic

@[expose] public section

set_option maxRecDepth 65536

noncomputable section

namespace Cert.Proof

open Idealize.ShloMosaic Idealize.SL.Sem

/-- The named constant read at its own bit pattern. -/
@[instance_reducible] def namedBits : Named Bits := ⟨fun _ _ {φ} b => FloatOps.ofBits φ b⟩

attribute [local instance] namedBits

def ranKernel (m : (ℓ : Loc Cert.Kernel.nD Cert.Kernel.τ Cert.Kernel.sig) → Buf (Elt Bits) ℓ) (g : Dev Cert.Kernel.nD → PrngReg) : Prop :=
  θ_run (Cert.Kernel.defs (F := Bits)) (onTc (τ := Cert.Kernel.τ) (Cert.Kernel.main (F := Bits))) ⟨m, fun _ => 0, g⟩ (fun r => (∀ c : Dev Cert.Kernel.nD,
r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def ranIdeal (m : (ℓ : Loc Cert.KernelIdeal.nD Cert.KernelIdeal.τ Cert.KernelIdeal.sig) → Buf (Elt Bits) ℓ) (g : Dev Cert.KernelIdeal.nD → PrngReg) : Prop :=
  θ_run (Cert.KernelIdeal.defs (F := Bits)) (onTc (τ := Cert.KernelIdeal.τ) (Cert.KernelIdeal.main (F := Bits))) ⟨m, fun _ => 0, g⟩ (fun r => (∀ c : Dev Cert.KernelIdeal.nD,
r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

theorem ran_eq : ranKernel = ranIdeal := by
  chain_rfl

end Cert.Proof
-- ==== Proof.Frames.lean ====
/- The frames: every run of the kernel ends with the arguments as at launch and every semaphore at zero. -/
module

public import proofs.«01_k».proof.Proof.Launched
public import proofs.«01_k».proof.Proof.Transfer

@[expose] public section

set_option maxRecDepth 16384

noncomputable section

namespace Cert.Proof

open Idealize.ShloMosaic Idealize.ShloMosaic.TcCoe Idealize.SL.Sem

attribute [local instance] Cert.KernelIdeal.Gen.facts

open Cert.KernelIdeal Cert.KernelIdeal.DA in
theorem frame_any {F : FTy → Type} [FloatOps F] [Named F] (m : (ℓ : Loc nD τ sig) → Buf (Elt F) ℓ) (g : Dev nD → PrngReg) :
    θ_run (defs (F := F)) (onTc (τ := τ) (main (F := F))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨fun c => args_kept _ _ r h.1 c, h.2⟩)
    (run_main m g (fun _ _ _ => True) (fun _ _ _ => True) (fun _ _ => trivial) (fun _ _ _ _ _ _ => ⟨trivial, trivial⟩))

attribute [local instance] namedBits in
theorem kernel_frame (m : (ℓ : Loc Cert.Kernel.nD Cert.Kernel.τ Cert.Kernel.sig) → Buf (Elt Bits) ℓ) (g : Dev Cert.Kernel.nD → PrngReg) :
    ranKernel m g := by
  rw [ran_eq]
  exact frame_any (F := Bits) m g

end Cert.Proof

end
-- ==== Proof.RefRun.lean ====
/- The reference's run: a straight line of host operations, so every buffer ends at the operations'
   results folded over the launch contents; no argument is written. -/
module

public import proofs.«01_k».proof.Proof.Gen.ReferenceIdeal
public import Idealize.ShloMosaic.Lib.StableHlo.Run
public import Idealize.ShloMosaic.Lib.StableHlo.RunRead
public import Idealize.ShloMosaic.Lib.Pipeline.Regions

@[expose] public section

set_option maxRecDepth 16384

noncomputable section

namespace Cert.ReferenceIdeal.DA

open Cert.ReferenceIdeal.Facts₀ Cert.ReferenceIdeal.Facts
open Idealize.ShloMosaic Idealize.ShloMosaic.TcCoe Idealize.ShloMosaic.StableHlo Idealize.SL.Sem

attribute [local instance] Gen.facts

variable {F : FTy → Type} [FloatOps F]

abbrev opsQkv : List (HloOp τ sig (Elt F)) :=
  [ unary main_arg0 main_v0 ((extractStridedSlice S4x8192x512 ![0, 0, 0] · slices_S4x8192x3368_S4x8192x512_0_0_0) : (⟨S4x8192x3368, .f32⟩ : BufTy).Contents (Elt F) → (⟨S4x8192x512, .f32⟩ : BufTy).Contents (Elt F)),
    unary main_arg0 main_v1 ((extractStridedSlice S4x8192x512 ![0, 0, 512] · slices_S4x8192x3368_S4x8192x512_0_0_512) : (⟨S4x8192x3368, .f32⟩ : BufTy).Contents (Elt F) → (⟨S4x8192x512, .f32⟩ : BufTy).Contents (Elt F)),
    unary main_arg0 main_v2 ((extractStridedSlice S4x8192x512 ![0, 0, 1024] · slices_S4x8192x3368_S4x8192x512_0_0_1024) : (⟨S4x8192x3368, .f32⟩ : BufTy).Contents (Elt F) → (⟨S4x8192x512, .f32⟩ : BufTy).Contents (Elt F)),
    unary main_arg0 main_v3 ((extractStridedSlice S4x8192x256 ![0, 0, 1536] · slices_S4x8192x3368_S4x8192x256_0_0_1536) : (⟨S4x8192x3368, .f32⟩ : BufTy).Contents (Elt F) → (⟨S4x8192x256, .f32⟩ : BufTy).Contents (Elt F)),
    unary main_arg0 main_v4 ((extractStridedSlice S4x8192x32 ![0, 0, 1792] · slices_S4x8192x3368_S4x8192x32_0_0_1792) : (⟨S4x8192x3368, .f32⟩ : BufTy).Contents (Elt F) → (⟨S4x8192x32, .f32⟩ : BufTy).Contents (Elt F)),
    unary main_arg0 main_v5 ((extractStridedSlice S4x8192x8 ![0, 0, 1824] · slices_S4x8192x3368_S4x8192x8_0_0_1824) : (⟨S4x8192x3368, .f32⟩ : BufTy).Contents (Elt F) → (⟨S4x8192x8, .f32⟩ : BufTy).Contents (Elt F)),
    unary main_arg0 main_v6 ((extractStridedSlice S4x8192x512 ![0, 0, 1832] · slices_S4x8192x3368_S4x8192x512_0_0_1832) : (⟨S4x8192x3368, .f32⟩ : BufTy).Contents (Elt F) → (⟨S4x8192x512, .f32⟩ : BufTy).Contents (Elt F)),
    unary main_arg0 main_v7 ((extractStridedSlice S4x8192x512 ![0, 0, 2344] · slices_S4x8192x3368_S4x8192x512_0_0_2344) : (⟨S4x8192x3368, .f32⟩ : BufTy).Contents (Elt F) → (⟨S4x8192x512, .f32⟩ : BufTy).Contents (Elt F)),
    unary main_arg0 main_v8 ((extractStridedSlice S4x8192x512 ![0, 0, 2856] · slices_S4x8192x3368_S4x8192x512_0_0_2856) : (⟨S4x8192x3368, .f32⟩ : BufTy).Contents (Elt F) → (⟨S4x8192x512, .f32⟩ : BufTy).Contents (Elt F)),
    reshape main_v6 main_v9 (rfl : (.f32 : EltTy) = .f32) shapeCasts_S4x8192x512_S4x8192x4x2x64,
    reshape main_v7 main_v10 (rfl : (.f32 : EltTy) = .f32) shapeCasts_S4x8192x512_S4x8192x4x2x64,
    unary main_v9 main_v11 ((extractStridedSlice S4x8192x4x1x64 ![0, 0, 0, 0, 0] · slices_S4x8192x4x2x64_S4x8192x4x1x64_0_0_0_0_0) : (⟨S4x8192x4x2x64, .f32⟩ : BufTy).Contents (Elt F) → (⟨S4x8192x4x1x64, .f32⟩ : BufTy).Contents (Elt F)),
    reshape main_v11 main_v12 (rfl : (.f32 : EltTy) = .f32) shapeCasts_S4x8192x4x1x64_S4x8192x4x64,
    unary main_v9 main_v13 ((extractStridedSlice S4x8192x4x1x64 ![0, 0, 0, 1, 0] · slices_S4x8192x4x2x64_S4x8192x4x1x64_0_0_0_1_0) : (⟨S4x8192x4x2x64, .f32⟩ : BufTy).Contents (Elt F) → (⟨S4x8192x4x1x64, .f32⟩ : BufTy).Contents (Elt F)),
    reshape main_v13 main_v14 (rfl : (.f32 : EltTy) = .f32) shapeCasts_S4x8192x4x1x64_S4x8192x4x64,
    unary main_v10 main_v15 ((extractStridedSlice S4x8192x4x1x64 ![0, 0, 0, 0, 0] · slices_S4x8192x4x2x64_S4x8192x4x1x64_0_0_0_0_0) : (⟨S4x8192x4x2x64, .f32⟩ : BufTy).Contents (Elt F) → (⟨S4x8192x4x1x64, .f32⟩ : BufTy).Contents (Elt F)),
    reshape main_v15 main_v16 (rfl : (.f32 : EltTy) = .f32) shapeCasts_S4x8192x4x1x64_S4x8192x4x64,
    unary main_v10 main_v17 ((extractStridedSlice S4x8192x4x1x64 ![0, 0, 0, 1, 0] · slices_S4x8192x4x2x64_S4x8192x4x1x64_0_0_0_1_0) : (⟨S4x8192x4x2x64, .f32⟩ : BufTy).Contents (Elt F) → (⟨S4x8192x4x1x64, .f32⟩ : BufTy).Contents (Elt F)),
    reshape main_v17 main_v18 (rfl : (.f32 : EltTy) = .f32) shapeCasts_S4x8192x4x1x64_S4x8192x4x64,
    reshape main_v8 main_v19 (rfl : (.f32 : EltTy) = .f32) shapeCasts_S4x8192x512_S4x8192x4x128 ]

abbrev opsLam : List (HloOp τ sig (Elt F)) :=
  [ unary main_arg3 main_v20 ((extractStridedSlice S1x64 ![0, 0] · slices_S4x64_S1x64_0_0) : (⟨S4x64, .f32⟩ : BufTy).Contents (Elt F) → (⟨S1x64, .f32⟩ : BufTy).Contents (Elt F)),
    reshape main_v20 main_v21 (rfl : (.f32 : EltTy) = .f32) shapeCasts_S1x64_S64,
    unary main_arg3 main_v22 ((extractStridedSlice S1x64 ![1, 0] · slices_S4x64_S1x64_1_0) : (⟨S4x64, .f32⟩ : BufTy).Contents (Elt F) → (⟨S1x64, .f32⟩ : BufTy).Contents (Elt F)),
    reshape main_v22 main_v23 (rfl : (.f32 : EltTy) = .f32) shapeCasts_S1x64_S64,
    binary main_v21 main_v23 main_v24 (mulf : (⟨S64, .f32⟩ : BufTy).Contents (Elt F) → (⟨S64, .f32⟩ : BufTy).Contents (Elt F) → (⟨S64, .f32⟩ : BufTy).Contents (Elt F)),
    nullary main_cst (constant S_ .f32 0x00000000#32),
    binary main_v24 main_cst main_v25 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    unary main_v25 main_v26 (Host.exp : (⟨S_, .f32⟩ : BufTy).Contents (Elt F) → (⟨S_, .f32⟩ : BufTy).Contents (Elt F)),
    unary main_arg3 main_v27 ((extractStridedSlice S1x64 ![2, 0] · slices_S4x64_S1x64_2_0) : (⟨S4x64, .f32⟩ : BufTy).Contents (Elt F) → (⟨S1x64, .f32⟩ : BufTy).Contents (Elt F)),
    reshape main_v27 main_v28 (rfl : (.f32 : EltTy) = .f32) shapeCasts_S1x64_S64,
    unary main_arg3 main_v29 ((extractStridedSlice S1x64 ![3, 0] · slices_S4x64_S1x64_3_0) : (⟨S4x64, .f32⟩ : BufTy).Contents (Elt F) → (⟨S1x64, .f32⟩ : BufTy).Contents (Elt F)),
    reshape main_v29 main_v30 (rfl : (.f32 : EltTy) = .f32) shapeCasts_S1x64_S64,
    binary main_v28 main_v30 main_v31 (mulf : (⟨S64, .f32⟩ : BufTy).Contents (Elt F) → (⟨S64, .f32⟩ : BufTy).Contents (Elt F) → (⟨S64, .f32⟩ : BufTy).Contents (Elt F)),
    nullary main_cst_0 (constant S_ .f32 0x00000000#32),
    binary main_v31 main_cst_0 main_v32 ((fun x v => Host.reduceAdd x v reducesTo_S64_S_d0 h_S_) : (⟨S64, .f32⟩ : BufTy).Contents (Elt F) → (⟨S_, .f32⟩ : BufTy).Contents (Elt F) → (⟨S_, .f32⟩ : BufTy).Contents (Elt F)),
    unary main_v32 main_v33 (Host.exp : (⟨S_, .f32⟩ : BufTy).Contents (Elt F) → (⟨S_, .f32⟩ : BufTy).Contents (Elt F)),
    binary main_v26 main_v33 main_v34 (subf : (⟨S_, .f32⟩ : BufTy).Contents (Elt F) → (⟨S_, .f32⟩ : BufTy).Contents (Elt F) → (⟨S_, .f32⟩ : BufTy).Contents (Elt F)),
    nullary main_cst_1 (constant S_ .f32 0x3EB60549#32),
    binary main_v34 main_cst_1 main_v35 (addf : (⟨S_, .f32⟩ : BufTy).Contents (Elt F) → (⟨S_, .f32⟩ : BufTy).Contents (Elt F) → (⟨S_, .f32⟩ : BufTy).Contents (Elt F)) ]

abbrev opsDist : List (HloOp τ sig (Elt F)) :=
  [ unary main_arg2 main_v36 ((extractStridedSlice S32x4 ![0, 8] · slices_S32x12_S32x4_0_8) : (⟨S32x12, .f32⟩ : BufTy).Contents (Elt F) → (⟨S32x4, .f32⟩ : BufTy).Contents (Elt F)),
    unary main_arg1 main_v37 (broadcastInDim S4x1x8192 ![0, 2] bcast_S4x8192_S4x1x8192_0_2 : (⟨S4x8192, .i32⟩ : BufTy).Contents (Elt F) → (⟨S4x1x8192, .i32⟩ : BufTy).Contents (Elt F)),
    unary main_arg1 main_v38 (broadcastInDim S4x8192x1 ![0, 1] bcast_S4x8192_S4x8192x1_0_1 : (⟨S4x8192, .i32⟩ : BufTy).Contents (Elt F) → (⟨S4x8192x1, .i32⟩ : BufTy).Contents (Elt F)),
    unary main_v37 main_v39 (broadcastInDim S4x8192x8192 ![0, 1, 2] bcast_S4x1x8192_S4x8192x8192_0_1_2 : (⟨S4x1x8192, .i32⟩ : BufTy).Contents (Elt F) → (⟨S4x8192x8192, .i32⟩ : BufTy).Contents (Elt F)),
    unary main_v38 main_v40 (broadcastInDim S4x8192x8192 ![0, 1, 2] bcast_S4x8192x1_S4x8192x8192_0_1_2 : (⟨S4x8192x1, .i32⟩ : BufTy).Contents (Elt F) → (⟨S4x8192x8192, .i32⟩ : BufTy).Contents (Elt F)),
    binary main_v39 main_v40 main_v41 (cmpi .sle : (⟨S4x8192x8192, .i32⟩ : BufTy).Contents (Elt F) → (⟨S4x8192x8192, .i32⟩ : BufTy).Contents (Elt F) → (⟨S4x8192x8192, .i1⟩ : BufTy).Contents (Elt F)),
    unary main_arg1 main_v42 (broadcastInDim S4x8192x1 ![0, 1] bcast_S4x8192_S4x8192x1_0_1 : (⟨S4x8192, .i32⟩ : BufTy).Contents (Elt F) → (⟨S4x8192x1, .i32⟩ : BufTy).Contents (Elt F)),
    unary main_arg1 main_v43 (broadcastInDim S4x1x8192 ![0, 2] bcast_S4x8192_S4x1x8192_0_2 : (⟨S4x8192, .i32⟩ : BufTy).Contents (Elt F) → (⟨S4x1x8192, .i32⟩ : BufTy).Contents (Elt F)),
    unary main_v42 main_v44 (broadcastInDim S4x8192x8192 ![0, 1, 2] bcast_S4x8192x1_S4x8192x8192_0_1_2 : (⟨S4x8192x1, .i32⟩ : BufTy).Contents (Elt F) → (⟨S4x8192x8192, .i32⟩ : BufTy).Contents (Elt F)),
    unary main_v43 main_v45 (broadcastInDim S4x8192x8192 ![0, 1, 2] bcast_S4x1x8192_S4x8192x8192_0_1_2 : (⟨S4x1x8192, .i32⟩ : BufTy).Contents (Elt F) → (⟨S4x8192x8192, .i32⟩ : BufTy).Contents (Elt F)),
    binary main_v44 main_v45 main_v46 (subi : (⟨S4x8192x8192, .i32⟩ : BufTy).Contents (Elt F) → (⟨S4x8192x8192, .i32⟩ : BufTy).Contents (Elt F) → (⟨S4x8192x8192, .i32⟩ : BufTy).Contents (Elt F)),
    nullary main_c (constantI S_ 32 0#32),
    unary main_c main_v47 (broadcastInDim S4x8192x8192 ![] bcast_S_S4x8192x8192 : (⟨S_, .i32⟩ : BufTy).Contents (Elt F) → (⟨S4x8192x8192, .i32⟩ : BufTy).Contents (Elt F)),
    binary main_v46 main_v47 main_v48 (maxsi : (⟨S4x8192x8192, .i32⟩ : BufTy).Contents (Elt F) → (⟨S4x8192x8192, .i32⟩ : BufTy).Contents (Elt F) → (⟨S4x8192x8192, .i32⟩ : BufTy).Contents (Elt F)),
    nullary main_c_2 (constantI S_ 32 1#32),
    unary main_c_2 main_v49 (broadcastInDim S4x8192x8192 ![] bcast_S_S4x8192x8192 : (⟨S_, .i32⟩ : BufTy).Contents (Elt F) → (⟨S4x8192x8192, .i32⟩ : BufTy).Contents (Elt F)),
    binary main_v48 main_v49 main_v50 (maxsi : (⟨S4x8192x8192, .i32⟩ : BufTy).Contents (Elt F) → (⟨S4x8192x8192, .i32⟩ : BufTy).Contents (Elt F) → (⟨S4x8192x8192, .i32⟩ : BufTy).Contents (Elt F)),
    unary main_v50 main_v51 (sitofp .f32 : (⟨S4x8192x8192, .i32⟩ : BufTy).Contents (Elt F) → (⟨S4x8192x8192, .f32⟩ : BufTy).Contents (Elt F)),
    nullary main_cst_3 (constant S_ .f32 0x41800000#32),
    unary main_cst_3 main_v52 (broadcastInDim S4x8192x8192 ![] bcast_S_S4x8192x8192 : (⟨S_, .f32⟩ : BufTy).Contents (Elt F) → (⟨S4x8192x8192, .f32⟩ : BufTy).Contents (Elt F)),
    binary main_v51 main_v52 main_v53 (Host.divf : (⟨S4x8192x8192, .f32⟩ : BufTy).Contents (Elt F) → (⟨S4x8192x8192, .f32⟩ : BufTy).Contents (Elt F) → (⟨S4x8192x8192, .f32⟩ : BufTy).Contents (Elt F)) ]

abbrev opsBucket : List (HloOp τ sig (Elt F)) :=
  [ unary main_v53 main_v54 (Host.log : (⟨S4x8192x8192, .f32⟩ : BufTy).Contents (Elt F) → (⟨S4x8192x8192, .f32⟩ : BufTy).Contents (Elt F)),
    nullary main_cst_4 (constant S_ .f32 0x41000000#32),
    unary main_cst_4 main_v55 (Host.log : (⟨S_, .f32⟩ : BufTy).Contents (Elt F) → (⟨S_, .f32⟩ : BufTy).Contents (Elt F)),
    unary main_v55 main_v56 (broadcastInDim S4x8192x8192 ![] bcast_S_S4x8192x8192 : (⟨S_, .f32⟩ : BufTy).Contents (Elt F) → (⟨S4x8192x8192, .f32⟩ : BufTy).Contents (Elt F)),
    binary main_v54 main_v56 main_v57 (Host.divf : (⟨S4x8192x8192, .f32⟩ : BufTy).Contents (Elt F) → (⟨S4x8192x8192, .f32⟩ : BufTy).Contents (Elt F) → (⟨S4x8192x8192, .f32⟩ : BufTy).Contents (Elt F)),
    nullary main_cst_5 (constant S_ .f32 0x41800000#32),
    unary main_cst_5 main_v58 (broadcastInDim S4x8192x8192 ![] bcast_S_S4x8192x8192 : (⟨S_, .f32⟩ : BufTy).Contents (Elt F) → (⟨S4x8192x8192, .f32⟩ : BufTy).Contents (Elt F)),
    binary main_v57 main_v58 main_v59 (mulf : (⟨S4x8192x8192, .f32⟩ : BufTy).Contents (Elt F) → (⟨S4x8192x8192, .f32⟩ : BufTy).Contents (Elt F) → (⟨S4x8192x8192, .f32⟩ : BufTy).Contents (Elt F)),
    unary main_v59 main_v60 (fptosi 32 : (⟨S4x8192x8192, .f32⟩ : BufTy).Contents (Elt F) → (⟨S4x8192x8192, .i32⟩ : BufTy).Contents (Elt F)),
    nullary main_c_6 (constantI S_ 32 16#32),
    unary main_c_6 main_v61 (broadcastInDim S4x8192x8192 ![] bcast_S_S4x8192x8192 : (⟨S_, .i32⟩ : BufTy).Contents (Elt F) → (⟨S4x8192x8192, .i32⟩ : BufTy).Contents (Elt F)),
    binary main_v61 main_v60 main_v62 (addi : (⟨S4x8192x8192, .i32⟩ : BufTy).Contents (Elt F) → (⟨S4x8192x8192, .i32⟩ : BufTy).Contents (Elt F) → (⟨S4x8192x8192, .i32⟩ : BufTy).Contents (Elt F)),
    nullary main_c_7 (constantI S_ 32 16#32),
    unary main_c_7 main_v63 (broadcastInDim S4x8192x8192 ![] bcast_S_S4x8192x8192 : (⟨S_, .i32⟩ : BufTy).Contents (Elt F) → (⟨S4x8192x8192, .i32⟩ : BufTy).Contents (Elt F)),
    binary main_v48 main_v63 main_v64 (cmpi .slt : (⟨S4x8192x8192, .i32⟩ : BufTy).Contents (Elt F) → (⟨S4x8192x8192, .i32⟩ : BufTy).Contents (Elt F) → (⟨S4x8192x8192, .i1⟩ : BufTy).Contents (Elt F)),
    nullary main_c_8 (constantI S_ 32 31#32),
    unary main_c_8 main_v65 (broadcastInDim S4x8192x8192 ![] bcast_S_S4x8192x8192 : (⟨S_, .i32⟩ : BufTy).Contents (Elt F) → (⟨S4x8192x8192, .i32⟩ : BufTy).Contents (Elt F)),
    binary main_v62 main_v65 main_v66 (minsi : (⟨S4x8192x8192, .i32⟩ : BufTy).Contents (Elt F) → (⟨S4x8192x8192, .i32⟩ : BufTy).Contents (Elt F) → (⟨S4x8192x8192, .i32⟩ : BufTy).Contents (Elt F)),
    TRef.ternary (.of main_v64) (.of main_v48) (.of main_v66) main_call0.v0 select,
    nullary main_c_9 (constantI S_ 32 0#32),
    unary main_c_9 main_v68 (broadcastInDim S4x8192x8192 ![] bcast_S_S4x8192x8192 : (⟨S_, .i32⟩ : BufTy).Contents (Elt F) → (⟨S4x8192x8192, .i32⟩ : BufTy).Contents (Elt F)),
    binary main_v67 main_v68 main_v69 (cmpi .slt : (⟨S4x8192x8192, .i32⟩ : BufTy).Contents (Elt F) → (⟨S4x8192x8192, .i32⟩ : BufTy).Contents (Elt F) → (⟨S4x8192x8192, .i1⟩ : BufTy).Contents (Elt F)),
    nullary main_c_10 (constantI S_ 32 32#32),
    unary main_c_10 main_v70 (broadcastInDim S4x8192x8192 ![] bcast_S_S4x8192x8192 : (⟨S_, .i32⟩ : BufTy).Contents (Elt F) → (⟨S4x8192x8192, .i32⟩ : BufTy).Contents (Elt F)),
    binary main_v67 main_v70 main_v71 (addi : (⟨S4x8192x8192, .i32⟩ : BufTy).Contents (Elt F) → (⟨S4x8192x8192, .i32⟩ : BufTy).Contents (Elt F) → (⟨S4x8192x8192, .i32⟩ : BufTy).Contents (Elt F)),
    ternary main_v69 main_v71 main_v67 main_v72 (select : (⟨S4x8192x8192, .i1⟩ : BufTy).Contents (Elt F) → (⟨S4x8192x8192, .i32⟩ : BufTy).Contents (Elt F) → (⟨S4x8192x8192, .i32⟩ : BufTy).Contents (Elt F) → (⟨S4x8192x8192, .i32⟩ : BufTy).Contents (Elt F)) ]

abbrev opsBias : List (HloOp τ sig (Elt F)) :=
  [ unary main_v72 main_v73 (broadcastInDim S4x8192x8192x1 ![0, 1, 2] bcast_S4x8192x8192_S4x8192x8192x1_0_1_2 : (⟨S4x8192x8192, .i32⟩ : BufTy).Contents (Elt F) → (⟨S4x8192x8192x1, .i32⟩ : BufTy).Contents (Elt F)),
    binary main_v36 main_v73 main_v74 ((fun x i => Host.gather gather_S32x4_S4x8192x8192x1_S4x8192x8192x4_3_0_n_n_0_3_14 x i) : (⟨S32x4, .f32⟩ : BufTy).Contents (Elt F) → (⟨S4x8192x8192x1, .i32⟩ : BufTy).Contents (Elt F) → (⟨S4x8192x8192x4, .f32⟩ : BufTy).Contents (Elt F)),
    unary main_v74 main_v75 ((transpose S4x4x8192x8192 [0, 3, 1, 2] · transposes_S4x8192x8192x4_S4x4x8192x8192_0_3_1_2) : (⟨S4x8192x8192x4, .f32⟩ : BufTy).Contents (Elt F) → (⟨S4x4x8192x8192, .f32⟩ : BufTy).Contents (Elt F)),
    unary main_v41 main_v76 (broadcastInDim S4x1x8192x8192 ![0, 2, 3] bcast_S4x8192x8192_S4x1x8192x8192_0_2_3 : (⟨S4x8192x8192, .i1⟩ : BufTy).Contents (Elt F) → (⟨S4x1x8192x8192, .i1⟩ : BufTy).Contents (Elt F)) ]

abbrev opsFirst : List (HloOp τ sig (Elt F)) :=
  [ binary main_v12 main_v16 main_v77 ((fun l r => Host.dotGeneral dot_S4x8192x4x64_S4x8192x4x64_S4x4x8192x8192_3_3_1_1_02_02 none l r) : (⟨S4x8192x4x64, .f32⟩ : BufTy).Contents (Elt F) → (⟨S4x8192x4x64, .f32⟩ : BufTy).Contents (Elt F) → (⟨S4x4x8192x8192, .f32⟩ : BufTy).Contents (Elt F)),
    nullary main_cst_11 (constant S_ .f32 0x3E000000#32),
    unary main_cst_11 main_v78 (broadcastInDim S4x4x8192x8192 ![] bcast_S_S4x4x8192x8192 : (⟨S_, .f32⟩ : BufTy).Contents (Elt F) → (⟨S4x4x8192x8192, .f32⟩ : BufTy).Contents (Elt F)),
    binary main_v77 main_v78 main_v79 (mulf : (⟨S4x4x8192x8192, .f32⟩ : BufTy).Contents (Elt F) → (⟨S4x4x8192x8192, .f32⟩ : BufTy).Contents (Elt F) → (⟨S4x4x8192x8192, .f32⟩ : BufTy).Contents (Elt F)),
    binary main_v79 main_v75 main_v80 (addf : (⟨S4x4x8192x8192, .f32⟩ : BufTy).Contents (Elt F) → (⟨S4x4x8192x8192, .f32⟩ : BufTy).Contents (Elt F) → (⟨S4x4x8192x8192, .f32⟩ : BufTy).Contents (Elt F)),
    nullary main_cst_12 (constant S_ .f32 0xFF800000#32),
    TRef.unary (.of main_cst_12 : TRef sig ⟨S_, .f32⟩) main_call1.v0 id,
    TRef.unary (.of main_v76 : TRef sig ⟨S4x1x8192x8192, .i1⟩) main_call1.v1 (broadcastInDim S4x4x8192x8192 ![0, 1, 2, 3] bcast_S4x1x8192x8192_S4x4x8192x8192_0_1_2_3),
    TRef.unary main_call1.v0 main_call1.v2 (broadcastInDim S4x4x8192x8192 ![] bcast_S_S4x4x8192x8192),
    TRef.ternary main_call1.v1 (.of main_v80) main_call1.v2 main_call1.v3 select,
    nullary main_cst_13 (constant S_ .f32 0xFF800000#32),
    binary main_v81 main_cst_13 main_v82 ((fun x v => Host.reduce FloatOps.maximumf x v reducesTo_S4x4x8192x8192_S4x4x8192_d3 h_S_) : (⟨S4x4x8192x8192, .f32⟩ : BufTy).Contents (Elt F) → (⟨S_, .f32⟩ : BufTy).Contents (Elt F) → (⟨S4x4x8192, .f32⟩ : BufTy).Contents (Elt F)),
    nullary main_cst_14 (constant S_ .f32 0xFF800000#32),
    unary main_cst_14 main_v83 (broadcastInDim S4x4x8192 ![] bcast_S_S4x4x8192 : (⟨S_, .f32⟩ : BufTy).Contents (Elt F) → (⟨S4x4x8192, .f32⟩ : BufTy).Contents (Elt F)),
    binary main_v83 main_v82 main_v84 (maximumf : (⟨S4x4x8192, .f32⟩ : BufTy).Contents (Elt F) → (⟨S4x4x8192, .f32⟩ : BufTy).Contents (Elt F) → (⟨S4x4x8192, .f32⟩ : BufTy).Contents (Elt F)),
    unary main_v84 main_v85 (broadcastInDim S4x4x8192x1 ![0, 1, 2] bcast_S4x4x8192_S4x4x8192x1_0_1_2 : (⟨S4x4x8192, .f32⟩ : BufTy).Contents (Elt F) → (⟨S4x4x8192x1, .f32⟩ : BufTy).Contents (Elt F)),
    unary main_v85 main_v86 (broadcastInDim S4x4x8192x8192 ![0, 1, 2, 3] bcast_S4x4x8192x1_S4x4x8192x8192_0_1_2_3 : (⟨S4x4x8192x1, .f32⟩ : BufTy).Contents (Elt F) → (⟨S4x4x8192x8192, .f32⟩ : BufTy).Contents (Elt F)),
    binary main_v81 main_v86 main_v87 (subf : (⟨S4x4x8192x8192, .f32⟩ : BufTy).Contents (Elt F) → (⟨S4x4x8192x8192, .f32⟩ : BufTy).Contents (Elt F) → (⟨S4x4x8192x8192, .f32⟩ : BufTy).Contents (Elt F)),
    unary main_v87 main_v88 (Host.exp : (⟨S4x4x8192x8192, .f32⟩ : BufTy).Contents (Elt F) → (⟨S4x4x8192x8192, .f32⟩ : BufTy).Contents (Elt F)),
    nullary main_cst_15 (constant S_ .f32 0x00000000#32),
    binary main_v88 main_cst_15 main_v89 ((fun x v => Host.reduceAdd x v reducesTo_S4x4x8192x8192_S4x4x8192_d3 h_S_) : (⟨S4x4x8192x8192, .f32⟩ : BufTy).Contents (Elt F) → (⟨S_, .f32⟩ : BufTy).Contents (Elt F) → (⟨S4x4x8192, .f32⟩ : BufTy).Contents (Elt F)),
    unary main_v89 main_v90 (broadcastInDim S4x4x8192x1 ![0, 1, 2] bcast_S4x4x8192_S4x4x8192x1_0_1_2 : (⟨S4x4x8192, .f32⟩ : BufTy).Contents (Elt F) → (⟨S4x4x8192x1, .f32⟩ : BufTy).Contents (Elt F)),
    unary main_v90 main_v91 (broadcastInDim S4x4x8192x8192 ![0, 1, 2, 3] bcast_S4x4x8192x1_S4x4x8192x8192_0_1_2_3 : (⟨S4x4x8192x1, .f32⟩ : BufTy).Contents (Elt F) → (⟨S4x4x8192x8192, .f32⟩ : BufTy).Contents (Elt F)),
    binary main_v88 main_v91 main_v92 (Host.divf : (⟨S4x4x8192x8192, .f32⟩ : BufTy).Contents (Elt F) → (⟨S4x4x8192x8192, .f32⟩ : BufTy).Contents (Elt F) → (⟨S4x4x8192x8192, .f32⟩ : BufTy).Contents (Elt F)) ]

abbrev opsSecond : List (HloOp τ sig (Elt F)) :=
  [ binary main_v14 main_v18 main_v93 ((fun l r => Host.dotGeneral dot_S4x8192x4x64_S4x8192x4x64_S4x4x8192x8192_3_3_1_1_02_02 none l r) : (⟨S4x8192x4x64, .f32⟩ : BufTy).Contents (Elt F) → (⟨S4x8192x4x64, .f32⟩ : BufTy).Contents (Elt F) → (⟨S4x4x8192x8192, .f32⟩ : BufTy).Contents (Elt F)),
    nullary main_cst_16 (constant S_ .f32 0x3E000000#32),
    unary main_cst_16 main_v94 (broadcastInDim S4x4x8192x8192 ![] bcast_S_S4x4x8192x8192 : (⟨S_, .f32⟩ : BufTy).Contents (Elt F) → (⟨S4x4x8192x8192, .f32⟩ : BufTy).Contents (Elt F)),
    binary main_v93 main_v94 main_v95 (mulf : (⟨S4x4x8192x8192, .f32⟩ : BufTy).Contents (Elt F) → (⟨S4x4x8192x8192, .f32⟩ : BufTy).Contents (Elt F) → (⟨S4x4x8192x8192, .f32⟩ : BufTy).Contents (Elt F)),
    binary main_v95 main_v75 main_v96 (addf : (⟨S4x4x8192x8192, .f32⟩ : BufTy).Contents (Elt F) → (⟨S4x4x8192x8192, .f32⟩ : BufTy).Contents (Elt F) → (⟨S4x4x8192x8192, .f32⟩ : BufTy).Contents (Elt F)),
    nullary main_cst_17 (constant S_ .f32 0xFF800000#32),
    TRef.unary (.of main_cst_17 : TRef sig ⟨S_, .f32⟩) main_call2.v0 id,
    TRef.unary (.of main_v76 : TRef sig ⟨S4x1x8192x8192, .i1⟩) main_call2.v1 (broadcastInDim S4x4x8192x8192 ![0, 1, 2, 3] bcast_S4x1x8192x8192_S4x4x8192x8192_0_1_2_3),
    TRef.unary main_call2.v0 main_call2.v2 (broadcastInDim S4x4x8192x8192 ![] bcast_S_S4x4x8192x8192),
    TRef.ternary main_call2.v1 (.of main_v96) main_call2.v2 main_call2.v3 select,
    nullary main_cst_18 (constant S_ .f32 0xFF800000#32),
    binary main_v97 main_cst_18 main_v98 ((fun x v => Host.reduce FloatOps.maximumf x v reducesTo_S4x4x8192x8192_S4x4x8192_d3 h_S_) : (⟨S4x4x8192x8192, .f32⟩ : BufTy).Contents (Elt F) → (⟨S_, .f32⟩ : BufTy).Contents (Elt F) → (⟨S4x4x8192, .f32⟩ : BufTy).Contents (Elt F)) ]

abbrev opsSecondEnd : List (HloOp τ sig (Elt F)) :=
  [ nullary main_cst_19 (constant S_ .f32 0xFF800000#32),
    unary main_cst_19 main_v99 (broadcastInDim S4x4x8192 ![] bcast_S_S4x4x8192 : (⟨S_, .f32⟩ : BufTy).Contents (Elt F) → (⟨S4x4x8192, .f32⟩ : BufTy).Contents (Elt F)),
    binary main_v99 main_v98 main_v100 (maximumf : (⟨S4x4x8192, .f32⟩ : BufTy).Contents (Elt F) → (⟨S4x4x8192, .f32⟩ : BufTy).Contents (Elt F) → (⟨S4x4x8192, .f32⟩ : BufTy).Contents (Elt F)),
    unary main_v100 main_v101 (broadcastInDim S4x4x8192x1 ![0, 1, 2] bcast_S4x4x8192_S4x4x8192x1_0_1_2 : (⟨S4x4x8192, .f32⟩ : BufTy).Contents (Elt F) → (⟨S4x4x8192x1, .f32⟩ : BufTy).Contents (Elt F)),
    unary main_v101 main_v102 (broadcastInDim S4x4x8192x8192 ![0, 1, 2, 3] bcast_S4x4x8192x1_S4x4x8192x8192_0_1_2_3 : (⟨S4x4x8192x1, .f32⟩ : BufTy).Contents (Elt F) → (⟨S4x4x8192x8192, .f32⟩ : BufTy).Contents (Elt F)),
    binary main_v97 main_v102 main_v103 (subf : (⟨S4x4x8192x8192, .f32⟩ : BufTy).Contents (Elt F) → (⟨S4x4x8192x8192, .f32⟩ : BufTy).Contents (Elt F) → (⟨S4x4x8192x8192, .f32⟩ : BufTy).Contents (Elt F)),
    unary main_v103 main_v104 (Host.exp : (⟨S4x4x8192x8192, .f32⟩ : BufTy).Contents (Elt F) → (⟨S4x4x8192x8192, .f32⟩ : BufTy).Contents (Elt F)),
    nullary main_cst_20 (constant S_ .f32 0x00000000#32),
    binary main_v104 main_cst_20 main_v105 ((fun x v => Host.reduceAdd x v reducesTo_S4x4x8192x8192_S4x4x8192_d3 h_S_) : (⟨S4x4x8192x8192, .f32⟩ : BufTy).Contents (Elt F) → (⟨S_, .f32⟩ : BufTy).Contents (Elt F) → (⟨S4x4x8192, .f32⟩ : BufTy).Contents (Elt F)),
    unary main_v105 main_v106 (broadcastInDim S4x4x8192x1 ![0, 1, 2] bcast_S4x4x8192_S4x4x8192x1_0_1_2 : (⟨S4x4x8192, .f32⟩ : BufTy).Contents (Elt F) → (⟨S4x4x8192x1, .f32⟩ : BufTy).Contents (Elt F)),
    unary main_v106 main_v107 (broadcastInDim S4x4x8192x8192 ![0, 1, 2, 3] bcast_S4x4x8192x1_S4x4x8192x8192_0_1_2_3 : (⟨S4x4x8192x1, .f32⟩ : BufTy).Contents (Elt F) → (⟨S4x4x8192x8192, .f32⟩ : BufTy).Contents (Elt F)),
    binary main_v104 main_v107 main_v108 (Host.divf : (⟨S4x4x8192x8192, .f32⟩ : BufTy).Contents (Elt F) → (⟨S4x4x8192x8192, .f32⟩ : BufTy).Contents (Elt F) → (⟨S4x4x8192x8192, .f32⟩ : BufTy).Contents (Elt F)) ]

abbrev opsDiff : List (HloOp τ sig (Elt F)) :=
  [ unary main_v35 main_v109 (broadcastInDim S4x4x8192x8192 ![] bcast_S_S4x4x8192x8192 : (⟨S_, .f32⟩ : BufTy).Contents (Elt F) → (⟨S4x4x8192x8192, .f32⟩ : BufTy).Contents (Elt F)),
    binary main_v109 main_v108 main_v110 (mulf : (⟨S4x4x8192x8192, .f32⟩ : BufTy).Contents (Elt F) → (⟨S4x4x8192x8192, .f32⟩ : BufTy).Contents (Elt F) → (⟨S4x4x8192x8192, .f32⟩ : BufTy).Contents (Elt F)),
    binary main_v92 main_v110 main_v111 (subf : (⟨S4x4x8192x8192, .f32⟩ : BufTy).Contents (Elt F) → (⟨S4x4x8192x8192, .f32⟩ : BufTy).Contents (Elt F) → (⟨S4x4x8192x8192, .f32⟩ : BufTy).Contents (Elt F)),
    binary main_v19 main_v111 main_v112 ((fun l r => Host.dotGeneral dot_S4x8192x4x128_S4x4x8192x8192_S4x4x128x8192_1_3_3_2_02_01 none l r) : (⟨S4x8192x4x128, .f32⟩ : BufTy).Contents (Elt F) → (⟨S4x4x8192x8192, .f32⟩ : BufTy).Contents (Elt F) → (⟨S4x4x128x8192, .f32⟩ : BufTy).Contents (Elt F)),
    unary main_v112 main_v113 ((transpose S4x8192x4x128 [0, 3, 1, 2] · transposes_S4x4x128x8192_S4x8192x4x128_0_3_1_2) : (⟨S4x4x128x8192, .f32⟩ : BufTy).Contents (Elt F) → (⟨S4x8192x4x128, .f32⟩ : BufTy).Contents (Elt F)) ]

abbrev opsNorm : List (HloOp τ sig (Elt F)) :=
  [ binary main_v113 main_v113 main_v114 (mulf : (⟨S4x8192x4x128, .f32⟩ : BufTy).Contents (Elt F) → (⟨S4x8192x4x128, .f32⟩ : BufTy).Contents (Elt F) → (⟨S4x8192x4x128, .f32⟩ : BufTy).Contents (Elt F)),
    nullary main_cst_21 (constant S_ .f32 0x00000000#32),
    binary main_v114 main_cst_21 main_v115 ((fun x v => Host.reduceAdd x v reducesTo_S4x8192x4x128_S4x8192x4_d3 h_S_) : (⟨S4x8192x4x128, .f32⟩ : BufTy).Contents (Elt F) → (⟨S_, .f32⟩ : BufTy).Contents (Elt F) → (⟨S4x8192x4, .f32⟩ : BufTy).Contents (Elt F)),
    unary main_v115 main_v116 (broadcastInDim S4x8192x4x1 ![0, 1, 2] bcast_S4x8192x4_S4x8192x4x1_0_1_2 : (⟨S4x8192x4, .f32⟩ : BufTy).Contents (Elt F) → (⟨S4x8192x4x1, .f32⟩ : BufTy).Contents (Elt F)),
    nullary main_cst_22 (constant S_ .f32 0x43000000#32),
    unary main_cst_22 main_v117 (broadcastInDim S4x8192x4x1 ![] bcast_S_S4x8192x4x1 : (⟨S_, .f32⟩ : BufTy).Contents (Elt F) → (⟨S4x8192x4x1, .f32⟩ : BufTy).Contents (Elt F)),
    binary main_v116 main_v117 main_v118 (Host.divf : (⟨S4x8192x4x1, .f32⟩ : BufTy).Contents (Elt F) → (⟨S4x8192x4x1, .f32⟩ : BufTy).Contents (Elt F) → (⟨S4x8192x4x1, .f32⟩ : BufTy).Contents (Elt F)),
    nullary main_cst_23 (constant S_ .f32 0x358637BD#32),
    unary main_cst_23 main_v119 (broadcastInDim S4x8192x4x1 ![] bcast_S_S4x8192x4x1 : (⟨S_, .f32⟩ : BufTy).Contents (Elt F) → (⟨S4x8192x4x1, .f32⟩ : BufTy).Contents (Elt F)),
    binary main_v118 main_v119 main_v120 (addf : (⟨S4x8192x4x1, .f32⟩ : BufTy).Contents (Elt F) → (⟨S4x8192x4x1, .f32⟩ : BufTy).Contents (Elt F) → (⟨S4x8192x4x1, .f32⟩ : BufTy).Contents (Elt F)),
    unary main_v120 main_v121 (Host.rsqrt : (⟨S4x8192x4x1, .f32⟩ : BufTy).Contents (Elt F) → (⟨S4x8192x4x1, .f32⟩ : BufTy).Contents (Elt F)),
    unary main_v121 main_v122 (broadcastInDim S4x8192x4x128 ![0, 1, 2, 3] bcast_S4x8192x4x1_S4x8192x4x128_0_1_2_3 : (⟨S4x8192x4x1, .f32⟩ : BufTy).Contents (Elt F) → (⟨S4x8192x4x128, .f32⟩ : BufTy).Contents (Elt F)),
    binary main_v113 main_v122 main_v123 (mulf : (⟨S4x8192x4x128, .f32⟩ : BufTy).Contents (Elt F) → (⟨S4x8192x4x128, .f32⟩ : BufTy).Contents (Elt F) → (⟨S4x8192x4x128, .f32⟩ : BufTy).Contents (Elt F)),
    unary main_arg4 main_v124 (broadcastInDim S1x1x1x128 ![3] bcast_S128_S1x1x1x128_3 : (⟨S128, .f32⟩ : BufTy).Contents (Elt F) → (⟨S1x1x1x128, .f32⟩ : BufTy).Contents (Elt F)),
    unary main_v124 main_v125 (broadcastInDim S4x8192x4x128 ![0, 1, 2, 3] bcast_S1x1x1x128_S4x8192x4x128_0_1_2_3 : (⟨S1x1x1x128, .f32⟩ : BufTy).Contents (Elt F) → (⟨S4x8192x4x128, .f32⟩ : BufTy).Contents (Elt F)),
    binary main_v123 main_v125 main_v126 (mulf : (⟨S4x8192x4x128, .f32⟩ : BufTy).Contents (Elt F) → (⟨S4x8192x4x128, .f32⟩ : BufTy).Contents (Elt F) → (⟨S4x8192x4x128, .f32⟩ : BufTy).Contents (Elt F)),
    nullary main_cst_24 (constant S_ .f32 0x3F24FD5C#32),
    unary main_cst_24 main_v127 (broadcastInDim S4x8192x4x128 ![] bcast_S_S4x8192x4x128 : (⟨S_, .f32⟩ : BufTy).Contents (Elt F) → (⟨S4x8192x4x128, .f32⟩ : BufTy).Contents (Elt F)),
    binary main_v126 main_v127 main_v128 (mulf : (⟨S4x8192x4x128, .f32⟩ : BufTy).Contents (Elt F) → (⟨S4x8192x4x128, .f32⟩ : BufTy).Contents (Elt F) → (⟨S4x8192x4x128, .f32⟩ : BufTy).Contents (Elt F)),
    reshape main_v128 main_v129 (rfl : (.f32 : EltTy) = .f32) shapeCasts_S4x8192x4x128_S4x8192x512,
    unary main_v129 main_v130 ((truncf .bf16 · bitsLt_bf16_f32) : (⟨S4x8192x512, .f32⟩ : BufTy).Contents (Elt F) → (⟨S4x8192x512, .bf16⟩ : BufTy).Contents (Elt F)) ]

/-- @main's three windows, and all of it. -/
abbrev ops0 : List (HloOp τ sig (Elt F)) := opsQkv ++ (opsLam ++ opsDist)
abbrev ops1 : List (HloOp τ sig (Elt F)) := opsBucket ++ (opsBias ++ (opsFirst ++ opsSecond))
abbrev ops2 : List (HloOp τ sig (Elt F)) := opsSecondEnd ++ (opsDiff ++ opsNorm)
abbrev ops : List (HloOp τ sig (Elt F)) := ops0 ++ (ops1 ++ ops2)

theorem part0_eq (d : Dev nD) : main_part0 (F := F) d = seq ops0 := by chain_rfl
theorem part1_eq (d : Dev nD) : main_part1 (F := F) d = seq ops1 := by chain_rfl
theorem part2_eq (d : Dev nD) : main_part2 (F := F) d = seq ops2 := by chain_rfl

theorem main_eq (d : Dev nD) : main (F := F) d = seq ops := by
  unfold ops
  rw [seq_append ops0, seq_append ops1, ← part0_eq d, ← part1_eq d, ← part2_eq d]
  rfl

theorem opsQkv_sub : (opsQkv : List (HloOp τ sig (Elt F))).Forall fun op => op.bufs ⊆ tcRefs τ sig :=
  ⟨unary_bufs_sub .., unary_bufs_sub .., unary_bufs_sub .., unary_bufs_sub .., unary_bufs_sub .., unary_bufs_sub .., unary_bufs_sub .., unary_bufs_sub .., unary_bufs_sub .., reshape_bufs_sub .., reshape_bufs_sub .., unary_bufs_sub .., reshape_bufs_sub .., unary_bufs_sub .., reshape_bufs_sub .., unary_bufs_sub .., reshape_bufs_sub .., unary_bufs_sub .., reshape_bufs_sub .., reshape_bufs_sub ..⟩

theorem opsLam_sub : (opsLam : List (HloOp τ sig (Elt F))).Forall fun op => op.bufs ⊆ tcRefs τ sig :=
  ⟨unary_bufs_sub .., reshape_bufs_sub .., unary_bufs_sub .., reshape_bufs_sub .., binary_bufs_sub .., nullary_bufs_sub .., binary_bufs_sub .., unary_bufs_sub .., unary_bufs_sub .., reshape_bufs_sub .., unary_bufs_sub .., reshape_bufs_sub .., binary_bufs_sub .., nullary_bufs_sub .., binary_bufs_sub .., unary_bufs_sub .., binary_bufs_sub .., nullary_bufs_sub .., binary_bufs_sub ..⟩

theorem opsDist_sub : (opsDist : List (HloOp τ sig (Elt F))).Forall fun op => op.bufs ⊆ tcRefs τ sig :=
  ⟨unary_bufs_sub .., unary_bufs_sub .., unary_bufs_sub .., unary_bufs_sub .., unary_bufs_sub .., binary_bufs_sub .., unary_bufs_sub .., unary_bufs_sub .., unary_bufs_sub .., unary_bufs_sub .., binary_bufs_sub .., nullary_bufs_sub .., unary_bufs_sub .., binary_bufs_sub .., nullary_bufs_sub .., unary_bufs_sub .., binary_bufs_sub .., unary_bufs_sub .., nullary_bufs_sub .., unary_bufs_sub .., binary_bufs_sub ..⟩

theorem opsBucket_sub : (opsBucket : List (HloOp τ sig (Elt F))).Forall fun op => op.bufs ⊆ tcRefs τ sig :=
  ⟨unary_bufs_sub .., nullary_bufs_sub .., unary_bufs_sub .., unary_bufs_sub .., binary_bufs_sub .., nullary_bufs_sub .., unary_bufs_sub .., binary_bufs_sub .., unary_bufs_sub .., nullary_bufs_sub .., unary_bufs_sub .., binary_bufs_sub .., nullary_bufs_sub .., unary_bufs_sub .., binary_bufs_sub .., nullary_bufs_sub .., unary_bufs_sub .., binary_bufs_sub .., ternary_bufs_sub .., nullary_bufs_sub .., unary_bufs_sub .., binary_bufs_sub .., nullary_bufs_sub .., unary_bufs_sub .., binary_bufs_sub .., ternary_bufs_sub ..⟩

theorem opsBias_sub : (opsBias : List (HloOp τ sig (Elt F))).Forall fun op => op.bufs ⊆ tcRefs τ sig :=
  ⟨unary_bufs_sub .., binary_bufs_sub .., unary_bufs_sub .., unary_bufs_sub ..⟩

theorem opsFirst_sub : (opsFirst : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem opsSecond_sub : (opsSecond : List (HloOp τ sig (Elt F))).Forall fun op => op.bufs ⊆ tcRefs τ sig :=
  ⟨binary_bufs_sub .., nullary_bufs_sub .., unary_bufs_sub .., binary_bufs_sub .., binary_bufs_sub .., nullary_bufs_sub .., unary_bufs_sub .., unary_bufs_sub .., unary_bufs_sub .., ternary_bufs_sub .., nullary_bufs_sub .., binary_bufs_sub ..⟩

theorem opsSecondEnd_sub : (opsSecondEnd : List (HloOp τ sig (Elt F))).Forall fun op => op.bufs ⊆ tcRefs τ sig :=
  ⟨nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

theorem opsDiff_sub : (opsDiff : List (HloOp τ sig (Elt F))).Forall fun op => op.bufs ⊆ tcRefs τ sig :=
  ⟨unary_bufs_sub .., binary_bufs_sub .., binary_bufs_sub .., binary_bufs_sub .., unary_bufs_sub ..⟩

theorem opsNorm_sub : (opsNorm : List (HloOp τ sig (Elt F))).Forall fun op => op.bufs ⊆ tcRefs τ sig :=
  ⟨binary_bufs_sub .., nullary_bufs_sub .., binary_bufs_sub .., unary_bufs_sub .., nullary_bufs_sub .., unary_bufs_sub .., binary_bufs_sub .., nullary_bufs_sub .., unary_bufs_sub .., binary_bufs_sub .., unary_bufs_sub .., unary_bufs_sub .., binary_bufs_sub .., unary_bufs_sub .., unary_bufs_sub .., binary_bufs_sub .., nullary_bufs_sub .., unary_bufs_sub .., binary_bufs_sub .., reshape_bufs_sub .., unary_bufs_sub ..⟩

theorem opsQkv_fresh : ∀ op ∈ (opsQkv : List (HloOp τ sig (Elt F))), op.fresh = ∅ :=
  List.forall_iff_forall_mem.mp (forall_fresh_of_map rfl)
theorem opsLam_fresh : ∀ op ∈ (opsLam : List (HloOp τ sig (Elt F))), op.fresh = ∅ :=
  List.forall_iff_forall_mem.mp (forall_fresh_of_map rfl)
theorem opsDist_fresh : ∀ op ∈ (opsDist : List (HloOp τ sig (Elt F))), op.fresh = ∅ :=
  List.forall_iff_forall_mem.mp (forall_fresh_of_map rfl)
theorem opsBucket_fresh : ∀ op ∈ (opsBucket : List (HloOp τ sig (Elt F))), op.fresh = ∅ :=
  List.forall_iff_forall_mem.mp (forall_fresh_of_map rfl)
theorem opsBias_fresh : ∀ op ∈ (opsBias : List (HloOp τ sig (Elt F))), op.fresh = ∅ :=
  List.forall_iff_forall_mem.mp (forall_fresh_of_map rfl)
theorem opsFirst_fresh : ∀ op ∈ (opsFirst : List (HloOp τ sig (Elt F))), op.fresh = ∅ :=
  List.forall_iff_forall_mem.mp (forall_fresh_of_map rfl)
theorem opsSecond_fresh : ∀ op ∈ (opsSecond : List (HloOp τ sig (Elt F))), op.fresh = ∅ :=
  List.forall_iff_forall_mem.mp (forall_fresh_of_map rfl)
theorem opsSecondEnd_fresh : ∀ op ∈ (opsSecondEnd : List (HloOp τ sig (Elt F))), op.fresh = ∅ :=
  List.forall_iff_forall_mem.mp (forall_fresh_of_map rfl)
theorem opsDiff_fresh : ∀ op ∈ (opsDiff : List (HloOp τ sig (Elt F))), op.fresh = ∅ :=
  List.forall_iff_forall_mem.mp (forall_fresh_of_map rfl)
theorem opsNorm_fresh : ∀ op ∈ (opsNorm : List (HloOp τ sig (Elt F))), op.fresh = ∅ :=
  List.forall_iff_forall_mem.mp (forall_fresh_of_map rfl)

theorem forall_append {α : Type} {p : α → Prop} {l l' : List α} (h : l.Forall p) (h' : l'.Forall p) : (l ++ l').Forall p := by
  rw [List.forall_iff_forall_mem] at *
  intro x hx
  rcases List.mem_append.mp hx with hx | hx
  · exact h x hx
  · exact h' x hx

theorem mem_append {α : Type} {p : α → Prop} {l l' : List α} (h : ∀ x ∈ l, p x) (h' : ∀ x ∈ l', p x) : ∀ x ∈ l ++ l', p x := by
  intro x hx
  rcases List.mem_append.mp hx with hx | hx
  · exact h x hx
  · exact h' x hx

theorem ops_sub : (ops : List (HloOp τ sig (Elt F))).Forall fun op => op.bufs ⊆ tcRefs τ sig :=
  forall_append (forall_append opsQkv_sub (forall_append opsLam_sub opsDist_sub))
    (forall_append (forall_append opsBucket_sub (forall_append opsBias_sub (forall_append opsFirst_sub opsSecond_sub)))
      (forall_append opsSecondEnd_sub (forall_append opsDiff_sub opsNorm_sub)))

theorem ops_fresh : ∀ op ∈ (ops : List (HloOp τ sig (Elt F))), op.fresh = ∅ :=
  mem_append (mem_append opsQkv_fresh (mem_append opsLam_fresh opsDist_fresh))
    (mem_append (mem_append opsBucket_fresh (mem_append opsBias_fresh (mem_append opsFirst_fresh opsSecond_fresh)))
      (mem_append opsSecondEnd_fresh (mem_append opsDiff_fresh opsNorm_fresh)))

theorem scopedRefs_eq : (Finset.univ.filter fun b : Ref sig .tc => b.isScoped) = ∅ := by decide
theorem scopedSems_eq : (Finset.univ.filter fun sm : SemLoc sig => sm.isScoped .tc) = ∅ := by decide

theorem after_app (l₁ l₂ : List (HloOp τ sig (Elt F))) (V : Valuation τ sig (Elt F)) : after (l₁ ++ l₂) V = after l₂ (after l₁ V) := by
  induction l₁ generalizing V with
  | nil => rfl
  | cons op l ih => exact ih _

theorem run_ref (m : (ℓ : Loc nD τ sig) → Buf (Elt F) ℓ) (g : Dev nD → PrngReg) :
    θ_run defs (onTc (τ := τ) (main (F := F))) ⟨m, fun _ => 0, g⟩ fun r =>
      ∀ (d : Dev nD) (b : Ref sig .tc), r.2.mem ((d.tc : Thread nD τ).loc b) = after ops (launchContents m d) (Proc.devRef .tc b) :=
  run_seq scopedRefs_eq scopedSems_eq defs main (fun _ => ops) main_eq (fun _ => ops_sub) m g (fun _ => ops_fresh)

abbrev opsQkvW : List (Ref sig .tc) := [main_v0, main_v1, main_v2, main_v3, main_v4, main_v5, main_v6, main_v7, main_v8, main_v9, main_v10, main_v11, main_v12, main_v13, main_v14, main_v15, main_v16, main_v17, main_v18, main_v19]
theorem opsQkv_keep {r : Ref sig .tc} (hr : r ∉ opsQkvW) (V : Valuation τ sig (Elt F)) : after opsQkv V (Proc.devRef .tc r) = V (Proc.devRef .tc r) :=
  after_unwritten opsQkvW rfl hr V
abbrev opsLamW : List (Ref sig .tc) := [main_v20, main_v21, main_v22, main_v23, main_v24, main_cst, main_v25, main_v26, main_v27, main_v28, main_v29, main_v30, main_v31, main_cst_0, main_v32, main_v33, main_v34, main_cst_1, main_v35]
theorem opsLam_keep {r : Ref sig .tc} (hr : r ∉ opsLamW) (V : Valuation τ sig (Elt F)) : after opsLam V (Proc.devRef .tc r) = V (Proc.devRef .tc r) :=
  after_unwritten opsLamW rfl hr V
abbrev opsDistW : List (Ref sig .tc) := [main_v36, main_v37, main_v38, main_v39, main_v40, main_v41, main_v42, main_v43, main_v44, main_v45, main_v46, main_c, main_v47, main_v48, main_c_2, main_v49, main_v50, main_v51, main_cst_3, main_v52, main_v53]
theorem opsDist_keep {r : Ref sig .tc} (hr : r ∉ opsDistW) (V : Valuation τ sig (Elt F)) : after opsDist V (Proc.devRef .tc r) = V (Proc.devRef .tc r) :=
  after_unwritten opsDistW rfl hr V
abbrev opsBucketW : List (Ref sig .tc) := [main_v54, main_cst_4, main_v55, main_v56, main_v57, main_cst_5, main_v58, main_v59, main_v60, main_c_6, main_v61, main_v62, main_c_7, main_v63, main_v64, main_c_8, main_v65, main_v66, main_v67, main_c_9, main_v68, main_v69, main_c_10, main_v70, main_v71, main_v72]
theorem opsBucket_keep {r : Ref sig .tc} (hr : r ∉ opsBucketW) (V : Valuation τ sig (Elt F)) : after opsBucket V (Proc.devRef .tc r) = V (Proc.devRef .tc r) :=
  after_unwritten opsBucketW rfl hr V
abbrev opsBiasW : List (Ref sig .tc) := [main_v73, main_v74, main_v75, main_v76]
theorem opsBias_keep {r : Ref sig .tc} (hr : r ∉ opsBiasW) (V : Valuation τ sig (Elt F)) : after opsBias V (Proc.devRef .tc r) = V (Proc.devRef .tc r) :=
  after_unwritten opsBiasW rfl hr V
abbrev opsFirstW : List (Ref sig .tc) := [main_v77, main_cst_11, main_v78, main_v79, main_v80, main_cst_12, main_call1_v0, main_call1_v1, main_call1_v2, main_v81, main_cst_13, main_v82, main_cst_14, main_v83, main_v84, main_v85, main_v86, main_v87, main_v88, main_cst_15, main_v89, main_v90, main_v91, main_v92]
theorem opsFirst_keep {r : Ref sig .tc} (hr : r ∉ opsFirstW) (V : Valuation τ sig (Elt F)) : after opsFirst V (Proc.devRef .tc r) = V (Proc.devRef .tc r) :=
  after_unwritten opsFirstW rfl hr V
abbrev opsSecondW : List (Ref sig .tc) := [main_v93, main_cst_16, main_v94, main_v95, main_v96, main_cst_17, main_call2_v0, main_call2_v1, main_call2_v2, main_v97, main_cst_18, main_v98]
theorem opsSecond_keep {r : Ref sig .tc} (hr : r ∉ opsSecondW) (V : Valuation τ sig (Elt F)) : after opsSecond V (Proc.devRef .tc r) = V (Proc.devRef .tc r) :=
  after_unwritten opsSecondW rfl hr V
abbrev opsSecondEndW : List (Ref sig .tc) := [main_cst_19, main_v99, main_v100, main_v101, main_v102, main_v103, main_v104, main_cst_20, main_v105, main_v106, main_v107, main_v108]
theorem opsSecondEnd_keep {r : Ref sig .tc} (hr : r ∉ opsSecondEndW) (V : Valuation τ sig (Elt F)) : after opsSecondEnd V (Proc.devRef .tc r) = V (Proc.devRef .tc r) :=
  after_unwritten opsSecondEndW rfl hr V
abbrev opsDiffW : List (Ref sig .tc) := [main_v109, main_v110, main_v111, main_v112, main_v113]
theorem opsDiff_keep {r : Ref sig .tc} (hr : r ∉ opsDiffW) (V : Valuation τ sig (Elt F)) : after opsDiff V (Proc.devRef .tc r) = V (Proc.devRef .tc r) :=
  after_unwritten opsDiffW rfl hr V
abbrev opsNormW : List (Ref sig .tc) := [main_v114, main_cst_21, main_v115, main_v116, main_cst_22, main_v117, main_v118, main_cst_23, main_v119, main_v120, main_v121, main_v122, main_v123, main_v124, main_v125, main_v126, main_cst_24, main_v127, main_v128, main_v129, main_v130]
theorem opsNorm_keep {r : Ref sig .tc} (hr : r ∉ opsNormW) (V : Valuation τ sig (Elt F)) : after opsNorm V (Proc.devRef .tc r) = V (Proc.devRef .tc r) :=
  after_unwritten opsNormW rfl hr V

theorem arg_kept {r : Ref sig .tc} (hr : r ∉ opsQkvW ++ opsLamW ++ opsDistW ++ opsBucketW ++ opsBiasW ++ opsFirstW ++ opsSecondW ++ opsSecondEndW ++ opsDiffW ++ opsNormW)
    (V : Valuation τ sig (Elt F)) : after ops V (Proc.devRef .tc r) = V (Proc.devRef .tc r) := by
  simp only [List.mem_append, not_or] at hr
  obtain ⟨⟨⟨⟨⟨⟨⟨⟨⟨h0, h1⟩, h2⟩, h3⟩, h4⟩, h5⟩, h6⟩, h7⟩, h8⟩, h9⟩ := hr
  unfold ops ops0 ops1 ops2
  rw [after_app, after_app, after_app, after_app, after_app, after_app, after_app, after_app, after_app,
    opsNorm_keep h9, opsDiff_keep h8, opsSecondEnd_keep h7, opsSecond_keep h6, opsFirst_keep h5, opsBias_keep h4,
    opsBucket_keep h3, opsDist_keep h2, opsLam_keep h1, opsQkv_keep h0]

end Cert.ReferenceIdeal.DA

end
-- ==== Proof.Math.lean ====
/- The online softmax over the reals: what a column of the running maximum and of the accumulator
   holds after the first `n` keys, one step of it, and the quotient it ends with; and the softmax
   row the reference forms at once. -/
module

public import Idealize.ShloMosaic.PureOps.Ideal
public import Idealize.ShloMosaic.PureOps.Ideal.Laws
public import Mathlib.Analysis.SpecialFunctions.Pow.Real

@[expose] public section

noncomputable section

namespace Cert.DA

open Idealize.ShloMosaic

theorem sum_coe {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum_fin_cut (n n' N : ℕ) (h1 : n ≤ n') (h2 : n' ≤ n + N) (g : ℕ → ℝ) :
    ∑ s ∈ Finset.range n, g s + ∑ i : Fin N, (if n + i.val < n' then g (n + i.val) else 0) = ∑ s ∈ Finset.range n', g s := by
  have e1 : ∑ i : Fin N, (if n + i.val < n' then g (n + i.val) else 0)
      = ∑ i ∈ Finset.range N, (fun s => if s < n' then g s else 0) (n + i) :=
    Fin.sum_univ_eq_sum_range (fun i => if n + i < n' then g (n + i) else 0) N
  have e2 : ∑ s ∈ Finset.range n, g s = ∑ s ∈ Finset.range n, (fun s => if s < n' then g s else 0) s :=
    Finset.sum_congr rfl fun s hs => by
      have := Finset.mem_range.mp hs
      simp only; rw [if_pos (by omega)]
  rw [e1, e2, ← Finset.sum_range_add, ← Finset.sum_filter]
  refine Finset.sum_congr ?_ fun _ _ => rfl
  ext s
  simp only [Finset.mem_filter, Finset.mem_range]
  omega

/-- The largest of values that are real or absent, one of them real, is real. -/
theorem fold_max_real {N : ℕ} (L : Fin N → EReal) (hT : ∀ i, L i ≠ ⊤) (i₀ : Fin N) (h₀ : L i₀ ≠ ⊥) (b : EReal) (hb : b ≠ ⊤) :
    ∃ μ : ℝ, max b (Finset.univ.fold max ⊥ L) = (μ : EReal) := by
  set M := max b (Finset.univ.fold max ⊥ L) with hM
  have hlt : M < ⊤ := max_lt (lt_top_iff_ne_top.mpr hb)
    ((Finset.fold_max_lt _).mpr ⟨bot_lt_top, fun i _ => lt_top_iff_ne_top.mpr (hT i)⟩)
  have hgt : ⊥ < M := (bot_lt_iff_ne_bot.mpr h₀).trans_le
    ((Finset.le_fold_max _).mpr (Or.inr ⟨i₀, Finset.mem_univ _, le_rfl⟩) |>.trans (le_max_right _ _))
  exact ⟨M.toReal, (EReal.coe_toReal hlt.ne hgt.ne').symm⟩

/-- The maximum of no key is read as zero. -/
def safe (x : EReal) : EReal := if x = ⊥ then 0 else x

/-- A column of the running maximum `m` and of the accumulator `a` after the keys below `n`, of log-2 logits `Y` and weights `w`. -/
def Holds (n : ℕ) (Y : ℕ → ℝ) (w : Fin 144 → ℕ → ℝ) (m : EReal) (a : Fin 144 → EReal) : Prop :=
  ∃ μ : ℝ, (m = (μ : EReal) ∨ (m = ⊥ ∧ n = 0)) ∧ ∀ e, a e = ((∑ s ∈ Finset.range n, (2 : ℝ) ^ (Y s - μ) * w e s : ℝ) : EReal)

theorem holds_zero (Y : ℕ → ℝ) (w : Fin 144 → ℕ → ℝ) : Holds 0 Y w ⊥ (fun _ => 0) :=
  ⟨0, Or.inr ⟨rfl, rfl⟩, fun _ => by simp⟩

theorem holds_step {N n n' : ℕ} {Y : ℕ → ℝ} {w : Fin 144 → ℕ → ℝ} {m : EReal} {a : Fin 144 → EReal} (H : Holds n Y w m a)
    (L : Fin N → EReal) (va : Fin 144 → Fin N → EReal) (h1 : n < n') (h2 : n' ≤ n + N)
    (hL : ∀ i, L i = if n + i.val < n' then (Y (n + i.val) : EReal) else ⊥) (hva : ∀ e i, va e i = (w e (n + i.val) : EReal)) :
    Holds n' Y w (max m (Finset.univ.fold max ⊥ L))
      (fun e => Ideal.exp2 (m - safe (max m (Finset.univ.fold max ⊥ L))) * a e
        + ∑ i : Fin N, va e i * Ideal.exp2 (L i - safe (max m (Finset.univ.fold max ⊥ L)))) := by
  obtain ⟨μ, hm, ha⟩ := H
  have hN : 0 < N := by omega
  obtain ⟨μ', hμ⟩ := fold_max_real L (fun i => by rw [hL]; split_ifs <;> simp) ⟨0, hN⟩
    (by rw [hL, if_pos (by simpa using h1)]; simp) m (by rcases hm with h | h <;> simp [h])
  rw [hμ]
  have hs : safe (μ' : EReal) = (μ' : EReal) := if_neg (EReal.coe_ne_bot μ')
  rw [hs]
  refine ⟨μ', Or.inl rfl, fun e => ?_⟩
  have e1 : Ideal.exp2 (m - (μ' : EReal)) * a e = ((∑ s ∈ Finset.range n, (2 : ℝ) ^ (Y s - μ') * w e s : ℝ) : EReal) := by
    rw [ha e]
    rcases hm with h | ⟨h, h0⟩
    · rw [h, ← EReal.coe_sub, Ideal.exp2_coe, ← EReal.coe_mul, Finset.mul_sum]
      congr 1
      refine Finset.sum_congr rfl fun s _ => ?_
      show (2 : ℝ) ^ (μ - μ') * _ = _
      rw [← mul_assoc, ← Real.rpow_add two_pos]
      congr 2; ring
    · rw [h0]; simp
  have e2 : ∀ i : Fin N, va e i * Ideal.exp2 (L i - (μ' : EReal))
      = ((if n + i.val < n' then (fun s => (2 : ℝ) ^ (Y s - μ') * w e s) (n + i.val) else 0 : ℝ) : EReal) := by
    intro i
    rw [hva, hL]
    split_ifs with h
    · rw [← EReal.coe_sub, Ideal.exp2_coe, ← EReal.coe_mul, mul_comm]
      rfl
    · rw [EReal.bot_sub, Ideal.exp2_bot, mul_zero, EReal.coe_zero]
  show _ + ∑ i : Fin N, _ = _
  rw [e1, Finset.sum_congr rfl (fun i _ => e2 i), ← sum_coe, ← EReal.coe_add, sum_fin_cut n n' N h1.le h2]

/-- The attention of logits `X` over values `v`, of the keys below `n`. -/
def att (X v : ℕ → ℝ) (n : ℕ) : ℝ := (∑ s ∈ Finset.range n, Real.exp (X s) * v s) / ∑ s ∈ Finset.range n, Real.exp (X s)

theorem sum_exp_pos (X : ℕ → ℝ) (n : ℕ) : 0 < ∑ s ∈ Finset.range (n + 1), Real.exp (X s) :=
  Finset.sum_pos (fun _ _ => Real.exp_pos _) ⟨0, by simp⟩

theorem two_rpow (x c μ : ℝ) : (2 : ℝ) ^ ((x - c) / Real.log 2 - μ) = Real.exp (-c - μ * Real.log 2) * Real.exp x := by
  rw [Real.rpow_def_of_pos two_pos, ← Real.exp_add]
  have : Real.log 2 ≠ 0 := (Real.log_pos one_lt_two).ne'
  congr 1
  field_simp
  ring

theorem holds_quot {n : ℕ} {X : ℕ → ℝ} {c : ℝ} {w : Fin 144 → ℕ → ℝ} {m : EReal} {a : Fin 144 → EReal}
    (H : Holds (n + 1) (fun s => (X s - c) / Real.log 2) w m a) (h1 : ∀ s, w 128 s = 1) (e : Fin 144) :
    Ideal.div (a e) (a 128) = ((att X (w e) (n + 1) : ℝ) : EReal) := by
  obtain ⟨μ, -, ha⟩ := H
  have key : ∀ f, ∑ s ∈ Finset.range (n + 1), (2 : ℝ) ^ ((X s - c) / Real.log 2 - μ) * w f s
      = Real.exp (-c - μ * Real.log 2) * ∑ s ∈ Finset.range (n + 1), Real.exp (X s) * w f s := fun f => by
    rw [Finset.mul_sum]
    exact Finset.sum_congr rfl fun s _ => by rw [two_rpow, mul_assoc]
  have k1 : ∑ s ∈ Finset.range (n + 1), Real.exp (X s) * w 128 s = ∑ s ∈ Finset.range (n + 1), Real.exp (X s) :=
    Finset.sum_congr rfl fun s _ => by rw [h1, mul_one]
  have hp := sum_exp_pos X n
  have hc := Real.exp_pos (-c - μ * Real.log 2)
  rw [ha, ha, key, key, k1, Ideal.div_coe (mul_pos hc hp).ne', ← EReal.coe_mul]
  congr 1
  unfold att
  field_simp

/-- One row of the reference's softmax: the keys up to `t` have real logits, the others none. -/
theorem softmax_row {N t : ℕ} (ht : t < N) (X : ℕ → ℝ) (L : Fin N → EReal) (hL : ∀ i, L i = if i.val ≤ t then (X i.val : EReal) else ⊥) (i : Fin N) :
    Ideal.div (Ideal.exp (L i - max ⊥ (Finset.univ.fold max ⊥ L))) (0 + ∑ k : Fin N, Ideal.exp (L k - max ⊥ (Finset.univ.fold max ⊥ L)))
      = ((if i.val ≤ t then Real.exp (X i.val) / ∑ s ∈ Finset.range (t + 1), Real.exp (X s) else 0 : ℝ) : EReal) := by
  obtain ⟨μ, hμ⟩ := fold_max_real L (fun i => by rw [hL]; split_ifs <;> simp) ⟨0, by omega⟩
    (by rw [hL, if_pos (Nat.zero_le _)]; simp) ⊥ (by simp)
  rw [hμ]
  have e : ∀ k, Ideal.exp (L k - (μ : EReal)) = ((if 0 + k.val < t + 1 then (fun s => Real.exp (-μ) * Real.exp (X s)) (0 + k.val) else 0 : ℝ) : EReal) := by
    intro k
    rw [hL]
    by_cases h : k.val ≤ t
    · rw [if_pos h, if_pos (by omega), ← EReal.coe_sub, Ideal.exp_coe]
      simp only [zero_add]
      rw [← Real.exp_add]; congr 2; ring
    · rw [if_neg h, if_neg (by omega), EReal.bot_sub, Ideal.exp_bot, EReal.coe_zero]
  have hp := sum_exp_pos X t
  have hμ' := Real.exp_pos (-μ)
  have es := sum_fin_cut 0 (t + 1) N (by omega) (by omega) (fun s => Real.exp (-μ) * Real.exp (X s))
  rw [Finset.range_zero, Finset.sum_empty, zero_add] at es
  rw [zero_add, Finset.sum_congr rfl (fun k _ => e k), ← sum_coe, es, ← Finset.mul_sum, e i,
    Ideal.div_coe (mul_pos hμ' hp).ne', ← EReal.coe_mul]
  congr 1
  by_cases h : i.val ≤ t
  · rw [if_pos (by omega), if_pos h]; simp only [zero_add]; field_simp
  · rw [if_neg (by omega), if_neg h, zero_mul]

/-- The difference of two softmax rows against the values is the difference of the attentions. -/
theorem attn_row {N t : ℕ} (ht : t < N) (X₁ X₂ v : ℕ → ℝ) (lam : ℝ) (u : Fin N → EReal) (hu : ∀ i, u i = (v i.val : EReal)) :
    ∑ i : Fin N, u i * (((if i.val ≤ t then Real.exp (X₁ i.val) / ∑ s ∈ Finset.range (t + 1), Real.exp (X₁ s) else 0 : ℝ) : EReal)
        - (lam : EReal) * ((if i.val ≤ t then Real.exp (X₂ i.val) / ∑ s ∈ Finset.range (t + 1), Real.exp (X₂ s) else 0 : ℝ) : EReal))
      = ((att X₁ v (t + 1) - lam * att X₂ v (t + 1) : ℝ) : EReal) := by
  have e : ∀ X : ℕ → ℝ, ∑ i : Fin N, v i.val * (if i.val ≤ t then Real.exp (X i.val) / ∑ s ∈ Finset.range (t + 1), Real.exp (X s) else 0)
      = att X v (t + 1) := fun X => by
    have es := sum_fin_cut 0 (t + 1) N (by omega) (by omega) (fun s => v s * (Real.exp (X s) / ∑ s ∈ Finset.range (t + 1), Real.exp (X s)))
    rw [Finset.range_zero, Finset.sum_empty, zero_add] at es
    refine Eq.trans (Finset.sum_congr rfl fun i _ => ?_) (es.trans ?_)
    · simp only [zero_add, Nat.lt_succ_iff, mul_ite, mul_zero]
    · unfold att
      rw [Finset.sum_div]
      exact Finset.sum_congr rfl fun s _ => by ring
  simp only [hu, ← EReal.coe_mul, ← EReal.coe_sub, ← sum_coe]
  congr 1
  rw [← e X₁, ← e X₂, Finset.mul_sum, ← Finset.sum_sub_distrib]
  exact Finset.sum_congr rfl fun i _ => by ring

end Cert.DA

end
-- ==== Proof.Spec.lean ====
/- The quantities both programs compute, over the reals: the relative-position bucket of a distance,
   the logits and values of a slot, the weight of the second map, and one normalised head. -/
module

public import proofs.«01_k».proof.Proof.Math

@[expose] public section

noncomputable section

namespace Cert.DA

open Idealize.ShloMosaic

/-- Where each bucket starts. -/
def cuts : List ℕ := [1, 2, 3, 4, 5, 6, 7, 8, 9, 10, 11, 12, 13, 14, 15, 16, 19, 21, 24, 27, 31, 35, 40, 46, 52, 59, 67, 77, 87, 99, 113]

/-- The bucket of a distance: how many buckets start at or before it. -/
def buck (n : ℕ) : ℕ := cuts.countP (fun c => decide (c ≤ n))

theorem buck_le (n : ℕ) : buck n ≤ 31 := List.countP_le_length

theorem buck_far (n : ℕ) (h : 113 ≤ n) : buck n = 31 := by
  unfold buck cuts
  simp only [List.countP_cons, List.countP_nil]
  have : ∀ k, k ≤ 113 → decide (k ≤ n) = true := fun k hk => decide_eq_true (by omega)
  simp only [this 1 (by decide), this 2 (by decide), this 3 (by decide), this 4 (by decide), this 5 (by decide), this 6 (by decide), this 7 (by decide),
    this 8 (by decide), this 9 (by decide), this 10 (by decide), this 11 (by decide), this 12 (by decide), this 13 (by decide), this 14 (by decide),
    this 15 (by decide), this 16 (by decide), this 19 (by decide), this 21 (by decide), this 24 (by decide), this 27 (by decide), this 31 (by decide),
    this 35 (by decide), this 40 (by decide), this 46 (by decide), this 52 (by decide), this 59 (by decide), this 67 (by decide), this 77 (by decide),
    this 87 (by decide), this 99 (by decide), this 113 (by decide), ↓reduceIte]

variable (p : ℕ → ℕ → ℕ → ℝ) (rb : ℕ → ℕ → ℝ)

/-- The dot product of query `T` and key `s` in slot `r`. -/
def dotR (b r T s : ℕ) : ℝ := ∑ d : Fin 64, p b T (1832 + 64 * r + d.val) * p b s (2344 + 64 * r + d.val)

/-- The logit of query `T` and key `s` in slot `r`. -/
def X (b r T s : ℕ) : ℝ := dotR p b r T s / 8 + rb (buck (T - s)) (8 + r / 2)

/-- The same against the last bucket's bias, in base two. -/
def Y (b r T s : ℕ) : ℝ := (X p rb b r T s - rb 31 (8 + r / 2)) / Real.log 2

/-- Row `e` of head `h`'s values, followed by rows of ones. -/
def W (b h : ℕ) (e : Fin 144) (s : ℕ) : ℝ := if e.val < 128 then p b s (2856 + 128 * h + e.val) else 1

/-- One entry of a head's difference of attentions. -/
def O (lam : ℝ) (b h T : ℕ) (e : Fin 128) : ℝ :=
  att (X p rb b (2 * h) T) (fun s => p b s (2856 + 128 * h + e.val)) (T + 1) - lam * att (X p rb b (2 * h + 1) T) (fun s => p b s (2856 + 128 * h + e.val)) (T + 1)

/-- One entry of a normalised head. -/
def R (o : Fin 128 → ℝ) (g : EReal) (e : Fin 128) : EReal :=
  (o e : EReal) * Ideal.rsqrt (Ideal.div (∑ f : Fin 128, (o f : EReal) * (o f : EReal)) (Ideal.ofBits .f32 0x43000000#32) + Ideal.ofBits .f32 0x358637BD#32)
    * g * Ideal.ofBits .f32 0x3F24FD5C#32

theorem floor_log {n j lo hi : ℕ} (h1 : lo ≤ n) (h2 : n ≤ hi) (hn : 0 < n) (hlo : 8 ^ j * 16 ^ 16 ≤ lo ^ 16) (hhi : hi ^ 16 < 8 ^ (j + 1) * 16 ^ 16) :
    ⌊Real.log ((n : ℝ) / 16) / Real.log 8 * 16⌋ = (j : ℤ) := by
  have l8 : 0 < Real.log 8 := Real.log_pos (by norm_num)
  have hn' : (0 : ℝ) < (n : ℝ) / 16 := by positivity
  have e : Real.log ((n : ℝ) / 16) / Real.log 8 * 16 = Real.log (((n : ℝ) / 16) ^ 16) / Real.log 8 := by
    rw [Real.log_pow]; push_cast; ring
  rw [e, Int.floor_eq_iff, le_div_iff₀ l8, div_lt_iff₀ l8]
  have k1 : (8 : ℝ) ^ j * 16 ^ 16 ≤ (n : ℝ) ^ 16 := by
    have : 8 ^ j * 16 ^ 16 ≤ n ^ 16 := hlo.trans (Nat.pow_le_pow_left h1 16)
    exact_mod_cast this
  have k2 : (n : ℝ) ^ 16 < (8 : ℝ) ^ (j + 1) * 16 ^ 16 := by
    have : n ^ 16 < 8 ^ (j + 1) * 16 ^ 16 := (Nat.pow_le_pow_left h2 16).trans_lt hhi
    exact_mod_cast this
  constructor
  · have : (j : ℝ) * Real.log 8 = Real.log ((8 : ℝ) ^ j) := (Real.log_pow _ _).symm
    push_cast
    rw [this]
    refine Real.log_le_log (by positivity) ?_
    rw [div_pow, le_div_iff₀ (by positivity)]
    exact k1
  · have : ((j : ℝ) + 1) * Real.log 8 = Real.log ((8 : ℝ) ^ (j + 1)) := by rw [Real.log_pow]; push_cast; rfl
    push_cast
    rw [this]
    refine Real.log_lt_log (by positivity) ?_
    rw [div_pow, div_lt_iff₀ (by positivity)]
    exact k2

/-- The reference's formula for the buckets past the sixteenth. -/
theorem bucket_formula (n : ℕ) (h16 : 16 ≤ n) (hn : n < 8192) :
    ∃ j : ℕ, j < 64 ∧ ⌊Real.log ((n : ℝ) / 16) / Real.log 8 * 16⌋ = (j : ℤ) ∧ min (16 + j) 31 = buck n := by
  have pos : 0 < n := by omega
  have far : 113 ≤ n → ∃ j : ℕ, j < 64 ∧ ⌊Real.log ((n : ℝ) / 16) / Real.log 8 * 16⌋ = (j : ℤ) ∧ min (16 + j) 31 = buck n := fun h => by
    have l8 : 0 < Real.log 8 := Real.log_pos (by norm_num)
    have a : (15 : ℤ) ≤ ⌊Real.log ((n : ℝ) / 16) / Real.log 8 * 16⌋ := by
      have := floor_log (n := 113) (j := 15) (lo := 113) (hi := 113) le_rfl le_rfl (by norm_num) (by norm_num) (by norm_num)
      rw [show (15 : ℤ) = ((15 : ℕ) : ℤ) from rfl, ← this]
      refine Int.floor_le_floor ?_
      refine mul_le_mul_of_nonneg_right (div_le_div_of_nonneg_right (Real.log_le_log (by norm_num) ?_) l8.le) (by norm_num)
      have : ((113 : ℕ) : ℝ) ≤ n := by exact_mod_cast h
      exact div_le_div_of_nonneg_right this (by norm_num)
    have b : ⌊Real.log ((n : ℝ) / 16) / Real.log 8 * 16⌋ < 64 := by
      have := floor_log (n := 8192) (j := 48) (lo := 8192) (hi := 8192) le_rfl le_rfl (by norm_num) (by norm_num) (by norm_num)
      refine lt_of_le_of_lt (b := ⌊Real.log (((8192 : ℕ) : ℝ) / 16) / Real.log 8 * 16⌋) (Int.floor_le_floor ?_) (by rw [this]; norm_num)
      refine mul_le_mul_of_nonneg_right (div_le_div_of_nonneg_right (Real.log_le_log (by positivity) ?_) l8.le) (by norm_num)
      have : (n : ℝ) ≤ ((8192 : ℕ) : ℝ) := by exact_mod_cast hn.le
      exact div_le_div_of_nonneg_right this (by norm_num)
    obtain ⟨j, hj⟩ := Int.eq_ofNat_of_zero_le (show (0 : ℤ) ≤ ⌊Real.log ((n : ℝ) / 16) / Real.log 8 * 16⌋ by omega)
    refine ⟨j, by omega, hj, ?_⟩
    rw [buck_far n h]; omega
  have near : ∀ j lo hi : ℕ, lo ≤ n → n ≤ hi → 8 ^ j * 16 ^ 16 ≤ lo ^ 16 → hi ^ 16 < 8 ^ (j + 1) * 16 ^ 16 → j < 64 → (∀ i : Fin 128, lo ≤ i.val → i.val ≤ hi → min (16 + j) 31 = buck i.val) →
      hi < 128 → ∃ j : ℕ, j < 64 ∧ ⌊Real.log ((n : ℝ) / 16) / Real.log 8 * 16⌋ = (j : ℤ) ∧ min (16 + j) 31 = buck n :=
    fun j lo hi h1 h2 h3 h4 h5 h6 h7 => ⟨j, h5, floor_log h1 h2 pos h3 h4, h6 ⟨n, by omega⟩ h1 h2⟩
  by_cases c1 : n ≤ 18; · exact near 0 16 18 h16 c1 (by norm_num) (by norm_num) (by norm_num) (by decide) (by norm_num)
  by_cases c2 : n ≤ 20; · exact near 1 19 20 (by omega) c2 (by norm_num) (by norm_num) (by norm_num) (by decide) (by norm_num)
  by_cases c3 : n ≤ 23; · exact near 2 21 23 (by omega) c3 (by norm_num) (by norm_num) (by norm_num) (by decide) (by norm_num)
  by_cases c4 : n ≤ 26; · exact near 3 24 26 (by omega) c4 (by norm_num) (by norm_num) (by norm_num) (by decide) (by norm_num)
  by_cases c5 : n ≤ 30; · exact near 4 27 30 (by omega) c5 (by norm_num) (by norm_num) (by norm_num) (by decide) (by norm_num)
  by_cases c6 : n ≤ 34; · exact near 5 31 34 (by omega) c6 (by norm_num) (by norm_num) (by norm_num) (by decide) (by norm_num)
  by_cases c7 : n ≤ 39; · exact near 6 35 39 (by omega) c7 (by norm_num) (by norm_num) (by norm_num) (by decide) (by norm_num)
  by_cases c8 : n ≤ 45; · exact near 7 40 45 (by omega) c8 (by norm_num) (by norm_num) (by norm_num) (by decide) (by norm_num)
  by_cases c9 : n ≤ 51; · exact near 8 46 51 (by omega) c9 (by norm_num) (by norm_num) (by norm_num) (by decide) (by norm_num)
  by_cases c10 : n ≤ 58; · exact near 9 52 58 (by omega) c10 (by norm_num) (by norm_num) (by norm_num) (by decide) (by norm_num)
  by_cases c11 : n ≤ 66; · exact near 10 59 66 (by omega) c11 (by norm_num) (by norm_num) (by norm_num) (by decide) (by norm_num)
  by_cases c12 : n ≤ 76; · exact near 11 67 76 (by omega) c12 (by norm_num) (by norm_num) (by norm_num) (by decide) (by norm_num)
  by_cases c13 : n ≤ 86; · exact near 12 77 86 (by omega) c13 (by norm_num) (by norm_num) (by norm_num) (by decide) (by norm_num)
  by_cases c14 : n ≤ 98; · exact near 13 87 98 (by omega) c14 (by norm_num) (by norm_num) (by norm_num) (by decide) (by norm_num)
  by_cases c15 : n ≤ 112; · exact near 14 99 112 (by omega) c15 (by norm_num) (by norm_num) (by norm_num) (by decide) (by norm_num)
  exact far (by omega)

end Cert.DA

end
-- ==== Proof.RefRead.lean ====
/- The reference's operations read at an index, up to the relative distances. -/
module

public import proofs.«01_k».proof.Proof.RefRun
public import proofs.«01_k».proof.Proof.Spec
public import Idealize.ShloMosaic.Lib.Pointwise

@[expose] public section

set_option maxRecDepth 16384

noncomputable section

namespace Cert.ReferenceIdeal.DA

open Cert.ReferenceIdeal.Facts₀ Cert.ReferenceIdeal.Facts
open Cert.DA
open Idealize.ShloMosaic Idealize.ShloMosaic.TcCoe Idealize.ShloMosaic.StableHlo Idealize.SL.Sem

attribute [local instance] Gen.facts

variable (V : Valuation τ sig (Elt Ideal))

theorem v12_at (b : Fin 4) (t : Fin 8192) (h : Fin 4) (d : Fin 64) :
    (after opsQkv V (Proc.devRef .tc main_v12) : FVec Ideal S4x8192x4x64 .f32) (ix4 b t h d)
      = (V (Proc.devRef .tc main_arg0) : FVec Ideal S4x8192x3368 .f32) (ix3 b t ⟨1832 + (h.val * 128 + d.val), by omega⟩) := by
  after_results
  pointwise

theorem v14_at (b : Fin 4) (t : Fin 8192) (h : Fin 4) (d : Fin 64) :
    (after opsQkv V (Proc.devRef .tc main_v14) : FVec Ideal S4x8192x4x64 .f32) (ix4 b t h d)
      = (V (Proc.devRef .tc main_arg0) : FVec Ideal S4x8192x3368 .f32) (ix3 b t ⟨1832 + (h.val * 128 + 64 + d.val), by omega⟩) := by
  after_results
  pointwise

theorem v16_at (b : Fin 4) (t : Fin 8192) (h : Fin 4) (d : Fin 64) :
    (after opsQkv V (Proc.devRef .tc main_v16) : FVec Ideal S4x8192x4x64 .f32) (ix4 b t h d)
      = (V (Proc.devRef .tc main_arg0) : FVec Ideal S4x8192x3368 .f32) (ix3 b t ⟨2344 + (h.val * 128 + d.val), by omega⟩) := by
  after_results
  pointwise

theorem v18_at (b : Fin 4) (t : Fin 8192) (h : Fin 4) (d : Fin 64) :
    (after opsQkv V (Proc.devRef .tc main_v18) : FVec Ideal S4x8192x4x64 .f32) (ix4 b t h d)
      = (V (Proc.devRef .tc main_arg0) : FVec Ideal S4x8192x3368 .f32) (ix3 b t ⟨2344 + (h.val * 128 + 64 + d.val), by omega⟩) := by
  after_results
  pointwise

theorem v19_at (b : Fin 4) (t : Fin 8192) (h : Fin 4) (d : Fin 128) :
    (after opsQkv V (Proc.devRef .tc main_v19) : FVec Ideal S4x8192x4x128 .f32) (ix4 b t h d)
      = (V (Proc.devRef .tc main_arg0) : FVec Ideal S4x8192x3368 .f32) (ix3 b t ⟨2856 + (h.val * 128 + d.val), by omega⟩) := by
  after_results
  pointwise

/-- The second map's weight. -/
def lamE (l : FVec Ideal S4x64 .f32) : EReal :=
  Ideal.exp (∑ d : Fin 64, l (ix2 0 d) * l (ix2 1 d)) - Ideal.exp (∑ d : Fin 64, l (ix2 2 d) * l (ix2 3 d)) + Ideal.ofBits .f32 0x3EB60549#32

theorem v35_at :
    (after opsLam V (Proc.devRef .tc main_v35) : FVec Ideal S_ .f32) ix0 = lamE (V (Proc.devRef .tc main_arg3) : FVec Ideal S4x64 .f32) := by
  after_results
  pointwise [lamE]

theorem v36_at (k : Fin 32) (h : Fin 4) :
    (after opsDist V (Proc.devRef .tc main_v36) : FVec Ideal S32x4 .f32) (ix2 k h)
      = (V (Proc.devRef .tc main_arg2) : FVec Ideal S32x12 .f32) (ix2 k ⟨8 + h.val, by omega⟩) := by
  after_results
  pointwise

theorem v41_at (b : Fin 4) (t s : Fin 8192) :
    (after opsDist V (Proc.devRef .tc main_v41) : IVec S4x8192x8192 1) (ix3 b t s)
      = IntOp.cmpi .sle ((V (Proc.devRef .tc main_arg1) : IVec S4x8192 32) (ix2 b s)) ((V (Proc.devRef .tc main_arg1) : IVec S4x8192 32) (ix2 b t)) := by
  after_results
  pointwise

theorem v48_at (b : Fin 4) (t s : Fin 8192) :
    (after opsDist V (Proc.devRef .tc main_v48) : IVec S4x8192x8192 32) (ix3 b t s)
      = IntOp.maxsi (IntOp.subi ((V (Proc.devRef .tc main_arg1) : IVec S4x8192 32) (ix2 b t)) ((V (Proc.devRef .tc main_arg1) : IVec S4x8192 32) (ix2 b s))) 0#32 := by
  after_results
  pointwise

theorem v53_at (b : Fin 4) (t s : Fin 8192) :
    (after opsDist V (Proc.devRef .tc main_v53) : FVec Ideal S4x8192x8192 .f32) (ix3 b t s)
      = Ideal.div (FloatOps.sitofp (F := Ideal) .f32 (IntOp.maxsi (IntOp.maxsi (IntOp.subi ((V (Proc.devRef .tc main_arg1) : IVec S4x8192 32) (ix2 b t)) ((V (Proc.devRef .tc main_arg1) : IVec S4x8192 32) (ix2 b s))) 0#32) 1#32))
          (Ideal.ofBits .f32 0x41800000#32) := by
  after_results
  pointwise

end Cert.ReferenceIdeal.DA

end
-- ==== Proof.Bits.lean ====
/- Small whole numbers as 32-bit words, and the reference's buckets of them over the ideal floats. -/
module

public import proofs.«01_k».proof.Proof.Spec

@[expose] public section

set_option maxRecDepth 16384

noncomputable section

namespace Cert.DA

open Idealize.ShloMosaic

theorem toInt_small {n : ℕ} (h : n < 2 ^ 31) : (BitVec.ofNat 32 n).toInt = (n : ℤ) := by
  rw [BitVec.toInt_eq_toNat_of_lt (by rw [BitVec.toNat_ofNat]; omega), BitVec.toNat_ofNat, Nat.mod_eq_of_lt (by omega)]

theorem sle_small {a b : ℕ} (ha : a < 2 ^ 31) (hb : b < 2 ^ 31) :
    IntOp.cmpi .sle (BitVec.ofNat 32 a) (BitVec.ofNat 32 b) = if a ≤ b then 1#1 else 0#1 := by
  simp only [IntOp.cmpi, BitVec.sle, toInt_small ha, toInt_small hb]
  by_cases h : a ≤ b
  · rw [if_pos h, decide_eq_true (by omega)]; rfl
  · rw [if_neg h, decide_eq_false (by omega)]; rfl

theorem slt_small {a b : ℕ} (ha : a < 2 ^ 31) (hb : b < 2 ^ 31) :
    (BitVec.ofNat 32 a).slt (BitVec.ofNat 32 b) = decide (a < b) := by
  simp only [BitVec.slt, toInt_small ha, toInt_small hb, Nat.cast_lt]

theorem max_small {a b : ℕ} (ha : a < 2 ^ 31) (hb : b < 2 ^ 31) :
    IntOp.maxsi (BitVec.ofNat 32 a) (BitVec.ofNat 32 b) = BitVec.ofNat 32 (max a b) := by
  simp only [IntOp.maxsi, slt_small hb ha, decide_eq_true_eq]
  split
  · rw [max_eq_left (by omega)]
  · rw [max_eq_right (by omega)]

theorem min_small {a b : ℕ} (ha : a < 2 ^ 31) (hb : b < 2 ^ 31) :
    IntOp.minsi (BitVec.ofNat 32 a) (BitVec.ofNat 32 b) = BitVec.ofNat 32 (min a b) := by
  simp only [IntOp.minsi, slt_small ha hb, decide_eq_true_eq]
  split
  · rw [min_eq_left (by omega)]
  · rw [min_eq_right (by omega)]

theorem sub_small {a b : ℕ} (ha : a < 2 ^ 31) (hb : b ≤ a) :
    IntOp.subi (BitVec.ofNat 32 a) (BitVec.ofNat 32 b) = BitVec.ofNat 32 (a - b) := by
  refine BitVec.eq_of_toNat_eq ?_
  simp only [IntOp.subi, BitVec.toNat_sub, BitVec.toNat_ofNat]
  omega

/-- The bucket a word's distance falls in, as the reference computes it from the distance and its scaled copy. -/
def bucketW (n : BitVec 32) (x : EReal) : BitVec 32 :=
  let w := Scalar.select (IntOp.cmpi .slt n 16#32) n
    (IntOp.minsi (IntOp.addi 16#32 (FloatOps.fptosi (F := Ideal) (φ := .f32) 32 (Ideal.div (Ideal.log x) (Ideal.log (Ideal.ofBits .f32 0x41000000#32)) * Ideal.ofBits .f32 0x41800000#32))) 31#32)
  Scalar.select (IntOp.cmpi .slt w 0#32) (IntOp.addi w 32#32) w

theorem eight : Ideal.ofBits .f32 0x41000000#32 = ((8 : ℝ) : EReal) := by
  simp [Ideal.ofBits, Ideal.ieee, -EReal.coe_mul]; norm_num
theorem sixteen : Ideal.ofBits .f32 0x41800000#32 = ((16 : ℝ) : EReal) := by
  simp [Ideal.ofBits, Ideal.ieee, -EReal.coe_mul]; norm_num
theorem eighth : Ideal.ofBits .f32 0x3E000000#32 = ((1 / 8 : ℝ) : EReal) := by
  simp [Ideal.ofBits, Ideal.ieee, -EReal.coe_mul]; norm_num

theorem neg_inf : Ideal.ofBits .f32 0xFF800000#32 = (⊥ : EReal) := by
  simp [Ideal.ofBits, Ideal.ieee]

theorem buck_small (n : ℕ) (h : n < 16) : buck n = n := by
  revert n; decide

theorem wrap_none (w a : BitVec 32) (n : ℕ) (hn : n < 2 ^ 31) (h : w = BitVec.ofNat 32 n) :
    Scalar.select (IntOp.cmpi .slt w 0#32) a w = w := by
  subst h
  have e : (BitVec.ofNat 32 n).slt 0#32 = false := by
    rw [show (0#32) = BitVec.ofNat 32 0 from rfl, slt_small hn (by omega)]; simp
  simp only [IntOp.cmpi, e]
  rfl

theorem bucketW_eq (n : ℕ) (hn : n < 8192) :
    bucketW (BitVec.ofNat 32 n) (Ideal.div (FloatOps.sitofp (F := Ideal) .f32 (IntOp.maxsi (BitVec.ofNat 32 n) 1#32)) (Ideal.ofBits .f32 0x41800000#32))
      = BitVec.ofNat 32 (buck n) := by
  have main : Scalar.select (IntOp.cmpi .slt (BitVec.ofNat 32 n) 16#32) (BitVec.ofNat 32 n)
    (IntOp.minsi (IntOp.addi 16#32 (FloatOps.fptosi (F := Ideal) (φ := .f32) 32 (Ideal.div (Ideal.log (Ideal.div (FloatOps.sitofp (F := Ideal) .f32 (IntOp.maxsi (BitVec.ofNat 32 n) 1#32)) (Ideal.ofBits .f32 0x41800000#32))) (Ideal.log (Ideal.ofBits .f32 0x41000000#32)) * Ideal.ofBits .f32 0x41800000#32))) 31#32) = BitVec.ofNat 32 (buck n) := by
    have e16 : (BitVec.ofNat 32 n).slt 16#32 = decide (n < 16) := slt_small (by omega) (by omega : 16 < 2 ^ 31)
    by_cases h : n < 16
    · simp only [IntOp.cmpi, e16, decide_eq_true h, buck_small n h]
      rfl
    · obtain ⟨j, hj, hf, hb⟩ := bucket_formula n (by omega) hn
      have r0 : (0 : ℝ) ≤ Real.log ((n : ℝ) / 16) / Real.log 8 * 16 := by
        have : (0 : ℤ) ≤ ⌊Real.log ((n : ℝ) / 16) / Real.log 8 * 16⌋ := by rw [hf]; omega
        exact Int.floor_nonneg.1 this
      have es : FloatOps.sitofp (F := Ideal) .f32 (IntOp.maxsi (BitVec.ofNat 32 n) 1#32) = ((n : ℝ) : EReal) := by
        rw [show (1#32) = BitVec.ofNat 32 1 from rfl, max_small (by omega) (by omega), max_eq_left (by omega)]
        show (((BitVec.ofNat 32 n).toInt : ℝ) : EReal) = _
        rw [toInt_small (by omega)]
        simp
      have ef : FloatOps.fptosi (F := Ideal) (φ := .f32) 32 (Ideal.div (Ideal.log (Ideal.div (FloatOps.sitofp (F := Ideal) .f32 (IntOp.maxsi (BitVec.ofNat 32 n) 1#32)) (Ideal.ofBits .f32 0x41800000#32))) (Ideal.log (Ideal.ofBits .f32 0x41000000#32)) * Ideal.ofBits .f32 0x41800000#32) = BitVec.ofNat 32 j := by
        have npos : (0 : ℝ) < (n : ℝ) / 16 := by
          have : (0 : ℝ) < (n : ℝ) := by exact_mod_cast (by omega : 0 < n)
          positivity
        have l8 : Real.log 8 ≠ 0 := (Real.log_pos (by norm_num)).ne'
        rw [es, sixteen, eight, Ideal.div_coe (by norm_num), ← EReal.coe_mul, show (n : ℝ) * (1 / 16) = n / 16 by ring,
          Ideal.log_coe, if_neg (not_le.2 npos), Ideal.log_coe, if_neg (by norm_num), Ideal.div_coe l8, ← EReal.coe_mul, ← EReal.coe_mul]
        rw [show Real.log ((n : ℝ) / 16) * (1 / Real.log 8) * 16 = Real.log ((n : ℝ) / 16) / Real.log 8 * 16 by ring]
        show BitVec.ofInt 32 (Ideal.toIntClamped _ _ _) = _
        rw [Ideal.toIntClamped_coe, if_pos r0, hf]
        rw [min_eq_right (by norm_num; omega), max_eq_right (by norm_num; try omega)]
        exact BitVec.ofInt_natCast 32 j
      rw [ef]
      have ea : IntOp.addi 16#32 (BitVec.ofNat 32 j) = BitVec.ofNat 32 (16 + j) := by
        refine BitVec.eq_of_toNat_eq ?_
        simp [IntOp.addi]
      rw [ea, show (31#32) = BitVec.ofNat 32 31 from rfl, min_small (by omega) (by omega), hb]
      simp only [IntOp.cmpi, e16, decide_eq_false h]
      rfl
  unfold bucketW
  simp only []
  rw [main]
  exact wrap_none _ _ (buck n) (by have := buck_le n; omega) rfl

end Cert.DA

end
-- ==== Proof.RefBias.lean ====
/- The reference's operations from bucket to bias read at an index. -/
module

public import proofs.«01_k».proof.Proof.RefRun
public import proofs.«01_k».proof.Proof.Bits
public import Idealize.ShloMosaic.Lib.Pointwise

@[expose] public section

set_option maxRecDepth 16384

noncomputable section

namespace Cert.ReferenceIdeal.DA

open Cert.ReferenceIdeal.Facts₀ Cert.ReferenceIdeal.Facts
open Cert.DA
open Idealize.ShloMosaic Idealize.ShloMosaic.TcCoe Idealize.ShloMosaic.StableHlo Idealize.SL.Sem

attribute [local instance] Gen.facts

variable (V : Valuation τ sig (Elt Ideal))
theorem v72_at (b : Fin 4) (t s : Fin 8192) :
    (after opsBucket V (Proc.devRef .tc main_v72) : IVec S4x8192x8192 32) (ix3 b t s)
      = bucketW ((V (Proc.devRef .tc main_v48) : IVec S4x8192x8192 32) (ix3 b t s)) ((V (Proc.devRef .tc main_v53) : FVec Ideal S4x8192x8192 .f32) (ix3 b t s)) := by
  after_results
  simp -implicitDefEqProofs only [TRef.toBuf, TRef.ofBuf, cast_cast, cast_eq]
  pointwise [bucketW]

theorem gather_at (x : FVec Ideal S32x4 .f32) (idx : IVec S4x8192x8192x1 32) (b : Fin 4) (t s : Fin 8192) (h : Fin 4) (k : Fin 32)
    (hk : idx (ix4 b t s 0) = BitVec.ofNat 32 k.val) :
    Host.gather gather_S32x4_S4x8192x8192x1_S4x8192x8192x4_3_0_n_n_0_3_14 x idx (ix4 b t s h) = x (ix2 k h) := by
  unfold Host.gather
  refine congrArg x (funext fun a => Fin.ext ?_)
  match a with
  | ⟨0, _⟩ =>
    have e : gather_S32x4_S4x8192x8192x1_S4x8192x8192x4_3_0_n_n_0_3_14.siIdx (ix4 b t s h) ⟨0, Nat.zero_lt_one⟩ = ix4 b t s 0 := by
      funext a
      match a with
      | ⟨0, _⟩ => rfl
      | ⟨1, _⟩ => rfl
      | ⟨2, _⟩ => rfl
      | ⟨3, _⟩ => rfl
    show min (idx (gather_S32x4_S4x8192x8192x1_S4x8192x8192x4_3_0_n_n_0_3_14.siIdx (ix4 b t s h) ⟨0, Nat.zero_lt_one⟩)).toInt.toNat (32 - 1) + 0 + 0 = k.val
    rw [e, hk, toInt_small (by omega)]
    have := k.isLt
    show min k.val 31 + 0 + 0 = k.val
    omega
  | ⟨1, _⟩ =>
    show 0 + 0 + h.val = h.val
    omega

theorem v75_at (b h : Fin 4) (t s : Fin 8192) (k : Fin 32) (hk : (V (Proc.devRef .tc main_v72) : IVec S4x8192x8192 32) (ix3 b t s) = BitVec.ofNat 32 k.val) :
    (after opsBias V (Proc.devRef .tc main_v75) : FVec Ideal S4x4x8192x8192 .f32) (ix4 b h t s)
      = (V (Proc.devRef .tc main_v36) : FVec Ideal S32x4 .f32) (ix2 k h) := by
  after_results
  pointwise
  refine gather_at _ _ b t s h k ?_
  pointwise
  exact hk

theorem v76_at (b : Fin 4) (t s : Fin 8192) :
    (after opsBias V (Proc.devRef .tc main_v76) : IVec S4x1x8192x8192 1) (ix4 b 0 t s)
      = (V (Proc.devRef .tc main_v41) : IVec S4x8192x8192 1) (ix3 b t s) := by
  after_results
  pointwise

end Cert.ReferenceIdeal.DA

end
-- ==== Proof.RefSoft.lean ====
/- The reference's operations from logits to result read at an index. -/
module

public import proofs.«01_k».proof.Proof.RefRun
public import proofs.«01_k».proof.Proof.Spec
public import Idealize.ShloMosaic.Lib.Pointwise

@[expose] public section

set_option maxRecDepth 16384

noncomputable section

namespace Cert.ReferenceIdeal.DA

open Cert.ReferenceIdeal.Facts₀ Cert.ReferenceIdeal.Facts
open Cert.DA
open Idealize.ShloMosaic Idealize.ShloMosaic.TcCoe Idealize.ShloMosaic.StableHlo Idealize.SL.Sem

attribute [local instance] Gen.facts

variable (V : Valuation τ sig (Elt Ideal))
/-- A masked logit. -/
def logit (q k : FVec Ideal S4x8192x4x64 .f32) (bias : FVec Ideal S4x4x8192x8192 .f32) (mask : IVec S4x1x8192x8192 1) (b h : Fin 4) (t s : Fin 8192) : EReal :=
  Scalar.select (mask (ix4 b 0 t s)) ((∑ d : Fin 64, q (ix4 b t h d) * k (ix4 b s h d)) * Ideal.ofBits .f32 0x3E000000#32 + bias (ix4 b h t s))
    (Ideal.ofBits .f32 0xFF800000#32)

/-- A softmax entry of a row of logits. -/
def soft (L : Fin 8192 → EReal) (s : Fin 8192) : EReal :=
  Ideal.div (Ideal.exp (L s - max (Ideal.ofBits .f32 0xFF800000#32) (Finset.univ.fold max (Ideal.ofBits .f32 0xFF800000#32) L)))
    (∑ k : Fin 8192, Ideal.exp (L k - max (Ideal.ofBits .f32 0xFF800000#32) (Finset.univ.fold max (Ideal.ofBits .f32 0xFF800000#32) L)))

theorem v81_at (b h : Fin 4) (t s : Fin 8192) :
    (after (opsFirst.take 12) V (Proc.devRef .tc main_v81) : FVec Ideal S4x4x8192x8192 .f32) (ix4 b h t s)
      = logit (V (Proc.devRef .tc main_v12)) (V (Proc.devRef .tc main_v16)) (V (Proc.devRef .tc main_v75)) (V (Proc.devRef .tc main_v76)) b h t s := by
  simp only [opsFirst, List.take_succ_cons, List.take_zero]
  after_results
  simp -implicitDefEqProofs only [TRef.toBuf, TRef.ofBuf, cast_cast, cast_eq, id]
  pointwise [logit]

theorem v82_at (b h : Fin 4) (t : Fin 8192) :
    (after (opsFirst.take 12) V (Proc.devRef .tc main_v82) : FVec Ideal S4x4x8192 .f32) (ix3 b h t)
      = Finset.univ.fold max (Ideal.ofBits .f32 0xFF800000#32)
        (logit (V (Proc.devRef .tc main_v12)) (V (Proc.devRef .tc main_v16)) (V (Proc.devRef .tc main_v75)) (V (Proc.devRef .tc main_v76)) b h t) := by
  simp only [opsFirst, List.take_succ_cons, List.take_zero]
  after_results
  simp -implicitDefEqProofs only [TRef.toBuf, TRef.ofBuf, cast_cast, cast_eq, id]
  pointwise [logit]

theorem v92_of (b h : Fin 4) (t s : Fin 8192) (L : Fin 8192 → EReal) (hL : ∀ s, (V (Proc.devRef .tc main_v81) : FVec Ideal S4x4x8192x8192 .f32) (ix4 b h t s) = L s)
    (hM : (V (Proc.devRef .tc main_v82) : FVec Ideal S4x4x8192 .f32) (ix3 b h t) = Finset.univ.fold max (Ideal.ofBits .f32 0xFF800000#32) L) :
    (after (opsFirst.drop 12) V (Proc.devRef .tc main_v92) : FVec Ideal S4x4x8192x8192 .f32) (ix4 b h t s) = soft L s := by
  simp only [opsFirst, List.drop_succ_cons, List.drop_zero]
  after_results
  pointwise [soft, hM, hL]

theorem v92_at (b h : Fin 4) (t s : Fin 8192) :
    (after opsFirst V (Proc.devRef .tc main_v92) : FVec Ideal S4x4x8192x8192 .f32) (ix4 b h t s)
      = soft (logit (V (Proc.devRef .tc main_v12)) (V (Proc.devRef .tc main_v16)) (V (Proc.devRef .tc main_v75)) (V (Proc.devRef .tc main_v76)) b h t) s := by
  have e : (opsFirst : List (HloOp τ sig (Elt Ideal))) = opsFirst.take 12 ++ opsFirst.drop 12 := (List.take_append_drop 12 _).symm
  rw [e, after_app]
  exact v92_of _ b h t s _ (fun s => v81_at V b h t s) (v82_at V b h t)

theorem v97_at (b h : Fin 4) (t s : Fin 8192) :
    (after opsSecond V (Proc.devRef .tc main_v97) : FVec Ideal S4x4x8192x8192 .f32) (ix4 b h t s)
      = logit (V (Proc.devRef .tc main_v14)) (V (Proc.devRef .tc main_v18)) (V (Proc.devRef .tc main_v75)) (V (Proc.devRef .tc main_v76)) b h t s := by
  after_results
  simp -implicitDefEqProofs only [TRef.toBuf, TRef.ofBuf, cast_cast, cast_eq, id]
  pointwise [logit]

theorem v98_at (b h : Fin 4) (t : Fin 8192) :
    (after opsSecond V (Proc.devRef .tc main_v98) : FVec Ideal S4x4x8192 .f32) (ix3 b h t)
      = Finset.univ.fold max (Ideal.ofBits .f32 0xFF800000#32)
        (logit (V (Proc.devRef .tc main_v14)) (V (Proc.devRef .tc main_v18)) (V (Proc.devRef .tc main_v75)) (V (Proc.devRef .tc main_v76)) b h t) := by
  after_results
  simp -implicitDefEqProofs only [TRef.toBuf, TRef.ofBuf, cast_cast, cast_eq, id]
  pointwise [logit]

theorem v108_at (b h : Fin 4) (t s : Fin 8192) (L : Fin 8192 → EReal) (hL : ∀ s, (V (Proc.devRef .tc main_v97) : FVec Ideal S4x4x8192x8192 .f32) (ix4 b h t s) = L s)
    (hM : (V (Proc.devRef .tc main_v98) : FVec Ideal S4x4x8192 .f32) (ix3 b h t) = Finset.univ.fold max (Ideal.ofBits .f32 0xFF800000#32) L) :
    (after opsSecondEnd V (Proc.devRef .tc main_v108) : FVec Ideal S4x4x8192x8192 .f32) (ix4 b h t s) = soft L s := by
  after_results
  pointwise [soft, hM, hL]

theorem v113_at (b : Fin 4) (t : Fin 8192) (h : Fin 4) (e : Fin 128)
    (v : FVec Ideal S4x8192x4x128 .f32) (hv : v = V (Proc.devRef .tc main_v19))
    (x : FVec Ideal S4x4x8192x8192 .f32) (hx : x = V (Proc.devRef .tc main_v92))
    (l : FVec Ideal S_ .f32) (hl : l = V (Proc.devRef .tc main_v35))
    (y : FVec Ideal S4x4x8192x8192 .f32) (hy : y = V (Proc.devRef .tc main_v108)) :
    (after opsDiff V (Proc.devRef .tc main_v113) : FVec Ideal S4x8192x4x128 .f32) (ix4 b t h e)
      = (∑ s : Fin 8192, v (ix4 b s h e) * (x (ix4 b h t s) - l ix0 * y (ix4 b h t s)) : EReal) := by
  subst hv hx hl hy
  after_results
  pointwise

theorem v130_at (b : Fin 4) (t : Fin 8192) (h : Fin 4) (e : Fin 128) (o : Fin 128 → ℝ)
    (ho : ∀ f, (V (Proc.devRef .tc main_v113) : FVec Ideal S4x8192x4x128 .f32) (ix4 b t h f) = (o f : EReal)) :
    (after opsNorm V (Proc.devRef .tc main_v130) : FVec Ideal S4x8192x512 .bf16) (ix3 b t ⟨128 * h.val + e.val, by omega⟩)
      = R o ((V (Proc.devRef .tc main_arg4) : FVec Ideal S128 .f32) (ix1 e)) e := by
  after_results
  pointwise
  have e1 : (⟨(128 * h.val + e.val) / 128, by omega⟩ : Fin 4) = h := Fin.ext (by show (128 * h.val + e.val) / 128 = h.val; omega)
  have e2 : (⟨(128 * h.val + e.val) % 128, by omega⟩ : Fin 128) = e := Fin.ext (by show (128 * h.val + e.val) % 128 = e.val; omega)
  rw [e1, e2]
  unfold R
  simp only [ho]

end Cert.ReferenceIdeal.DA

end
-- ==== Proof.RefValue.lean ====
/- The reference's result, entry by entry, over the ideal floats. -/
module

public import proofs.«01_k».proof.Proof.RefRead
public import proofs.«01_k».proof.Proof.RefBias
public import proofs.«01_k».proof.Proof.RefSoft
public import proofs.«01_k».proof.Proof.Math

@[expose] public section

set_option maxRecDepth 16384

noncomputable section

namespace Cert.ReferenceIdeal.DA

open Cert.ReferenceIdeal.Facts₀ Cert.ReferenceIdeal.Facts
open Cert.DA
open Idealize.ShloMosaic Idealize.ShloMosaic.TcCoe Idealize.ShloMosaic.StableHlo Idealize.SL.Sem

attribute [local instance] Gen.facts

theorem soft_row {T : ℕ} (hT : T < 8192) (X : ℕ → ℝ) (L : Fin 8192 → EReal) (hL : ∀ i, L i = if i.val ≤ T then (X i.val : EReal) else ⊥) (i : Fin 8192) :
    soft L i = ((if i.val ≤ T then Real.exp (X i.val) / ∑ s ∈ Finset.range (T + 1), Real.exp (X s) else 0 : ℝ) : EReal) := by
  unfold soft
  rw [neg_inf, ← zero_add (∑ k : Fin 8192, _)]
  exact softmax_row hT X L hL i

/-- A masked logit is the specification's, up to the query, and none past it. -/
theorem logit_eq {q k : FVec Ideal S4x8192x4x64 .f32} {bias : FVec Ideal S4x4x8192x8192 .f32} {mask : IVec S4x1x8192x8192 1}
    (p : ℕ → ℕ → ℕ → ℝ) (rb : ℕ → ℕ → ℝ) (b h : Fin 4) (T : Fin 8192) (r : ℕ) (hr : r / 2 = h.val)
    (hq : ∀ t d, q (ix4 b t h d) = (p b t (1832 + 64 * r + d.val) : EReal)) (hk : ∀ t d, k (ix4 b t h d) = (p b t (2344 + 64 * r + d.val) : EReal))
    (hb : ∀ s, s.val ≤ T.val → bias (ix4 b h T s) = (rb (buck (T.val - s.val)) (8 + h.val) : EReal))
    (hm : ∀ s, mask (ix4 b 0 T s) = if s.val ≤ T.val then 1#1 else 0#1) (s : Fin 8192) :
    logit q k bias mask b h T s = if s.val ≤ T.val then (X p rb b r T s : EReal) else ⊥ := by
  unfold logit
  rw [hm]
  by_cases hs : s.val ≤ T.val
  · rw [if_pos hs, if_pos hs, hb s hs]
    show (∑ d : Fin 64, q (ix4 b T h d) * k (ix4 b s h d)) * Ideal.ofBits .f32 0x3E000000#32 + _ = _
    have e : ∑ d : Fin 64, q (ix4 b T h d) * k (ix4 b s h d) = (dotR p b r T s : EReal) := by
      unfold dotR
      exact (Finset.sum_congr rfl fun d _ => by rw [hq, hk, ← EReal.coe_mul]).trans (sum_coe _ _).symm
    rw [e, eighth, ← EReal.coe_mul, ← EReal.coe_add]
    unfold X
    rw [hr]
    congr 2
    ring
  · rw [if_neg hs, if_neg hs]
    exact neg_inf

theorem ref_at (V : Valuation τ sig (Elt Ideal)) (p : ℕ → ℕ → ℕ → ℝ) (rb : ℕ → ℕ → ℝ) (lam : ℝ)
    (hp : ∀ (b : Fin 4) (T : Fin 8192) (c : Fin 3368), 1832 ≤ c.val → (V (Proc.devRef .tc main_arg0) : FVec Ideal S4x8192x3368 .f32) (ix3 b T c) = (p b T c : EReal))
    (hpos : ∀ (b : Fin 4) (T : Fin 8192), (V (Proc.devRef .tc main_arg1) : IVec S4x8192 32) (ix2 b T) = BitVec.ofNat 32 T.val)
    (hrb : ∀ (k : Fin 32) (h : Fin 12), 8 ≤ h.val → (V (Proc.devRef .tc main_arg2) : FVec Ideal S32x12 .f32) (ix2 k h) = (rb k h : EReal))
    (hlam : lamE (V (Proc.devRef .tc main_arg3) : FVec Ideal S4x64 .f32) = (lam : EReal))
    (b : Fin 4) (T : Fin 8192) (h : Fin 4) (e : Fin 128) :
    (after ops V (Proc.devRef .tc main_v130) : FVec Ideal S4x8192x512 .bf16) (ix3 b T ⟨128 * h.val + e.val, by omega⟩)
      = R (O p rb lam b h T) ((V (Proc.devRef .tc main_arg4) : FVec Ideal S128 .f32) (ix1 e)) e := by
  have sp : after ops V = after opsNorm (after opsDiff (after opsSecondEnd (after opsSecond (after opsFirst (after opsBias (after opsBucket
      (after opsDist (after opsLam (after opsQkv V))))))))) := by
    simp only [ops, ops0, ops1, ops2, after_app]
  rw [sp]
  clear sp
  obtain ⟨V1, h1⟩ : ∃ V1, V1 = after opsQkv V := ⟨_, rfl⟩
  rw [← h1]
  obtain ⟨V2, h2⟩ : ∃ V2, V2 = after opsLam V1 := ⟨_, rfl⟩
  rw [← h2]
  obtain ⟨V3, h3⟩ : ∃ V3, V3 = after opsDist V2 := ⟨_, rfl⟩
  rw [← h3]
  obtain ⟨V4, h4⟩ : ∃ V4, V4 = after opsBucket V3 := ⟨_, rfl⟩
  rw [← h4]
  obtain ⟨V5, h5⟩ : ∃ V5, V5 = after opsBias V4 := ⟨_, rfl⟩
  rw [← h5]
  obtain ⟨V6, h6⟩ : ∃ V6, V6 = after opsFirst V5 := ⟨_, rfl⟩
  rw [← h6]
  obtain ⟨V7, h7⟩ : ∃ V7, V7 = after opsSecond V6 := ⟨_, rfl⟩
  rw [← h7]
  obtain ⟨V8, h8⟩ : ∃ V8, V8 = after opsSecondEnd V7 := ⟨_, rfl⟩
  rw [← h8]
  obtain ⟨V9, h9⟩ : ∃ V9, V9 = after opsDiff V8 := ⟨_, rfl⟩
  rw [← h9]
  -- the arguments
  have g1 : V2 (Proc.devRef .tc main_arg1) = V (Proc.devRef .tc main_arg1) := by
    rw [h2, opsLam_keep (by decide), h1, opsQkv_keep (by decide)]
  have g2 : V2 (Proc.devRef .tc main_arg2) = V (Proc.devRef .tc main_arg2) := by
    rw [h2, opsLam_keep (by decide), h1, opsQkv_keep (by decide)]
  have g3 : V1 (Proc.devRef .tc main_arg3) = V (Proc.devRef .tc main_arg3) := by
    rw [h1, opsQkv_keep (by decide)]
  have g4 : V9 (Proc.devRef .tc main_arg4) = V (Proc.devRef .tc main_arg4) := by
    rw [h9, opsDiff_keep (by decide), h8, opsSecondEnd_keep (by decide), h7, opsSecond_keep (by decide), h6, opsFirst_keep (by decide), h5, opsBias_keep (by decide),
      h4, opsBucket_keep (by decide), h3, opsDist_keep (by decide), h2, opsLam_keep (by decide), h1, opsQkv_keep (by decide)]
  -- queries, keys and values
  have q12 : ∀ (t : Fin 8192) (d : Fin 64), (V5 (Proc.devRef .tc main_v12) : FVec Ideal S4x8192x4x64 .f32) (ix4 b t h d) = (p b t (1832 + 64 * (2 * h.val) + d.val) : EReal) := fun t d => by
    rw [h5, opsBias_keep (by decide), h4, opsBucket_keep (by decide), h3, opsDist_keep (by decide), h2, opsLam_keep (by decide), h1]
    refine (v12_at V b t h d).trans ((hp b t _ (by show 1832 ≤ 1832 + _; omega)).trans ?_)
    congr 2; show 1832 + (h.val * 128 + d.val) = _; omega
  have k16 : ∀ (t : Fin 8192) (d : Fin 64), (V5 (Proc.devRef .tc main_v16) : FVec Ideal S4x8192x4x64 .f32) (ix4 b t h d) = (p b t (2344 + 64 * (2 * h.val) + d.val) : EReal) := fun t d => by
    rw [h5, opsBias_keep (by decide), h4, opsBucket_keep (by decide), h3, opsDist_keep (by decide), h2, opsLam_keep (by decide), h1]
    refine (v16_at V b t h d).trans ((hp b t _ (by show 1832 ≤ 2344 + _; omega)).trans ?_)
    congr 2; show 2344 + (h.val * 128 + d.val) = _; omega
  have q14 : ∀ (t : Fin 8192) (d : Fin 64), (V6 (Proc.devRef .tc main_v14) : FVec Ideal S4x8192x4x64 .f32) (ix4 b t h d) = (p b t (1832 + 64 * (2 * h.val + 1) + d.val) : EReal) := fun t d => by
    rw [h6, opsFirst_keep (by decide), h5, opsBias_keep (by decide), h4, opsBucket_keep (by decide), h3, opsDist_keep (by decide), h2, opsLam_keep (by decide), h1]
    refine (v14_at V b t h d).trans ((hp b t _ (by show 1832 ≤ 1832 + _; omega)).trans ?_)
    congr 2; show 1832 + (h.val * 128 + 64 + d.val) = _; omega
  have k18 : ∀ (t : Fin 8192) (d : Fin 64), (V6 (Proc.devRef .tc main_v18) : FVec Ideal S4x8192x4x64 .f32) (ix4 b t h d) = (p b t (2344 + 64 * (2 * h.val + 1) + d.val) : EReal) := fun t d => by
    rw [h6, opsFirst_keep (by decide), h5, opsBias_keep (by decide), h4, opsBucket_keep (by decide), h3, opsDist_keep (by decide), h2, opsLam_keep (by decide), h1]
    refine (v18_at V b t h d).trans ((hp b t _ (by show 1832 ≤ 2344 + _; omega)).trans ?_)
    congr 2; show 2344 + (h.val * 128 + 64 + d.val) = _; omega
  have v19 : ∀ (t : Fin 8192) (f : Fin 128), (V8 (Proc.devRef .tc main_v19) : FVec Ideal S4x8192x4x128 .f32) (ix4 b t h f) = (p b t (2856 + 128 * h.val + f.val) : EReal) := fun t f => by
    rw [h8, opsSecondEnd_keep (by decide), h7, opsSecond_keep (by decide), h6, opsFirst_keep (by decide), h5, opsBias_keep (by decide), h4, opsBucket_keep (by decide), h3, opsDist_keep (by decide), h2, opsLam_keep (by decide), h1]
    refine (v19_at V b t h f).trans ((hp b t _ (by show 1832 ≤ 2856 + _; omega)).trans ?_)
    congr 2; show 2856 + (h.val * 128 + f.val) = _; omega
  have l35 : (V8 (Proc.devRef .tc main_v35) : FVec Ideal S_ .f32) ix0 = (lam : EReal) := by
    rw [h8, opsSecondEnd_keep (by decide), h7, opsSecond_keep (by decide), h6, opsFirst_keep (by decide), h5, opsBias_keep (by decide), h4, opsBucket_keep (by decide), h3, opsDist_keep (by decide), h2]
    refine (v35_at V1).trans ?_
    rw [g3]
    exact hlam
  -- the mask and the bias
  have m41 : ∀ s : Fin 8192, (V4 (Proc.devRef .tc main_v41) : IVec S4x8192x8192 1) (ix3 b T s) = if s.val ≤ T.val then 1#1 else 0#1 := fun s => by
    rw [h4, opsBucket_keep (by decide), h3]
    refine (v41_at V2 b T s).trans ?_
    rw [g1, hpos, hpos]
    exact sle_small (by omega) (by omega)
  have m76 : ∀ s : Fin 8192, (V5 (Proc.devRef .tc main_v76) : IVec S4x1x8192x8192 1) (ix4 b 0 T s) = if s.val ≤ T.val then 1#1 else 0#1 := fun s => by
    rw [h5]
    exact (v76_at V4 b T s).trans (m41 s)
  have b75 : ∀ s : Fin 8192, s.val ≤ T.val → (V5 (Proc.devRef .tc main_v75) : FVec Ideal S4x4x8192x8192 .f32) (ix4 b h T s) = (rb (buck (T.val - s.val)) (8 + h.val) : EReal) := fun s hs => by
    have e48 : IntOp.maxsi (IntOp.subi (BitVec.ofNat 32 T.val) (BitVec.ofNat 32 s.val)) 0#32 = BitVec.ofNat 32 (T.val - s.val) := by
      rw [sub_small (by omega) hs, show (0#32) = BitVec.ofNat 32 0 from rfl, max_small (by omega) (by omega), max_eq_left (Nat.zero_le _)]
    have e72 : (V4 (Proc.devRef .tc main_v72) : IVec S4x8192x8192 32) (ix3 b T s) = BitVec.ofNat 32 (⟨buck (T.val - s.val), by have := buck_le (T.val - s.val); omega⟩ : Fin 32).val := by
      rw [h4]
      refine (v72_at V3 b T s).trans ?_
      rw [h3]
      refine (congrArg₂ bucketW (v48_at V2 b T s) (v53_at V2 b T s)).trans ?_
      rw [g1, hpos, hpos, e48]
      exact bucketW_eq _ (by omega)
    rw [h5]
    refine (v75_at V4 b h T s _ e72).trans ?_
    rw [h4, opsBucket_keep (by decide), h3]
    refine (v36_at V2 _ h).trans ?_
    rw [g2]
    exact hrb _ _ (by show 8 ≤ 8 + h.val; omega)
  -- the two maps
  have L1 := logit_eq p rb b h T (2 * h.val) (by omega) q12 k16 b75 m76
  have q75 : V6 (Proc.devRef .tc main_v75) = V5 (Proc.devRef .tc main_v75) := by rw [h6, opsFirst_keep (by decide)]
  have q76 : V6 (Proc.devRef .tc main_v76) = V5 (Proc.devRef .tc main_v76) := by rw [h6, opsFirst_keep (by decide)]
  have L2 := logit_eq p rb b h T (2 * h.val + 1) (by omega) q14 k18 (q75 ▸ b75) (q76 ▸ m76)
  have p92 : ∀ s : Fin 8192, (V8 (Proc.devRef .tc main_v92) : FVec Ideal S4x4x8192x8192 .f32) (ix4 b h T s)
      = ((if s.val ≤ T.val then Real.exp (X p rb b (2 * h.val) T s) / ∑ s ∈ Finset.range (T.val + 1), Real.exp (X p rb b (2 * h.val) T s) else 0 : ℝ) : EReal) := fun s => by
    rw [h8, opsSecondEnd_keep (by decide), h7, opsSecond_keep (by decide), h6]
    exact (v92_at V5 b h T s).trans (soft_row T.isLt _ _ L1 s)
  have p108 : ∀ s : Fin 8192, (V8 (Proc.devRef .tc main_v108) : FVec Ideal S4x4x8192x8192 .f32) (ix4 b h T s)
      = ((if s.val ≤ T.val then Real.exp (X p rb b (2 * h.val + 1) T s) / ∑ s ∈ Finset.range (T.val + 1), Real.exp (X p rb b (2 * h.val + 1) T s) else 0 : ℝ) : EReal) := fun s => by
    rw [h8]
    refine (v108_at V7 b h T s _ (fun s => ?_) ?_).trans (soft_row T.isLt _ _ L2 s)
    · rw [h7]; exact v97_at V6 b h T s
    · rw [h7]; exact v98_at V6 b h T
  -- the difference and its normalisation
  have o113 : ∀ f : Fin 128, (V9 (Proc.devRef .tc main_v113) : FVec Ideal S4x8192x4x128 .f32) (ix4 b T h f) = (O p rb lam b h T f : EReal) := fun f => by
    rw [h9]
    refine (v113_at V8 b T h f _ rfl _ rfl _ rfl _ rfl).trans ?_
    refine Eq.trans (Finset.sum_congr (M := EReal) rfl fun s _ => ?_) (attn_row T.isLt (X p rb b (2 * h.val) T) (X p rb b (2 * h.val + 1) T)
      (fun s => p b s (2856 + 128 * h.val + f.val)) lam (fun i => (p b i.val (2856 + 128 * h.val + f.val) : EReal)) fun _ => rfl)
    rw [v19, p92, p108, l35]
  refine (v130_at V9 b T h e (O p rb lam b h T) o113).trans ?_
  rw [g4]

end Cert.ReferenceIdeal.DA

end
-- ==== Proof.Values.lean ====
/- The body's vector operations read at an index over the ideal floats. -/
module

public import proofs.«01_k».proof.Proof.Runs
public import proofs.«01_k».proof.Proof.Math
public import Idealize.ShloMosaic.Lib.Pointwise

@[expose] public section

set_option maxRecDepth 16384

noncomputable section

namespace Cert.KernelIdeal.DA

open Idealize.ShloMosaic Idealize.ShloMosaic.TcCoe
open VecWindow Facts₀ Facts
open Cert.DA

theorem ofBits_neg_inf : Ideal.ofBits .f32 0xFF800000#32 = ⊥ := by
  simp [Ideal.ofBits, Ideal.ieee]

theorem vaugV_at (x : Vec Ideal S1x128x1024 .bf16) (e : Fin 144) (s : Fin 1024) :
    vaugV (F := Ideal) x (ix2 e s) = if h : e.val < 128 then x (ix3 0 ⟨e.val, h⟩ s) else 1 := by
  pointwise [vaugV]

theorem logV_at (k : Vec Ideal S1x1024x64 .bf16) (q : Vec Ideal S1x64x1024 .bf16) (s t : Fin 1024) :
    logV (F := Ideal) k q (ix2 s t) = ∑ d : Fin 64, k (ix3 0 s d) * q (ix3 0 d t) := by
  pointwise [logV]

theorem logAV_at (k : Vec Ideal S1x512x64 .bf16) (q : Vec Ideal S1x64x1024 .bf16) (c : Vec Ideal S512x1024 .f32) (s : Fin 512) (t : Fin 1024) :
    logAV (F := Ideal) k q c (ix2 s t) = ∑ d : Fin 64, k (ix3 0 s d) * q (ix3 0 d t) + c (ix2 s t) := by
  pointwise [logAV]

theorem logBV_at (k : Vec Ideal S1x512x64 .bf16) (q : Vec Ideal S1x64x512 .bf16) (c : Vec Ideal S512x512 .f32) (s : Fin 512) (t : Fin 512) :
    logBV (F := Ideal) k q c (ix2 s t) = ∑ d : Fin 64, k (ix3 0 s d) * q (ix3 0 d t) + c (ix2 s t) := by
  pointwise [logBV]

theorem mNew_at (L : FVec Ideal S1024x1024 .f32) (mo : Vec Ideal S1x1x1024 .f32) (t : Fin 1024) :
    mNew (F := Ideal) L mo (ix2 0 t) = max (mo (ix3 0 0 t)) (Finset.univ.fold max ⊥ fun s : Fin 1024 => L (ix2 s t)) := by
  pointwise [mNew]
  rw [ofBits_neg_inf]

theorem mSafe_at (x : FVec Ideal S1x1024 .f32) (t : Fin 1024) : mSafe (F := Ideal) x (ix2 0 t) = safe (x (ix2 0 t)) := by
  pointwise [mSafe, safe]
  rw [ofBits_neg_inf]

theorem accV_at (L : FVec Ideal S1024x1024 .f32) (va : FVec Ideal S144x1024 .bf16) (mo : Vec Ideal S1x1x1024 .f32) (ac : Vec Ideal S1x144x1024 .f32)
    (e : Fin 144) (t : Fin 1024) :
    accV (F := Ideal) L va mo ac (ix3 0 e t) = Ideal.exp2 (mo (ix3 0 0 t) - mSafe (F := Ideal) (mNew L mo) (ix2 0 t)) * ac (ix3 0 e t)
      + ∑ s : Fin 1024, va (ix2 e s) * Ideal.exp2 (L (ix2 s t) - mSafe (F := Ideal) (mNew L mo) (ix2 0 t)) := by
  pointwise [accV]
  rfl

theorem bandV_at (x : Vec Ideal S128x128 .f32) (b : Vec Ideal S1x1x128x128 .f32) (y z : Fin 128) :
    bandV (F := Ideal) x b (ix2 y z) = x (ix2 y z) + b (ix4 0 0 y z) := by
  pointwise [bandV]

theorem lamV_at (l : Vec Ideal S4x64 .f32) : lamV (F := Ideal) l (ix2 0 0)
    = Ideal.exp (∑ d : Fin 64, l (ix2 0 d) * l (ix2 1 d)) - Ideal.exp (∑ d : Fin 64, l (ix2 2 d) * l (ix2 3 d)) + Ideal.ofBits .f32 0x3EB60549#32 := by
  pointwise [lamV]

theorem diffV_at (lam : FVec Ideal S1x1 .f32) (a b : Vec Ideal S1x144x1024 .f32) (e : Fin 128) (t : Fin 1024) :
    diffV (F := Ideal) lam a b (ix2 e t) = Ideal.div (a (ix3 0 ⟨e.val, by omega⟩ t)) (a (ix3 0 128 t))
      - lam (ix2 0 0) * Ideal.div (b (ix3 0 ⟨e.val, by omega⟩ t)) (b (ix3 0 128 t)) := by
  pointwise [diffV, quotV]

theorem headV_at (o : FVec Ideal S128x1024 .f32) (g : Vec Ideal S128x1 .f32) (t : Fin 1024) (e : Fin 128) :
    headV (F := Ideal) o g (ix2 t e) = o (ix2 e t) * Ideal.rsqrt (Ideal.div (∑ f : Fin 128, o (ix2 f t) * o (ix2 f t)) (Ideal.ofBits .f32 0x43000000#32) + Ideal.ofBits .f32 0x358637BD#32)
      * g (ix2 e 0) * Ideal.ofBits .f32 0x3F24FD5C#32 := by
  pointwise [headV]

theorem mNewA_at (L : FVec Ideal S512x1024 .f32) (mo : Vec Ideal S1x1x1024 .f32) (t : Fin 1024) :
    mNewA (F := Ideal) L mo (ix2 0 t) = max (mo (ix3 0 0 t)) (Finset.univ.fold max ⊥ fun s : Fin 512 => L (ix2 s t)) := by
  pointwise [mNewA]
  rw [ofBits_neg_inf]

theorem accAV_at (L : FVec Ideal S512x1024 .f32) (va : FVec Ideal S144x1024 .bf16) (mo : Vec Ideal S1x1x1024 .f32) (ac : Vec Ideal S1x144x1024 .f32)
    (e : Fin 144) (t : Fin 1024) :
    accAV (F := Ideal) L va mo ac (ix3 0 e t) = Ideal.exp2 (mo (ix3 0 0 t) - mSafe (F := Ideal) (mNewA L mo) (ix2 0 t)) * ac (ix3 0 e t)
      + ∑ s : Fin 512, va (ix2 e ⟨s.val, by omega⟩) * Ideal.exp2 (L (ix2 s t) - mSafe (F := Ideal) (mNewA L mo) (ix2 0 t)) := by
  pointwise [accAV]
  rfl

theorem mNewB_at (L : FVec Ideal S512x512 .f32) (mo : Vec Ideal S1x1x512 .f32) (t : Fin 512) :
    mNewB (F := Ideal) L mo (ix2 0 t) = max (mo (ix3 0 0 t)) (Finset.univ.fold max ⊥ fun s : Fin 512 => L (ix2 s t)) := by
  pointwise [mNewB]
  rw [ofBits_neg_inf]

theorem mSafeB_at (x : FVec Ideal S1x512 .f32) (t : Fin 512) : mSafeB (F := Ideal) x (ix2 0 t) = safe (x (ix2 0 t)) := by
  pointwise [mSafeB, safe]
  rw [ofBits_neg_inf]

theorem accBV_at (L : FVec Ideal S512x512 .f32) (va : FVec Ideal S144x1024 .bf16) (mo : Vec Ideal S1x1x512 .f32) (ac : Vec Ideal S1x144x512 .f32)
    (e : Fin 144) (t : Fin 512) :
    accBV (F := Ideal) L va mo ac (ix3 0 e t) = Ideal.exp2 (mo (ix3 0 0 t) - mSafeB (F := Ideal) (mNewB L mo) (ix2 0 t)) * ac (ix3 0 e t)
      + ∑ s : Fin 512, va (ix2 e ⟨512 + s.val, by omega⟩) * Ideal.exp2 (L (ix2 s t) - mSafeB (F := Ideal) (mNewB L mo) (ix2 0 t)) := by
  pointwise [accBV]
  rfl

theorem mV_at (L : FVec Ideal S1024x1024 .f32) (mo : Vec Ideal S1x1x1024 .f32) (t : Fin 1024) : mV (F := Ideal) L mo (ix3 0 0 t) = mNew (F := Ideal) L mo (ix2 0 t) := by
  pointwise [mV]
theorem mAV_at (L : FVec Ideal S512x1024 .f32) (mo : Vec Ideal S1x1x1024 .f32) (t : Fin 1024) : mAV (F := Ideal) L mo (ix3 0 0 t) = mNewA (F := Ideal) L mo (ix2 0 t) := by
  pointwise [mAV]
theorem mBV_at (L : FVec Ideal S512x512 .f32) (mo : Vec Ideal S1x1x512 .f32) (t : Fin 512) : mBV (F := Ideal) L mo (ix3 0 0 t) = mNewB (F := Ideal) L mo (ix2 0 t) := by
  pointwise [mBV]

end Cert.KernelIdeal.DA

end
-- ==== Proof.Puts.lean ====
/- A window put over a buffer, read at an index. -/
module

public import Idealize.ShloMosaic.Lib.VecWindow
public import Idealize.ShloMosaic.Lib.Pointwise

@[expose] public section

set_option maxRecDepth 16384

noncomputable section

namespace Cert.DA

open Idealize.ShloMosaic
open VecWindow

variable {α : Type}

theorem put2 {N₀ N₁ a b n₀ n₁ : ℕ} (x : Shape.Idx ⟨2, ![N₀, N₁]⟩ → α) (w : Shape.Idx ⟨2, ![n₀, n₁]⟩ → α) (i : Fin N₀) (j : Fin N₁) :
    put x ![a, b] ![n₀, n₁] w (ix2 i j)
      = if h : (a ≤ i.val ∧ i.val < a + n₀) ∧ (b ≤ j.val ∧ j.val < b + n₁) then w (ix2 ⟨i.val - a, by omega⟩ ⟨j.val - b, by omega⟩) else x (ix2 i j) := by
  unfold put
  by_cases h : (a ≤ i.val ∧ i.val < a + n₀) ∧ (b ≤ j.val ∧ j.val < b + n₁)
  · rw [dif_pos h, dif_pos (by intro c; fin_cases c; exacts [h.1, h.2])]
    refine congrArg w (funext fun c => Fin.ext ?_)
    fin_cases c <;> rfl
  · rw [dif_neg h, dif_neg (fun H => h ⟨H 0, H 1⟩)]

theorem put3 {N₀ N₁ N₂ a b c n₀ n₁ n₂ : ℕ} (x : Shape.Idx ⟨3, ![N₀, N₁, N₂]⟩ → α) (w : Shape.Idx ⟨3, ![n₀, n₁, n₂]⟩ → α) (i : Fin N₀) (j : Fin N₁) (k : Fin N₂) :
    put x ![a, b, c] ![n₀, n₁, n₂] w (ix3 i j k)
      = if h : (a ≤ i.val ∧ i.val < a + n₀) ∧ (b ≤ j.val ∧ j.val < b + n₁) ∧ (c ≤ k.val ∧ k.val < c + n₂) then w (ix3 ⟨i.val - a, by omega⟩ ⟨j.val - b, by omega⟩ ⟨k.val - c, by omega⟩) else x (ix3 i j k) := by
  unfold put
  by_cases h : (a ≤ i.val ∧ i.val < a + n₀) ∧ (b ≤ j.val ∧ j.val < b + n₁) ∧ (c ≤ k.val ∧ k.val < c + n₂)
  · rw [dif_pos h, dif_pos (by intro c; fin_cases c; exacts [h.1, h.2.1, h.2.2])]
    refine congrArg w (funext fun c => Fin.ext ?_)
    fin_cases c <;> rfl
  · rw [dif_neg h, dif_neg (fun H => h ⟨H 0, H 1, H 2⟩)]

theorem put4 {N₀ N₁ N₂ N₃ a b c d n₀ n₁ n₂ n₃ : ℕ} (x : Shape.Idx ⟨4, ![N₀, N₁, N₂, N₃]⟩ → α) (w : Shape.Idx ⟨4, ![n₀, n₁, n₂, n₃]⟩ → α)
    (i : Fin N₀) (j : Fin N₁) (k : Fin N₂) (l : Fin N₃) :
    put x ![a, b, c, d] ![n₀, n₁, n₂, n₃] w (ix4 i j k l)
      = if h : (a ≤ i.val ∧ i.val < a + n₀) ∧ (b ≤ j.val ∧ j.val < b + n₁) ∧ (c ≤ k.val ∧ k.val < c + n₂) ∧ (d ≤ l.val ∧ l.val < d + n₃)
        then w (ix4 ⟨i.val - a, by omega⟩ ⟨j.val - b, by omega⟩ ⟨k.val - c, by omega⟩ ⟨l.val - d, by omega⟩) else x (ix4 i j k l) := by
  unfold put
  by_cases h : (a ≤ i.val ∧ i.val < a + n₀) ∧ (b ≤ j.val ∧ j.val < b + n₁) ∧ (c ≤ k.val ∧ k.val < c + n₂) ∧ (d ≤ l.val ∧ l.val < d + n₃)
  · rw [dif_pos h, dif_pos (by intro c; fin_cases c; exacts [h.1, h.2.1, h.2.2.1, h.2.2.2])]
    refine congrArg w (funext fun c => Fin.ext ?_)
    fin_cases c <;> rfl
  · rw [dif_neg h, dif_neg (fun H => h ⟨H 0, H 1, H 2, H 3⟩)]

theorem put_all {s : Shape} (x w : s.Idx → α) (off : Fin s.rank → ℕ) (h0 : ∀ a, off a = 0) : put x off s.size w = w := by
  funext y
  unfold put
  rw [dif_pos (fun a => ⟨by rw [h0]; exact Nat.zero_le _, by rw [h0, zero_add]; exact (y a).isLt⟩)]
  exact congrArg w (funext fun a => Fin.ext (by rw [Rect.unitLocal_val, h0]; rfl))

theorem window2 {N₀ N₁ a b n₀ n₁ : ℕ} (x : Shape.Idx ⟨2, ![N₀, N₁]⟩ → α) (inb : ∀ c, (![a, b] : Fin 2 → ℕ) c + (![n₀, n₁] : Fin 2 → ℕ) c ≤ (![N₀, N₁] : Fin 2 → ℕ) c)
    (i : Fin n₀) (j : Fin n₁) (i' : Fin N₀) (j' : Fin N₁) (hi : i'.val = a + i.val) (hj : j'.val = b + j.val) :
    window (s := ⟨2, ![N₀, N₁]⟩) x ![a, b] ![n₀, n₁] inb (ix2 i j) = x (ix2 i' j') := by
  unfold window
  refine congrArg x (funext fun c => Fin.ext ?_)
  fin_cases c
  · show a + 1 * i.val = i'.val; omega
  · show b + 1 * j.val = j'.val; omega

theorem window3 {N₀ N₁ N₂ a b c n₀ n₁ n₂ : ℕ} (x : Shape.Idx ⟨3, ![N₀, N₁, N₂]⟩ → α)
    (inb : ∀ e, (![a, b, c] : Fin 3 → ℕ) e + (![n₀, n₁, n₂] : Fin 3 → ℕ) e ≤ (![N₀, N₁, N₂] : Fin 3 → ℕ) e)
    (i : Fin n₀) (j : Fin n₁) (k : Fin n₂) (i' : Fin N₀) (j' : Fin N₁) (k' : Fin N₂) (hi : i'.val = a + i.val) (hj : j'.val = b + j.val) (hk : k'.val = c + k.val) :
    window (s := ⟨3, ![N₀, N₁, N₂]⟩) x ![a, b, c] ![n₀, n₁, n₂] inb (ix3 i j k) = x (ix3 i' j' k') := by
  unfold window
  refine congrArg x (funext fun c => Fin.ext ?_)
  fin_cases c
  · show a + 1 * i.val = i'.val; omega
  · show b + 1 * j.val = j'.val; omega
  · show c + 1 * k.val = k'.val; omega

theorem window4 {N₀ N₁ N₂ N₃ a b c d n₀ n₁ n₂ n₃ : ℕ} (x : Shape.Idx ⟨4, ![N₀, N₁, N₂, N₃]⟩ → α)
    (inb : ∀ e, (![a, b, c, d] : Fin 4 → ℕ) e + (![n₀, n₁, n₂, n₃] : Fin 4 → ℕ) e ≤ (![N₀, N₁, N₂, N₃] : Fin 4 → ℕ) e)
    (i : Fin n₀) (j : Fin n₁) (k : Fin n₂) (l : Fin n₃) (i' : Fin N₀) (j' : Fin N₁) (k' : Fin N₂) (l' : Fin N₃)
    (hi : i'.val = a + i.val) (hj : j'.val = b + j.val) (hk : k'.val = c + k.val) (hl : l'.val = d + l.val) :
    window (s := ⟨4, ![N₀, N₁, N₂, N₃]⟩) x ![a, b, c, d] ![n₀, n₁, n₂, n₃] inb (ix4 i j k l) = x (ix4 i' j' k' l') := by
  unfold window
  refine congrArg x (funext fun c => Fin.ext ?_)
  fin_cases c
  · show a + 1 * i.val = i'.val; omega
  · show b + 1 * j.val = j'.val; omega
  · show c + 1 * k.val = k'.val; omega
  · show d + 1 * l.val = l'.val; omega

end Cert.DA

end
-- ==== Proof.Steps.lean ====
/- One online-softmax step, on the whole block and on its two diagonal halves, taken column by column. -/
module

public import proofs.«01_k».proof.Proof.Values
public import proofs.«01_k».proof.Proof.Puts
public import proofs.«01_k».proof.Proof.Spec

@[expose] public section

set_option maxRecDepth 16384

noncomputable section

namespace Cert.DA

open Idealize.ShloMosaic
open VecWindow

variable {α : Type}

theorem put3_in {N₀ N₁ N₂ a b c n₀ n₁ n₂ : ℕ} (x : Shape.Idx ⟨3, ![N₀, N₁, N₂]⟩ → α) (w : Shape.Idx ⟨3, ![n₀, n₁, n₂]⟩ → α)
    (i : Fin N₀) (j : Fin N₁) (k : Fin N₂) (i' : Fin n₀) (j' : Fin n₁) (k' : Fin n₂)
    (hi : i.val = a + i'.val) (hj : j.val = b + j'.val) (hk : k.val = c + k'.val) :
    put x ![a, b, c] ![n₀, n₁, n₂] w (ix3 i j k) = w (ix3 i' j' k') := by
  have := i'.isLt
  have := j'.isLt
  have := k'.isLt
  rw [put3, dif_pos ⟨⟨by omega, by omega⟩, ⟨by omega, by omega⟩, by omega, by omega⟩]
  have e0 : (⟨i.val - a, by omega⟩ : Fin n₀) = i' := Fin.ext (by show i.val - a = i'.val; omega)
  have e1 : (⟨j.val - b, by omega⟩ : Fin n₁) = j' := Fin.ext (by show j.val - b = j'.val; omega)
  have e2 : (⟨k.val - c, by omega⟩ : Fin n₂) = k' := Fin.ext (by show k.val - c = k'.val; omega)
  rw [e0, e1, e2]

theorem put3_out {N₀ N₁ N₂ a b c n₀ n₁ n₂ : ℕ} (x : Shape.Idx ⟨3, ![N₀, N₁, N₂]⟩ → α) (w : Shape.Idx ⟨3, ![n₀, n₁, n₂]⟩ → α)
    (i : Fin N₀) (j : Fin N₁) (k : Fin N₂) (h : i.val < a ∨ a + n₀ ≤ i.val ∨ k.val < c ∨ c + n₂ ≤ k.val) :
    put x ![a, b, c] ![n₀, n₁, n₂] w (ix3 i j k) = x (ix3 i j k) := by
  rw [put3, dif_neg (by omega)]

end Cert.DA

namespace Cert.KernelIdeal.DA

open Idealize.ShloMosaic Idealize.ShloMosaic.TcCoe
open VecWindow Facts₀ Facts
open Cert.DA

/-- Column `t` of map `r` holds the keys below `n`. -/
def HoldsAt (Y : ℕ → ℝ) (w : Fin 144 → ℕ → ℝ) (σ : St Ideal) (r : Fin 8) (t : Fin 1024) (n : ℕ) : Prop :=
  Holds n Y w ((σ.m : FVec Ideal S8x1x1024 .f32) (ix3 r 0 t)) (fun e => (σ.acc : FVec Ideal S8x144x1024 .f32) (ix3 r e t))

/-- The columns of map `r` are the same in two states. -/
def SameCol (σ σ' : St Ideal) (r : Fin 8) (t : Fin 1024) : Prop :=
  (σ'.m : FVec Ideal S8x1x1024 .f32) (ix3 r 0 t) = (σ.m : FVec Ideal S8x1x1024 .f32) (ix3 r 0 t)
    ∧ ∀ e, (σ'.acc : FVec Ideal S8x144x1024 .f32) (ix3 r e t) = (σ.acc : FVec Ideal S8x144x1024 .f32) (ix3 r e t)

theorem SameCol.holds {σ σ' : St Ideal} {r : Fin 8} {t : Fin 1024} (h : SameCol σ σ' r t) {Y : ℕ → ℝ} {w : Fin 144 → ℕ → ℝ} {n : ℕ}
    (H : HoldsAt Y w σ r t n) : HoldsAt Y w σ' r t n := by
  unfold HoldsAt at *
  rw [h.1, funext h.2]
  exact H

theorem mAt_at (σ : St Ideal) (r : Fin 8) (t : Fin 1024) : (mAt σ r : FVec Ideal S1x1x1024 .f32) (ix3 0 0 t) = (σ.m : FVec Ideal S8x1x1024 .f32) (ix3 r 0 t) :=
  window3 _ _ 0 0 t r 0 t rfl rfl (Nat.zero_add _).symm
theorem accAt_at (σ : St Ideal) (r : Fin 8) (e : Fin 144) (t : Fin 1024) :
    (accAt σ r : FVec Ideal S1x144x1024 .f32) (ix3 0 e t) = (σ.acc : FVec Ideal S8x144x1024 .f32) (ix3 r e t) :=
  window3 _ _ 0 e t r e t rfl (Nat.zero_add _).symm (Nat.zero_add _).symm
theorem mAtB_at (σ : St Ideal) (r : Fin 8) (t : Fin 512) (t' : Fin 1024) (ht : t'.val = 512 + t.val) :
    (mAtB σ r : FVec Ideal S1x1x512 .f32) (ix3 0 0 t) = (σ.m : FVec Ideal S8x1x1024 .f32) (ix3 r 0 t') :=
  window3 _ _ 0 0 t r 0 t' rfl rfl ht
theorem accAtB_at (σ : St Ideal) (r : Fin 8) (e : Fin 144) (t : Fin 512) (t' : Fin 1024) (ht : t'.val = 512 + t.val) :
    (accAtB σ r : FVec Ideal S1x144x512 .f32) (ix3 0 e t) = (σ.acc : FVec Ideal S8x144x1024 .f32) (ix3 r e t') :=
  window3 _ _ 0 e t r e t' rfl (Nat.zero_add _).symm ht

theorem step_other (r : Fin 8) (L : FVec Ideal S1024x1024 .f32) (va : FVec Ideal S144x1024 .bf16) (σ : St Ideal) (r' : Fin 8) (h : r' ≠ r) (t : Fin 1024) :
    SameCol σ (stepF r L va σ) r' t := by
  have : r'.val ≠ r.val := fun e => h (Fin.ext e)
  exact ⟨put3_out (a := r.val) (b := 0) (c := 0) (n₀ := 1) (n₁ := 1) (n₂ := 1024) _ _ r' 0 t (by omega),
    fun e => put3_out (a := r.val) (b := 0) (c := 0) (n₀ := 1) (n₁ := 144) (n₂ := 1024) _ _ r' e t (by omega)⟩

theorem step_holds (r : Fin 8) (L : FVec Ideal S1024x1024 .f32) (va : FVec Ideal S144x1024 .bf16) (σ : St Ideal) (t : Fin 1024)
    {Y : ℕ → ℝ} {w : Fin 144 → ℕ → ℝ} {n n' : ℕ} (H : HoldsAt Y w σ r t n) (h1 : n < n') (h2 : n' ≤ n + 1024)
    (hL : ∀ i : Fin 1024, L (ix2 i t) = if n + i.val < n' then (Y (n + i.val) : EReal) else ⊥)
    (hva : ∀ (e : Fin 144) (i : Fin 1024), va (ix2 e i) = (w e (n + i.val) : EReal)) : HoldsAt Y w (stepF r L va σ) r t n' := by
  have := holds_step H (fun i : Fin 1024 => L (ix2 i t)) (fun e i => va (ix2 e i)) h1 h2 hL hva
  unfold HoldsAt
  have em : ((stepF r L va σ).m : FVec Ideal S8x1x1024 .f32) (ix3 r 0 t) = mNew (F := Ideal) L (mAt σ r) (ix2 0 t) :=
    (put3_in (a := r.val) (b := 0) (c := 0) (n₀ := 1) (n₁ := 1) (n₂ := 1024) _ _ r 0 t 0 0 t rfl rfl (Nat.zero_add _).symm).trans (mV_at _ _ _)
  have ea : ∀ e, ((stepF r L va σ).acc : FVec Ideal S8x144x1024 .f32) (ix3 r e t) = accV (F := Ideal) L va (mAt σ r) (accAt σ r) (ix3 0 e t) := fun e =>
    put3_in (a := r.val) (b := 0) (c := 0) (n₀ := 1) (n₁ := 144) (n₂ := 1024) _ _ r e t 0 e t rfl (Nat.zero_add _).symm (Nat.zero_add _).symm
  rw [em, funext ea]
  simp only [accV_at, mSafe_at, mNew_at, mAt_at, accAt_at]
  exact this

theorem stepA_other (r : Fin 8) (L : FVec Ideal S512x1024 .f32) (va : FVec Ideal S144x1024 .bf16) (σ : St Ideal) (r' : Fin 8) (h : r' ≠ r) (t : Fin 1024) :
    SameCol σ (stepAF r L va σ) r' t := by
  have : r'.val ≠ r.val := fun e => h (Fin.ext e)
  exact ⟨put3_out (a := r.val) (b := 0) (c := 0) (n₀ := 1) (n₁ := 1) (n₂ := 1024) _ _ r' 0 t (by omega),
    fun e => put3_out (a := r.val) (b := 0) (c := 0) (n₀ := 1) (n₁ := 144) (n₂ := 1024) _ _ r' e t (by omega)⟩

theorem stepA_holds (r : Fin 8) (L : FVec Ideal S512x1024 .f32) (va : FVec Ideal S144x1024 .bf16) (σ : St Ideal) (t : Fin 1024)
    {Y : ℕ → ℝ} {w : Fin 144 → ℕ → ℝ} {n n' : ℕ} (H : HoldsAt Y w σ r t n) (h1 : n < n') (h2 : n' ≤ n + 512)
    (hL : ∀ i : Fin 512, L (ix2 i t) = if n + i.val < n' then (Y (n + i.val) : EReal) else ⊥)
    (hva : ∀ (e : Fin 144) (i : Fin 512), va (ix2 e ⟨i.val, by omega⟩) = (w e (n + i.val) : EReal)) : HoldsAt Y w (stepAF r L va σ) r t n' := by
  have := holds_step H (fun i : Fin 512 => L (ix2 i t)) (fun e i => va (ix2 e ⟨i.val, by omega⟩)) h1 h2 hL hva
  unfold HoldsAt
  have em : ((stepAF r L va σ).m : FVec Ideal S8x1x1024 .f32) (ix3 r 0 t) = mNewA (F := Ideal) L (mAt σ r) (ix2 0 t) :=
    (put3_in (a := r.val) (b := 0) (c := 0) (n₀ := 1) (n₁ := 1) (n₂ := 1024) _ _ r 0 t 0 0 t rfl rfl (Nat.zero_add _).symm).trans (mAV_at _ _ _)
  have ea : ∀ e, ((stepAF r L va σ).acc : FVec Ideal S8x144x1024 .f32) (ix3 r e t) = accAV (F := Ideal) L va (mAt σ r) (accAt σ r) (ix3 0 e t) := fun e =>
    put3_in (a := r.val) (b := 0) (c := 0) (n₀ := 1) (n₁ := 144) (n₂ := 1024) _ _ r e t 0 e t rfl (Nat.zero_add _).symm (Nat.zero_add _).symm
  rw [em, funext ea]
  simp only [accAV_at, mSafe_at, mNewA_at, mAt_at, accAt_at]
  exact this

theorem stepB_other (r : Fin 8) (L : FVec Ideal S512x512 .f32) (va : FVec Ideal S144x1024 .bf16) (σ : St Ideal) (r' : Fin 8) (t : Fin 1024)
    (h : r' ≠ r ∨ t.val < 512) : SameCol σ (stepBF r L va σ) r' t := by
  have : r'.val ≠ r.val ∨ t.val < 512 := h.imp_left fun h e => h (Fin.ext e)
  exact ⟨put3_out (a := r.val) (b := 0) (c := 512) (n₀ := 1) (n₁ := 1) (n₂ := 512) _ _ r' 0 t (by omega),
    fun e => put3_out (a := r.val) (b := 0) (c := 512) (n₀ := 1) (n₁ := 144) (n₂ := 512) _ _ r' e t (by omega)⟩

theorem stepB_holds (r : Fin 8) (L : FVec Ideal S512x512 .f32) (va : FVec Ideal S144x1024 .bf16) (σ : St Ideal) (t : Fin 1024) (t' : Fin 512) (ht : t.val = 512 + t'.val)
    {Y : ℕ → ℝ} {w : Fin 144 → ℕ → ℝ} {n n' : ℕ} (H : HoldsAt Y w σ r t n) (h1 : n < n') (h2 : n' ≤ n + 512)
    (hL : ∀ i : Fin 512, L (ix2 i t') = if n + i.val < n' then (Y (n + i.val) : EReal) else ⊥)
    (hva : ∀ (e : Fin 144) (i : Fin 512), va (ix2 e ⟨512 + i.val, by omega⟩) = (w e (n + i.val) : EReal)) : HoldsAt Y w (stepBF r L va σ) r t n' := by
  have := holds_step H (fun i : Fin 512 => L (ix2 i t')) (fun e i => va (ix2 e ⟨512 + i.val, by omega⟩)) h1 h2 hL hva
  unfold HoldsAt
  have em : ((stepBF r L va σ).m : FVec Ideal S8x1x1024 .f32) (ix3 r 0 t) = mNewB (F := Ideal) L (mAtB σ r) (ix2 0 t') :=
    (put3_in (a := r.val) (b := 0) (c := 512) (n₀ := 1) (n₁ := 1) (n₂ := 512) _ _ r 0 t 0 0 t' rfl rfl ht).trans (mBV_at _ _ _)
  have ea : ∀ e, ((stepBF r L va σ).acc : FVec Ideal S8x144x1024 .f32) (ix3 r e t) = accBV (F := Ideal) L va (mAtB σ r) (accAtB σ r) (ix3 0 e t') := fun e =>
    put3_in (a := r.val) (b := 0) (c := 512) (n₀ := 1) (n₁ := 144) (n₂ := 512) _ _ r e t 0 e t' rfl (Nat.zero_add _).symm ht
  rw [em, funext ea]
  simp only [accBV_at, mSafeB_at, mNewB_at, mAtB_at σ r t' t ht, accAtB_at σ r _ t' t ht]
  exact this

/-- The bias block `(h, d)` added at block `(k, q)`. -/
theorem bandS_at (h : Fin 4) (d : Fin 2) (k q : Fin 8) (bt : FVec Ideal S4x2x128x128 .f32) (s : FVec Ideal S1024x1024 .f32) (i t : Fin 1024) :
    (bandS (F := Ideal) h d k q bt s : FVec Ideal S1024x1024 .f32) (ix2 i t)
      = s (ix2 i t) + if i.val / 128 = k.val ∧ t.val / 128 = q.val then bt (ix4 h d ⟨i.val % 128, by omega⟩ ⟨t.val % 128, by omega⟩) else 0 := by
  have hi := i.isLt
  have ht := t.isLt
  refine (put2 (a := 128 * k.val) (b := 128 * q.val) (n₀ := 128) (n₁ := 128) _ _ i t).trans ?_
  by_cases c : i.val / 128 = k.val ∧ t.val / 128 = q.val
  · rw [dif_pos (by omega), if_pos c]
    refine (bandV_at _ _ _ _).trans ?_
    refine congrArg₂ (fun x y : EReal => x + y) ?_ ?_
    · exact window2 _ _ _ _ i t (by show i.val = 128 * k.val + (i.val - 128 * k.val); omega) (by show t.val = 128 * q.val + (t.val - 128 * q.val); omega)
    · exact window4 _ _ 0 0 _ _ h d _ _ rfl rfl (by show i.val % 128 = 0 + (i.val - 128 * k.val); omega) (by show t.val % 128 = 0 + (t.val - 128 * q.val); omega)
  · rw [dif_neg (by omega), if_neg c, add_zero]

end Cert.KernelIdeal.DA

end
-- ==== Proof.Maps.lean ====
/- The eight maps of one grid point: a key block before the queries', the one just before, and the diagonal one. -/
module

public import proofs.«01_k».proof.Proof.Steps

@[expose] public section

set_option maxRecDepth 16384

noncomputable section

namespace Cert.KernelIdeal.DA

open Idealize.ShloMosaic Idealize.ShloMosaic.TcCoe
open VecWindow Facts₀ Facts
open Cert.DA

/-- Entry `(i, j)` of bias block `d`: the bias of the distance against the last bucket's, in base two. -/
def btR (rb : ℕ → ℕ → ℝ) (h d i j : ℕ) : ℝ := (rb (buck (j + 128 * d - i)) (8 + h) - rb 31 (8 + h)) / Real.log 2

/-- The tables the first grid point of a batch fills. -/
structure Tabs (rb : ℕ → ℕ → ℝ) (σ : St Ideal) : Prop where
  bt : ∀ (h : Fin 4) (d : Fin 2) (i j : Fin 128), (σ.bt : FVec Ideal S4x2x128x128 .f32) (ix4 h d i j) = (btR rb h d i j : EReal)
  cm : ∀ i t : Fin 1024, (σ.cm : FVec Ideal S1024x1024 .f32) (ix2 i t) = if i.val ≤ t.val then 0 else ⊥

/-- The staged blocks of query block `qi` and key block `ki` of batch `b`. -/
structure InBlocks (p : ℕ → ℕ → ℕ → ℝ) (b qi ki : ℕ) (σ : St Ideal) : Prop where
  q : ∀ (x : Fin 512) (t : Fin 1024), (σ.q : FVec Ideal S1x512x1024 .bf16) (ix3 0 x t) = (p b (1024 * qi + t.val) (1832 + x.val) * (1 / 8 / Real.log 2) : ℝ)
  k : ∀ (s : Fin 1024) (x : Fin 512), (σ.k : FVec Ideal S1x1024x512 .bf16) (ix3 0 s x) = (p b (1024 * ki + s.val) (2344 + x.val) : ℝ)
  v : ∀ (x : Fin 512) (s : Fin 1024), (σ.v : FVec Ideal S1x512x1024 .bf16) (ix3 0 x s) = (p b (1024 * ki + s.val) (2856 + x.val) : ℝ)

variable (p : ℕ → ℕ → ℕ → ℝ) (rb : ℕ → ℕ → ℝ) (b qi ki : ℕ) (LAM : Vec Ideal S4x64 .f32) (NG : Vec Ideal S128x1 .f32)

/-- What the maps only read. -/
structure Ins (σ : St Ideal) : Prop where
  tabs : Tabs rb σ
  blocks : InBlocks p b qi ki σ
  lam : σ.lam = LAM
  ng : σ.ng = NG

/-- Column `t` of map `r` holds the keys below `n`, for the specification's logits and weights. -/
def HoldsR (σ : St Ideal) (r : Fin 8) (t : Fin 1024) (n : ℕ) : Prop :=
  HoldsAt (Y p rb b r (1024 * qi + t.val)) (W p b (r.val / 2)) σ r t n

variable {p rb b qi ki LAM NG}

theorem vaugF_at {σ : St Ideal} (H : InBlocks p b qi ki σ) (h : Fin 4) (e : Fin 144) (s : Fin 1024) :
    (vaugF h σ : FVec Ideal S144x1024 .bf16) (ix2 e s) = (W p b h e (1024 * ki + s.val) : EReal) := by
  refine (vaugV_at _ e s).trans ?_
  unfold W
  by_cases he : e.val < 128
  · rw [dif_pos he, if_pos he]
    refine (window3 _ _ 0 ⟨e.val, he⟩ s 0 ⟨128 * h.val + e.val, by omega⟩ s rfl rfl (Nat.zero_add _).symm).trans ?_
    rw [H.v]
    congr 2
    show 2856 + (128 * h.val + e.val) = _
    omega
  · rw [dif_neg he, if_neg he, EReal.coe_one]

/-- A dot product of the staged blocks is the specification's, in base two. -/
theorem dot_eq (r s t : ℕ) (k q : Fin 64 → EReal)
    (hk : ∀ d, k d = (p b s (2344 + 64 * r + d.val) : EReal)) (hq : ∀ d, q d = (p b t (1832 + 64 * r + d.val) * (1 / 8 / Real.log 2) : ℝ)) :
    ∑ d : Fin 64, k d * q d = (dotR p b r t s / 8 / Real.log 2 : ℝ) := by
  have e : dotR p b r t s / 8 / Real.log 2 = ∑ d : Fin 64, p b s (2344 + 64 * r + d.val) * (p b t (1832 + 64 * r + d.val) * (1 / 8 / Real.log 2)) := by
    unfold dotR
    rw [div_div, Finset.sum_div]
    exact Finset.sum_congr rfl fun d _ => by ring
  rw [e, sum_coe]
  exact Finset.sum_congr rfl fun d _ => by rw [hk, hq]; exact (EReal.coe_mul _ _).symm

theorem Y_eq (r T s : ℕ) : Y p rb b r T s = dotR p b r T s / 8 / Real.log 2 + (rb (buck (T - s)) (8 + r / 2) - rb 31 (8 + r / 2)) / Real.log 2 := by
  unfold Y X
  ring

theorem Y_far (r T s : ℕ) (h : 113 ≤ T - s) : Y p rb b r T s = dotR p b r T s / 8 / Real.log 2 := by
  rw [Y_eq, buck_far _ h, sub_self, zero_div, add_zero]

theorem logF_at {σ : St Ideal} (H : InBlocks p b qi ki σ) (r : Fin 8) (s t : Fin 1024) :
    (logF r σ : FVec Ideal S1024x1024 .f32) (ix2 s t) = (dotR p b r (1024 * qi + t.val) (1024 * ki + s.val) / 8 / Real.log 2 : ℝ) := by
  refine (logV_at _ _ s t).trans (dot_eq _ _ _ _ _ (fun d => ?_) fun d => ?_)
  · refine (window3 _ _ 0 s d 0 s ⟨64 * r.val + d.val, by omega⟩ rfl (Nat.zero_add _).symm rfl).trans ?_
    rw [H.k]
    congr 2
    show 2344 + (64 * r.val + d.val) = _
    omega
  · refine (window3 _ _ 0 d t 0 ⟨64 * r.val + d.val, by omega⟩ t rfl rfl (Nat.zero_add _).symm).trans ?_
    rw [H.q]
    congr 3
    show 1832 + (64 * r.val + d.val) = _
    omega

theorem logAF_at {σ : St Ideal} (H : InBlocks p b qi ki σ) (HT : Tabs rb σ) (r : Fin 8) (s : Fin 512) (t : Fin 1024) :
    (logAF r σ : FVec Ideal S512x1024 .f32) (ix2 s t) = (dotR p b r (1024 * qi + t.val) (1024 * ki + s.val) / 8 / Real.log 2 : ℝ) + if s.val ≤ t.val then (0 : EReal) else ⊥ := by
  refine (logAV_at _ _ _ s t).trans ?_
  refine congrArg₂ (fun x y : EReal => x + y) (dot_eq _ _ _ _ _ (fun d => ?_) fun d => ?_) ?_
  · refine (window3 σ.k (inbKA r) 0 s d 0 ⟨s.val, by omega⟩ ⟨64 * r.val + d.val, by omega⟩ rfl (Nat.zero_add _).symm rfl).trans ?_
    rw [H.k]
    congr 2
    show 2344 + (64 * r.val + d.val) = _
    omega
  · refine (window3 _ _ 0 d t 0 ⟨64 * r.val + d.val, by omega⟩ t rfl rfl (Nat.zero_add _).symm).trans ?_
    rw [H.q]
    congr 3
    show 1832 + (64 * r.val + d.val) = _
    omega
  · refine (window2 σ.cm inb_S1024x1024_S512x1024_0_0 s t ⟨s.val, by omega⟩ t (Nat.zero_add _).symm (Nat.zero_add _).symm).trans ?_
    exact HT.cm _ _

theorem logBF_at {σ : St Ideal} (H : InBlocks p b qi ki σ) (HT : Tabs rb σ) (r : Fin 8) (s t : Fin 512) :
    (logBF r σ : FVec Ideal S512x512 .f32) (ix2 s t)
      = (dotR p b r (1024 * qi + (512 + t.val)) (1024 * ki + (512 + s.val)) / 8 / Real.log 2 : ℝ) + if 512 + s.val ≤ 512 + t.val then (0 : EReal) else ⊥ := by
  refine (logBV_at _ _ _ s t).trans ?_
  refine congrArg₂ (fun x y : EReal => x + y) (dot_eq _ _ _ _ _ (fun d => ?_) fun d => ?_) ?_
  · refine (window3 _ _ 0 s d 0 ⟨512 + s.val, by omega⟩ ⟨64 * r.val + d.val, by omega⟩ rfl rfl rfl).trans ?_
    rw [H.k]
    congr 2
    show 2344 + (64 * r.val + d.val) = _
    omega
  · refine (window3 _ _ 0 d t 0 ⟨64 * r.val + d.val, by omega⟩ ⟨512 + t.val, by omega⟩ rfl rfl rfl).trans ?_
    rw [H.q]
    congr 3
    show 1832 + (64 * r.val + d.val) = _
    omega
  · refine (window2 σ.cm inb_S1024x1024_S512x512_512_512 s t ⟨512 + s.val, by omega⟩ ⟨512 + t.val, by omega⟩ rfl rfl).trans ?_
    exact HT.cm _ _

/-! ## The eight maps in turn -/

/-- A map advances its own columns from `n` keys to `n'` and leaves the others. -/
structure Adv (p : ℕ → ℕ → ℕ → ℝ) (rb : ℕ → ℕ → ℝ) (b qi ki : ℕ) (LAM : Vec Ideal S4x64 .f32) (NG : Vec Ideal S128x1 .f32) (n n' : Fin 1024 → ℕ) (r : Fin 8) (σ σ' : St Ideal) : Prop where
  ins : Ins p rb b qi ki LAM NG σ → Ins p rb b qi ki LAM NG σ'
  other : ∀ r', r' ≠ r → ∀ t, SameCol σ σ' r' t
  own : Ins p rb b qi ki LAM NG σ → (∀ t, HoldsR p rb b qi σ r t (n t)) → ∀ t, HoldsR p rb b qi σ' r t (n' t)

/-- The first `k` maps are done. -/
def Done (p : ℕ → ℕ → ℕ → ℝ) (rb : ℕ → ℕ → ℝ) (b qi ki : ℕ) (LAM : Vec Ideal S4x64 .f32) (NG : Vec Ideal S128x1 .f32) (n n' : Fin 1024 → ℕ) (k : ℕ) (σ : St Ideal) : Prop :=
  Ins p rb b qi ki LAM NG σ ∧ ∀ (r : Fin 8) (t : Fin 1024), HoldsR p rb b qi σ r t (if r.val < k then n' t else n t)

theorem Done.next {n n' : Fin 1024 → ℕ} {r : Fin 8} {σ σ' : St Ideal} (A : Adv p rb b qi ki LAM NG n n' r σ σ')
    (H : Done p rb b qi ki LAM NG n n' r σ) : Done p rb b qi ki LAM NG n n' (r.val + 1) σ' := by
  refine ⟨A.ins H.1, fun r' t => ?_⟩
  by_cases e : r' = r
  · subst e
    rw [if_pos (Nat.lt_succ_self _)]
    refine A.own H.1 (fun t => ?_) t
    have := H.2 r' t
    rwa [if_neg (lt_irrefl _)] at this
  · have := (A.other r' e t).holds (H.2 r' t)
    have ne : r'.val ≠ r.val := fun h => e (Fin.ext h)
    have ec : (r'.val < r.val + 1) = (r'.val < r.val) := propext ⟨fun h => by omega, fun h => by omega⟩
    simp only [ec]
    exact this

/-- All eight maps, head by head. -/
theorem all_maps {n n' : Fin 1024 → ℕ} (g : Fin 4 → Fin 2 → St Ideal → St Ideal) (hg : ∀ h j σ, Adv p rb b qi ki LAM NG n n' (slot h j) σ (g h j σ))
    {σ : St Ideal} (H : Ins p rb b qi ki LAM NG σ) (H0 : ∀ r t, HoldsR p rb b qi σ r t (n t)) :
    Ins p rb b qi ki LAM NG (g 3 1 (g 3 0 (g 2 1 (g 2 0 (g 1 1 (g 1 0 (g 0 1 (g 0 0 σ))))))))
      ∧ ∀ r t, HoldsR p rb b qi (g 3 1 (g 3 0 (g 2 1 (g 2 0 (g 1 1 (g 1 0 (g 0 1 (g 0 0 σ)))))))) r t (n' t) := by
  have D0 : Done p rb b qi ki LAM NG n n' (slot 0 0).val σ := by
    refine ⟨H, fun r t => ?_⟩
    rw [if_neg (show ¬ r.val < (slot 0 0).val from Nat.not_lt_zero _)]
    exact H0 r t
  have D8 := Done.next (hg 3 1 _) (Done.next (hg 3 0 _) (Done.next (hg 2 1 _) (Done.next (hg 2 0 _) (Done.next (hg 1 1 _) (Done.next (hg 1 0 _)
    (Done.next (hg 0 1 _) (Done.next (hg 0 0 _) D0)))))))
  refine ⟨D8.1, fun r t => ?_⟩
  have := D8.2 r t
  rwa [if_pos (by have := r.isLt; show r.val < 7 + 1; omega)] at this

/-- Two states that differ in the score buffer at most. -/
def OnlyS (σ σ' : St Ideal) : Prop := σ' = {σ with s := σ'.s}

theorem OnlyS.get {β : Type} {σ σ' : St Ideal} (h : OnlyS σ σ') (f : St Ideal → β) : f σ' = f {σ with s := σ'.s} := congrArg f h

theorem OnlyS.trans {σ σ' σ'' : St Ideal} (h : OnlyS σ σ') (h' : OnlyS σ' σ'') : OnlyS σ σ'' :=
  Eq.trans h' (congrArg (fun τ : St Ideal => {τ with s := σ''.s}) h)

theorem OnlyS.cols {σ σ' : St Ideal} (h : OnlyS σ σ') (r : Fin 8) (t : Fin 1024) : SameCol σ σ' r t :=
  have hm : σ'.m = σ.m := h.get St.m
  have ha : σ'.acc = σ.acc := h.get St.acc
  ⟨by rw [hm], fun e => by rw [ha]⟩

theorem SameCol.trans {σ σ' σ'' : St Ideal} {r : Fin 8} {t : Fin 1024} (A : SameCol σ σ' r t) (B : SameCol σ' σ'' r t) : SameCol σ σ'' r t :=
  ⟨B.1.trans A.1, fun e => (B.2 e).trans (A.2 e)⟩

theorem onlyS_band (h : Fin 4) (d : Fin 2) (k q : Fin 8) (σ : St Ideal) : OnlyS σ (bandF h d k q σ) := rfl

theorem onlyS_diagSA (h : Fin 4) (r : Fin 8) (σ : St Ideal) : OnlyS σ (diagSA h r σ) :=
  (show OnlyS σ (putSA r σ) from rfl).trans <| (onlyS_band _ _ _ _ _).trans <| (onlyS_band _ _ _ _ _).trans <| (onlyS_band _ _ _ _ _).trans <|
  (onlyS_band _ _ _ _ _).trans <| (onlyS_band _ _ _ _ _).trans <| (onlyS_band _ _ _ _ _).trans <| (onlyS_band _ _ _ _ _).trans (onlyS_band _ _ _ _ _)

theorem onlyS_diagSB (h : Fin 4) (r : Fin 8) (σ : St Ideal) : OnlyS σ (diagSB h r σ) :=
  (show OnlyS σ (putSB r σ) from rfl).trans <| (onlyS_band _ _ _ _ _).trans <| (onlyS_band _ _ _ _ _).trans <| (onlyS_band _ _ _ _ _).trans <|
  (onlyS_band _ _ _ _ _).trans <| (onlyS_band _ _ _ _ _).trans <| (onlyS_band _ _ _ _ _).trans (onlyS_band _ _ _ _ _)

/-- Two states with the same inputs and tables. -/
structure Reads (σ σ' : St Ideal) : Prop where
  q : σ'.q = σ.q
  k : σ'.k = σ.k
  v : σ'.v = σ.v
  lam : σ'.lam = σ.lam
  ng : σ'.ng = σ.ng
  bt : σ'.bt = σ.bt
  cm : σ'.cm = σ.cm

theorem Reads.trans {σ σ' σ'' : St Ideal} (A : Reads σ σ') (B : Reads σ' σ'') : Reads σ σ'' :=
  ⟨B.q.trans A.q, B.k.trans A.k, B.v.trans A.v, B.lam.trans A.lam, B.ng.trans A.ng, B.bt.trans A.bt, B.cm.trans A.cm⟩

theorem OnlyS.reads {σ σ' : St Ideal} (h : OnlyS σ σ') : Reads σ σ' :=
  ⟨h.get St.q, h.get St.k, h.get St.v, h.get St.lam, h.get St.ng, h.get St.bt, h.get St.cm⟩

theorem Reads.ins {σ σ' : St Ideal} (A : Reads σ σ') (I : Ins p rb b qi ki LAM NG σ) : Ins p rb b qi ki LAM NG σ' :=
  ⟨⟨by rw [A.bt]; exact I.tabs.bt, by rw [A.cm]; exact I.tabs.cm⟩, ⟨by rw [A.q]; exact I.blocks.q, by rw [A.k]; exact I.blocks.k, by rw [A.v]; exact I.blocks.v⟩,
    A.lam.trans I.lam, A.ng.trans I.ng⟩

theorem Reads.vaug {σ σ' : St Ideal} (A : Reads σ σ') (h : Fin 4) : vaugF h σ' = vaugF h σ := by
  unfold vaugF
  rw [A.v]

theorem reads_step (r : Fin 8) (L : FVec Ideal S1024x1024 .f32) (va : FVec Ideal S144x1024 .bf16) (σ : St Ideal) : Reads σ (stepF r L va σ) := ⟨rfl, rfl, rfl, rfl, rfl, rfl, rfl⟩
theorem reads_stepA (r : Fin 8) (L : FVec Ideal S512x1024 .f32) (va : FVec Ideal S144x1024 .bf16) (σ : St Ideal) : Reads σ (stepAF r L va σ) := ⟨rfl, rfl, rfl, rfl, rfl, rfl, rfl⟩
theorem reads_stepB (r : Fin 8) (L : FVec Ideal S512x512 .f32) (va : FVec Ideal S144x1024 .bf16) (σ : St Ideal) : Reads σ (stepBF r L va σ) := ⟨rfl, rfl, rfl, rfl, rfl, rfl, rfl⟩
theorem reads_near (h : Fin 4) (va : FVec Ideal S144x1024 .bf16) (r : Fin 8) (σ : St Ideal) : Reads σ (nearMapF h va r σ) :=
  Reads.trans (OnlyS.reads ((show OnlyS σ (putS (logF r σ) σ) from rfl).trans (onlyS_band h 1 7 0 _))) (reads_step _ _ _ _)
theorem reads_diagA (h : Fin 4) (va : FVec Ideal S144x1024 .bf16) (r : Fin 8) (σ : St Ideal) : Reads σ (diagAF h va r σ) := (onlyS_diagSA h r σ).reads.trans (reads_stepA _ _ _ _)
theorem reads_diagB (h : Fin 4) (va : FVec Ideal S144x1024 .bf16) (r : Fin 8) (σ : St Ideal) : Reads σ (diagBF h va r σ) := (onlyS_diagSB h r σ).reads.trans (reads_stepB _ _ _ _)

/-! ## A key block two or more before -/

def farG (h : Fin 4) (j : Fin 2) (σ : St Ideal) : St Ideal := farMapF (vaugF h σ) (slot h j) σ

theorem farHead_eq (h : Fin 4) (σ : St Ideal) : farHeadF h σ = farG h 1 (farG h 0 σ) := by
  unfold farHeadF farG
  rw [Reads.vaug (show Reads σ (farMapF (vaugF h σ) (slot h 0) σ) from reads_step _ _ _ σ) h]

theorem farF_eq (σ : St Ideal) : farF σ = farG 3 1 (farG 3 0 (farG 2 1 (farG 2 0 (farG 1 1 (farG 1 0 (farG 0 1 (farG 0 0 σ))))))) := by
  unfold farF
  simp only [farHead_eq]

theorem slot_half (h : Fin 4) (j : Fin 2) : (slot h j).val / 2 = h.val := by
  show (2 * h.val + j.val) / 2 = h.val
  omega

theorem far_adv (hk : ki + 2 ≤ qi) (h : Fin 4) (j : Fin 2) (σ : St Ideal) :
    Adv p rb b qi ki LAM NG (fun _ => 1024 * ki) (fun _ => 1024 * ki + 1024) (slot h j) σ (farG h j σ) := by
  refine ⟨fun I => ⟨⟨I.tabs.bt, I.tabs.cm⟩, ⟨I.blocks.q, I.blocks.k, I.blocks.v⟩, I.lam, I.ng⟩, fun r' hr t => step_other _ _ _ _ r' hr t, fun I H t => ?_⟩
  refine step_holds _ _ _ σ t (H t) (by omega) le_rfl (fun i => ?_) fun e i => ?_
  · rw [if_pos (by omega), Y_far _ _ _ (by omega)]
    exact logF_at I.blocks _ i t
  · rw [slot_half]
    exact vaugF_at I.blocks h e i

theorem far_all (hk : ki + 2 ≤ qi) {σ : St Ideal} (H : Ins p rb b qi ki LAM NG σ) (H0 : ∀ r t, HoldsR p rb b qi σ r t (1024 * ki)) :
    Ins p rb b qi ki LAM NG (farF σ) ∧ ∀ r t, HoldsR p rb b qi (farF σ) r t (1024 * ki + 1024) := by
  rw [farF_eq]
  exact all_maps farG (far_adv hk) H H0

/-! ## The key block just before -/

def nearG (h : Fin 4) (j : Fin 2) (σ : St Ideal) : St Ideal := nearMapF h (vaugF h σ) (slot h j) σ

theorem nearHead_eq (h : Fin 4) (σ : St Ideal) : nearHeadF h σ = nearG h 1 (nearG h 0 σ) := by
  unfold nearHeadF nearG
  rw [Reads.vaug (reads_near h (vaugF h σ) (slot h 0) σ) h]

theorem nearF_eq (σ : St Ideal) : nearF σ = nearG 3 1 (nearG 3 0 (nearG 2 1 (nearG 2 0 (nearG 1 1 (nearG 1 0 (nearG 0 1 (nearG 0 0 σ))))))) := by
  unfold nearF
  simp only [nearHead_eq]

theorem near_log (hk : ki + 1 = qi) {σ : St Ideal} (I : Ins p rb b qi ki LAM NG σ) (h : Fin 4) (j : Fin 2) (s t : Fin 1024) :
    (sAll (nearSF h (slot h j) σ) : FVec Ideal S1024x1024 .f32) (ix2 s t) = (Y p rb b (slot h j) (1024 * qi + t.val) (1024 * ki + s.val) : EReal) := by
  have hs := s.isLt
  have ht := t.isLt
  refine (window2 _ _ s t s t (Nat.zero_add _).symm (Nat.zero_add _).symm).trans ?_
  refine (bandS_at h 1 7 0 _ _ s t).trans ?_
  have e : ((putS (logF (slot h j) σ) σ).s : FVec Ideal S1024x1024 .f32) (ix2 s t) = (dotR p b (slot h j) (1024 * qi + t.val) (1024 * ki + s.val) / 8 / Real.log 2 : ℝ) := by
    refine Eq.trans ?_ (logF_at I.blocks (slot h j) s t)
    refine (congrFun (put_all (s := S1024x1024) σ.s (shapeCast S1024x1024 (logF (slot h j) σ) shapeCasts_S1024x1024_S1024x1024) ![0, 0] (by decide)) (ix2 s t)).trans ?_
    pointwise
  rw [e]
  by_cases c : s.val / 128 = (7 : Fin 8).val ∧ t.val / 128 = (0 : Fin 8).val
  · rw [if_pos c, Y_eq, slot_half]
    refine (congrArg (fun y : EReal => _ + y) (I.tabs.bt h 1 _ _)).trans ?_
    rw [← EReal.coe_add]
    unfold btR
    have c1 : s.val / 128 = 7 := c.1
    have c2 : t.val / 128 = 0 := c.2
    congr 6
    show t.val % 128 + 128 * 1 - s.val % 128 = _
    omega
  · rw [if_neg c, add_zero, Y_far]
    have : ¬ (s.val / 128 = 7 ∧ t.val / 128 = 0) := c
    omega

theorem near_adv (hk : ki + 1 = qi) (h : Fin 4) (j : Fin 2) (σ : St Ideal) :
    Adv p rb b qi ki LAM NG (fun _ => 1024 * ki) (fun _ => 1024 * ki + 1024) (slot h j) σ (nearG h j σ) := by
  refine ⟨fun I => ⟨⟨I.tabs.bt, I.tabs.cm⟩, ⟨I.blocks.q, I.blocks.k, I.blocks.v⟩, I.lam, I.ng⟩, fun r' hr t => step_other _ _ _ (nearSF h (slot h j) σ) r' hr t, fun I H t => ?_⟩
  refine step_holds _ _ _ (nearSF h (slot h j) σ) t (H t) (by omega) le_rfl (fun i => ?_) fun e i => ?_
  · rw [if_pos (by omega)]
    exact near_log hk I h j i t
  · rw [slot_half]
    exact vaugF_at I.blocks h e i

theorem near_all (hk : ki + 1 = qi) {σ : St Ideal} (H : Ins p rb b qi ki LAM NG σ) (H0 : ∀ r t, HoldsR p rb b qi σ r t (1024 * ki)) :
    Ins p rb b qi ki LAM NG (nearF σ) ∧ ∀ r t, HoldsR p rb b qi (nearF σ) r t (1024 * ki + 1024) := by
  rw [nearF_eq]
  exact all_maps nearG (near_adv hk) H H0

/-! ## The diagonal block -/

def diagG (h : Fin 4) (j : Fin 2) (σ : St Ideal) : St Ideal := diagBF h (vaugF h σ) (slot h j) (diagAF h (vaugF h σ) (slot h j) σ)

theorem diagHead_eq (h : Fin 4) (σ : St Ideal) : diagHeadF h σ = diagG h 1 (diagG h 0 σ) := by
  unfold diagHeadF diagG
  rw [Reads.vaug ((reads_diagA h (vaugF h σ) (slot h 0) σ).trans (reads_diagB h (vaugF h σ) (slot h 0) _)) h]

theorem diagF_eq (σ : St Ideal) : diagF σ = diagG 3 1 (diagG 3 0 (diagG 2 1 (diagG 2 0 (diagG 1 1 (diagG 1 0 (diagG 0 1 (diagG 0 0 σ))))))) := by
  unfold diagF
  simp only [diagHead_eq]

/-- The bias blocks of the diagonal block, at the keys' first half. -/
theorem bandsA_at (h : Fin 4) (σ : St Ideal) (i t : Fin 1024) (hi : i.val < 512) :
    ((bandsAF h σ).s : FVec Ideal S1024x1024 .f32) (ix2 i t) = (σ.s : FVec Ideal S1024x1024 .f32) (ix2 i t)
      + ((if t.val / 128 = i.val / 128 then (σ.bt : FVec Ideal S4x2x128x128 .f32) (ix4 h 0 ⟨i.val % 128, by omega⟩ ⟨t.val % 128, by omega⟩) else 0)
        + if t.val / 128 = i.val / 128 + 1 then (σ.bt : FVec Ideal S4x2x128x128 .f32) (ix4 h 1 ⟨i.val % 128, by omega⟩ ⟨t.val % 128, by omega⟩) else 0) := by
  unfold bandsAF bandF
  simp only [bandS_at]
  have : i.val / 128 = 0 ∨ i.val / 128 = 1 ∨ i.val / 128 = 2 ∨ i.val / 128 = 3 := by omega
  rcases this with e | e | e | e <;> simp [e, add_assoc]

theorem bandsB_at (h : Fin 4) (σ : St Ideal) (i t : Fin 1024) (hi : 512 ≤ i.val) :
    ((bandsBF h σ).s : FVec Ideal S1024x1024 .f32) (ix2 i t) = (σ.s : FVec Ideal S1024x1024 .f32) (ix2 i t)
      + ((if t.val / 128 = i.val / 128 then (σ.bt : FVec Ideal S4x2x128x128 .f32) (ix4 h 0 ⟨i.val % 128, by omega⟩ ⟨t.val % 128, by omega⟩) else 0)
        + if t.val / 128 = i.val / 128 + 1 then (σ.bt : FVec Ideal S4x2x128x128 .f32) (ix4 h 1 ⟨i.val % 128, by omega⟩ ⟨t.val % 128, by omega⟩) else 0) := by
  unfold bandsBF bandF
  simp only [bandS_at]
  have ht : t.val / 128 ≠ 8 := by omega
  have : i.val / 128 = 4 ∨ i.val / 128 = 5 ∨ i.val / 128 = 6 ∨ i.val / 128 = 7 := by omega
  rcases this with e | e | e | e <;> simp [e, add_assoc, ht]

/-- A diagonal logit with its mask and its bias. -/
theorem diag_log {σ : St Ideal} (HT : Tabs rb σ) (h : Fin 4) (r : ℕ) (hr : r / 2 = h.val) (i t : Fin 1024) :
    ((dotR p b r (1024 * qi + t.val) (1024 * qi + i.val) / 8 / Real.log 2 : ℝ) + if i.val ≤ t.val then (0 : EReal) else ⊥)
      + ((if t.val / 128 = i.val / 128 then (σ.bt : FVec Ideal S4x2x128x128 .f32) (ix4 h 0 ⟨i.val % 128, by omega⟩ ⟨t.val % 128, by omega⟩) else 0)
        + if t.val / 128 = i.val / 128 + 1 then (σ.bt : FVec Ideal S4x2x128x128 .f32) (ix4 h 1 ⟨i.val % 128, by omega⟩ ⟨t.val % 128, by omega⟩) else 0)
      = if i.val ≤ t.val then (Y p rb b r (1024 * qi + t.val) (1024 * qi + i.val) : EReal) else ⊥ := by
  have hs := i.isLt
  have ht := t.isLt
  by_cases c : i.val ≤ t.val
  · rw [if_pos c, if_pos c, add_zero, HT.bt, HT.bt]
    by_cases c0 : t.val / 128 = i.val / 128
    · rw [if_pos c0, if_neg (by omega), add_zero, ← EReal.coe_add, Y_eq, hr]
      unfold btR
      congr 6
      show t.val % 128 + 128 * 0 - i.val % 128 = _
      omega
    · rw [if_neg c0, zero_add]
      by_cases c1 : t.val / 128 = i.val / 128 + 1
      · rw [if_pos c1, ← EReal.coe_add, Y_eq, hr]
        unfold btR
        congr 6
        show t.val % 128 + 128 * 1 - i.val % 128 = _
        omega
      · rw [if_neg c1, add_zero, Y_far]
        omega
  · rw [if_neg c, if_neg c, EReal.add_bot, EReal.bot_add]

theorem diagA_log {σ : St Ideal} (I : Ins p rb b qi qi LAM NG σ) (h : Fin 4) (j : Fin 2) (s : Fin 512) (t : Fin 1024) :
    (sA (diagSA h (slot h j) σ) : FVec Ideal S512x1024 .f32) (ix2 s t)
      = if s.val ≤ t.val then (Y p rb b (slot h j) (1024 * qi + t.val) (1024 * qi + s.val) : EReal) else ⊥ := by
  unfold sA
  refine (window2 (diagSA h (slot h j) σ).s inb_S1024x1024_S512x1024_0_0 s t ⟨s.val, by omega⟩ t (Nat.zero_add _).symm (Nat.zero_add _).symm).trans ?_
  refine (bandsA_at h (putSA (slot h j) σ) ⟨s.val, by omega⟩ t s.isLt).trans ?_
  have e : ((putSA (slot h j) σ).s : FVec Ideal S1024x1024 .f32) (ix2 ⟨s.val, by omega⟩ t)
      = (dotR p b (slot h j) (1024 * qi + t.val) (1024 * qi + s.val) / 8 / Real.log 2 : ℝ) + if s.val ≤ t.val then (0 : EReal) else ⊥ := by
    refine Eq.trans ?_ (logAF_at I.blocks I.tabs (slot h j) s t)
    refine (put2 (a := 0) (b := 0) (n₀ := 512) (n₁ := 1024) _ _ _ t).trans ?_
    rw [dif_pos ⟨⟨Nat.zero_le _, by show s.val < 0 + 512; omega⟩, Nat.zero_le _, by omega⟩]
    rfl
  rw [e]
  exact diag_log I.tabs h (slot h j) (slot_half h j) ⟨s.val, by omega⟩ t

theorem diagB_log {σ : St Ideal} (I : Ins p rb b qi qi LAM NG σ) (h : Fin 4) (j : Fin 2) (s t : Fin 512) :
    (sB (diagSB h (slot h j) σ) : FVec Ideal S512x512 .f32) (ix2 s t)
      = if 512 + s.val ≤ 512 + t.val then (Y p rb b (slot h j) (1024 * qi + (512 + t.val)) (1024 * qi + (512 + s.val)) : EReal) else ⊥ := by
  refine (window2 _ _ s t ⟨512 + s.val, by omega⟩ ⟨512 + t.val, by omega⟩ rfl rfl).trans ?_
  refine (bandsB_at h (putSB (slot h j) σ) ⟨512 + s.val, by omega⟩ ⟨512 + t.val, by omega⟩ (Nat.le_add_right _ _)).trans ?_
  have e : ((putSB (slot h j) σ).s : FVec Ideal S1024x1024 .f32) (ix2 ⟨512 + s.val, by omega⟩ ⟨512 + t.val, by omega⟩)
      = (dotR p b (slot h j) (1024 * qi + (512 + t.val)) (1024 * qi + (512 + s.val)) / 8 / Real.log 2 : ℝ) + if 512 + s.val ≤ 512 + t.val then (0 : EReal) else ⊥ := by
    refine Eq.trans ?_ (logBF_at I.blocks I.tabs (slot h j) s t)
    refine (put2 (a := 512) (b := 512) (n₀ := 512) (n₁ := 512) _ _ _ _).trans ?_
    rw [dif_pos ⟨⟨Nat.le_add_right _ _, by show 512 + s.val < 512 + 512; omega⟩, Nat.le_add_right _ _, by show 512 + t.val < 512 + 512; omega⟩]
    refine congrArg₂ (fun x y => (logBF (slot h j) σ : FVec Ideal S512x512 .f32) (ix2 x y)) (Fin.ext ?_) (Fin.ext ?_)
    · show 512 + s.val - 512 = s.val; omega
    · show 512 + t.val - 512 = t.val; omega
  rw [e]
  exact diag_log I.tabs h (slot h j) (slot_half h j) ⟨512 + s.val, by omega⟩ ⟨512 + t.val, by omega⟩

theorem diag_adv (h : Fin 4) (j : Fin 2) (σ : St Ideal) :
    Adv p rb b qi qi LAM NG (fun _ => 1024 * qi) (fun t => 1024 * qi + t.val + 1) (slot h j) σ (diagG h j σ) := by
  have EA := onlyS_diagSA h (slot h j) σ
  have EB := onlyS_diagSB h (slot h j) (diagAF h (vaugF h σ) (slot h j) σ)
  refine ⟨fun I => (reads_diagB h _ _ _).ins ((reads_diagA h _ _ _).ins I), fun r' hr t => ?_, fun I H t => ?_⟩
  · have A := stepA_other (slot h j) (sA (diagSA h (slot h j) σ)) (vaugF h σ) (diagSA h (slot h j) σ) r' hr t
    have B := stepB_other (slot h j) (sB (diagSB h (slot h j) (diagAF h (vaugF h σ) (slot h j) σ))) (vaugF h σ) (diagSB h (slot h j) (diagAF h (vaugF h σ) (slot h j) σ)) r' t (.inl hr)
    exact ((EA.cols r' t).trans A).trans ((EB.cols r' t).trans B)
  have ht := t.isLt
  have A : HoldsR p rb b qi (diagAF h (vaugF h σ) (slot h j) σ) (slot h j) t (min (1024 * qi + 512) (1024 * qi + t.val + 1)) := by
    refine stepA_holds _ _ _ (diagSA h (slot h j) σ) t ((EA.cols _ t).holds (H t)) (by omega) (by omega) (fun i => ?_) fun e i => ?_
    · rw [diagA_log I h j i t]
      have hi := i.isLt
      have ec : (1024 * qi + i.val < min (1024 * qi + 512) (1024 * qi + t.val + 1)) = (i.val ≤ t.val) := propext ⟨fun h => by omega, fun h => by omega⟩
      simp only [ec]
    · rw [slot_half]
      exact vaugF_at I.blocks h e ⟨i.val, by omega⟩
  by_cases c : t.val < 512
  · have B := stepB_other (slot h j) (sB (diagSB h (slot h j) (diagAF h (vaugF h σ) (slot h j) σ))) (vaugF h σ) (diagSB h (slot h j) (diagAF h (vaugF h σ) (slot h j) σ)) (slot h j) t (.inr c)
    rw [min_eq_right (by omega)] at A
    exact B.holds ((EB.cols _ t).holds A)
  · rw [min_eq_left (by omega)] at A
    refine stepB_holds _ _ _ (diagSB h (slot h j) (diagAF h (vaugF h σ) (slot h j) σ)) t ⟨t.val - 512, by omega⟩ (by show t.val = 512 + (t.val - 512); omega) ((EB.cols _ t).holds A) (by omega) (by omega) (fun i => ?_) fun e i => ?_
    · refine (diagB_log ((reads_diagA h _ _ _).ins I) h j i ⟨t.val - 512, by omega⟩).trans ?_
      have hi := i.isLt
      have e1 : 512 + (t.val - 512) = t.val := by omega
      have ec : (1024 * qi + 512 + i.val < 1024 * qi + t.val + 1) = (512 + i.val ≤ t.val) := propext ⟨fun h => by omega, fun h => by omega⟩
      simp only [ec, e1]
      rw [add_assoc]
    · rw [slot_half]
      refine (vaugF_at I.blocks h e ⟨512 + i.val, by omega⟩).trans ?_
      show (W p b h e (1024 * qi + (512 + i.val)) : EReal) = _
      rw [add_assoc]

theorem diag_all {σ : St Ideal} (H : Ins p rb b qi qi LAM NG σ) (H0 : ∀ r t, HoldsR p rb b qi σ r t (1024 * qi)) :
    Ins p rb b qi qi LAM NG (diagF σ) ∧ ∀ r t, HoldsR p rb b qi (diagF σ) r t (1024 * qi + t.val + 1) := by
  rw [diagF_eq]
  exact all_maps diagG diag_adv H H0

end Cert.KernelIdeal.DA

end
-- ==== Proof.Stored.lean ====
/- The stored block, the mask and a trip's bias rows read at an index over the ideal floats. -/
module

public import proofs.«01_k».proof.Proof.Values
public import proofs.«01_k».proof.Proof.Bits
public import Idealize.ShloMosaic.Lib.Pointwise

@[expose] public section

set_option maxRecDepth 16384

noncomputable section

namespace Cert.KernelIdeal.DA

open Idealize.ShloMosaic Idealize.ShloMosaic.TcCoe
open VecWindow Facts₀ Facts
open Cert.DA

theorem outV_at (x : Fin 4 → FVec Ideal S1024x128 .f32) (t : Fin 1024) (h : Fin 4) (e : Fin 128) :
    outV (F := Ideal) (x 0) (x 1) (x 2) (x 3) (ix3 0 t ⟨128 * h.val + e.val, by omega⟩) = x h (ix2 t e) := by
  pointwise [outV]
  have he := e.isLt
  fin_vals h with hh
  · obtain rfl : h = 0 := Fin.ext hh
    rw [dif_pos (by omega)]
    exact congrArg (x 0) (congrArg (ix2 t) (Fin.ext (by simp)))
  · obtain rfl : h = 1 := Fin.ext hh
    rw [dif_neg (by omega), dif_pos (by omega)]
    exact congrArg (x 1) (congrArg (ix2 t) (Fin.ext (by simp)))
  · obtain rfl : h = 2 := Fin.ext hh
    rw [dif_neg (by omega), dif_neg (by omega), dif_pos (by omega)]
    exact congrArg (x 2) (congrArg (ix2 t) (Fin.ext (by simp; omega)))
  · obtain rfl : h = 3 := Fin.ext hh
    rw [dif_neg (by omega), dif_neg (by omega), dif_neg (by omega)]
    exact congrArg (x 3) (congrArg (ix2 t) (Fin.ext (by simp; omega)))

theorem causalV_at (s t : Fin 1024) : causalV (F := Ideal) (ix2 s t) = if s.val ≤ t.val then 0 else ⊥ := by
  pointwise [causalV]
  rw [ofBits_neg_inf]
  rw [sle_small (by omega) (by omega)]
  split <;> rfl

end Cert.KernelIdeal.DA

end
-- ==== Proof.Tables.lean ====
/- The tables the first grid point of a batch fills: the two bias blocks of every head and the causal mask. -/
module

public import proofs.«01_k».proof.Proof.Maps
public import proofs.«01_k».proof.Proof.Stored
public import proofs.«01_k».proof.Proof.SameIn

@[expose] public section

set_option maxRecDepth 16384

noncomputable section

namespace Cert.KernelIdeal.DA

open Idealize.ShloMosaic Idealize.ShloMosaic.TcCoe
open VecWindow Facts₀ Facts
open Cert.DA

/-- The bias table's attention columns are real. -/
def RbReal (rb : ℕ → ℕ → ℝ) (x : Vec Ideal S32x12 .f32) : Prop :=
  ∀ (k : Fin 32) (h : Fin 12), 8 ≤ h.val → (x : FVec Ideal S32x12 .f32) (ix2 k h) = (rb k h : EReal)

variable {rb : ℕ → ℕ → ℝ}

theorem rbAt_eq {x : Vec Ideal S32x12 .f32} (hx : RbReal rb x) (b : Fin 32) (h : Fin 4) : rbAt x b h = (rb b (8 + h.val) : EReal) := by
  refine Eq.trans ?_ (hx b ⟨8 + h.val, by omega⟩ (Nat.le_add_right _ _))
  unfold rbAt window
  refine congrArg x (funext fun c => Fin.ext ?_)
  fin_cases c
  · show b.val + 1 * 0 = b.val; omega
  · show 8 + h.val + 1 * 0 = 8 + h.val; omega

theorem relV_eq (x y : ℝ) : relV (F := Ideal) (x : EReal) (y : EReal) = ((x - y) / Real.log 2 : ℝ) := by
  show ((x : EReal) - (y : EReal)) * (((Real.log 2)⁻¹ : ℝ) : EReal) = _
  rw [← EReal.coe_sub, ← EReal.coe_mul, div_eq_mul_inv]

/-- The bucket the picks choose for a distance. -/
def pickB (D : BitVec 32) : List (Fin 32 × BitVec 32) → Fin 32 → Fin 32
  | [], b => b
  | (b', s) :: l, b => pickB D l (if s.sle D then b' else b)

theorem pickV_at (dist : IVec S8x128 32) (s : BitVec 32) (x : EReal) (val : FVec Ideal S8x128 .f32) (r : Fin 8) (y : Fin 128) :
    pickV (F := Ideal) dist s x val (ix2 r y) = if s.sle (dist (ix2 r y)) then x else val (ix2 r y) := by
  show (if BitVec.ofBool (s.sle (dist (ix2 r y))) = 1#1 then x else val (ix2 r y)) = _
  cases s.sle (dist (ix2 r y)) <;> rfl

theorem chain_at {x : Vec Ideal S32x12 .f32} (h : Fin 4) (dist : IVec S8x128 32) (far : EReal) (r : Fin 8) (y : Fin 128) :
    ∀ (l : List (Fin 32 × BitVec 32)) (b : Fin 32) (val : FVec Ideal S8x128 .f32), val (ix2 r y) = relV (F := Ideal) (rbAt x b h) far →
      chainF x h dist far l val (ix2 r y) = relV (F := Ideal) (rbAt x (pickB (dist (ix2 r y)) l b) h) far
  | [], b, val, e => e
  | (b', s) :: l, b, val, e => by
    refine chain_at h dist far r y l (if s.sle (dist (ix2 r y)) then b' else b) _ ?_
    refine (pickV_at dist s _ val r y).trans ?_
    rw [e]
    split <;> rfl

theorem trow_nat : ∀ t : Fin k0_t1_loop.trips, (trow t).toNat = 8 * t.val := by decide +kernel
theorem trips_eq : k0_t1_loop.trips = 16 := by decide +kernel

theorem dist_at (d : Fin 2) (t : Fin k0_t1_loop.trips) (r : Fin 8) (y : Fin 128) :
    distV d t (ix2 r y) = BitVec.ofNat 32 (y.val + 128 * d.val + 128 - (8 * t.val + r.val)) - 128#32 := by
  have ht : t.val < 16 := trips_eq ▸ t.isLt
  have e : distV d t (ix2 r y) = BitVec.ofNat 32 y.val - (BitVec.ofNat 32 r.val + trow t) + BitVec.ofNat 32 (128 * d.val) := by
    unfold distV
    pointwise
    rfl
  rw [e]
  apply BitVec.eq_of_toNat_eq
  simp only [BitVec.toNat_add, BitVec.toNat_sub, BitVec.toNat_ofNat, trow_nat]
  omega

/-- The picks find the bucket of every distance of the two bias blocks. -/
theorem picks : ∀ z : Fin 384, (113#32).sle (BitVec.ofNat 32 z.val - 128#32) = decide (241 ≤ z.val)
    ∧ (z.val < 241 → (pickB (BitVec.ofNat 32 z.val - 128#32) starts 0).val = buck (z.val - 128)) := by decide +kernel

theorem block_val {x : Vec Ideal S32x12 .f32} (hx : RbReal rb x) (h : Fin 4) (d : Fin 2) (t : Fin k0_t1_loop.trips) (r : Fin 8) (y : Fin 128) :
    (blockV x h d t : FVec Ideal S1x1x8x128 .f32) (ix4 0 0 r y) = (btR rb h d (8 * t.val + r.val) y : EReal) := by
  have ht : t.val < 16 := trips_eq ▸ t.isLt
  have hp := picks ⟨y.val + 128 * d.val + 128 - (8 * t.val + r.val), by omega⟩
  have e0 : (blockV x h d t : FVec Ideal S1x1x8x128 .f32) (ix4 0 0 r y)
      = pickV (F := Ideal) (distV d t) 113#32 (Scalar.ofBits (F := Ideal) .f32 0x00000000#32) (chainF x h (distV d t) (rbAt x 31 h) starts (broadcast S8x128 (relV (rbAt x 0 h) (rbAt x 31 h)))) (ix2 r y) := by
    unfold blockV lastV
    generalize pickV (F := Ideal) (distV d t) 113#32 _ _ = w
    pointwise
  rw [e0, pickV_at, chain_at h (distV d t) (rbAt x 31 h) r y starts 0 _ rfl, dist_at, hp.1, rbAt_eq hx, rbAt_eq hx, relV_eq]
  unfold btR
  by_cases c : 241 ≤ y.val + 128 * d.val + 128 - (8 * t.val + r.val)
  · rw [if_pos (decide_eq_true c), buck_far _ (by omega), sub_self, zero_div]
    exact Ideal.ofBits_zero .f32
  · rw [if_neg (by simpa using c), hp.2 (by simpa using c)]
    congr 5
    show y.val + 128 * d.val + 128 - (8 * t.val + r.val) - 128 = _
    omega

/-- Entry `(x, y)` of bias block `(h, d)` is right. -/
def Ok (rb : ℕ → ℕ → ℝ) (σ : St Ideal) (h : Fin 4) (d : Fin 2) (x y : Fin 128) : Prop :=
  (σ.bt : FVec Ideal S4x2x128x128 .f32) (ix4 h d x y) = (btR rb h d x y : EReal)

theorem boff_eq (h : Fin 4) (d : Fin 2) (t : Fin k0_t1_loop.trips) : boff h d t = ![h.val, d.val, 8 * t.val, 0] := by
  unfold boff
  rw [trow_nat]

theorem block_at {σ : St Ideal} (hx : RbReal rb σ.rb) (h : Fin 4) (d : Fin 2) (t : Fin k0_t1_loop.trips) (h' : Fin 4) (d' : Fin 2) (x y : Fin 128)
    (H : (h' = h ∧ d' = d ∧ x.val / 8 = t.val) ∨ Ok rb σ h' d' x y) : Ok rb (blockF h d t σ) h' d' x y := by
  unfold Ok
  have e : (blockF h d t σ).bt = put σ.bt ![h.val, d.val, 8 * t.val, 0] ![1, 1, 8, 128] (blockV σ.rb h d t) :=
    congrArg (fun o => put σ.bt o S1x1x8x128.size (blockV σ.rb h d t)) (boff_eq h d t)
  rw [e]
  refine (put4 (N₀ := 4) (N₁ := 2) (N₂ := 128) (N₃ := 128) (n₀ := 1) (n₁ := 1) (n₂ := 8) (n₃ := 128) _ _ h' d' x y).trans ?_
  by_cases c : (h.val ≤ h'.val ∧ h'.val < h.val + 1) ∧ (d.val ≤ d'.val ∧ d'.val < d.val + 1) ∧ (8 * t.val ≤ x.val ∧ x.val < 8 * t.val + 8) ∧ (0 ≤ y.val ∧ y.val < 0 + 128)
  · rw [dif_pos c]
    have B := block_val hx h d t ⟨x.val - 8 * t.val, by omega⟩ y
    have eh : h' = h := Fin.ext (by omega)
    have ed : d' = d := Fin.ext (by omega)
    subst eh ed
    refine Eq.trans (congrArg (blockV σ.rb h' d' t) ?_) (B.trans ?_)
    · refine funext fun a => Fin.ext ?_
      fin_cases a
      · show h'.val - h'.val = 0; omega
      · show d'.val - d'.val = 0; omega
      · rfl
      · rfl
    · have : 8 * t.val + (x.val - 8 * t.val) = x.val := by omega
      show ((btR rb h' d' (8 * t.val + (x.val - 8 * t.val)) y : ℝ) : EReal) = _
      rw [this]
  · rw [dif_neg c]
    rcases H with ⟨rfl, rfl, hx⟩ | H
    · exact absurd ⟨⟨le_rfl, Nat.lt_succ_self _⟩, ⟨le_rfl, Nat.lt_succ_self _⟩, ⟨by omega, by omega⟩, Nat.zero_le _, by omega⟩ c
    · exact H

/-- The rows before trip `t`'s are right, and so are its first `k` blocks. -/
def Filled (rb : ℕ → ℕ → ℝ) (t k : ℕ) (σ : St Ideal) : Prop :=
  RbReal rb σ.rb ∧ ∀ h d x y, (x.val / 8 < t ∨ (x.val / 8 = t ∧ h.val + 4 * d.val < k)) → Ok rb σ h d x y

theorem Filled.block {t : Fin k0_t1_loop.trips} {k : ℕ} {σ : St Ideal} (h : Fin 4) (d : Fin 2) (hk : h.val + 4 * d.val = k) (H : Filled rb t.val k σ) :
    Filled rb t.val (k + 1) (blockF h d t σ) := by
  refine ⟨H.1, fun h' d' x y c => block_at H.1 h d t h' d' x y ?_⟩
  by_cases e : h' = h ∧ d' = d ∧ x.val / 8 = t.val
  · exact .inl e
  · refine .inr (H.2 h' d' x y ?_)
    rcases c with c | ⟨c1, c2⟩
    · exact .inl c
    · refine .inr ⟨c1, ?_⟩
      by_contra g
      exact e ⟨Fin.ext (by omega), Fin.ext (by omega), c1⟩

theorem Filled.trip {t : Fin k0_t1_loop.trips} {σ : St Ideal} (H : Filled rb t.val 0 σ) : Filled rb (t.val + 1) 0 (tripF t σ) := by
  have G : Filled rb t.val 8 (tripF t σ) := ((((((((H.block 0 0 rfl).block 1 0 rfl).block 2 0 rfl).block 3 0 rfl).block 0 1 rfl).block 1 1 rfl).block 2 1 rfl).block 3 1 rfl)
  exact ⟨G.1, fun h d x y c => G.2 h d x y (by omega)⟩

theorem loop_filled {σ : St Ideal} (H : RbReal rb σ.rb) : ∀ n, n ≤ k0_t1_loop.trips → Filled rb n 0 (loopF n σ)
  | 0, _ => ⟨H, fun h d x y c => absurd c (by omega)⟩
  | n + 1, hn => by
    have e : loopF (n + 1) σ = tripF ⟨n, hn⟩ (loopF n σ) := dif_pos hn
    rw [e]
    exact Filled.trip (t := ⟨n, hn⟩) (loop_filled H n (Nat.le_of_succ_le hn))

/-- After the first grid point of a batch the tables are right. -/
theorem init_tabs {σ : St Ideal} (H : RbReal rb σ.rb) : Tabs rb (initF σ) := by
  have G := (loop_filled H k0_t1_loop.trips le_rfl).2
  refine ⟨fun h d i j => G h d i j (.inl ?_), fun i t => ?_⟩
  · have := trips_eq
    omega
  · refine (congrFun (put_all (s := S1024x1024) (loopF k0_t1_loop.trips σ).cm (causalV : FVec Ideal S1024x1024 .f32) ![0, 0] (by decide)) (ix2 i t)).trans ?_
    exact causalV_at i t

end Cert.KernelIdeal.DA

end
-- ==== Proof.Entry.lean ====
/- What the staged blocks hold: the arrays the host prepares, at an index, and the blocks the pipeline hands the body of them. -/
module

public import proofs.«01_k».proof.Proof.Launched
public import proofs.«01_k».proof.Proof.Tables
public import Idealize.ShloMosaic.Lib.Pipeline.ValueKit.Geometry

@[expose] public section

set_option maxRecDepth 16384

noncomputable section

namespace Cert.KernelIdeal.DA

open Idealize.ShloMosaic Idealize.ShloMosaic.TcCoe
open VecWindow Facts₀ Facts
open Cert.DA

attribute [local instance] Gen.facts

/-! ## The prepared arrays -/

section Host

variable (m : (ℓ : Loc nD τ sig) → Buf (Elt Ideal) ℓ) (c : Dev nD)

theorem two_bits : Ideal.ofBits .f32 0x40000000#32 = ((2 : ℝ) : EReal) := by
  simp [Ideal.ofBits, Ideal.ieee, -EReal.coe_mul]
  try norm_num

/-- The queries' scale, by which the program multiplies them. -/
def scaleV : FVec Ideal S4x8192x512 .f32 := fun _ => Ideal.div (Ideal.ofBits .f32 0x3E000000#32) (Ideal.log (Ideal.ofBits .f32 0x40000000#32))

theorem v16_eq : (entry0 m c main_v16 : FVec Ideal S4x8192x512 .f32)
    = mulf (extractStridedSlice S4x8192x512 ![0, 0, 1832] (m ((c.tc : Thread nD τ).loc main_arg0) : FVec Ideal S4x8192x3368 .f32) Gen.slices_S4x8192x3368_S4x8192x512_0_0_1832) scaleV := by
  unfold entry0
  after_results
  rfl

set_option maxHeartbeats 4000000 in
theorem v24_q (b : Fin 4) (x : Fin 512) (t : Fin 8192) :
    (entry0 m c main_v24 : Vec Ideal S4x2048x8192 .bf16) (ix3 b ⟨1536 + x.val, by omega⟩ t)
      = HMul.hMul (α := EReal) (β := EReal) (γ := EReal) ((m ((c.tc : Thread nD τ).loc main_arg0) : FVec Ideal S4x8192x3368 .f32) (ix3 b t ⟨1832 + x.val, by omega⟩))
        (Ideal.div (Ideal.ofBits .f32 0x3E000000#32) (Ideal.log (Ideal.ofBits .f32 0x40000000#32))) := by
  unfold entry0
  after_results
  pointwise
  have hx := x.isLt
  rw [dif_neg (by omega), dif_neg (by omega), dif_neg (by omega), dif_pos (by omega)]
  refine (congrFun (v16_eq m c) _).trans ?_
  pointwise [scaleV]
  refine congrArg₂ (fun x y : EReal => x * y) (congrArg (m ((c.tc : Thread nD τ).loc main_arg0)) (congrArg (ix3 b t) (Fin.ext ?_))) rfl
  show 1832 + (1536 + x.val - 512 - 512 - 512) = 1832 + x.val
  omega

theorem v8_eq : (entry0 m c main_v8 : FVec Ideal S4x8192x512 .f32)
    = extractStridedSlice S4x8192x512 ![0, 0, 2856] (m ((c.tc : Thread nD τ).loc main_arg0) : FVec Ideal S4x8192x3368 .f32) Gen.slices_S4x8192x3368_S4x8192x512_0_0_2856 := by
  unfold entry0
  after_results

theorem v7_eq : (entry0 m c main_v7 : FVec Ideal S4x8192x512 .f32)
    = extractStridedSlice S4x8192x512 ![0, 0, 2344] (m ((c.tc : Thread nD τ).loc main_arg0) : FVec Ideal S4x8192x3368 .f32) Gen.slices_S4x8192x3368_S4x8192x512_0_0_2344 := by
  unfold entry0
  after_results

theorem v26_v (b : Fin 4) (x : Fin 512) (t : Fin 8192) :
    (entry0 m c main_v26 : Vec Ideal S4x2048x8192 .bf16) (ix3 b ⟨512 + x.val, by omega⟩ t)
      = (m ((c.tc : Thread nD τ).loc main_arg0) : FVec Ideal S4x8192x3368 .f32) (ix3 b t ⟨2856 + x.val, by omega⟩) := by
  unfold entry0
  after_results
  pointwise
  exact (congrFun (v8_eq m c) _).trans (by pointwise)

theorem v25_k (b : Fin 4) (t : Fin 8192) (x : Fin 512) :
    (entry0 m c main_v25 : Vec Ideal S4x8192x1024 .bf16) (ix3 b t ⟨512 + x.val, by omega⟩)
      = (m ((c.tc : Thread nD τ).loc main_arg0) : FVec Ideal S4x8192x3368 .f32) (ix3 b t ⟨2344 + x.val, by omega⟩) := by
  unfold entry0
  after_results
  pointwise
  exact (congrFun (v7_eq m c) _).trans (by pointwise)

theorem v27_g (e : Fin 128) :
    (entry0 m c main_v27 : Vec Ideal S128x1 .f32) (ix2 e 0) = (m ((c.tc : Thread nD τ).loc main_arg4) : FVec Ideal S128 .f32) (ix1 e) := by
  unfold entry0
  after_results
  pointwise

theorem scale_eq (x : ℝ) : (x : EReal) * Ideal.div (Ideal.ofBits .f32 0x3E000000#32) (Ideal.log (Ideal.ofBits .f32 0x40000000#32)) = (x * (1 / 8 / Real.log 2) : ℝ) := by
  rw [two_bits, eighth, Ideal.log_coe, if_neg (by norm_num), Ideal.div_coe (Real.log_pos (by norm_num)).ne', ← EReal.coe_mul, ← EReal.coe_mul]
  congr 1
  ring

end Host

/-! ## The blocks handed over -/

variable {V : (c : Dev nD) → (b : Ref sig .tc) → Buf (Elt Ideal) ((c.tc : Thread nD τ).loc b)}
variable {Inv : Dev nD → ℕ → Scr Ideal → Prop} {Out : Dev nD → Fin (cfgA (F := Ideal)).N → Vec Ideal S1x1024x512 .bf16 → Prop}

theorem fetched0 (c : Dev nD) (t : Fin (cfgA (F := Ideal)).N) (d) : (rd V Inv Out c).fetched 0 t d = V c main_arg2 := by
  funext y
  show (V c main_arg2) ((((cfgA (F := Ideal)).win 0).blk t).view.emb y) = _
  refine congrArg (V c main_arg2) (funext fun a => Fin.ext ?_)
  refine (Pipeline.Window.rect_emb_val_of_index_zero ((cfgA (F := Ideal)).win 0) t a ?_ y)
  fin_cases a <;> rfl

theorem fetched4 (c : Dev nD) (t : Fin (cfgA (F := Ideal)).N) (d) : (rd V Inv Out c).fetched 4 t d = V c main_arg3 := by
  funext y
  show (V c main_arg3) ((((cfgA (F := Ideal)).win 4).blk t).view.emb y) = _
  refine congrArg (V c main_arg3) (funext fun a => Fin.ext ?_)
  refine (Pipeline.Window.rect_emb_val_of_index_zero ((cfgA (F := Ideal)).win 4) t a ?_ y)
  fin_cases a <;> rfl

theorem fetched5 (c : Dev nD) (t : Fin (cfgA (F := Ideal)).N) (d) : (rd V Inv Out c).fetched 5 t d = V c main_v27 := by
  funext y
  show (V c main_v27) ((((cfgA (F := Ideal)).win 5).blk t).view.emb y) = _
  refine congrArg (V c main_v27) (funext fun a => Fin.ext ?_)
  refine (Pipeline.Window.rect_emb_val_of_index_zero ((cfgA (F := Ideal)).win 5) t a ?_ y)
  fin_cases a <;> rfl

theorem fetched1 (c : Dev nD) (t : Fin (cfgA (F := Ideal)).N) (d) (x : Fin 512) (s : Fin 1024) (b : Fin 4) (x' : Fin 2048) (s' : Fin 8192)
    (hb : b.val = (grid0.coords t 0).val) (hx : x'.val = 1536 + x.val) (hs : s'.val = 1024 * (qAt (grid0.coords t)).toNat + s.val) :
    ((rd V Inv Out c).fetched 1 t d : Vec Ideal S1x512x1024 .bf16) (ix3 0 x s) = (V c main_v24 : Vec Ideal S4x2048x8192 .bf16) (ix3 b x' s') := by
  show (V c main_v24) ((((cfgA (F := Ideal)).win 1).blk t).view.emb (ix3 0 x s)) = _
  refine congrArg (V c main_v24) (funext fun a => Fin.ext ?_)
  refine (Pipeline.Window.rect_emb_val ((cfgA (F := Ideal)).win 1) t (ix3 0 x s) a rfl).trans ?_
  have e : ((cfgA (F := Ideal)).win 1).index t = ![(grid0.coords t 0).val, 3, (qAt (grid0.coords t)).toNat] := map1 (grid0.coords t)
  rw [e]
  fin_cases a
  · show (grid0.coords t 0).val * 1 + 0 = b.val; omega
  · show 3 * 512 + x.val = x'.val; omega
  · show (qAt (grid0.coords t)).toNat * 1024 + s.val = s'.val; omega

theorem fetched2 (c : Dev nD) (t : Fin (cfgA (F := Ideal)).N) (d) (s : Fin 1024) (x : Fin 512) (b : Fin 4) (s' : Fin 8192) (x' : Fin 1024)
    (hb : b.val = (grid0.coords t 0).val) (hx : x'.val = 512 + x.val) (hs : s'.val = 1024 * (kAt (grid0.coords t)).toNat + s.val) :
    ((rd V Inv Out c).fetched 2 t d : Vec Ideal S1x1024x512 .bf16) (ix3 0 s x) = (V c main_v25 : Vec Ideal S4x8192x1024 .bf16) (ix3 b s' x') := by
  show (V c main_v25) ((((cfgA (F := Ideal)).win 2).blk t).view.emb (ix3 0 s x)) = _
  refine congrArg (V c main_v25) (funext fun a => Fin.ext ?_)
  refine (Pipeline.Window.rect_emb_val ((cfgA (F := Ideal)).win 2) t (ix3 0 s x) a rfl).trans ?_
  have e : ((cfgA (F := Ideal)).win 2).index t = ![(grid0.coords t 0).val, (kAt (grid0.coords t)).toNat, 1] := map2 (grid0.coords t)
  rw [e]
  fin_cases a
  · show (grid0.coords t 0).val * 1 + 0 = b.val; omega
  · show (kAt (grid0.coords t)).toNat * 1024 + s.val = s'.val; omega
  · show 1 * 512 + x.val = x'.val; omega

theorem fetched3 (c : Dev nD) (t : Fin (cfgA (F := Ideal)).N) (d) (x : Fin 512) (s : Fin 1024) (b : Fin 4) (x' : Fin 2048) (s' : Fin 8192)
    (hb : b.val = (grid0.coords t 0).val) (hx : x'.val = 512 + x.val) (hs : s'.val = 1024 * (kAt (grid0.coords t)).toNat + s.val) :
    ((rd V Inv Out c).fetched 3 t d : Vec Ideal S1x512x1024 .bf16) (ix3 0 x s) = (V c main_v26 : Vec Ideal S4x2048x8192 .bf16) (ix3 b x' s') := by
  show (V c main_v26) ((((cfgA (F := Ideal)).win 3).blk t).view.emb (ix3 0 x s)) = _
  refine congrArg (V c main_v26) (funext fun a => Fin.ext ?_)
  refine (Pipeline.Window.rect_emb_val ((cfgA (F := Ideal)).win 3) t (ix3 0 x s) a rfl).trans ?_
  have e : ((cfgA (F := Ideal)).win 3).index t = ![(grid0.coords t 0).val, 1, (kAt (grid0.coords t)).toNat] := map3 (grid0.coords t)
  rw [e]
  fin_cases a
  · show (grid0.coords t 0).val * 1 + 0 = b.val; omega
  · show 1 * 512 + x.val = x'.val; omega
  · show (kAt (grid0.coords t)).toNat * 1024 + s.val = s'.val; omega

theorem batch_lt : ∀ i : grid0.Coords, (i 0).val < 4 := by decide +kernel
theorem q_lt : ∀ i : grid0.Coords, (qAt i).toNat < 8 := by decide +kernel
theorem k_lt : ∀ i : grid0.Coords, (kAt i).toNat < 8 := by decide +kernel

variable {m : (ℓ : Loc nD τ sig) → Buf (Elt Ideal) ℓ} {p : ℕ → ℕ → ℕ → ℝ} {rb : ℕ → ℕ → ℝ}

/-- What the body is handed, in the specification's terms. -/
theorem handed_blocks (c : Dev nD) (t : Fin (cfgA (F := Ideal)).N) (Y : Blocks Ideal) (X : Scr Ideal) (H : Handed (entry0 m) Inv Out c t Y)
    (hp : ∀ (b : Fin 4) (T : Fin 8192) (k : Fin 3368), 1832 ≤ k.val → (m ((c.tc : Thread nD τ).loc main_arg0) : FVec Ideal S4x8192x3368 .f32) (ix3 b T k) = (p b T k : EReal)) :
    InBlocks p (grid0.coords t 0).val (qAt (grid0.coords t)).toNat (kAt (grid0.coords t)).toNat (stOf Y X) := by
  have hb := batch_lt (grid0.coords t)
  have hq := q_lt (grid0.coords t)
  have hk := k_lt (grid0.coords t)
  refine ⟨fun x s => ?_, fun s x => ?_, fun x s => ?_⟩
  · obtain ⟨d, hd⟩ := H 1 rfl
    show (Y 1 : Vec Ideal S1x512x1024 .bf16) (ix3 0 x s) = _
    rw [hd]
    refine (fetched1 c t d x s ⟨_, hb⟩ ⟨1536 + x.val, by omega⟩ ⟨1024 * (qAt (grid0.coords t)).toNat + s.val, by omega⟩ rfl rfl rfl).trans ?_
    rw [v24_q, hp _ _ _ (Nat.le_add_right _ _)]
    exact scale_eq _
  · obtain ⟨d, hd⟩ := H 2 rfl
    show (Y 2 : Vec Ideal S1x1024x512 .bf16) (ix3 0 s x) = _
    rw [hd]
    refine (fetched2 c t d s x ⟨_, hb⟩ ⟨1024 * (kAt (grid0.coords t)).toNat + s.val, by omega⟩ ⟨512 + x.val, by omega⟩ rfl rfl rfl).trans ?_
    rw [v25_k, hp _ _ _ (by show 1832 ≤ 2344 + x.val; omega)]
  · obtain ⟨d, hd⟩ := H 3 rfl
    show (Y 3 : Vec Ideal S1x512x1024 .bf16) (ix3 0 x s) = _
    rw [hd]
    refine (fetched3 c t d x s ⟨_, hb⟩ ⟨512 + x.val, by omega⟩ ⟨1024 * (kAt (grid0.coords t)).toNat + s.val, by omega⟩ rfl rfl rfl).trans ?_
    rw [v26_v, hp _ _ _ (by show 1832 ≤ 2856 + x.val; omega)]

theorem handed_rb (c : Dev nD) (t : Fin (cfgA (F := Ideal)).N) (Y : Blocks Ideal) (X : Scr Ideal) (H : Handed (entry0 m) Inv Out c t Y) :
    (stOf Y X).rb = m ((c.tc : Thread nD τ).loc main_arg2) := by
  obtain ⟨d, hd⟩ := H 0 rfl
  exact hd.trans ((fetched0 c t d).trans (entry_arg2 m c))

theorem handed_lam (c : Dev nD) (t : Fin (cfgA (F := Ideal)).N) (Y : Blocks Ideal) (X : Scr Ideal) (H : Handed (entry0 m) Inv Out c t Y) :
    (stOf Y X).lam = m ((c.tc : Thread nD τ).loc main_arg3) := by
  obtain ⟨d, hd⟩ := H 4 rfl
  exact hd.trans ((fetched4 c t d).trans (entry_arg3 m c))

theorem handed_ng (c : Dev nD) (t : Fin (cfgA (F := Ideal)).N) (Y : Blocks Ideal) (X : Scr Ideal) (H : Handed (entry0 m) Inv Out c t Y) :
    (stOf Y X).ng = entry0 m c main_v27 := by
  obtain ⟨d, hd⟩ := H 5 rfl
  exact hd.trans (fetched5 c t d)

end Cert.KernelIdeal.DA

end
-- ==== Proof.Body.lean ====
/- One grid point: from columns holding the keys before its key block to columns holding that block too, and on the diagonal the output. -/
module

public import proofs.«01_k».proof.Proof.Tables
public import proofs.«01_k».proof.Proof.Region

@[expose] public section

set_option maxRecDepth 16384

noncomputable section

namespace Cert.KernelIdeal.DA

open Idealize.ShloMosaic Idealize.ShloMosaic.TcCoe
open VecWindow Facts₀ Facts
open Cert.DA

theorem window_all {α : Type} {s : Shape} (x : s.Idx → α) (off : Fin s.rank → ℕ) (inb) (h0 : ∀ a, off a = 0) : window x off s.size inb = x := by
  funext y
  unfold window
  refine congrArg x (funext fun a => Fin.ext ?_)
  show off a + 1 * (y a).val = (y a).val
  rw [h0]
  omega

/-! ## Which parts of the body run -/

theorem conds : ∀ i : grid0.Coords, (kAt i).toNat ≤ (qAt i).toNat
    ∧ (k0_cond1 i = 1#1 → (kAt i).toNat = 0)
    ∧ (isTrue (Scalar.cmpi .eq (kAt i) 0#32) = 1#1 ↔ (kAt i).toNat = 0)
    ∧ (isTrue (Scalar.cmpi .eq (kAt i) (Scalar.subi (qAt i) 0#32)) = 1#1 ↔ (kAt i).toNat = (qAt i).toNat)
    ∧ (isTrue (Scalar.cmpi .eq (kAt i) (Scalar.subi (qAt i) 1#32)) = 1#1 ↔ (kAt i).toNat + 1 = (qAt i).toNat)
    ∧ (isTrue (Scalar.cmpi .slt (kAt i) (Scalar.subi (qAt i) 1#32)) = 1#1 ↔ (kAt i).toNat + 2 ≤ (qAt i).toNat)
    ∧ (k0_cond6 (qAt i) (kAt i) = 1#1 ↔ (kAt i).toNat = (qAt i).toNat) := by decide +kernel

theorem when_of {b : BitVec 1} {f : St Ideal → St Ideal} {σ : St Ideal} (h : b = 1#1) : when b f σ = f σ := if_pos h
theorem when_not {b : BitVec 1} {f : St Ideal → St Ideal} {σ : St Ideal} (h : ¬ b = 1#1) : when b f σ = σ := if_neg h

variable {p : ℕ → ℕ → ℕ → ℝ} {rb : ℕ → ℕ → ℝ} {b qi ki : ℕ} {LAM : Vec Ideal S4x64 .f32} {NG : Vec Ideal S128x1 .f32}

/-! ## The reset -/

theorem reset_holds (σ : St Ideal) (r : Fin 8) (t : Fin 1024) : HoldsR p rb b qi (resetF σ) r t 0 := by
  have hm : ((resetF σ).m : FVec Ideal S8x1x1024 .f32) (ix3 r 0 t) = ⊥ := by
    refine (congrFun (put_all (s := S8x1x1024) σ.m _ ![0, 0, 0] (by decide)) (ix3 r 0 t)).trans ?_
    pointwise
    exact ofBits_neg_inf
  have ha : (fun e => ((resetF σ).acc : FVec Ideal S8x144x1024 .f32) (ix3 r e t)) = fun _ => 0 := by
    funext e
    refine (congrFun (put_all (s := S8x144x1024) σ.acc _ ![0, 0, 0] (by decide)) (ix3 r e t)).trans ?_
    pointwise
    try exact Ideal.ofBits_zero .f32
  unfold HoldsR HoldsAt
  rw [hm, ha]
  exact holds_zero _ _

theorem reads_reset (σ : St Ideal) : Reads σ (resetF σ) := ⟨rfl, rfl, rfl, rfl, rfl, rfl, rfl⟩

/-! ## The close -/

theorem quot_at {σ : St Ideal} (H : ∀ r t, HoldsR p rb b qi σ r t (1024 * qi + t.val + 1)) (r : Fin 8) (t : Fin 1024) (e : Fin 128) :
    Ideal.div ((accAt σ r : FVec Ideal S1x144x1024 .f32) (ix3 0 ⟨e.val, by omega⟩ t)) ((accAt σ r : FVec Ideal S1x144x1024 .f32) (ix3 0 128 t))
      = (att (X p rb b r (1024 * qi + t.val)) (fun s => p b s (2856 + 128 * (r.val / 2) + e.val)) (1024 * qi + t.val + 1) : ℝ) := by
  rw [accAt_at, accAt_at]
  refine (holds_quot (X := X p rb b r (1024 * qi + t.val)) (c := rb 31 (8 + r.val / 2)) (w := W p b (r.val / 2)) (H r t) (fun s => ?_) ⟨e.val, by omega⟩).trans ?_
  · exact if_neg (by decide)
  · have : W p b (r.val / 2) ⟨e.val, by omega⟩ = fun s => p b s (2856 + 128 * (r.val / 2) + e.val) := funext fun s => if_pos e.isLt
    rw [this]

/-- The second map's weight as the kernel computes it. -/
def lamK (l : FVec Ideal S4x64 .f32) : EReal :=
  Ideal.exp (∑ d : Fin 64, l (ix2 0 d) * l (ix2 1 d)) - Ideal.exp (∑ d : Fin 64, l (ix2 2 d) * l (ix2 3 d)) + Ideal.ofBits .f32 0x3EB60549#32

theorem lamF_at {σ : St Ideal} : (lamF σ : FVec Ideal S1x1 .f32) (ix2 0 0) = lamK σ.lam := by
  unfold lamF
  rw [window_all (s := S4x64) σ.lam ![0, 0] _ (by decide)]
  exact lamV_at _

theorem diff_at {lam : ℝ} {σ : St Ideal} (hl : lamK σ.lam = (lam : EReal)) (H : ∀ r t, HoldsR p rb b qi σ r t (1024 * qi + t.val + 1)) (h : Fin 4) (e : Fin 128) (t : Fin 1024) :
    (diffV (F := Ideal) (lamF σ) (accAt σ (slot h 0)) (accAt σ (slot h 1)) : FVec Ideal S128x1024 .f32) (ix2 e t) = (O p rb lam b h (1024 * qi + t.val) e : EReal) := by
  refine (diffV_at _ _ _ e t).trans ?_
  rw [quot_at H, quot_at H, lamF_at, hl, slot_half, slot_half, ← EReal.coe_mul, ← EReal.coe_sub]
  rfl

theorem close_out {lam : ℝ} {σ : St Ideal} (hl : lamK σ.lam = (lam : EReal)) (H : ∀ r t, HoldsR p rb b qi σ r t (1024 * qi + t.val + 1))
    (t : Fin 1024) (h : Fin 4) (e : Fin 128) :
    ((closeF σ).out : FVec Ideal S1x1024x512 .bf16) (ix3 0 t ⟨128 * h.val + e.val, by omega⟩)
      = R (O p rb lam b h (1024 * qi + t.val)) ((σ.ng : FVec Ideal S128x1 .f32) (ix2 e 0)) e := by
  refine (congrFun (put_all (s := S1x1024x512) σ.out _ ![0, 0, 0] (by decide)) _).trans ?_
  refine (outV_at (fun h => headF (lamF σ) h σ) t h e).trans ?_
  unfold headF
  refine (headV_at _ _ t e).trans ?_
  rw [window_all (s := S128x1) σ.ng ![0, 0] _ (by decide)]
  simp only [diff_at hl H]
  rfl

theorem reads_close (σ : St Ideal) : Reads σ (closeF σ) := ⟨rfl, rfl, rfl, rfl, rfl, rfl, rfl⟩

/-! ## The body -/

/-- What the body finds at a grid point. -/
structure Before (p : ℕ → ℕ → ℕ → ℝ) (rb : ℕ → ℕ → ℝ) (LAM : Vec Ideal S4x64 .f32) (NG : Vec Ideal S128x1 .f32) (i : grid0.Coords) (σ : St Ideal) : Prop where
  qi : σ.qi = tabs (F := Ideal) 0
  ki : σ.ki = tabs (F := Ideal) 1
  blocks : InBlocks p (i 0).val (qAt i).toNat (kAt i).toNat σ
  bias : RbReal rb σ.rb
  lam : σ.lam = LAM
  ng : σ.ng = NG
  tabs : ¬ k0_cond1 i = 1#1 → Tabs rb σ
  cols : (kAt i).toNat ≠ 0 → ∀ r t, HoldsR p rb (i 0).val (qAt i).toNat σ r t (1024 * (kAt i).toNat)

/-- What it leaves. -/
structure After (p : ℕ → ℕ → ℕ → ℝ) (rb : ℕ → ℕ → ℝ) (lam : ℝ) (NG : Vec Ideal S128x1 .f32) (i : grid0.Coords) (σ : St Ideal) : Prop where
  tabs : Tabs rb σ
  cols : (kAt i).toNat ≠ (qAt i).toNat → ∀ r t, HoldsR p rb (i 0).val (qAt i).toNat σ r t (1024 * (kAt i).toNat + 1024)
  out : (kAt i).toNat = (qAt i).toNat → ∀ (t : Fin 1024) (h : Fin 4) (e : Fin 128),
    (σ.out : FVec Ideal S1x1024x512 .bf16) (ix3 0 t ⟨128 * h.val + e.val, by omega⟩)
      = R (O p rb lam (i 0).val h (1024 * (qAt i).toNat + t.val)) ((NG : FVec Ideal S128x1 .f32) (ix2 e 0)) e

theorem rest_after {lam : ℝ} (hl : lamK LAM = (lam : EReal)) (i : grid0.Coords) {σ : St Ideal} (I : Ins p rb (i 0).val (qAt i).toNat (kAt i).toNat LAM NG σ)
    (H0 : (kAt i).toNat ≠ 0 → ∀ r t, HoldsR p rb (i 0).val (qAt i).toNat σ r t (1024 * (kAt i).toNat)) :
    After p rb lam NG i (restF (qAt i) (kAt i) σ) := by
  obtain ⟨hle, -, c0, c1, c2, c3, c4⟩ := conds i
  unfold restF
  obtain ⟨σ1, e1, I1, H1⟩ : ∃ σ1, when (isTrue (Scalar.cmpi .eq (kAt i) 0#32)) resetF σ = σ1 ∧ Ins p rb (i 0).val (qAt i).toNat (kAt i).toNat LAM NG σ1
      ∧ ∀ r t, HoldsR p rb (i 0).val (qAt i).toNat σ1 r t (1024 * (kAt i).toNat) := by
    by_cases z : (kAt i).toNat = 0
    · exact ⟨_, when_of (c0.2 z), (reads_reset σ).ins I, fun r t => by rw [z]; exact reset_holds σ r t⟩
    · exact ⟨_, when_not (fun h => z (c0.1 h)), I, H0 z⟩
  rw [e1]
  by_cases d : (kAt i).toNat = (qAt i).toNat
  · rw [when_of (c1.2 d), when_not (mt c2.1 (by omega)), when_not (mt c3.1 (by omega)), when_of (c4.2 d)]
    rw [d] at I1 H1
    obtain ⟨I2, H2⟩ := diag_all I1 H1
    have I3 := (reads_close (diagF σ1)).ins I2
    refine ⟨I3.tabs, fun h => absurd d h, fun _ t h e => ?_⟩
    rw [← I2.ng]
    exact close_out (by rw [I2.lam]; exact hl) H2 t h e
  · rw [when_not (mt c1.1 d)]
    by_cases n : (kAt i).toNat + 1 = (qAt i).toNat
    · rw [when_of (c2.2 n), when_not (mt c3.1 (by omega)), when_not (mt c4.1 d)]
      obtain ⟨I2, H2⟩ := near_all n I1 H1
      exact ⟨I2.tabs, fun _ => H2, fun h => absurd h d⟩
    · rw [when_not (mt c2.1 n), when_of (c3.2 (by omega)), when_not (mt c4.1 d)]
      obtain ⟨I2, H2⟩ := far_all (by omega) I1 H1
      exact ⟨I2.tabs, fun _ => H2, fun h => absurd h d⟩

theorem body_after {lam : ℝ} (hl : lamK LAM = (lam : EReal)) (i : grid0.Coords) {σ : St Ideal} (B : Before p rb LAM NG i σ) : After p rb lam NG i (bodyF i σ) := by
  unfold bodyF
  rw [B.qi, B.ki, tab0, tab1]
  by_cases z : k0_cond1 i = 1#1
  · rw [when_of z]
    have S := sameIn_init σ
    obtain ⟨-, -, -, hq, hk, hv, hlam, hng⟩ := S
    refine rest_after hl i ⟨init_tabs B.bias, ⟨by rw [hq]; exact B.blocks.q, by rw [hk]; exact B.blocks.k, by rw [hv]; exact B.blocks.v⟩, hlam.trans B.lam, hng.trans B.ng⟩
      fun h => absurd ((conds i).2.1 z) h
  · rw [when_not z]
    exact rest_after hl i ⟨B.tabs z, B.blocks, B.lam, B.ng⟩ B.cols

end Cert.KernelIdeal.DA

end
-- ==== Proof.Point.lean ====
/- The whole grid: what the scratch buffers hold between grid points, what a diagonal point leaves, and the output array at the end. -/
module

public import proofs.«01_k».proof.Proof.Entry
public import proofs.«01_k».proof.Proof.Body

@[expose] public section

set_option maxRecDepth 16384

noncomputable section

namespace Cert.KernelIdeal.DA

open Idealize.ShloMosaic Idealize.ShloMosaic.TcCoe
open Idealize.SL.Sem
open Idealize.ShloMosaic.Pipeline
open VecWindow Facts₀ Facts
open Cert.DA

attribute [local instance] Gen.facts

/-- The memory read as real numbers: the projections' three diff slices, the bias columns, the map weight. -/
structure Given (m : (ℓ : Loc nD τ sig) → Buf (Elt Ideal) ℓ) (p : Dev nD → ℕ → ℕ → ℕ → ℝ) (rb : Dev nD → ℕ → ℕ → ℝ) (lam : Dev nD → ℝ) : Prop where
  p : ∀ (c : Dev nD) (b : Fin 4) (T : Fin 8192) (k : Fin 3368), 1832 ≤ k.val →
    (m ((c.tc : Thread nD τ).loc main_arg0) : FVec Ideal S4x8192x3368 .f32) (ix3 b T k) = (p c b T k : EReal)
  bias : ∀ (c : Dev nD), RbReal (rb c) (m ((c.tc : Thread nD τ).loc main_arg2))
  lam : ∀ (c : Dev nD), lamK (m ((c.tc : Thread nD τ).loc main_arg3)) = (lam c : EReal)

variable {m : (ℓ : Loc nD τ sig) → Buf (Elt Ideal) ℓ} {p : Dev nD → ℕ → ℕ → ℕ → ℝ} {rb : Dev nD → ℕ → ℕ → ℝ} {lam : Dev nD → ℝ}

/-- What the scratch buffers hold as point `n` begins. -/
def InvK (p : Dev nD → ℕ → ℕ → ℕ → ℝ) (rb : Dev nD → ℕ → ℕ → ℝ) (c : Dev nD) (n : ℕ) (X : Scr Ideal) : Prop :=
  ∀ (h : n < grid0.N) (Y : Blocks Ideal), (¬ k0_cond1 (grid0.coords ⟨n, h⟩) = 1#1 → Tabs (rb c) (stOf Y X))
    ∧ ((kAt (grid0.coords ⟨n, h⟩)).toNat ≠ 0 → ∀ r t, HoldsR (p c) (rb c) (grid0.coords ⟨n, h⟩ 0).val (qAt (grid0.coords ⟨n, h⟩)).toNat (stOf Y X) r t
      (1024 * (kAt (grid0.coords ⟨n, h⟩)).toNat))

/-- What a diagonal point leaves in the output block. -/
def OutK (m : (ℓ : Loc nD τ sig) → Buf (Elt Ideal) ℓ) (p : Dev nD → ℕ → ℕ → ℕ → ℝ) (rb : Dev nD → ℕ → ℕ → ℝ) (lam : Dev nD → ℝ) (c : Dev nD)
    (t : Fin (cfgA (F := Ideal)).N) (X : Vec Ideal S1x1024x512 .bf16) : Prop :=
  (kAt (grid0.coords t)).toNat = (qAt (grid0.coords t)).toNat → ∀ (s : Fin 1024) (h : Fin 4) (e : Fin 128),
    (X : FVec Ideal S1x1024x512 .bf16) (ix3 0 s ⟨128 * h.val + e.val, by omega⟩)
      = R (O (p c) (rb c) (lam c) (grid0.coords t 0).val h (1024 * (qAt (grid0.coords t)).toNat + s.val))
        ((m ((c.tc : Thread nD τ).loc main_arg4) : FVec Ideal S128 .f32) (ix1 e)) e

theorem first_point : k0_cond1 (grid0.coords ⟨0, by decide⟩) = 1#1 ∧ (kAt (grid0.coords ⟨0, by decide⟩)).toNat = 0 := by decide +kernel

theorem next_point : ∀ (t : Fin grid0.N) (h : t.val + 1 < grid0.N), (kAt (grid0.coords ⟨t.val + 1, h⟩)).toNat ≠ 0 →
    (kAt (grid0.coords t)).toNat ≠ (qAt (grid0.coords t)).toNat
      ∧ (kAt (grid0.coords ⟨t.val + 1, h⟩)).toNat = (kAt (grid0.coords t)).toNat + 1
      ∧ (qAt (grid0.coords ⟨t.val + 1, h⟩)).toNat = (qAt (grid0.coords t)).toNat
      ∧ (grid0.coords ⟨t.val + 1, h⟩ 0).val = (grid0.coords t 0).val := by decide +kernel

theorem start (c : Dev nD) (X : Scr Ideal) : InvK p rb c 0 X := fun _ _ => ⟨fun h => absurd first_point.1 h, fun h => absurd first_point.2 h⟩

theorem carry_tabs {r : ℕ → ℕ → ℝ} {σ : St Ideal} (h : Tabs r σ) (Y : Blocks Ideal) : Tabs r (stOf Y (scrOf σ)) := ⟨h.bt, h.cm⟩

theorem carry_cols {q : ℕ → ℕ → ℕ → ℝ} {r : ℕ → ℕ → ℝ} {b qi n : ℕ} {σ : St Ideal} (h : ∀ l t, HoldsR q r b qi σ l t n) (Y : Blocks Ideal) :
    ∀ l t, HoldsR q r b qi (stOf Y (scrOf σ)) l t n := h

theorem step (G : Given m p rb lam) (c : Dev nD) (t : Fin (cfgA (F := Ideal)).N) (Y : Blocks Ideal) (X : Scr Ideal)
    (H : Handed (entry0 m) (InvK p rb) (OutK m p rb lam) c t Y) (I : InvK p rb c t.val X) :
    InvK p rb c (t.val + 1) (scrOf (bodyF (grid0.coords t) (stOf Y X))) ∧ OutK m p rb lam c t (bodyF (grid0.coords t) (stOf Y X)).out := by
  obtain ⟨IT, IC⟩ := I t.isLt Y
  have A := body_after (G.lam c) (grid0.coords t) (σ := stOf Y X) (NG := entry0 m c main_v27) (p := p c) (rb := rb c)
    ⟨rfl, rfl, handed_blocks c t Y X H (G.p c), by rw [handed_rb c t Y X H]; exact G.bias c, handed_lam c t Y X H, handed_ng c t Y X H, IT, IC⟩
  refine ⟨fun h Y' => ⟨fun _ => carry_tabs A.tabs Y', fun hk => ?_⟩, fun d s h e => ?_⟩
  · obtain ⟨h1, h2, h3, h4⟩ := next_point t h hk
    rw [h2, h3, h4, Nat.mul_succ]
    exact carry_cols (A.cols h1) Y'
  · rw [← v27_g m c e]
    exact A.out d s h e

/-! ## The output array -/

/-- The kernel's result at an index. -/
def ResAt (m : (ℓ : Loc nD τ sig) → Buf (Elt Ideal) ℓ) (p : Dev nD → ℕ → ℕ → ℕ → ℝ) (rb : Dev nD → ℕ → ℕ → ℝ) (lam : Dev nD → ℝ) (c : Dev nD)
    (b : Fin 4) (T : Fin 8192) (h : Fin 4) (e : Fin 128) : EReal :=
  R (O (p c) (rb c) (lam c) b h T) ((m ((c.tc : Thread nD τ).loc main_arg4) : FVec Ideal S128 .f32) (ix1 e)) e

theorem last_or_next : ∀ t : Fin grid0.N, (kAt (grid0.coords t)).toNat = (qAt (grid0.coords t)).toNat
    ∨ ∃ h : t.val + 1 < grid0.N, (grid0.coords ⟨t.val + 1, h⟩ 0).val = (grid0.coords t 0).val ∧ (qAt (grid0.coords ⟨t.val + 1, h⟩)).toNat = (qAt (grid0.coords t)).toNat := by
  decide +kernel

theorem index6 (t : Fin grid0.N) : ((cfgA (F := Ideal)).win 6).index t = ![(grid0.coords t 0).val, (qAt (grid0.coords t)).toNat, 0] := map6 (grid0.coords t)

theorem flush_diag (t : Fin grid0.N) (hf : ((cfgA (F := Ideal)).win 6).flush t = true) : (kAt (grid0.coords t)).toNat = (qAt (grid0.coords t)).toNat := by
  refine (last_or_next t).resolve_right fun ⟨h, h0, h1⟩ => ?_
  have hi : ((cfgA (F := Ideal)).win 6).index ⟨t.val + 1, h⟩ = ((cfgA (F := Ideal)).win 6).index t := by rw [index6, index6, h0, h1]
  unfold Window.flush at hf
  simp only [Bool.and_eq_true, Bool.or_eq_true, decide_eq_true_eq] at hf
  rcases hf.2 with e | ⟨_, e⟩
  · exact absurd e (Nat.ne_of_lt h)
  · exact e hi

theorem covers6 : ((cfgA (F := Ideal)).win 6).Covers := by
  decide +kernel

end Cert.KernelIdeal.DA

end
-- ==== Proof.Output.lean ====
/- The kernel's output array, index by index. -/
module

public import proofs.«01_k».proof.Proof.Point

@[expose] public section

set_option maxRecDepth 16384

noncomputable section

namespace Cert.KernelIdeal.DA

open Idealize.ShloMosaic Idealize.ShloMosaic.TcCoe
open Idealize.SL.Sem
open Idealize.ShloMosaic.Pipeline
open VecWindow Facts₀ Facts
open Cert.DA

attribute [local instance] Gen.facts

variable {m : (ℓ : Loc nD τ sig) → Buf (Elt Ideal) ℓ} {p : Dev nD → ℕ → ℕ → ℕ → ℝ} {rb : Dev nD → ℕ → ℕ → ℝ} {lam : Dev nD → ℝ}

/-- The property every element of the output array has. -/
def Right (m : (ℓ : Loc nD τ sig) → Buf (Elt Ideal) ℓ) (p : Dev nD → ℕ → ℕ → ℕ → ℝ) (rb : Dev nD → ℕ → ℕ → ℝ) (lam : Dev nD → ℝ) (c : Dev nD)
    (i : S4x8192x512.Idx) (v : EReal) : Prop :=
  ∀ (b : Fin 4) (T : Fin 8192) (h : Fin 4) (e : Fin 128), i = ix3 b T ⟨128 * h.val + e.val, by omega⟩ → v = ResAt m p rb lam c b T h e

theorem right_block (c : Dev nD) (t : Fin (cfgA (F := Ideal)).N) (X : Vec Ideal S1x1024x512 .bf16)
    (hO : OutK m p rb lam c t X) (hd : (kAt (grid0.coords t)).toNat = (qAt (grid0.coords t)).toNat) (i : S4x8192x512.Idx) (y : S1x1024x512.Idx)
    (h0 : (i 0).val = (grid0.coords t 0).val) (h1 : (i 1).val = 1024 * (qAt (grid0.coords t)).toNat + (y 1).val) (h2 : (i 2).val = (y 2).val) :
    Right m p rb lam c i (X y) := by
  rintro b T h e rfl
  have e0 : (y 0).val = 0 := by have : (y 0).val < 1 := (y 0).isLt; omega
  have hy : y = ix3 0 (y 1) ⟨128 * h.val + e.val, by omega⟩ := by
    funext a
    refine Fin.ext ?_
    fin_cases a
    · exact e0
    · rfl
    · exact h2.symm
  rw [hy]
  refine (hO hd (y 1) h e).trans ?_
  unfold ResAt
  rw [← h0, ← h1]
  rfl

theorem out_at (r : PUnit × MemSt nD τ sig (Elt Ideal))
    (H : RDat.FramePost (cfgA (F := Ideal)) (fun c => rd (entry0 m) (InvK p rb) (OutK m p rb lam) c) (entry0 m) r) (c : Dev nD) (i : S4x8192x512.Idx) :
    Right m p rb lam c i ((r.2.mem ((c.tc : Thread nD τ).loc main_v28) : FVec Ideal S4x8192x512 .bf16) i) := by
  obtain ⟨after, hL, hA⟩ := RDat.FramePost.exists_exact H c
  have e : r.2.mem ((c.tc : Thread nD τ).loc main_v28) = ((rd (entry0 m) (InvK p rb) (OutK m p rb lam) c).withAfter after).arrAt 6 (cfgA (F := Ideal)).N := hA 6
  rw [e]
  refine Dat.arrAt_forall_of_covers ((rd (entry0 m) (InvK p rb) (OutK m p rb lam) c).withAfter after) 6 (fun i v => Right m p rb lam c i v) covers6 (fun t hf y => ?_) i
  obtain ⟨Y, -, hO⟩ := hL 6 t hf
  have ei := index6 t
  refine right_block c t (after 6 t) hO (flush_diag t hf) _ _ ?_ ?_ ?_
  · refine (Pipeline.Window.rect_emb_val ((cfgA (F := Ideal)).win 6) t y 0 rfl).trans ?_
    rw [ei]
    have : (y 0).val < 1 := (y 0).isLt
    show (grid0.coords t 0).val * 1 + (y 0).val = _
    omega
  · refine (Pipeline.Window.rect_emb_val ((cfgA (F := Ideal)).win 6) t y 1 rfl).trans ?_
    rw [ei]
    show (qAt (grid0.coords t)).toNat * 1024 + (y 1).val = 1024 * (qAt (grid0.coords t)).toNat + (y 1).val
    omega
  · refine (Pipeline.Window.rect_emb_val ((cfgA (F := Ideal)).win 6) t y 2 rfl).trans ?_
    rw [ei]
    show 0 * 512 + (y 2).val = (y 2).val
    omega

/-- The whole run: the result at every index, the arguments kept. -/
theorem run_value (G : Given m p rb lam) (g : Dev nD → PrngReg) :
    θ_run (defs (F := Ideal)) (onTc (τ := τ) (main (F := Ideal))) ⟨m, fun _ => 0, g⟩ (fun r => ∀ c : Dev nD,
      (∀ (b : Fin 4) (T : Fin 8192) (h : Fin 4) (e : Fin 128),
        (r.2.mem ((c.tc : Thread nD τ).loc main_v28) : FVec Ideal S4x8192x512 .bf16) (ix3 b T ⟨128 * h.val + e.val, by omega⟩) = ResAt m p rb lam c b T h e)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run _ _ _).mono (fun r h c => ⟨fun b T k e => out_at r h.1 c _ b T k e rfl, args_kept _ _ r h.1 c⟩)
    (run_main m g (InvK p rb) (OutK m p rb lam) start (step G))

end Cert.KernelIdeal.DA

end
-- ==== Proof.Inputs.lean ====
/- The precondition read: which inputs are real numbers, and the positions. -/
module

public import proofs.«01_k».proof.Defs
public import proofs.«01_k».proof.Proof.Output

@[expose] public section

set_option maxRecDepth 16384

noncomputable section

namespace Cert.KernelIdeal.DA

open Idealize.ShloMosaic Idealize.ShloMosaic.TcCoe
open Cert.DA

attribute [local instance] Gen.facts

theorem preFacts : Cert.Pre_ordered_and_finite.Facts :=
  ⟨by decide +kernel, by decide +kernel, by decide +kernel, by decide +kernel, by decide +kernel⟩

attribute [local instance] preFacts

theorem top_bits : Ideal.ofBits .f32 0x7F800000#32 = ⊤ := by
  simp [Ideal.ofBits, Ideal.ieee]

/-- A number whose absolute value is below infinity is real. -/
theorem real_of_lt {x : EReal} (h : Ideal.cmp .olt (max x (-x)) (Ideal.ofBits .f32 0x7F800000#32) = 1#1) : x = (x.toReal : EReal) := by
  rw [top_bits] at h
  refine (EReal.coe_toReal ?_ ?_).symm
  · rintro rfl
    simp [Ideal.cmp] at h
  · rintro rfl
    simp [Ideal.cmp] at h

variable {m : (ℓ : Loc nD τ sig) → Buf (Elt Ideal) ℓ}

section Read

variable (P : Cert.Pre_KernelIdeal_ordered_and_finite m) (c : Dev nD)

include P

theorem arg0_real (b : Fin 4) (T : Fin 8192) (k : Fin 1536) :
    (m ((c.tc : Thread nD τ).loc main_arg0) : FVec Ideal S4x8192x3368 .f32) (ix3 b T ⟨1832 + k.val, by omega⟩)
      = (((m ((c.tc : Thread nD τ).loc main_arg0) : FVec Ideal S4x8192x3368 .f32) (ix3 b T ⟨1832 + k.val, by omega⟩) : EReal).toReal : EReal) := by
  have h := congrFun (P c).1 (ix3 b T k)
  pointwise [Cert.Pre_ordered_and_finite.fn] at h
  exact real_of_lt h

theorem pos_at (b : Fin 4) (T : Fin 8192) : (m ((c.tc : Thread nD τ).loc main_arg1) : IVec S4x8192 32) (ix2 b T) = BitVec.ofNat 32 T.val := by
  have h := congrFun (P c).2.1 (ix2 b T)
  pointwise [Cert.Pre_ordered_and_finite.fn] at h
  refine by_contra fun n => ?_
  have e : IntOp.cmpi .eq ((m ((c.tc : Thread nD τ).loc main_arg1) : IVec S4x8192 32) (ix2 b T)) (BitVec.ofNat 32 T.val) = 0#1 :=
    congrArg BitVec.ofBool (beq_eq_false_iff_ne.2 n)
  rw [e] at h
  exact absurd h (by decide)

theorem bias_real (k : Fin 32) (h : Fin 4) :
    (m ((c.tc : Thread nD τ).loc main_arg2) : FVec Ideal S32x12 .f32) (ix2 k ⟨8 + h.val, by omega⟩)
      = (((m ((c.tc : Thread nD τ).loc main_arg2) : FVec Ideal S32x12 .f32) (ix2 k ⟨8 + h.val, by omega⟩) : EReal).toReal : EReal) := by
  have h := congrFun (P c).2.2.1 (ix2 k h)
  pointwise [Cert.Pre_ordered_and_finite.fn] at h
  exact real_of_lt h

theorem lam_real (r : Fin 4) (d : Fin 64) :
    (m ((c.tc : Thread nD τ).loc main_arg3) : FVec Ideal S4x64 .f32) (ix2 r d)
      = (((m ((c.tc : Thread nD τ).loc main_arg3) : FVec Ideal S4x64 .f32) (ix2 r d) : EReal).toReal : EReal) := by
  have h := congrFun (P c).2.2.2 (ix2 r d)
  pointwise [Cert.Pre_ordered_and_finite.fn] at h
  exact real_of_lt h

end Read

/-- The projections' values as real numbers. -/
def pR (m : (ℓ : Loc nD τ sig) → Buf (Elt Ideal) ℓ) (c : Dev nD) (b T k : ℕ) : ℝ :=
  if h : b < 4 ∧ T < 8192 ∧ k < 3368 then
    EReal.toReal ((m ((c.tc : Thread nD τ).loc main_arg0) : FVec Ideal S4x8192x3368 .f32) (ix3 ⟨b, h.1⟩ ⟨T, h.2.1⟩ ⟨k, h.2.2⟩)) else 0

/-- The bias columns as real numbers. -/
def rbR (m : (ℓ : Loc nD τ sig) → Buf (Elt Ideal) ℓ) (c : Dev nD) (k h : ℕ) : ℝ :=
  if hk : k < 32 ∧ h < 12 then EReal.toReal ((m ((c.tc : Thread nD τ).loc main_arg2) : FVec Ideal S32x12 .f32) (ix2 ⟨k, hk.1⟩ ⟨h, hk.2⟩)) else 0

/-- The second map's weight as a real number. -/
def lamR (m : (ℓ : Loc nD τ sig) → Buf (Elt Ideal) ℓ) (c : Dev nD) : ℝ :=
  EReal.toReal (lamK (m ((c.tc : Thread nD τ).loc main_arg3)))

theorem const_real : ∃ x : ℝ, Ideal.ofBits .f32 0x3EB60549#32 = (x : EReal) := by
  unfold Ideal.ofBits Ideal.ieee
  dsimp only
  rw [if_neg (by decide), if_neg (by decide)]
  exact ⟨_, rfl⟩

theorem sum_real {n : ℕ} (a b : Fin n → EReal) (ha : ∀ d, a d = ((a d).toReal : EReal)) (hb : ∀ d, b d = ((b d).toReal : EReal)) :
    ∃ x : ℝ, (∑ d, a d * b d) = (x : EReal) := by
  refine ⟨∑ d, (a d).toReal * (b d).toReal, ?_⟩
  rw [sum_coe]
  exact Finset.sum_congr rfl fun d _ => by rw [EReal.coe_mul, ← ha, ← hb]

theorem lamK_real (l : FVec Ideal S4x64 .f32) (h : ∀ r d, l (ix2 r d) = (EReal.toReal (l (ix2 r d)) : EReal)) : ∃ x : ℝ, lamK l = (x : EReal) := by
  obtain ⟨x, hx⟩ := sum_real (fun d : Fin 64 => l (ix2 0 d)) (fun d => l (ix2 1 d)) (h 0) (h 1)
  obtain ⟨y, hy⟩ := sum_real (fun d : Fin 64 => l (ix2 2 d)) (fun d => l (ix2 3 d)) (h 2) (h 3)
  obtain ⟨z, hz⟩ := const_real
  refine ⟨Real.exp x - Real.exp y + z, ?_⟩
  unfold lamK
  rw [hx, hy, hz, Ideal.exp_coe, Ideal.exp_coe, ← EReal.coe_sub, ← EReal.coe_add]

theorem given (P : Cert.Pre_KernelIdeal_ordered_and_finite m) : Given m (pR m) (rbR m) (lamR m) := by
  refine ⟨fun c b T k hk => ?_, fun c k h hh => ?_, fun c => ?_⟩
  · have h := arg0_real P c b T ⟨k.val - 1832, by omega⟩
    have e : (⟨1832 + (k.val - 1832), by have := k.isLt; omega⟩ : Fin 3368) = k := Fin.ext (by show 1832 + (k.val - 1832) = k.val; omega)
    refine (congrArg (fun k => (m ((c.tc : Thread nD τ).loc main_arg0) : FVec Ideal S4x8192x3368 .f32) (ix3 b T k)) e.symm).trans (h.trans ?_)
    refine congrArg (fun x : ℝ => (x : EReal)) (Eq.trans (congrArg (fun k => EReal.toReal ((m ((c.tc : Thread nD τ).loc main_arg0) : FVec Ideal S4x8192x3368 .f32) (ix3 b T k))) e) ?_)
    unfold pR
    rw [dif_pos (show b.val < 4 ∧ T.val < 8192 ∧ k.val < 3368 from ⟨b.isLt, T.isLt, k.isLt⟩)]
  · have h' := bias_real P c k ⟨h.val - 8, by omega⟩
    have e : (⟨8 + (h.val - 8), by omega⟩ : Fin 12) = h := Fin.ext (by show 8 + (h.val - 8) = h.val; omega)
    refine (congrArg (fun h => (m ((c.tc : Thread nD τ).loc main_arg2) : FVec Ideal S32x12 .f32) (ix2 k h)) e.symm).trans (h'.trans ?_)
    refine congrArg (fun x : ℝ => (x : EReal)) (Eq.trans (congrArg (fun h => EReal.toReal ((m ((c.tc : Thread nD τ).loc main_arg2) : FVec Ideal S32x12 .f32) (ix2 k h))) e) ?_)
    unfold rbR
    rw [dif_pos (show k.val < 32 ∧ h.val < 12 from ⟨k.isLt, h.isLt⟩)]
  · obtain ⟨x, hx⟩ := lamK_real _ (lam_real P c)
    unfold lamR
    rw [hx, EReal.toReal_coe]

end Cert.KernelIdeal.DA

end
-- ==== Proof.lean ====
/- The certificate's claim: the frames of the kernel (bits and reals) from the launch's run, the
   reference's frame from its straight line of operations, the named constant, the equation of the two results, and the same of the three projections and of the modulation vectors. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.EvenIn
public import proofs.«01_k».proof.Proof.Gen.EvenInIdeal
public import proofs.«01_k».proof.Proof.Gen.EvenInReferenceIdeal
public import proofs.«01_k».proof.Proof.Gen.EvenInIdeal.Value
public import proofs.«01_k».proof.Proof.Gen.EvenInReferenceIdeal.Run
public import proofs.«01_k».proof.Proof.Gen.OddOut
public import proofs.«01_k».proof.Proof.Gen.OddOutIdeal
public import proofs.«01_k».proof.Proof.Gen.OddOutReferenceIdeal
public import proofs.«01_k».proof.Proof.Gen.OddOutIdeal.Value
public import proofs.«01_k».proof.Proof.Gen.OddOutReferenceIdeal.Run
public import proofs.«01_k».proof.Proof.Gen.OddIn
public import proofs.«01_k».proof.Proof.Gen.OddInIdeal
public import proofs.«01_k».proof.Proof.Gen.OddInReferenceIdeal
public import proofs.«01_k».proof.Proof.Gen.OddInIdeal.Value
public import proofs.«01_k».proof.Proof.Gen.OddInReferenceIdeal.Run
public import proofs.«01_k».proof.Proof.Gen.Modulation
public import proofs.«01_k».proof.Proof.Gen.ModulationIdeal
public import proofs.«01_k».proof.Proof.Gen.ModulationReferenceIdeal
public import proofs.«01_k».proof.Proof.Gen.ModulationIdeal.Value
public import proofs.«01_k».proof.Proof.Gen.ModulationReferenceIdeal.Run
public import proofs.«01_k».proof.Proof.Gen.EvenIn.Frame
public import proofs.«01_k».proof.Proof.Gen.OddOut.Frame
public import proofs.«01_k».proof.Proof.Gen.OddIn.Frame
public import proofs.«01_k».proof.Proof.EvenProj
public import proofs.«01_k».proof.Proof.OutProj
public import proofs.«01_k».proof.Proof.OddProj
public import proofs.«01_k».proof.Proof.Modulation
public import proofs.«01_k».proof.Proof.Frames
public import proofs.«01_k».proof.Proof.RefValue
public import proofs.«01_k».proof.Proof.Inputs
public import Idealize.ShloMosaic.Adequacy
public import Idealize.ShloMosaic.Init

@[expose] public section

set_option maxRecDepth 16384

noncomputable section

namespace Cert.Proof

open Idealize.ShloMosaic Idealize.ShloMosaic.TcCoe Idealize.SL.Sem
open Idealize.ShloMosaic.StableHlo (after launchContents)

attribute [local instance] Cert.Kernel.Gen.facts Cert.KernelIdeal.Gen.facts Cert.ReferenceIdeal.Gen.facts

open Cert.ReferenceIdeal Cert.ReferenceIdeal.DA in
theorem reference_kept {m : (ℓ : Loc nD τ sig) → Buf (Elt Ideal) ℓ} (r : PUnit × MemSt nD τ sig (Elt Ideal))
    (h : ∀ (d : Dev nD) (b : Ref sig .tc), r.2.mem ((d.tc : Thread nD τ).loc b) = after ops (launchContents m d) (Proc.devRef .tc b))
    (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(h c main_arg0).trans (arg_kept (by decide) _), (h c main_arg1).trans (arg_kept (by decide) _), (h c main_arg2).trans (arg_kept (by decide) _),
    (h c main_arg3).trans (arg_kept (by decide) _), (h c main_arg4).trans (arg_kept (by decide) _)⟩

open Cert.ReferenceIdeal Cert.ReferenceIdeal.DA in
theorem reference_frame (m : (ℓ : Loc nD τ sig) → Buf (Elt Ideal) ℓ) (g : Dev nD → PrngReg) :
    θ_run (defs (F := Ideal)) (onTc (τ := τ) (main (F := Ideal))) ⟨m, fun _ => 0, g⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run _ _ _).mono (fun r h => ⟨reference_kept r h, Idealize.ShloMosaic.sem_eq_zero_of_no_sems (by decide) r.2⟩) (run_ref m g)

theorem preserved : Cert.preserves_Kernel_KernelIdeal := IdealRules.named_const.statement Cert.KernelIdeal.κ "log2e" .f32 0x3FB8AA3B#32 _ rfl

theorem index_split (i : Cert.KernelIdeal.S4x8192x512.Idx) : ∃ (b : Fin 4) (T : Fin 8192) (h : Fin 4) (e : Fin 128), i = ix3 b T ⟨128 * h.val + e.val, by omega⟩ := by
  have h2 : (i 2).val < 512 := (i 2).isLt
  refine ⟨i 0, i 1, ⟨(i 2).val / 128, by omega⟩, ⟨(i 2).val % 128, by omega⟩, ?_⟩
  funext a
  refine Fin.ext ?_
  fin_cases a
  · rfl
  · rfl
  · show (i 2).val = 128 * ((i 2).val / 128) + (i 2).val % 128
    omega

theorem equal : Cert.algebraic_KernelIdeal_ReferenceIdeal_pre_ordered_and_finite (hPre_ordered_and_finite := Cert.KernelIdeal.DA.preFacts) := by
  intro m g m' g' P A
  have G := Cert.KernelIdeal.DA.given P
  refine ⟨fun c => after Cert.ReferenceIdeal.DA.ops (launchContents m' c) (Proc.devRef .tc Cert.ReferenceIdeal.main_v130), ?_, ?_⟩
  · refine (θ_run _ _ _).mono (fun r h c => ⟨?_, (h c).2⟩) (Cert.KernelIdeal.DA.run_value G g)
    funext i
    obtain ⟨b, T, k, e, rfl⟩ := index_split i
    refine ((h c).1 b T k e).trans ?_
    obtain ⟨a0, a1, a2, a3, a4⟩ := A c
    refine Eq.trans ?_ (Cert.ReferenceIdeal.DA.ref_at (launchContents m' c) (Cert.KernelIdeal.DA.pR m c) (Cert.KernelIdeal.DA.rbR m c) (Cert.KernelIdeal.DA.lamR m c)
      (fun b T k hk => (congrFun a0 _).trans (G.p c b T k hk)) (fun b T => (congrFun a1 _).trans (Cert.KernelIdeal.DA.pos_at P c b T))
      (fun k h hh => (congrFun a2 _).trans (G.bias c k h hh)) ((congrArg Cert.ReferenceIdeal.DA.lamE a3).trans (G.lam c)) b T k e).symm
    exact congrArg (fun x => Cert.DA.R _ x e) (congrFun a4 (ix1 e)).symm
  · exact (θ_run _ _ _).mono (fun r h c => ⟨h c _, ((reference_kept r h) c)⟩) (Cert.ReferenceIdeal.DA.run_ref m' g')

theorem evenIn_ref : Cert.quiescent_EvenInReferenceIdeal (hEvenInReferenceIdeal := Cert.EvenInReferenceIdeal.Gen.facts) := fun m g _ =>
  (θ_run _ _ _).mono (fun r h => ⟨fun c => (h c).2, Idealize.ShloMosaic.sem_eq_zero_of_no_sems (by decide) r.2⟩) (Cert.EvenInReferenceIdeal.Value.run m g)

theorem oddOut_ref : Cert.quiescent_OddOutReferenceIdeal (hOddOutReferenceIdeal := Cert.OddOutReferenceIdeal.Gen.facts) := fun m g _ =>
  (θ_run _ _ _).mono (fun r h => ⟨fun c => (h c).2, Idealize.ShloMosaic.sem_eq_zero_of_no_sems (by decide) r.2⟩) (Cert.OddOutReferenceIdeal.Value.run m g)

theorem oddIn_ref : Cert.quiescent_OddInReferenceIdeal (hOddInReferenceIdeal := Cert.OddInReferenceIdeal.Gen.facts) := fun m g _ =>
  (θ_run _ _ _).mono (fun r h => ⟨fun c => (h c).2.2, Idealize.ShloMosaic.sem_eq_zero_of_no_sems (by decide) r.2⟩) (Cert.OddInReferenceIdeal.Value.run m g)

theorem modulation_ref : Cert.quiescent_ModulationReferenceIdeal (hModulationReferenceIdeal := Cert.ModulationReferenceIdeal.Gen.facts) := fun m g _ =>
  (θ_run _ _ _).mono (fun r h => ⟨fun c => (h c).2, Idealize.ShloMosaic.sem_eq_zero_of_no_sems (by decide) r.2⟩) (Cert.ModulationReferenceIdeal.Value.run m g)

theorem claim : Cert.Claim :=
  ⟨Cert.Kernel.Gen.facts, Cert.KernelIdeal.Gen.facts, Cert.ReferenceIdeal.Gen.facts,
    Cert.EvenIn.Gen.facts, Cert.EvenInIdeal.Gen.facts, Cert.EvenInReferenceIdeal.Gen.facts, Cert.OddOut.Gen.facts, Cert.OddOutIdeal.Gen.facts, Cert.OddOutReferenceIdeal.Gen.facts, Cert.OddIn.Gen.facts, Cert.OddInIdeal.Gen.facts, Cert.OddInReferenceIdeal.Gen.facts,
    Cert.Modulation.Gen.facts, Cert.ModulationIdeal.Gen.facts, Cert.ModulationReferenceIdeal.Gen.facts,
    Cert.KernelIdeal.DA.preFacts,
    fun m g _ => kernel_frame m g, fun m g _ => frame_any m g, fun m g _ => frame_any m g, fun m g _ => reference_frame m g, fun m g _ => reference_frame m g,
    fun m g _ => Cert.EvenIn.Gen.frame m g, fun m g _ => Cert.EvenInIdeal.Gen.frame m g, evenIn_ref, fun m g _ => Cert.OddOut.Gen.frame m g, fun m g _ => Cert.OddOutIdeal.Gen.frame m g, oddOut_ref, fun m g _ => Cert.OddIn.Gen.frame m g, fun m g _ => Cert.OddInIdeal.Gen.frame m g, oddIn_ref,
    fun m g _ => Cert.Modulation.Gen.frame m g, fun m g _ => Cert.ModulationIdeal.Gen.frame m g, modulation_ref,
    preserved, equal, trivial, Cert.EvenInIdeal.Proj.equal, trivial, Cert.OddOutIdeal.Proj.equal, trivial, Cert.OddInIdeal.Proj.equal, trivial, Cert.ModulationIdeal.Mods.equal⟩

end Cert.Proof

end
